-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def Pre_MixerIn (m : (ℓ : Loc Cert.MixerIn.nD Cert.MixerIn.τ Cert.MixerIn.sig) → Buf (Elt Bits) ℓ) : Prop :=
  True

def Pre_MixerInIdeal (m : (ℓ : Loc Cert.MixerInIdeal.nD Cert.MixerInIdeal.τ Cert.MixerInIdeal.sig) → Buf (Elt Ideal) ℓ) : Prop :=
  True

def Pre_MixerInReferenceIdeal (m : (ℓ : Loc Cert.MixerInReferenceIdeal.nD Cert.MixerInReferenceIdeal.τ Cert.MixerInReferenceIdeal.sig) → Buf (Elt Ideal) ℓ) : Prop :=
  True

def Pre_MixerOut (m : (ℓ : Loc Cert.MixerOut.nD Cert.MixerOut.τ Cert.MixerOut.sig) → Buf (Elt Bits) ℓ) : Prop :=
  True

def Pre_MixerOutIdeal (m : (ℓ : Loc Cert.MixerOutIdeal.nD Cert.MixerOutIdeal.τ Cert.MixerOutIdeal.sig) → Buf (Elt Ideal) ℓ) : Prop :=
  True

def Pre_MixerOutReferenceIdeal (m : (ℓ : Loc Cert.MixerOutReferenceIdeal.nD Cert.MixerOutReferenceIdeal.τ Cert.MixerOutReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_MixerIn [hMixerIn : Cert.MixerIn.Facts] : Prop :=
  ∀ (m : (ℓ : Loc Cert.MixerIn.nD Cert.MixerIn.τ Cert.MixerIn.sig) → Buf (Elt Bits) ℓ) (g : Dev Cert.MixerIn.nD → PrngReg), Pre_MixerIn m →
    θ_run (Cert.MixerIn.defs (F := Bits)) (onTc (τ := Cert.MixerIn.τ) (Cert.MixerIn.main (F := Bits))) ⟨m, fun _ => 0, g⟩ (fun r => (∀ c : Dev Cert.MixerIn.nD,
      r.2.mem ((c.tc : Thread Cert.MixerIn.nD Cert.MixerIn.τ).loc Cert.MixerIn.main_arg0) = m ((c.tc : Thread Cert.MixerIn.nD Cert.MixerIn.τ).loc Cert.MixerIn.main_arg0)
      ∧ r.2.mem ((c.tc : Thread Cert.MixerIn.nD Cert.MixerIn.τ).loc Cert.MixerIn.main_arg1) = m ((c.tc : Thread Cert.MixerIn.nD Cert.MixerIn.τ).loc Cert.MixerIn.main_arg1)
      ∧ r.2.mem ((c.tc : Thread Cert.MixerIn.nD Cert.MixerIn.τ).loc Cert.MixerIn.main_arg2) = m ((c.tc : Thread Cert.MixerIn.nD Cert.MixerIn.τ).loc Cert.MixerIn.main_arg2)
      ∧ r.2.mem ((c.tc : Thread Cert.MixerIn.nD Cert.MixerIn.τ).loc Cert.MixerIn.main_arg3) = m ((c.tc : Thread Cert.MixerIn.nD Cert.MixerIn.τ).loc Cert.MixerIn.main_arg3)
      ∧ r.2.mem ((c.tc : Thread Cert.MixerIn.nD Cert.MixerIn.τ).loc Cert.MixerIn.main_arg4) = m ((c.tc : Thread Cert.MixerIn.nD Cert.MixerIn.τ).loc Cert.MixerIn.main_arg4)
      ∧ r.2.mem ((c.tc : Thread Cert.MixerIn.nD Cert.MixerIn.τ).loc Cert.MixerIn.main_arg5) = m ((c.tc : Thread Cert.MixerIn.nD Cert.MixerIn.τ).loc Cert.MixerIn.main_arg5)
      ∧ r.2.mem ((c.tc : Thread Cert.MixerIn.nD Cert.MixerIn.τ).loc Cert.MixerIn.main_arg6) = m ((c.tc : Thread Cert.MixerIn.nD Cert.MixerIn.τ).loc Cert.MixerIn.main_arg6)
      ∧ r.2.mem ((c.tc : Thread Cert.MixerIn.nD Cert.MixerIn.τ).loc Cert.MixerIn.main_arg7) = m ((c.tc : Thread Cert.MixerIn.nD Cert.MixerIn.τ).loc Cert.MixerIn.main_arg7)
      ∧ r.2.mem ((c.tc : Thread Cert.MixerIn.nD Cert.MixerIn.τ).loc Cert.MixerIn.main_arg8) = m ((c.tc : Thread Cert.MixerIn.nD Cert.MixerIn.τ).loc Cert.MixerIn.main_arg8))
      ∧ r.2.sem = fun _ => 0)

def quiescent_MixerInIdeal [hMixerInIdeal : Cert.MixerInIdeal.Facts] : Prop :=
  ∀ (m : (ℓ : Loc Cert.MixerInIdeal.nD Cert.MixerInIdeal.τ Cert.MixerInIdeal.sig) → Buf (Elt Ideal) ℓ) (g : Dev Cert.MixerInIdeal.nD → PrngReg), Pre_MixerInIdeal m →
    θ_run (Cert.MixerInIdeal.defs (F := Ideal)) (onTc (τ := Cert.MixerInIdeal.τ) (Cert.MixerInIdeal.main (F := Ideal))) ⟨m, fun _ => 0, g⟩ (fun r => (∀ c : Dev Cert.MixerInIdeal.nD,
      r.2.mem ((c.tc : Thread Cert.MixerInIdeal.nD Cert.MixerInIdeal.τ).loc Cert.MixerInIdeal.main_arg0) = m ((c.tc : Thread Cert.MixerInIdeal.nD Cert.MixerInIdeal.τ).loc Cert.MixerInIdeal.main_arg0)
      ∧ r.2.mem ((c.tc : Thread Cert.MixerInIdeal.nD Cert.MixerInIdeal.τ).loc Cert.MixerInIdeal.main_arg1) = m ((c.tc : Thread Cert.MixerInIdeal.nD Cert.MixerInIdeal.τ).loc Cert.MixerInIdeal.main_arg1)
      ∧ r.2.mem ((c.tc : Thread Cert.MixerInIdeal.nD Cert.MixerInIdeal.τ).loc Cert.MixerInIdeal.main_arg2) = m ((c.tc : Thread Cert.MixerInIdeal.nD Cert.MixerInIdeal.τ).loc Cert.MixerInIdeal.main_arg2)
      ∧ r.2.mem ((c.tc : Thread Cert.MixerInIdeal.nD Cert.MixerInIdeal.τ).loc Cert.MixerInIdeal.main_arg3) = m ((c.tc : Thread Cert.MixerInIdeal.nD Cert.MixerInIdeal.τ).loc Cert.MixerInIdeal.main_arg3)
      ∧ r.2.mem ((c.tc : Thread Cert.MixerInIdeal.nD Cert.MixerInIdeal.τ).loc Cert.MixerInIdeal.main_arg4) = m ((c.tc : Thread Cert.MixerInIdeal.nD Cert.MixerInIdeal.τ).loc Cert.MixerInIdeal.main_arg4)
      ∧ r.2.mem ((c.tc : Thread Cert.MixerInIdeal.nD Cert.MixerInIdeal.τ).loc Cert.MixerInIdeal.main_arg5) = m ((c.tc : Thread Cert.MixerInIdeal.nD Cert.MixerInIdeal.τ).loc Cert.MixerInIdeal.main_arg5)
      ∧ r.2.mem ((c.tc : Thread Cert.MixerInIdeal.nD Cert.MixerInIdeal.τ).loc Cert.MixerInIdeal.main_arg6) = m ((c.tc : Thread Cert.MixerInIdeal.nD Cert.MixerInIdeal.τ).loc Cert.MixerInIdeal.main_arg6)
      ∧ r.2.mem ((c.tc : Thread Cert.MixerInIdeal.nD Cert.MixerInIdeal.τ).loc Cert.MixerInIdeal.main_arg7) = m ((c.tc : Thread Cert.MixerInIdeal.nD Cert.MixerInIdeal.τ).loc Cert.MixerInIdeal.main_arg7)
      ∧ r.2.mem ((c.tc : Thread Cert.MixerInIdeal.nD Cert.MixerInIdeal.τ).loc Cert.MixerInIdeal.main_arg8) = m ((c.tc : Thread Cert.MixerInIdeal.nD Cert.MixerInIdeal.τ).loc Cert.MixerInIdeal.main_arg8))
      ∧ r.2.sem = fun _ => 0)

def quiescent_MixerInReferenceIdeal [hMixerInReferenceIdeal : Cert.MixerInReferenceIdeal.Facts] : Prop :=
  ∀ (m : (ℓ : Loc Cert.MixerInReferenceIdeal.nD Cert.MixerInReferenceIdeal.τ Cert.MixerInReferenceIdeal.sig) → Buf (Elt Ideal) ℓ) (g : Dev Cert.MixerInReferenceIdeal.nD → PrngReg), Pre_MixerInReferenceIdeal m →
    θ_run (Cert.MixerInReferenceIdeal.defs (F := Ideal)) (onTc (τ := Cert.MixerInReferenceIdeal.τ) (Cert.MixerInReferenceIdeal.main (F := Ideal))) ⟨m, fun _ => 0, g⟩ (fun r => (∀ c : Dev Cert.MixerInReferenceIdeal.nD,
      r.2.mem ((c.tc : Thread Cert.MixerInReferenceIdeal.nD Cert.MixerInReferenceIdeal.τ).loc Cert.MixerInReferenceIdeal.main_arg0) = m ((c.tc : Thread Cert.MixerInReferenceIdeal.nD Cert.MixerInReferenceIdeal.τ).loc Cert.MixerInReferenceIdeal.main_arg0)
      ∧ r.2.mem ((c.tc : Thread Cert.MixerInReferenceIdeal.nD Cert.MixerInReferenceIdeal.τ).loc Cert.MixerInReferenceIdeal.main_arg1) = m ((c.tc : Thread Cert.MixerInReferenceIdeal.nD Cert.MixerInReferenceIdeal.τ).loc Cert.MixerInReferenceIdeal.main_arg1)
      ∧ r.2.mem ((c.tc : Thread Cert.MixerInReferenceIdeal.nD Cert.MixerInReferenceIdeal.τ).loc Cert.MixerInReferenceIdeal.main_arg2) = m ((c.tc : Thread Cert.MixerInReferenceIdeal.nD Cert.MixerInReferenceIdeal.τ).loc Cert.MixerInReferenceIdeal.main_arg2)
      ∧ r.2.mem ((c.tc : Thread Cert.MixerInReferenceIdeal.nD Cert.MixerInReferenceIdeal.τ).loc Cert.MixerInReferenceIdeal.main_arg3) = m ((c.tc : Thread Cert.MixerInReferenceIdeal.nD Cert.MixerInReferenceIdeal.τ).loc Cert.MixerInReferenceIdeal.main_arg3)
      ∧ r.2.mem ((c.tc : Thread Cert.MixerInReferenceIdeal.nD Cert.MixerInReferenceIdeal.τ).loc Cert.MixerInReferenceIdeal.main_arg4) = m ((c.tc : Thread Cert.MixerInReferenceIdeal.nD Cert.MixerInReferenceIdeal.τ).loc Cert.MixerInReferenceIdeal.main_arg4)
      ∧ r.2.mem ((c.tc : Thread Cert.MixerInReferenceIdeal.nD Cert.MixerInReferenceIdeal.τ).loc Cert.MixerInReferenceIdeal.main_arg5) = m ((c.tc : Thread Cert.MixerInReferenceIdeal.nD Cert.MixerInReferenceIdeal.τ).loc Cert.MixerInReferenceIdeal.main_arg5)
      ∧ r.2.mem ((c.tc : Thread Cert.MixerInReferenceIdeal.nD Cert.MixerInReferenceIdeal.τ).loc Cert.MixerInReferenceIdeal.main_arg6) = m ((c.tc : Thread Cert.MixerInReferenceIdeal.nD Cert.MixerInReferenceIdeal.τ).loc Cert.MixerInReferenceIdeal.main_arg6)
      ∧ r.2.mem ((c.tc : Thread Cert.MixerInReferenceIdeal.nD Cert.MixerInReferenceIdeal.τ).loc Cert.MixerInReferenceIdeal.main_arg7) = m ((c.tc : Thread Cert.MixerInReferenceIdeal.nD Cert.MixerInReferenceIdeal.τ).loc Cert.MixerInReferenceIdeal.main_arg7)
      ∧ r.2.mem ((c.tc : Thread Cert.MixerInReferenceIdeal.nD Cert.MixerInReferenceIdeal.τ).loc Cert.MixerInReferenceIdeal.main_arg8) = m ((c.tc : Thread Cert.MixerInReferenceIdeal.nD Cert.MixerInReferenceIdeal.τ).loc Cert.MixerInReferenceIdeal.main_arg8))
      ∧ r.2.sem = fun _ => 0)

def quiescent_MixerOut [hMixerOut : Cert.MixerOut.Facts] : Prop :=
  ∀ (m : (ℓ : Loc Cert.MixerOut.nD Cert.MixerOut.τ Cert.MixerOut.sig) → Buf (Elt Bits) ℓ) (g : Dev Cert.MixerOut.nD → PrngReg), Pre_MixerOut m →
    θ_run (Cert.MixerOut.defs (F := Bits)) (onTc (τ := Cert.MixerOut.τ) (Cert.MixerOut.main (F := Bits))) ⟨m, fun _ => 0, g⟩ (fun r => (∀ c : Dev Cert.MixerOut.nD,
      r.2.mem ((c.tc : Thread Cert.MixerOut.nD Cert.MixerOut.τ).loc Cert.MixerOut.main_arg0) = m ((c.tc : Thread Cert.MixerOut.nD Cert.MixerOut.τ).loc Cert.MixerOut.main_arg0)
      ∧ r.2.mem ((c.tc : Thread Cert.MixerOut.nD Cert.MixerOut.τ).loc Cert.MixerOut.main_arg1) = m ((c.tc : Thread Cert.MixerOut.nD Cert.MixerOut.τ).loc Cert.MixerOut.main_arg1)
      ∧ r.2.mem ((c.tc : Thread Cert.MixerOut.nD Cert.MixerOut.τ).loc Cert.MixerOut.main_arg2) = m ((c.tc : Thread Cert.MixerOut.nD Cert.MixerOut.τ).loc Cert.MixerOut.main_arg2)
      ∧ r.2.mem ((c.tc : Thread Cert.MixerOut.nD Cert.MixerOut.τ).loc Cert.MixerOut.main_arg3) = m ((c.tc : Thread Cert.MixerOut.nD Cert.MixerOut.τ).loc Cert.MixerOut.main_arg3)
      ∧ r.2.mem ((c.tc : Thread Cert.MixerOut.nD Cert.MixerOut.τ).loc Cert.MixerOut.main_arg4) = m ((c.tc : Thread Cert.MixerOut.nD Cert.MixerOut.τ).loc Cert.MixerOut.main_arg4)
      ∧ r.2.mem ((c.tc : Thread Cert.MixerOut.nD Cert.MixerOut.τ).loc Cert.MixerOut.main_arg5) = m ((c.tc : Thread Cert.MixerOut.nD Cert.MixerOut.τ).loc Cert.MixerOut.main_arg5)
      ∧ r.2.mem ((c.tc : Thread Cert.MixerOut.nD Cert.MixerOut.τ).loc Cert.MixerOut.main_arg6) = m ((c.tc : Thread Cert.MixerOut.nD Cert.MixerOut.τ).loc Cert.MixerOut.main_arg6)
      ∧ r.2.mem ((c.tc : Thread Cert.MixerOut.nD Cert.MixerOut.τ).loc Cert.MixerOut.main_arg7) = m ((c.tc : Thread Cert.MixerOut.nD Cert.MixerOut.τ).loc Cert.MixerOut.main_arg7)
      ∧ r.2.mem ((c.tc : Thread Cert.MixerOut.nD Cert.MixerOut.τ).loc Cert.MixerOut.main_arg8) = m ((c.tc : Thread Cert.MixerOut.nD Cert.MixerOut.τ).loc Cert.MixerOut.main_arg8)
      ∧ r.2.mem ((c.tc : Thread Cert.MixerOut.nD Cert.MixerOut.τ).loc Cert.MixerOut.main_arg9) = m ((c.tc : Thread Cert.MixerOut.nD Cert.MixerOut.τ).loc Cert.MixerOut.main_arg9))
      ∧ r.2.sem = fun _ => 0)

def quiescent_MixerOutIdeal [hMixerOutIdeal : Cert.MixerOutIdeal.Facts] : Prop :=
  ∀ (m : (ℓ : Loc Cert.MixerOutIdeal.nD Cert.MixerOutIdeal.τ Cert.MixerOutIdeal.sig) → Buf (Elt Ideal) ℓ) (g : Dev Cert.MixerOutIdeal.nD → PrngReg), Pre_MixerOutIdeal m →
    θ_run (Cert.MixerOutIdeal.defs (F := Ideal)) (onTc (τ := Cert.MixerOutIdeal.τ) (Cert.MixerOutIdeal.main (F := Ideal))) ⟨m, fun _ => 0, g⟩ (fun r => (∀ c : Dev Cert.MixerOutIdeal.nD,
      r.2.mem ((c.tc : Thread Cert.MixerOutIdeal.nD Cert.MixerOutIdeal.τ).loc Cert.MixerOutIdeal.main_arg0) = m ((c.tc : Thread Cert.MixerOutIdeal.nD Cert.MixerOutIdeal.τ).loc Cert.MixerOutIdeal.main_arg0)
      ∧ r.2.mem ((c.tc : Thread Cert.MixerOutIdeal.nD Cert.MixerOutIdeal.τ).loc Cert.MixerOutIdeal.main_arg1) = m ((c.tc : Thread Cert.MixerOutIdeal.nD Cert.MixerOutIdeal.τ).loc Cert.MixerOutIdeal.main_arg1)
      ∧ r.2.mem ((c.tc : Thread Cert.MixerOutIdeal.nD Cert.MixerOutIdeal.τ).loc Cert.MixerOutIdeal.main_arg2) = m ((c.tc : Thread Cert.MixerOutIdeal.nD Cert.MixerOutIdeal.τ).loc Cert.MixerOutIdeal.main_arg2)
      ∧ r.2.mem ((c.tc : Thread Cert.MixerOutIdeal.nD Cert.MixerOutIdeal.τ).loc Cert.MixerOutIdeal.main_arg3) = m ((c.tc : Thread Cert.MixerOutIdeal.nD Cert.MixerOutIdeal.τ).loc Cert.MixerOutIdeal.main_arg3)
      ∧ r.2.mem ((c.tc : Thread Cert.MixerOutIdeal.nD Cert.MixerOutIdeal.τ).loc Cert.MixerOutIdeal.main_arg4) = m ((c.tc : Thread Cert.MixerOutIdeal.nD Cert.MixerOutIdeal.τ).loc Cert.MixerOutIdeal.main_arg4)
      ∧ r.2.mem ((c.tc : Thread Cert.MixerOutIdeal.nD Cert.MixerOutIdeal.τ).loc Cert.MixerOutIdeal.main_arg5) = m ((c.tc : Thread Cert.MixerOutIdeal.nD Cert.MixerOutIdeal.τ).loc Cert.MixerOutIdeal.main_arg5)
      ∧ r.2.mem ((c.tc : Thread Cert.MixerOutIdeal.nD Cert.MixerOutIdeal.τ).loc Cert.MixerOutIdeal.main_arg6) = m ((c.tc : Thread Cert.MixerOutIdeal.nD Cert.MixerOutIdeal.τ).loc Cert.MixerOutIdeal.main_arg6)
      ∧ r.2.mem ((c.tc : Thread Cert.MixerOutIdeal.nD Cert.MixerOutIdeal.τ).loc Cert.MixerOutIdeal.main_arg7) = m ((c.tc : Thread Cert.MixerOutIdeal.nD Cert.MixerOutIdeal.τ).loc Cert.MixerOutIdeal.main_arg7)
      ∧ r.2.mem ((c.tc : Thread Cert.MixerOutIdeal.nD Cert.MixerOutIdeal.τ).loc Cert.MixerOutIdeal.main_arg8) = m ((c.tc : Thread Cert.MixerOutIdeal.nD Cert.MixerOutIdeal.τ).loc Cert.MixerOutIdeal.main_arg8)
      ∧ r.2.mem ((c.tc : Thread Cert.MixerOutIdeal.nD Cert.MixerOutIdeal.τ).loc Cert.MixerOutIdeal.main_arg9) = m ((c.tc : Thread Cert.MixerOutIdeal.nD Cert.MixerOutIdeal.τ).loc Cert.MixerOutIdeal.main_arg9))
      ∧ r.2.sem = fun _ => 0)

def quiescent_MixerOutReferenceIdeal [hMixerOutReferenceIdeal : Cert.MixerOutReferenceIdeal.Facts] : Prop :=
  ∀ (m : (ℓ : Loc Cert.MixerOutReferenceIdeal.nD Cert.MixerOutReferenceIdeal.τ Cert.MixerOutReferenceIdeal.sig) → Buf (Elt Ideal) ℓ) (g : Dev Cert.MixerOutReferenceIdeal.nD → PrngReg), Pre_MixerOutReferenceIdeal m →
    θ_run (Cert.MixerOutReferenceIdeal.defs (F := Ideal)) (onTc (τ := Cert.MixerOutReferenceIdeal.τ) (Cert.MixerOutReferenceIdeal.main (F := Ideal))) ⟨m, fun _ => 0, g⟩ (fun r => (∀ c : Dev Cert.MixerOutReferenceIdeal.nD,
      r.2.mem ((c.tc : Thread Cert.MixerOutReferenceIdeal.nD Cert.MixerOutReferenceIdeal.τ).loc Cert.MixerOutReferenceIdeal.main_arg0) = m ((c.tc : Thread Cert.MixerOutReferenceIdeal.nD Cert.MixerOutReferenceIdeal.τ).loc Cert.MixerOutReferenceIdeal.main_arg0)
      ∧ r.2.mem ((c.tc : Thread Cert.MixerOutReferenceIdeal.nD Cert.MixerOutReferenceIdeal.τ).loc Cert.MixerOutReferenceIdeal.main_arg1) = m ((c.tc : Thread Cert.MixerOutReferenceIdeal.nD Cert.MixerOutReferenceIdeal.τ).loc Cert.MixerOutReferenceIdeal.main_arg1)
      ∧ r.2.mem ((c.tc : Thread Cert.MixerOutReferenceIdeal.nD Cert.MixerOutReferenceIdeal.τ).loc Cert.MixerOutReferenceIdeal.main_arg2) = m ((c.tc : Thread Cert.MixerOutReferenceIdeal.nD Cert.MixerOutReferenceIdeal.τ).loc Cert.MixerOutReferenceIdeal.main_arg2)
      ∧ r.2.mem ((c.tc : Thread Cert.MixerOutReferenceIdeal.nD Cert.MixerOutReferenceIdeal.τ).loc Cert.MixerOutReferenceIdeal.main_arg3) = m ((c.tc : Thread Cert.MixerOutReferenceIdeal.nD Cert.MixerOutReferenceIdeal.τ).loc Cert.MixerOutReferenceIdeal.main_arg3)
      ∧ r.2.mem ((c.tc : Thread Cert.MixerOutReferenceIdeal.nD Cert.MixerOutReferenceIdeal.τ).loc Cert.MixerOutReferenceIdeal.main_arg4) = m ((c.tc : Thread Cert.MixerOutReferenceIdeal.nD Cert.MixerOutReferenceIdeal.τ).loc Cert.MixerOutReferenceIdeal.main_arg4)
      ∧ r.2.mem ((c.tc : Thread Cert.MixerOutReferenceIdeal.nD Cert.MixerOutReferenceIdeal.τ).loc Cert.MixerOutReferenceIdeal.main_arg5) = m ((c.tc : Thread Cert.MixerOutReferenceIdeal.nD Cert.MixerOutReferenceIdeal.τ).loc Cert.MixerOutReferenceIdeal.main_arg5)
      ∧ r.2.mem ((c.tc : Thread Cert.MixerOutReferenceIdeal.nD Cert.MixerOutReferenceIdeal.τ).loc Cert.MixerOutReferenceIdeal.main_arg6) = m ((c.tc : Thread Cert.MixerOutReferenceIdeal.nD Cert.MixerOutReferenceIdeal.τ).loc Cert.MixerOutReferenceIdeal.main_arg6)
      ∧ r.2.mem ((c.tc : Thread Cert.MixerOutReferenceIdeal.nD Cert.MixerOutReferenceIdeal.τ).loc Cert.MixerOutReferenceIdeal.main_arg7) = m ((c.tc : Thread Cert.MixerOutReferenceIdeal.nD Cert.MixerOutReferenceIdeal.τ).loc Cert.MixerOutReferenceIdeal.main_arg7)
      ∧ r.2.mem ((c.tc : Thread Cert.MixerOutReferenceIdeal.nD Cert.MixerOutReferenceIdeal.τ).loc Cert.MixerOutReferenceIdeal.main_arg8) = m ((c.tc : Thread Cert.MixerOutReferenceIdeal.nD Cert.MixerOutReferenceIdeal.τ).loc Cert.MixerOutReferenceIdeal.main_arg8)
      ∧ r.2.mem ((c.tc : Thread Cert.MixerOutReferenceIdeal.nD Cert.MixerOutReferenceIdeal.τ).loc Cert.MixerOutReferenceIdeal.main_arg9) = m ((c.tc : Thread Cert.MixerOutReferenceIdeal.nD Cert.MixerOutReferenceIdeal.τ).loc Cert.MixerOutReferenceIdeal.main_arg9))
      ∧ r.2.sem = fun _ => 0)

def preserves_Kernel_KernelIdeal : Prop :=
  IdealRules.named_const.Statement Cert.KernelIdeal.κ "q_scale" .f32 0x3E38AA3B#32 (((1 / 8) * (Real.log 2)⁻¹ : ℝ) : EReal)

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v10)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v10) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v76) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def preserves_MixerIn_MixerInIdeal : Prop :=
  True

def algebraic_MixerInIdeal_MixerInReferenceIdeal [hMixerInIdeal : Cert.MixerInIdeal.Facts] [hMixerInReferenceIdeal : Cert.MixerInReferenceIdeal.Facts] : Prop :=
  ∀ (m : (ℓ : Loc Cert.MixerInIdeal.nD Cert.MixerInIdeal.τ Cert.MixerInIdeal.sig) → Buf (Elt Ideal) ℓ) (g : Dev Cert.MixerInIdeal.nD → PrngReg)
    (m' : (ℓ : Loc Cert.MixerInReferenceIdeal.nD Cert.MixerInReferenceIdeal.τ Cert.MixerInReferenceIdeal.sig) → Buf (Elt Ideal) ℓ) (g' : Dev Cert.MixerInReferenceIdeal.nD → PrngReg), Pre_MixerInIdeal m →
    (∀ c : Dev Cert.MixerInIdeal.nD,
      m' ((c.tc : Thread Cert.MixerInReferenceIdeal.nD Cert.MixerInReferenceIdeal.τ).loc Cert.MixerInReferenceIdeal.main_arg0) = m ((c.tc : Thread Cert.MixerInIdeal.nD Cert.MixerInIdeal.τ).loc Cert.MixerInIdeal.main_arg0)
      ∧ m' ((c.tc : Thread Cert.MixerInReferenceIdeal.nD Cert.MixerInReferenceIdeal.τ).loc Cert.MixerInReferenceIdeal.main_arg1) = m ((c.tc : Thread Cert.MixerInIdeal.nD Cert.MixerInIdeal.τ).loc Cert.MixerInIdeal.main_arg1)
      ∧ m' ((c.tc : Thread Cert.MixerInReferenceIdeal.nD Cert.MixerInReferenceIdeal.τ).loc Cert.MixerInReferenceIdeal.main_arg2) = m ((c.tc : Thread Cert.MixerInIdeal.nD Cert.MixerInIdeal.τ).loc Cert.MixerInIdeal.main_arg2)
      ∧ m' ((c.tc : Thread Cert.MixerInReferenceIdeal.nD Cert.MixerInReferenceIdeal.τ).loc Cert.MixerInReferenceIdeal.main_arg3) = m ((c.tc : Thread Cert.MixerInIdeal.nD Cert.MixerInIdeal.τ).loc Cert.MixerInIdeal.main_arg3)
      ∧ m' ((c.tc : Thread Cert.MixerInReferenceIdeal.nD Cert.MixerInReferenceIdeal.τ).loc Cert.MixerInReferenceIdeal.main_arg4) = m ((c.tc : Thread Cert.MixerInIdeal.nD Cert.MixerInIdeal.τ).loc Cert.MixerInIdeal.main_arg4)
      ∧ m' ((c.tc : Thread Cert.MixerInReferenceIdeal.nD Cert.MixerInReferenceIdeal.τ).loc Cert.MixerInReferenceIdeal.main_arg5) = m ((c.tc : Thread Cert.MixerInIdeal.nD Cert.MixerInIdeal.τ).loc Cert.MixerInIdeal.main_arg5)
      ∧ m' ((c.tc : Thread Cert.MixerInReferenceIdeal.nD Cert.MixerInReferenceIdeal.τ).loc Cert.MixerInReferenceIdeal.main_arg6) = m ((c.tc : Thread Cert.MixerInIdeal.nD Cert.MixerInIdeal.τ).loc Cert.MixerInIdeal.main_arg6)
      ∧ m' ((c.tc : Thread Cert.MixerInReferenceIdeal.nD Cert.MixerInReferenceIdeal.τ).loc Cert.MixerInReferenceIdeal.main_arg7) = m ((c.tc : Thread Cert.MixerInIdeal.nD Cert.MixerInIdeal.τ).loc Cert.MixerInIdeal.main_arg7)
      ∧ m' ((c.tc : Thread Cert.MixerInReferenceIdeal.nD Cert.MixerInReferenceIdeal.τ).loc Cert.MixerInReferenceIdeal.main_arg8) = m ((c.tc : Thread Cert.MixerInIdeal.nD Cert.MixerInIdeal.τ).loc Cert.MixerInIdeal.main_arg8)) →
    ∃ (v0 : (c : Dev Cert.MixerInIdeal.nD) → Buf (Elt Ideal) ((c.tc : Thread Cert.MixerInIdeal.nD Cert.MixerInIdeal.τ).loc Cert.MixerInIdeal.main_v43_0)) (v1 : (c : Dev Cert.MixerInIdeal.nD) → Buf (Elt Ideal) ((c.tc : Thread Cert.MixerInIdeal.nD Cert.MixerInIdeal.τ).loc Cert.MixerInIdeal.main_v43_1)) (v2 : (c : Dev Cert.MixerInIdeal.nD) → Buf (Elt Ideal) ((c.tc : Thread Cert.MixerInIdeal.nD Cert.MixerInIdeal.τ).loc Cert.MixerInIdeal.main_v43_2)) (v3 : (c : Dev Cert.MixerInIdeal.nD) → Buf (Elt Ideal) ((c.tc : Thread Cert.MixerInIdeal.nD Cert.MixerInIdeal.τ).loc Cert.MixerInIdeal.main_v43_3)) (v4 : (c : Dev Cert.MixerInIdeal.nD) → Buf (Elt Ideal) ((c.tc : Thread Cert.MixerInIdeal.nD Cert.MixerInIdeal.τ).loc Cert.MixerInIdeal.main_v43_4)) (v5 : (c : Dev Cert.MixerInIdeal.nD) → Buf (Elt Ideal) ((c.tc : Thread Cert.MixerInIdeal.nD Cert.MixerInIdeal.τ).loc Cert.MixerInIdeal.main_v43_5)),
      θ_run (Cert.MixerInIdeal.defs (F := Ideal)) (onTc (τ := Cert.MixerInIdeal.τ) (Cert.MixerInIdeal.main (F := Ideal))) ⟨m, fun _ => 0, g⟩ (fun r => ∀ c : Dev Cert.MixerInIdeal.nD,
          r.2.mem ((c.tc : Thread Cert.MixerInIdeal.nD Cert.MixerInIdeal.τ).loc Cert.MixerInIdeal.main_v43_0) = v0 c
          ∧ r.2.mem ((c.tc : Thread Cert.MixerInIdeal.nD Cert.MixerInIdeal.τ).loc Cert.MixerInIdeal.main_v43_1) = v1 c
          ∧ r.2.mem ((c.tc : Thread Cert.MixerInIdeal.nD Cert.MixerInIdeal.τ).loc Cert.MixerInIdeal.main_v43_2) = v2 c
          ∧ r.2.mem ((c.tc : Thread Cert.MixerInIdeal.nD Cert.MixerInIdeal.τ).loc Cert.MixerInIdeal.main_v43_3) = v3 c
          ∧ r.2.mem ((c.tc : Thread Cert.MixerInIdeal.nD Cert.MixerInIdeal.τ).loc Cert.MixerInIdeal.main_v43_4) = v4 c
          ∧ r.2.mem ((c.tc : Thread Cert.MixerInIdeal.nD Cert.MixerInIdeal.τ).loc Cert.MixerInIdeal.main_v43_5) = v5 c
          ∧ r.2.mem ((c.tc : Thread Cert.MixerInIdeal.nD Cert.MixerInIdeal.τ).loc Cert.MixerInIdeal.main_arg0) = m ((c.tc : Thread Cert.MixerInIdeal.nD Cert.MixerInIdeal.τ).loc Cert.MixerInIdeal.main_arg0)
          ∧ r.2.mem ((c.tc : Thread Cert.MixerInIdeal.nD Cert.MixerInIdeal.τ).loc Cert.MixerInIdeal.main_arg1) = m ((c.tc : Thread Cert.MixerInIdeal.nD Cert.MixerInIdeal.τ).loc Cert.MixerInIdeal.main_arg1)
          ∧ r.2.mem ((c.tc : Thread Cert.MixerInIdeal.nD Cert.MixerInIdeal.τ).loc Cert.MixerInIdeal.main_arg2) = m ((c.tc : Thread Cert.MixerInIdeal.nD Cert.MixerInIdeal.τ).loc Cert.MixerInIdeal.main_arg2)
          ∧ r.2.mem ((c.tc : Thread Cert.MixerInIdeal.nD Cert.MixerInIdeal.τ).loc Cert.MixerInIdeal.main_arg3) = m ((c.tc : Thread Cert.MixerInIdeal.nD Cert.MixerInIdeal.τ).loc Cert.MixerInIdeal.main_arg3)
          ∧ r.2.mem ((c.tc : Thread Cert.MixerInIdeal.nD Cert.MixerInIdeal.τ).loc Cert.MixerInIdeal.main_arg4) = m ((c.tc : Thread Cert.MixerInIdeal.nD Cert.MixerInIdeal.τ).loc Cert.MixerInIdeal.main_arg4)
          ∧ r.2.mem ((c.tc : Thread Cert.MixerInIdeal.nD Cert.MixerInIdeal.τ).loc Cert.MixerInIdeal.main_arg5) = m ((c.tc : Thread Cert.MixerInIdeal.nD Cert.MixerInIdeal.τ).loc Cert.MixerInIdeal.main_arg5)
          ∧ r.2.mem ((c.tc : Thread Cert.MixerInIdeal.nD Cert.MixerInIdeal.τ).loc Cert.MixerInIdeal.main_arg6) = m ((c.tc : Thread Cert.MixerInIdeal.nD Cert.MixerInIdeal.τ).loc Cert.MixerInIdeal.main_arg6)
          ∧ r.2.mem ((c.tc : Thread Cert.MixerInIdeal.nD Cert.MixerInIdeal.τ).loc Cert.MixerInIdeal.main_arg7) = m ((c.tc : Thread Cert.MixerInIdeal.nD Cert.MixerInIdeal.τ).loc Cert.MixerInIdeal.main_arg7)
          ∧ r.2.mem ((c.tc : Thread Cert.MixerInIdeal.nD Cert.MixerInIdeal.τ).loc Cert.MixerInIdeal.main_arg8) = m ((c.tc : Thread Cert.MixerInIdeal.nD Cert.MixerInIdeal.τ).loc Cert.MixerInIdeal.main_arg8))
      ∧ θ_run (Cert.MixerInReferenceIdeal.defs (F := Ideal)) (onTc (τ := Cert.MixerInReferenceIdeal.τ) (Cert.MixerInReferenceIdeal.main (F := Ideal))) ⟨m', fun _ => 0, g'⟩ (fun r => ∀ c : Dev Cert.MixerInReferenceIdeal.nD,
          r.2.mem ((c.tc : Thread Cert.MixerInReferenceIdeal.nD Cert.MixerInReferenceIdeal.τ).loc Cert.MixerInReferenceIdeal.main_v167) = v0 c
          ∧ r.2.mem ((c.tc : Thread Cert.MixerInReferenceIdeal.nD Cert.MixerInReferenceIdeal.τ).loc Cert.MixerInReferenceIdeal.main_v169) = v1 c
          ∧ r.2.mem ((c.tc : Thread Cert.MixerInReferenceIdeal.nD Cert.MixerInReferenceIdeal.τ).loc Cert.MixerInReferenceIdeal.main_v171) = v2 c
          ∧ r.2.mem ((c.tc : Thread Cert.MixerInReferenceIdeal.nD Cert.MixerInReferenceIdeal.τ).loc Cert.MixerInReferenceIdeal.main_v179) = v3 c
          ∧ r.2.mem ((c.tc : Thread Cert.MixerInReferenceIdeal.nD Cert.MixerInReferenceIdeal.τ).loc Cert.MixerInReferenceIdeal.main_v186) = v4 c
          ∧ r.2.mem ((c.tc : Thread Cert.MixerInReferenceIdeal.nD Cert.MixerInReferenceIdeal.τ).loc Cert.MixerInReferenceIdeal.main_v187) = v5 c
          ∧ r.2.mem ((c.tc : Thread Cert.MixerInReferenceIdeal.nD Cert.MixerInReferenceIdeal.τ).loc Cert.MixerInReferenceIdeal.main_arg0) = m' ((c.tc : Thread Cert.MixerInReferenceIdeal.nD Cert.MixerInReferenceIdeal.τ).loc Cert.MixerInReferenceIdeal.main_arg0)
          ∧ r.2.mem ((c.tc : Thread Cert.MixerInReferenceIdeal.nD Cert.MixerInReferenceIdeal.τ).loc Cert.MixerInReferenceIdeal.main_arg1) = m' ((c.tc : Thread Cert.MixerInReferenceIdeal.nD Cert.MixerInReferenceIdeal.τ).loc Cert.MixerInReferenceIdeal.main_arg1)
          ∧ r.2.mem ((c.tc : Thread Cert.MixerInReferenceIdeal.nD Cert.MixerInReferenceIdeal.τ).loc Cert.MixerInReferenceIdeal.main_arg2) = m' ((c.tc : Thread Cert.MixerInReferenceIdeal.nD Cert.MixerInReferenceIdeal.τ).loc Cert.MixerInReferenceIdeal.main_arg2)
          ∧ r.2.mem ((c.tc : Thread Cert.MixerInReferenceIdeal.nD Cert.MixerInReferenceIdeal.τ).loc Cert.MixerInReferenceIdeal.main_arg3) = m' ((c.tc : Thread Cert.MixerInReferenceIdeal.nD Cert.MixerInReferenceIdeal.τ).loc Cert.MixerInReferenceIdeal.main_arg3)
          ∧ r.2.mem ((c.tc : Thread Cert.MixerInReferenceIdeal.nD Cert.MixerInReferenceIdeal.τ).loc Cert.MixerInReferenceIdeal.main_arg4) = m' ((c.tc : Thread Cert.MixerInReferenceIdeal.nD Cert.MixerInReferenceIdeal.τ).loc Cert.MixerInReferenceIdeal.main_arg4)
          ∧ r.2.mem ((c.tc : Thread Cert.MixerInReferenceIdeal.nD Cert.MixerInReferenceIdeal.τ).loc Cert.MixerInReferenceIdeal.main_arg5) = m' ((c.tc : Thread Cert.MixerInReferenceIdeal.nD Cert.MixerInReferenceIdeal.τ).loc Cert.MixerInReferenceIdeal.main_arg5)
          ∧ r.2.mem ((c.tc : Thread Cert.MixerInReferenceIdeal.nD Cert.MixerInReferenceIdeal.τ).loc Cert.MixerInReferenceIdeal.main_arg6) = m' ((c.tc : Thread Cert.MixerInReferenceIdeal.nD Cert.MixerInReferenceIdeal.τ).loc Cert.MixerInReferenceIdeal.main_arg6)
          ∧ r.2.mem ((c.tc : Thread Cert.MixerInReferenceIdeal.nD Cert.MixerInReferenceIdeal.τ).loc Cert.MixerInReferenceIdeal.main_arg7) = m' ((c.tc : Thread Cert.MixerInReferenceIdeal.nD Cert.MixerInReferenceIdeal.τ).loc Cert.MixerInReferenceIdeal.main_arg7)
          ∧ r.2.mem ((c.tc : Thread Cert.MixerInReferenceIdeal.nD Cert.MixerInReferenceIdeal.τ).loc Cert.MixerInReferenceIdeal.main_arg8) = m' ((c.tc : Thread Cert.MixerInReferenceIdeal.nD Cert.MixerInReferenceIdeal.τ).loc Cert.MixerInReferenceIdeal.main_arg8))

def preserves_MixerOut_MixerOutIdeal : Prop :=
  True

def algebraic_MixerOutIdeal_MixerOutReferenceIdeal [hMixerOutIdeal : Cert.MixerOutIdeal.Facts] [hMixerOutReferenceIdeal : Cert.MixerOutReferenceIdeal.Facts] : Prop :=
  ∀ (m : (ℓ : Loc Cert.MixerOutIdeal.nD Cert.MixerOutIdeal.τ Cert.MixerOutIdeal.sig) → Buf (Elt Ideal) ℓ) (g : Dev Cert.MixerOutIdeal.nD → PrngReg)
    (m' : (ℓ : Loc Cert.MixerOutReferenceIdeal.nD Cert.MixerOutReferenceIdeal.τ Cert.MixerOutReferenceIdeal.sig) → Buf (Elt Ideal) ℓ) (g' : Dev Cert.MixerOutReferenceIdeal.nD → PrngReg), Pre_MixerOutIdeal m →
    (∀ c : Dev Cert.MixerOutIdeal.nD,
      m' ((c.tc : Thread Cert.MixerOutReferenceIdeal.nD Cert.MixerOutReferenceIdeal.τ).loc Cert.MixerOutReferenceIdeal.main_arg0) = m ((c.tc : Thread Cert.MixerOutIdeal.nD Cert.MixerOutIdeal.τ).loc Cert.MixerOutIdeal.main_arg0)
      ∧ m' ((c.tc : Thread Cert.MixerOutReferenceIdeal.nD Cert.MixerOutReferenceIdeal.τ).loc Cert.MixerOutReferenceIdeal.main_arg1) = m ((c.tc : Thread Cert.MixerOutIdeal.nD Cert.MixerOutIdeal.τ).loc Cert.MixerOutIdeal.main_arg1)
      ∧ m' ((c.tc : Thread Cert.MixerOutReferenceIdeal.nD Cert.MixerOutReferenceIdeal.τ).loc Cert.MixerOutReferenceIdeal.main_arg2) = m ((c.tc : Thread Cert.MixerOutIdeal.nD Cert.MixerOutIdeal.τ).loc Cert.MixerOutIdeal.main_arg2)
      ∧ m' ((c.tc : Thread Cert.MixerOutReferenceIdeal.nD Cert.MixerOutReferenceIdeal.τ).loc Cert.MixerOutReferenceIdeal.main_arg3) = m ((c.tc : Thread Cert.MixerOutIdeal.nD Cert.MixerOutIdeal.τ).loc Cert.MixerOutIdeal.main_arg3)
      ∧ m' ((c.tc : Thread Cert.MixerOutReferenceIdeal.nD Cert.MixerOutReferenceIdeal.τ).loc Cert.MixerOutReferenceIdeal.main_arg4) = m ((c.tc : Thread Cert.MixerOutIdeal.nD Cert.MixerOutIdeal.τ).loc Cert.MixerOutIdeal.main_arg4)
      ∧ m' ((c.tc : Thread Cert.MixerOutReferenceIdeal.nD Cert.MixerOutReferenceIdeal.τ).loc Cert.MixerOutReferenceIdeal.main_arg5) = m ((c.tc : Thread Cert.MixerOutIdeal.nD Cert.MixerOutIdeal.τ).loc Cert.MixerOutIdeal.main_arg5)
      ∧ m' ((c.tc : Thread Cert.MixerOutReferenceIdeal.nD Cert.MixerOutReferenceIdeal.τ).loc Cert.MixerOutReferenceIdeal.main_arg6) = m ((c.tc : Thread Cert.MixerOutIdeal.nD Cert.MixerOutIdeal.τ).loc Cert.MixerOutIdeal.main_arg6)
      ∧ m' ((c.tc : Thread Cert.MixerOutReferenceIdeal.nD Cert.MixerOutReferenceIdeal.τ).loc Cert.MixerOutReferenceIdeal.main_arg7) = m ((c.tc : Thread Cert.MixerOutIdeal.nD Cert.MixerOutIdeal.τ).loc Cert.MixerOutIdeal.main_arg7)
      ∧ m' ((c.tc : Thread Cert.MixerOutReferenceIdeal.nD Cert.MixerOutReferenceIdeal.τ).loc Cert.MixerOutReferenceIdeal.main_arg8) = m ((c.tc : Thread Cert.MixerOutIdeal.nD Cert.MixerOutIdeal.τ).loc Cert.MixerOutIdeal.main_arg8)
      ∧ m' ((c.tc : Thread Cert.MixerOutReferenceIdeal.nD Cert.MixerOutReferenceIdeal.τ).loc Cert.MixerOutReferenceIdeal.main_arg9) = m ((c.tc : Thread Cert.MixerOutIdeal.nD Cert.MixerOutIdeal.τ).loc Cert.MixerOutIdeal.main_arg9)) →
    ∃ (v0 : (c : Dev Cert.MixerOutIdeal.nD) → Buf (Elt Ideal) ((c.tc : Thread Cert.MixerOutIdeal.nD Cert.MixerOutIdeal.τ).loc Cert.MixerOutIdeal.main_v5_0)) (v1 : (c : Dev Cert.MixerOutIdeal.nD) → Buf (Elt Ideal) ((c.tc : Thread Cert.MixerOutIdeal.nD Cert.MixerOutIdeal.τ).loc Cert.MixerOutIdeal.main_v5_1)),
      θ_run (Cert.MixerOutIdeal.defs (F := Ideal)) (onTc (τ := Cert.MixerOutIdeal.τ) (Cert.MixerOutIdeal.main (F := Ideal))) ⟨m, fun _ => 0, g⟩ (fun r => ∀ c : Dev Cert.MixerOutIdeal.nD,
          r.2.mem ((c.tc : Thread Cert.MixerOutIdeal.nD Cert.MixerOutIdeal.τ).loc Cert.MixerOutIdeal.main_v5_0) = v0 c
          ∧ r.2.mem ((c.tc : Thread Cert.MixerOutIdeal.nD Cert.MixerOutIdeal.τ).loc Cert.MixerOutIdeal.main_v5_1) = v1 c
          ∧ r.2.mem ((c.tc : Thread Cert.MixerOutIdeal.nD Cert.MixerOutIdeal.τ).loc Cert.MixerOutIdeal.main_arg0) = m ((c.tc : Thread Cert.MixerOutIdeal.nD Cert.MixerOutIdeal.τ).loc Cert.MixerOutIdeal.main_arg0)
          ∧ r.2.mem ((c.tc : Thread Cert.MixerOutIdeal.nD Cert.MixerOutIdeal.τ).loc Cert.MixerOutIdeal.main_arg1) = m ((c.tc : Thread Cert.MixerOutIdeal.nD Cert.MixerOutIdeal.τ).loc Cert.MixerOutIdeal.main_arg1)
          ∧ r.2.mem ((c.tc : Thread Cert.MixerOutIdeal.nD Cert.MixerOutIdeal.τ).loc Cert.MixerOutIdeal.main_arg2) = m ((c.tc : Thread Cert.MixerOutIdeal.nD Cert.MixerOutIdeal.τ).loc Cert.MixerOutIdeal.main_arg2)
          ∧ r.2.mem ((c.tc : Thread Cert.MixerOutIdeal.nD Cert.MixerOutIdeal.τ).loc Cert.MixerOutIdeal.main_arg3) = m ((c.tc : Thread Cert.MixerOutIdeal.nD Cert.MixerOutIdeal.τ).loc Cert.MixerOutIdeal.main_arg3)
          ∧ r.2.mem ((c.tc : Thread Cert.MixerOutIdeal.nD Cert.MixerOutIdeal.τ).loc Cert.MixerOutIdeal.main_arg4) = m ((c.tc : Thread Cert.MixerOutIdeal.nD Cert.MixerOutIdeal.τ).loc Cert.MixerOutIdeal.main_arg4)
          ∧ r.2.mem ((c.tc : Thread Cert.MixerOutIdeal.nD Cert.MixerOutIdeal.τ).loc Cert.MixerOutIdeal.main_arg5) = m ((c.tc : Thread Cert.MixerOutIdeal.nD Cert.MixerOutIdeal.τ).loc Cert.MixerOutIdeal.main_arg5)
          ∧ r.2.mem ((c.tc : Thread Cert.MixerOutIdeal.nD Cert.MixerOutIdeal.τ).loc Cert.MixerOutIdeal.main_arg6) = m ((c.tc : Thread Cert.MixerOutIdeal.nD Cert.MixerOutIdeal.τ).loc Cert.MixerOutIdeal.main_arg6)
          ∧ r.2.mem ((c.tc : Thread Cert.MixerOutIdeal.nD Cert.MixerOutIdeal.τ).loc Cert.MixerOutIdeal.main_arg7) = m ((c.tc : Thread Cert.MixerOutIdeal.nD Cert.MixerOutIdeal.τ).loc Cert.MixerOutIdeal.main_arg7)
          ∧ r.2.mem ((c.tc : Thread Cert.MixerOutIdeal.nD Cert.MixerOutIdeal.τ).loc Cert.MixerOutIdeal.main_arg8) = m ((c.tc : Thread Cert.MixerOutIdeal.nD Cert.MixerOutIdeal.τ).loc Cert.MixerOutIdeal.main_arg8)
          ∧ r.2.mem ((c.tc : Thread Cert.MixerOutIdeal.nD Cert.MixerOutIdeal.τ).loc Cert.MixerOutIdeal.main_arg9) = m ((c.tc : Thread Cert.MixerOutIdeal.nD Cert.MixerOutIdeal.τ).loc Cert.MixerOutIdeal.main_arg9))
      ∧ θ_run (Cert.MixerOutReferenceIdeal.defs (F := Ideal)) (onTc (τ := Cert.MixerOutReferenceIdeal.τ) (Cert.MixerOutReferenceIdeal.main (F := Ideal))) ⟨m', fun _ => 0, g'⟩ (fun r => ∀ c : Dev Cert.MixerOutReferenceIdeal.nD,
          r.2.mem ((c.tc : Thread Cert.MixerOutReferenceIdeal.nD Cert.MixerOutReferenceIdeal.τ).loc Cert.MixerOutReferenceIdeal.main_v18) = v0 c
          ∧ r.2.mem ((c.tc : Thread Cert.MixerOutReferenceIdeal.nD Cert.MixerOutReferenceIdeal.τ).loc Cert.MixerOutReferenceIdeal.main_v40) = v1 c
          ∧ r.2.mem ((c.tc : Thread Cert.MixerOutReferenceIdeal.nD Cert.MixerOutReferenceIdeal.τ).loc Cert.MixerOutReferenceIdeal.main_arg0) = m' ((c.tc : Thread Cert.MixerOutReferenceIdeal.nD Cert.MixerOutReferenceIdeal.τ).loc Cert.MixerOutReferenceIdeal.main_arg0)
          ∧ r.2.mem ((c.tc : Thread Cert.MixerOutReferenceIdeal.nD Cert.MixerOutReferenceIdeal.τ).loc Cert.MixerOutReferenceIdeal.main_arg1) = m' ((c.tc : Thread Cert.MixerOutReferenceIdeal.nD Cert.MixerOutReferenceIdeal.τ).loc Cert.MixerOutReferenceIdeal.main_arg1)
          ∧ r.2.mem ((c.tc : Thread Cert.MixerOutReferenceIdeal.nD Cert.MixerOutReferenceIdeal.τ).loc Cert.MixerOutReferenceIdeal.main_arg2) = m' ((c.tc : Thread Cert.MixerOutReferenceIdeal.nD Cert.MixerOutReferenceIdeal.τ).loc Cert.MixerOutReferenceIdeal.main_arg2)
          ∧ r.2.mem ((c.tc : Thread Cert.MixerOutReferenceIdeal.nD Cert.MixerOutReferenceIdeal.τ).loc Cert.MixerOutReferenceIdeal.main_arg3) = m' ((c.tc : Thread Cert.MixerOutReferenceIdeal.nD Cert.MixerOutReferenceIdeal.τ).loc Cert.MixerOutReferenceIdeal.main_arg3)
          ∧ r.2.mem ((c.tc : Thread Cert.MixerOutReferenceIdeal.nD Cert.MixerOutReferenceIdeal.τ).loc Cert.MixerOutReferenceIdeal.main_arg4) = m' ((c.tc : Thread Cert.MixerOutReferenceIdeal.nD Cert.MixerOutReferenceIdeal.τ).loc Cert.MixerOutReferenceIdeal.main_arg4)
          ∧ r.2.mem ((c.tc : Thread Cert.MixerOutReferenceIdeal.nD Cert.MixerOutReferenceIdeal.τ).loc Cert.MixerOutReferenceIdeal.main_arg5) = m' ((c.tc : Thread Cert.MixerOutReferenceIdeal.nD Cert.MixerOutReferenceIdeal.τ).loc Cert.MixerOutReferenceIdeal.main_arg5)
          ∧ r.2.mem ((c.tc : Thread Cert.MixerOutReferenceIdeal.nD Cert.MixerOutReferenceIdeal.τ).loc Cert.MixerOutReferenceIdeal.main_arg6) = m' ((c.tc : Thread Cert.MixerOutReferenceIdeal.nD Cert.MixerOutReferenceIdeal.τ).loc Cert.MixerOutReferenceIdeal.main_arg6)
          ∧ r.2.mem ((c.tc : Thread Cert.MixerOutReferenceIdeal.nD Cert.MixerOutReferenceIdeal.τ).loc Cert.MixerOutReferenceIdeal.main_arg7) = m' ((c.tc : Thread Cert.MixerOutReferenceIdeal.nD Cert.MixerOutReferenceIdeal.τ).loc Cert.MixerOutReferenceIdeal.main_arg7)
          ∧ r.2.mem ((c.tc : Thread Cert.MixerOutReferenceIdeal.nD Cert.MixerOutReferenceIdeal.τ).loc Cert.MixerOutReferenceIdeal.main_arg8) = m' ((c.tc : Thread Cert.MixerOutReferenceIdeal.nD Cert.MixerOutReferenceIdeal.τ).loc Cert.MixerOutReferenceIdeal.main_arg8)
          ∧ r.2.mem ((c.tc : Thread Cert.MixerOutReferenceIdeal.nD Cert.MixerOutReferenceIdeal.τ).loc Cert.MixerOutReferenceIdeal.main_arg9) = m' ((c.tc : Thread Cert.MixerOutReferenceIdeal.nD Cert.MixerOutReferenceIdeal.τ).loc Cert.MixerOutReferenceIdeal.main_arg9))

def Claim : Prop :=
  ∃ (hKernel : Cert.Kernel.Facts) (hKernelIdeal : Cert.KernelIdeal.Facts) (hReferenceIdeal : Cert.ReferenceIdeal.Facts) (hMixerIn : Cert.MixerIn.Facts) (hMixerInIdeal : Cert.MixerInIdeal.Facts) (hMixerInReferenceIdeal : Cert.MixerInReferenceIdeal.Facts) (hMixerOut : Cert.MixerOut.Facts) (hMixerOutIdeal : Cert.MixerOutIdeal.Facts) (hMixerOutReferenceIdeal : Cert.MixerOutReferenceIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_MixerIn (hMixerIn := hMixerIn)
    ∧ quiescent_MixerInIdeal (hMixerInIdeal := hMixerInIdeal)
    ∧ quiescent_MixerInReferenceIdeal (hMixerInReferenceIdeal := hMixerInReferenceIdeal)
    ∧ quiescent_MixerOut (hMixerOut := hMixerOut)
    ∧ quiescent_MixerOutIdeal (hMixerOutIdeal := hMixerOutIdeal)
    ∧ quiescent_MixerOutReferenceIdeal (hMixerOutReferenceIdeal := hMixerOutReferenceIdeal)
    ∧ preserves_Kernel_KernelIdeal
    ∧ algebraic_KernelIdeal_ReferenceIdeal_pre_finite (hKernelIdeal := hKernelIdeal) (hReferenceIdeal := hReferenceIdeal) (hPre_finite := hPre_finite)
    ∧ preserves_MixerIn_MixerInIdeal
    ∧ algebraic_MixerInIdeal_MixerInReferenceIdeal (hMixerInIdeal := hMixerInIdeal) (hMixerInReferenceIdeal := hMixerInReferenceIdeal)
    ∧ preserves_MixerOut_MixerOutIdeal
    ∧ algebraic_MixerOutIdeal_MixerOutReferenceIdeal (hMixerOutIdeal := hMixerOutIdeal) (hMixerOutReferenceIdeal := hMixerOutReferenceIdeal)
-- ==== Pre_finite.lean ====
abbrev S4x8192x8x64 : Shape := ⟨4, ![4, 8192, 8, 64]⟩
abbrev S_ : Shape := ⟨0, ![]⟩

class Facts : Prop where
  bcast_S_S4x8192x8x64 : S_.BroadcastsInDim S4x8192x8x64 (![] : Fin 0 → Fin S4x8192x8x64.rank)
  reducesTo_S4x8192x8x64_S_d0_1_2_3 : S4x8192x8x64.ReducesTo [0, 1, 2, 3] S_
  h_S_ : 0 < S_.numel

variable [Facts]

def fn {F : FTy → Type} [FloatOps F] (main_arg0 : FVec F S4x8192x8x64 .f32) (main_arg1 : FVec F S4x8192x8x64 .f32) (main_arg2 : FVec F S4x8192x8x64 .f32) : IVec S_ 1 :=
  let main_v0 : FVec F S4x8192x8x64 .f32 := Host.absf main_arg0
  let main_cst : FVec F S_ .f32 := constant S_ .f32 0x7F800000#32
  let main_v1 : FVec F S4x8192x8x64 .f32 := broadcastInDim S4x8192x8x64 ![] bcast_S_S4x8192x8x64 main_cst
  let main_v2 : IVec S4x8192x8x64 1 := cmpf .olt main_v0 main_v1
  let main_c : IVec S_ 1 := constantI S_ 1 1#1
  let main_v3 : IVec S_ 1 := (fun x v => Host.reduce IntOp.andi x v reducesTo_S4x8192x8x64_S_d0_1_2_3 h_S_) main_v2 main_c
  let main_v4 : FVec F S4x8192x8x64 .f32 := Host.absf main_arg1
  let main_cst_0 : FVec F S_ .f32 := constant S_ .f32 0x7F800000#32
  let main_v5 : FVec F S4x8192x8x64 .f32 := broadcastInDim S4x8192x8x64 ![] bcast_S_S4x8192x8x64 main_cst_0
  let main_v6 : IVec S4x8192x8x64 1 := cmpf .olt main_v4 main_v5
  let main_c_1 : IVec S_ 1 := constantI S_ 1 1#1
  let main_v7 : IVec S_ 1 := (fun x v => Host.reduce IntOp.andi x v reducesTo_S4x8192x8x64_S_d0_1_2_3 h_S_) main_v6 main_c_1
  let main_v8 : IVec S_ 1 := andi main_v3 main_v7
  let main_v9 : FVec F S4x8192x8x64 .f32 := Host.absf main_arg2
  let main_cst_2 : FVec F S_ .f32 := constant S_ .f32 0x7F800000#32
  let main_v10 : FVec F S4x8192x8x64 .f32 := broadcastInDim S4x8192x8x64 ![] bcast_S_S4x8192x8x64 main_cst_2
  let main_v11 : IVec S4x8192x8x64 1 := cmpf .olt main_v9 main_v10
  let main_c_3 : IVec S_ 1 := constantI S_ 1 1#1
  let main_v12 : IVec S_ 1 := (fun x v => Host.reduce IntOp.andi x v reducesTo_S4x8192x8x64_S_d0_1_2_3 h_S_) main_v11 main_c_3
  let main_v13 : IVec S_ 1 := andi main_v8 main_v12
  main_v13
-- ==== Kernel.lean ====
abbrev S4x8192x8x64 : Shape := ⟨4, ![4, 8192, 8, 64]⟩
abbrev S4x8192x512 : Shape := ⟨3, ![4, 8192, 512]⟩
abbrev S4x32x256x512 : Shape := ⟨4, ![4, 32, 256, 512]⟩
abbrev S_ : Shape := ⟨0, ![]⟩
abbrev S4x32x512 : Shape := ⟨3, ![4, 32, 512]⟩
abbrev S4x512x8192 : Shape := ⟨3, ![4, 512, 8192]⟩
abbrev S1x8192x128 : Shape := ⟨3, ![1, 8192, 128]⟩
abbrev S1x128x8192 : Shape := ⟨3, ![1, 128, 8192]⟩
abbrev S1x32x128 : Shape := ⟨3, ![1, 32, 128]⟩
abbrev S1x512 : Shape := ⟨2, ![1, 512]⟩
abbrev S2x80x256 : Shape := ⟨3, ![2, 80, 256]⟩
abbrev S256x512 : Shape := ⟨2, ![256, 512]⟩
abbrev S1x256x128 : Shape := ⟨3, ![1, 256, 128]⟩
abbrev S256x128 : Shape := ⟨2, ![256, 128]⟩
abbrev S128x256 : Shape := ⟨2, ![128, 256]⟩
abbrev S128x512 : Shape := ⟨2, ![128, 512]⟩
abbrev S32x128 : Shape := ⟨2, ![32, 128]⟩
abbrev S32x512 : Shape := ⟨2, ![32, 512]⟩
abbrev S512 : Shape := ⟨1, ![512]⟩
abbrev S128 : Shape := ⟨1, ![128]⟩
abbrev S1x128 : Shape := ⟨2, ![1, 128]⟩
abbrev S1x128x256 : Shape := ⟨3, ![1, 128, 256]⟩
abbrev S16x256 : Shape := ⟨2, ![16, 256]⟩
abbrev S64x256 : Shape := ⟨2, ![64, 256]⟩
abbrev S80x256 : Shape := ⟨2, ![80, 256]⟩
abbrev S1x256 : Shape := ⟨2, ![1, 256]⟩
abbrev S1x80x256 : Shape := ⟨3, ![1, 80, 256]⟩
abbrev S256x256 : Shape := ⟨2, ![256, 256]⟩
abbrev S1x64x256 : Shape := ⟨3, ![1, 64, 256]⟩
abbrev S1x1x256 : Shape := ⟨3, ![1, 1, 256]⟩

abbrev nBuf : Space → Nat
  | .hbm => 16
  | .vmem => 19
  | .smem => 0
  | _ => 0

abbrev bufTy : (tb : Table) → Fin (tcTables nBuf tb) → BufTy
  | .hbm, ⟨0, _⟩ => ⟨S4x8192x8x64, .f32⟩
  | .hbm, ⟨1, _⟩ => ⟨S4x8192x8x64, .f32⟩
  | .hbm, ⟨2, _⟩ => ⟨S4x8192x8x64, .f32⟩
  | .hbm, ⟨3, _⟩ => ⟨S4x8192x512, .f32⟩
  | .hbm, ⟨4, _⟩ => ⟨S4x8192x512, .f32⟩
  | .hbm, ⟨5, _⟩ => ⟨S4x32x256x512, .f32⟩
  | .hbm, ⟨6, _⟩ => ⟨S_, .f32⟩
  | .hbm, ⟨7, _⟩ => ⟨S4x32x512, .f32⟩
  | .hbm, ⟨8, _⟩ => ⟨S_, .f32⟩
  | .hbm, ⟨9, _⟩ => ⟨S4x32x512, .f32⟩
  | .hbm, ⟨10, _⟩ => ⟨S4x32x512, .f32⟩
  | .hbm, ⟨11, _⟩ => ⟨S4x8192x512, .f32⟩
  | .hbm, ⟨12, _⟩ => ⟨S4x512x8192, .f32⟩
  | .hbm, ⟨13, _⟩ => ⟨S4x8192x512, .bf16⟩
  | .hbm, ⟨14, _⟩ => ⟨S4x512x8192, .bf16⟩
  | .hbm, ⟨15, _⟩ => ⟨S4x8192x512, .bf16⟩
  | .local _ .vmem, ⟨0, _⟩ => ⟨S1x8192x128, .f32⟩
  | .local _ .vmem, ⟨1, _⟩ => ⟨S1x8192x128, .f32⟩
  | .local _ .vmem, ⟨2, _⟩ => ⟨S1x8192x128, .bf16⟩
  | .local _ .vmem, ⟨3, _⟩ => ⟨S1x8192x128, .bf16⟩
  | .local _ .vmem, ⟨4, _⟩ => ⟨S1x128x8192, .bf16⟩
  | .local _ .vmem, ⟨5, _⟩ => ⟨S1x128x8192, .bf16⟩
  | .local _ .vmem, ⟨6, _⟩ => ⟨S1x32x128, .f32⟩
  | .local _ .vmem, ⟨7, _⟩ => ⟨S1x32x128, .f32⟩
  | .local _ .vmem, ⟨8, _⟩ => ⟨S1x8192x128, .bf16⟩
  | .local _ .vmem, ⟨9, _⟩ => ⟨S1x8192x128, .bf16⟩
  | .local _ .vmem, ⟨10, _⟩ => ⟨S1x512, .f32⟩
  | .local _ .vmem, ⟨11, _⟩ => ⟨S2x80x256, .f32⟩
  | .local _ .vmem, ⟨12, _⟩ => ⟨S1x512, .i32⟩
  | .local _ .vmem, ⟨13, _⟩ => ⟨S256x512, .f32⟩
  | .local _ .vmem, ⟨14, _⟩ => ⟨S256x512, .f32⟩
  | .local _ .vmem, ⟨15, _⟩ => ⟨S256x512, .bf16⟩
  | .local _ .vmem, ⟨16, _⟩ => ⟨S256x512, .bf16⟩
  | .local _ .vmem, ⟨17, _⟩ => ⟨S1x512, .f32⟩
  | .local _ .vmem, ⟨18, _⟩ => ⟨S1x512, .f32⟩
  | _, _ => ⟨S4x8192x8x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_scratch1 : Ref sig .tc := ⟨.vmem, 11, rfl⟩
abbrev cc0_scratch2 : Ref sig .tc := ⟨.vmem, 12, rfl⟩
abbrev cc0_scratch3 : Ref sig .tc := ⟨.vmem, 13, rfl⟩
abbrev cc0_scratch4 : Ref sig .tc := ⟨.vmem, 14, rfl⟩
abbrev cc0_scratch5 : Ref sig .tc := ⟨.vmem, 15, rfl⟩
abbrev cc0_scratch6 : Ref sig .tc := ⟨.vmem, 16, rfl⟩
abbrev cc0_scratch7 : Ref sig .tc := ⟨.vmem, 17, rfl⟩
abbrev cc0_scratch8 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![4, 4], ![false, false]⟩

@[reducible] def k0_t1_loop : Scf.Loop 32 :=
  let c0_i32 : BitVec 32 := 0#32
  let c32_i32 : BitVec 32 := 32#32
  let v0 : BitVec 32 := Scalar.addi c0_i32 c32_i32
  let c1_i32 : BitVec 32 := 1#32
  ⟨c0_i32, v0, c1_i32⟩
def k0_mult1 (k0_t1 : Fin k0_t1_loop.trips) : BitVec 32 :=
  let c0_i32 : BitVec 32 := 0#32
  let c1_i32 : BitVec 32 := 1#32
  let arg16 : BitVec 32 := Scf.iv c0_i32 c1_i32 k0_t1
  let c256_i32 : BitVec 32 := 256#32
  let v1 : BitVec 32 := Scalar.muli arg16 c256_i32
  v1
def k0_off1 (k0_t1 : Fin k0_t1_loop.trips) : Fin 3 → Nat :=
  let c0 : Index := 0#32
  let c0_i32 : BitVec 32 := 0#32
  let c1_i32 : BitVec 32 := 1#32
  let arg16 : BitVec 32 := Scf.iv c0_i32 c1_i32 k0_t1
  let c256_i32 : BitVec 32 := 256#32
  let v1 : BitVec 32 := Scalar.muli arg16 c256_i32
  let v2 : BitVec 32 := v1
  let v3 : Index := Scalar.indexCast v2
  let c0_1 : Index := 0#32
  ![0, v3.toNat, 0]
def k0_mult2 (k0_t1 : Fin k0_t1_loop.trips) : BitVec 32 :=
  let c0_i32_33 : BitVec 32 := 0#32
  let c0_i32 : BitVec 32 := 0#32
  let c1_i32 : BitVec 32 := 1#32
  let arg16 : BitVec 32 := Scf.iv c0_i32 c1_i32 k0_t1
  let v90 : BitVec 32 := Scalar.minsi c0_i32_33 arg16
  let c0_i32_34 : BitVec 32 := 0#32
  let v91 : BitVec 1 := Scalar.cmpi .eq v90 c0_i32_34
  let c1_i32_35 : BitVec 32 := 1#32
  let v92 : BitVec 32 := Scalar.subi v90 c1_i32_35
  let v93 : BitVec 32 := Scalar.select v91 arg16 v92
  let c256_i32_36 : BitVec 32 := 256#32
  let v94 : BitVec 32 := Scalar.muli v93 c256_i32_36
  v94
def k0_off2 (k0_t1 : Fin k0_t1_loop.trips) (c0_i32_33 : BitVec 32) : Fin 3 → Nat :=
  let c0_37 : Index := 0#32
  let c0_i32 : BitVec 32 := 0#32
  let c1_i32 : BitVec 32 := 1#32
  let arg16 : BitVec 32 := Scf.iv c0_i32 c1_i32 k0_t1
  let v90 : BitVec 32 := Scalar.minsi c0_i32_33 arg16
  let c0_i32_34 : BitVec 32 := 0#32
  let v91 : BitVec 1 := Scalar.cmpi .eq v90 c0_i32_34
  let c1_i32_35 : BitVec 32 := 1#32
  let v92 : BitVec 32 := Scalar.subi v90 c1_i32_35
  let v93 : BitVec 32 := Scalar.select v91 arg16 v92
  let c256_i32_36 : BitVec 32 := 256#32
  let v94 : BitVec 32 := Scalar.muli v93 c256_i32_36
  let v95 : BitVec 32 := v94
  let v96 : Index := Scalar.indexCast v95
  let c0_38 : Index := 0#32
  ![0, v96.toNat, 0]
def k0_mult3 (k0_t1 : Fin k0_t1_loop.trips) : BitVec 32 :=
  let c1_i32_81 : BitVec 32 := 1#32
  let c0_i32 : BitVec 32 := 0#32
  let c1_i32 : BitVec 32 := 1#32
  let arg16 : BitVec 32 := Scf.iv c0_i32 c1_i32 k0_t1
  let v185 : BitVec 32 := Scalar.minsi c1_i32_81 arg16
  let c0_i32_82 : BitVec 32 := 0#32
  let v186 : BitVec 1 := Scalar.cmpi .eq v185 c0_i32_82
  let c1_i32_83 : BitVec 32 := 1#32
  let v187 : BitVec 32 := Scalar.subi v185 c1_i32_83
  let v188 : BitVec 32 := Scalar.select v186 arg16 v187
  let c256_i32_84 : BitVec 32 := 256#32
  let v189 : BitVec 32 := Scalar.muli v188 c256_i32_84
  v189
@[reducible] def k0_t2_loop (k0_t1 : Fin k0_t1_loop.trips) : Scf.Loop 32 :=
  let c0_i32_98 : BitVec 32 := 0#32
  let c0_i32 : BitVec 32 := 0#32
  let c1_i32 : BitVec 32 := 1#32
  let arg16 : BitVec 32 := Scf.iv c0_i32 c1_i32 k0_t1
  let c0_i32_91 : BitVec 32 := 0#32
  let v199 : BitVec 1 := Scalar.cmpi .sgt arg16 c0_i32_91
  let v200 : BitVec 32 := Scalar.extui v199
  let c0_i32_92 : BitVec 32 := 0#32
  let v201 : BitVec 1 := Scalar.cmpi .slt arg16 c0_i32_92
  let v202 : BitVec 32 := Scalar.extui v201
  let v203 : BitVec 32 := Scalar.subi v200 v202
  let c2_i32_90 : BitVec 32 := 2#32
  let c0_i32_93 : BitVec 32 := 0#32
  let v204 : BitVec 1 := Scalar.cmpi .sgt c2_i32_90 c0_i32_93
  let v205 : BitVec 32 := Scalar.extui v204
  let c0_i32_94 : BitVec 32 := 0#32
  let v206 : BitVec 1 := Scalar.cmpi .slt c2_i32_90 c0_i32_94
  let v207 : BitVec 32 := Scalar.extui v206
  let v208 : BitVec 32 := Scalar.subi v205 v207
  let v209 : BitVec 1 := Scalar.cmpi .ne v203 v208
  let v210 : BitVec 32 := Scalar.remsi arg16 c2_i32_90
  let c0_i32_95 : BitVec 32 := 0#32
  let v211 : BitVec 1 := Scalar.cmpi .ne v210 c0_i32_95
  let v212 : BitVec 1 := Scalar.andi v209 v211
  let v198 : BitVec 32 := Scalar.divsi arg16 c2_i32_90
  let c1_i32_96 : BitVec 32 := 1#32
  let v213 : BitVec 32 := Scalar.subi v198 c1_i32_96
  let v214 : BitVec 32 := Scalar.select v212 v213 v198
  let v215 : BitVec 32 := Scalar.subi v214 c0_i32_98
  let c1_i32_99 : BitVec 32 := 1#32
  let v217 : BitVec 32 := Scalar.divsi v215 c1_i32_99
  let v218 : BitVec 32 := Scalar.muli v217 c1_i32_99
  let v219 : BitVec 32 := Scalar.addi c0_i32_98 v218
  let c1_i32_100 : BitVec 32 := 1#32
  ⟨c0_i32_98, v219, c1_i32_100⟩
def k0_mult4 (k0_t1 : Fin k0_t1_loop.trips) (k0_t2 : Fin (k0_t2_loop k0_t1).trips) : BitVec 32 :=
  let c2_i32_130 : BitVec 32 := 2#32
  let c0_i32_98 : BitVec 32 := 0#32
  let c1_i32_100 : BitVec 32 := 1#32
  let arg17 : BitVec 32 := Scf.iv c0_i32_98 c1_i32_100 k0_t2
  let v265 : BitVec 32 := Scalar.muli c2_i32_130 arg17
  let c1_i32_131 : BitVec 32 := 1#32
  let v266 : BitVec 32 := Scalar.addi v265 c1_i32_131
  let c0_i32_132 : BitVec 32 := 0#32
  let v267 : BitVec 32 := Scalar.addi v266 c0_i32_132
  let c1_i32_133 : BitVec 32 := 1#32
  let v268 : BitVec 32 := Scalar.addi v267 c1_i32_133
  let c0_i32 : BitVec 32 := 0#32
  let c1_i32 : BitVec 32 := 1#32
  let arg16 : BitVec 32 := Scf.iv c0_i32 c1_i32 k0_t1
  let v269 : BitVec 32 := Scalar.minsi v268 arg16
  let c0_i32_134 : BitVec 32 := 0#32
  let v270 : BitVec 1 := Scalar.cmpi .eq v269 c0_i32_134
  let c1_i32_135 : BitVec 32 := 1#32
  let v271 : BitVec 32 := Scalar.subi v269 c1_i32_135
  let v272 : BitVec 32 := Scalar.select v270 arg16 v271
  let c256_i32_136 : BitVec 32 := 256#32
  let v273 : BitVec 32 := Scalar.muli v272 c256_i32_136
  v273
def k0_off3 (k0_t1 : Fin k0_t1_loop.trips) (k0_t2 : Fin (k0_t2_loop k0_t1).trips) (c0_i32_132 : BitVec 32) : Fin 3 → Nat :=
  let c0_137 : Index := 0#32
  let c2_i32_130 : BitVec 32 := 2#32
  let c0_i32_98 : BitVec 32 := 0#32
  let c1_i32_100 : BitVec 32 := 1#32
  let arg17 : BitVec 32 := Scf.iv c0_i32_98 c1_i32_100 k0_t2
  let v265 : BitVec 32 := Scalar.muli c2_i32_130 arg17
  let c1_i32_131 : BitVec 32 := 1#32
  let v266 : BitVec 32 := Scalar.addi v265 c1_i32_131
  let v267 : BitVec 32 := Scalar.addi v266 c0_i32_132
  let c1_i32_133 : BitVec 32 := 1#32
  let v268 : BitVec 32 := Scalar.addi v267 c1_i32_133
  let c0_i32 : BitVec 32 := 0#32
  let c1_i32 : BitVec 32 := 1#32
  let arg16 : BitVec 32 := Scf.iv c0_i32 c1_i32 k0_t1
  let v269 : BitVec 32 := Scalar.minsi v268 arg16
  let c0_i32_134 : BitVec 32 := 0#32
  let v270 : BitVec 1 := Scalar.cmpi .eq v269 c0_i32_134
  let c1_i32_135 : BitVec 32 := 1#32
  let v271 : BitVec 32 := Scalar.subi v269 c1_i32_135
  let v272 : BitVec 32 := Scalar.select v270 arg16 v271
  let c256_i32_136 : BitVec 32 := 256#32
  let v273 : BitVec 32 := Scalar.muli v272 c256_i32_136
  let v274 : BitVec 32 := v273
  let v275 : Index := Scalar.indexCast v274
  let c0_138 : Index := 0#32
  ![0, v275.toNat, 0]
def k0_mult5 (k0_t1 : Fin k0_t1_loop.trips) (k0_t2 : Fin (k0_t2_loop k0_t1).trips) : BitVec 32 :=
  let c2_i32_130 : BitVec 32 := 2#32
  let c0_i32_98 : BitVec 32 := 0#32
  let c1_i32_100 : BitVec 32 := 1#32
  let arg17 : BitVec 32 := Scf.iv c0_i32_98 c1_i32_100 k0_t2
  let v265 : BitVec 32 := Scalar.muli c2_i32_130 arg17
  let c1_i32_131 : BitVec 32 := 1#32
  let v266 : BitVec 32 := Scalar.addi v265 c1_i32_131
  let c0_i32_132 : BitVec 32 := 0#32
  let v267 : BitVec 32 := Scalar.addi v266 c0_i32_132
  let c1_i32_159 : BitVec 32 := 1#32
  let v314 : BitVec 32 := Scalar.subi v267 c1_i32_159
  let c0_i32_160 : BitVec 32 := 0#32
  let v315 : BitVec 1 := Scalar.cmpi .eq v314 c0_i32_160
  let c0_i32 : BitVec 32 := 0#32
  let c1_i32 : BitVec 32 := 1#32
  let arg16 : BitVec 32 := Scf.iv c0_i32 c1_i32 k0_t1
  let c1_i32_161 : BitVec 32 := 1#32
  let v316 : BitVec 32 := Scalar.subi v314 c1_i32_161
  let v317 : BitVec 32 := Scalar.select v315 arg16 v316
  let c256_i32_162 : BitVec 32 := 256#32
  let v318 : BitVec 32 := Scalar.muli v317 c256_i32_162
  v318
def k0_off4 (k0_t1 : Fin k0_t1_loop.trips) (k0_t2 : Fin (k0_t2_loop k0_t1).trips) (c0_i32_132 : BitVec 32) : Fin 3 → Nat :=
  let c0_163 : Index := 0#32
  let c0_164 : Index := 0#32
  let c2_i32_130 : BitVec 32 := 2#32
  let c0_i32_98 : BitVec 32 := 0#32
  let c1_i32_100 : BitVec 32 := 1#32
  let arg17 : BitVec 32 := Scf.iv c0_i32_98 c1_i32_100 k0_t2
  let v265 : BitVec 32 := Scalar.muli c2_i32_130 arg17
  let c1_i32_131 : BitVec 32 := 1#32
  let v266 : BitVec 32 := Scalar.addi v265 c1_i32_131
  let v267 : BitVec 32 := Scalar.addi v266 c0_i32_132
  let c1_i32_159 : BitVec 32 := 1#32
  let v314 : BitVec 32 := Scalar.subi v267 c1_i32_159
  let c0_i32_160 : BitVec 32 := 0#32
  let v315 : BitVec 1 := Scalar.cmpi .eq v314 c0_i32_160
  let c0_i32 : BitVec 32 := 0#32
  let c1_i32 : BitVec 32 := 1#32
  let arg16 : BitVec 32 := Scf.iv c0_i32 c1_i32 k0_t1
  let c1_i32_161 : BitVec 32 := 1#32
  let v316 : BitVec 32 := Scalar.subi v314 c1_i32_161
  let v317 : BitVec 32 := Scalar.select v315 arg16 v316
  let c256_i32_162 : BitVec 32 := 256#32
  let v318 : BitVec 32 := Scalar.muli v317 c256_i32_162
  let v319 : BitVec 32 := v318
  let v320 : Index := Scalar.indexCast v319
  ![0, 0, v320.toNat]
def k0_mult6 (k0_t1 : Fin k0_t1_loop.trips) (k0_t2 : Fin (k0_t2_loop k0_t1).trips) : BitVec 32 :=
  let c2_i32_188 : BitVec 32 := 2#32
  let c0_i32_98 : BitVec 32 := 0#32
  let c1_i32_100 : BitVec 32 := 1#32
  let arg17 : BitVec 32 := Scf.iv c0_i32_98 c1_i32_100 k0_t2
  let v350 : BitVec 32 := Scalar.muli c2_i32_188 arg17
  let c1_i32_189 : BitVec 32 := 1#32
  let v351 : BitVec 32 := Scalar.addi v350 c1_i32_189
  let c1_i32_190 : BitVec 32 := 1#32
  let v352 : BitVec 32 := Scalar.addi v351 c1_i32_190
  let c1_i32_191 : BitVec 32 := 1#32
  let v353 : BitVec 32 := Scalar.addi v352 c1_i32_191
  let c0_i32 : BitVec 32 := 0#32
  let c1_i32 : BitVec 32 := 1#32
  let arg16 : BitVec 32 := Scf.iv c0_i32 c1_i32 k0_t1
  let v354 : BitVec 32 := Scalar.minsi v353 arg16
  let c0_i32_192 : BitVec 32 := 0#32
  let v355 : BitVec 1 := Scalar.cmpi .eq v354 c0_i32_192
  let c1_i32_193 : BitVec 32 := 1#32
  let v356 : BitVec 32 := Scalar.subi v354 c1_i32_193
  let v357 : BitVec 32 := Scalar.select v355 arg16 v356
  let c256_i32_194 : BitVec 32 := 256#32
  let v358 : BitVec 32 := Scalar.muli v357 c256_i32_194
  v358
def k0_mult7 (k0_t1 : Fin k0_t1_loop.trips) (k0_t2 : Fin (k0_t2_loop k0_t1).trips) : BitVec 32 :=
  let c2_i32_188 : BitVec 32 := 2#32
  let c0_i32_98 : BitVec 32 := 0#32
  let c1_i32_100 : BitVec 32 := 1#32
  let arg17 : BitVec 32 := Scf.iv c0_i32_98 c1_i32_100 k0_t2
  let v350 : BitVec 32 := Scalar.muli c2_i32_188 arg17
  let c1_i32_189 : BitVec 32 := 1#32
  let v351 : BitVec 32 := Scalar.addi v350 c1_i32_189
  let c1_i32_190 : BitVec 32 := 1#32
  let v352 : BitVec 32 := Scalar.addi v351 c1_i32_190
  let c1_i32_218 : BitVec 32 := 1#32
  let v399 : BitVec 32 := Scalar.subi v352 c1_i32_218
  let c0_i32_219 : BitVec 32 := 0#32
  let v400 : BitVec 1 := Scalar.cmpi .eq v399 c0_i32_219
  let c0_i32 : BitVec 32 := 0#32
  let c1_i32 : BitVec 32 := 1#32
  let arg16 : BitVec 32 := Scf.iv c0_i32 c1_i32 k0_t1
  let c1_i32_220 : BitVec 32 := 1#32
  let v401 : BitVec 32 := Scalar.subi v399 c1_i32_220
  let v402 : BitVec 32 := Scalar.select v400 arg16 v401
  let c256_i32_221 : BitVec 32 := 256#32
  let v403 : BitVec 32 := Scalar.muli v402 c256_i32_221
  v403
@[reducible] def k0_t3_loop (k0_t1 : Fin k0_t1_loop.trips) : Scf.Loop 32 :=
  let c0_i32_98 : BitVec 32 := 0#32
  let c0_i32 : BitVec 32 := 0#32
  let c1_i32 : BitVec 32 := 1#32
  let arg16 : BitVec 32 := Scf.iv c0_i32 c1_i32 k0_t1
  let c0_i32_91 : BitVec 32 := 0#32
  let v199 : BitVec 1 := Scalar.cmpi .sgt arg16 c0_i32_91
  let v200 : BitVec 32 := Scalar.extui v199
  let c0_i32_92 : BitVec 32 := 0#32
  let v201 : BitVec 1 := Scalar.cmpi .slt arg16 c0_i32_92
  let v202 : BitVec 32 := Scalar.extui v201
  let v203 : BitVec 32 := Scalar.subi v200 v202
  let c2_i32_90 : BitVec 32 := 2#32
  let c0_i32_93 : BitVec 32 := 0#32
  let v204 : BitVec 1 := Scalar.cmpi .sgt c2_i32_90 c0_i32_93
  let v205 : BitVec 32 := Scalar.extui v204
  let c0_i32_94 : BitVec 32 := 0#32
  let v206 : BitVec 1 := Scalar.cmpi .slt c2_i32_90 c0_i32_94
  let v207 : BitVec 32 := Scalar.extui v206
  let v208 : BitVec 32 := Scalar.subi v205 v207
  let v209 : BitVec 1 := Scalar.cmpi .ne v203 v208
  let v210 : BitVec 32 := Scalar.remsi arg16 c2_i32_90
  let c0_i32_95 : BitVec 32 := 0#32
  let v211 : BitVec 1 := Scalar.cmpi .ne v210 c0_i32_95
  let v212 : BitVec 1 := Scalar.andi v209 v211
  let v198 : BitVec 32 := Scalar.divsi arg16 c2_i32_90
  let c1_i32_96 : BitVec 32 := 1#32
  let v213 : BitVec 32 := Scalar.subi v198 c1_i32_96
  let v214 : BitVec 32 := Scalar.select v212 v213 v198
  let v215 : BitVec 32 := Scalar.subi v214 c0_i32_98
  let c1_i32_99 : BitVec 32 := 1#32
  let v217 : BitVec 32 := Scalar.divsi v215 c1_i32_99
  let v218 : BitVec 32 := Scalar.muli v217 c1_i32_99
  let v219 : BitVec 32 := Scalar.addi c0_i32_98 v218
  let v216 : BitVec 32 := Scalar.addi c0_i32_98 v215
  let c1_i32_101 : BitVec 32 := 1#32
  ⟨v219, v216, c1_i32_101⟩
def k0_mult8 (k0_t1 : Fin k0_t1_loop.trips) (k0_t3 : Fin (k0_t3_loop k0_t1).trips) : BitVec 32 :=
  let c2_i32_130 : BitVec 32 := 2#32
  let c0_i32_98 : BitVec 32 := 0#32
  let c0_i32 : BitVec 32 := 0#32
  let c1_i32 : BitVec 32 := 1#32
  let arg16 : BitVec 32 := Scf.iv c0_i32 c1_i32 k0_t1
  let c0_i32_91 : BitVec 32 := 0#32
  let v199 : BitVec 1 := Scalar.cmpi .sgt arg16 c0_i32_91
  let v200 : BitVec 32 := Scalar.extui v199
  let c0_i32_92 : BitVec 32 := 0#32
  let v201 : BitVec 1 := Scalar.cmpi .slt arg16 c0_i32_92
  let v202 : BitVec 32 := Scalar.extui v201
  let v203 : BitVec 32 := Scalar.subi v200 v202
  let c2_i32_90 : BitVec 32 := 2#32
  let c0_i32_93 : BitVec 32 := 0#32
  let v204 : BitVec 1 := Scalar.cmpi .sgt c2_i32_90 c0_i32_93
  let v205 : BitVec 32 := Scalar.extui v204
  let c0_i32_94 : BitVec 32 := 0#32
  let v206 : BitVec 1 := Scalar.cmpi .slt c2_i32_90 c0_i32_94
  let v207 : BitVec 32 := Scalar.extui v206
  let v208 : BitVec 32 := Scalar.subi v205 v207
  let v209 : BitVec 1 := Scalar.cmpi .ne v203 v208
  let v210 : BitVec 32 := Scalar.remsi arg16 c2_i32_90
  let c0_i32_95 : BitVec 32 := 0#32
  let v211 : BitVec 1 := Scalar.cmpi .ne v210 c0_i32_95
  let v212 : BitVec 1 := Scalar.andi v209 v211
  let v198 : BitVec 32 := Scalar.divsi arg16 c2_i32_90
  let c1_i32_96 : BitVec 32 := 1#32
  let v213 : BitVec 32 := Scalar.subi v198 c1_i32_96
  let v214 : BitVec 32 := Scalar.select v212 v213 v198
  let v215 : BitVec 32 := Scalar.subi v214 c0_i32_98
  let c1_i32_99 : BitVec 32 := 1#32
  let v217 : BitVec 32 := Scalar.divsi v215 c1_i32_99
  let v218 : BitVec 32 := Scalar.muli v217 c1_i32_99
  let v219 : BitVec 32 := Scalar.addi c0_i32_98 v218
  let c1_i32_101 : BitVec 32 := 1#32
  let arg17 : BitVec 32 := Scf.iv v219 c1_i32_101 k0_t3
  let v265 : BitVec 32 := Scalar.muli c2_i32_130 arg17
  let c1_i32_131 : BitVec 32 := 1#32
  let v266 : BitVec 32 := Scalar.addi v265 c1_i32_131
  let c0_i32_132 : BitVec 32 := 0#32
  let v267 : BitVec 32 := Scalar.addi v266 c0_i32_132
  let c1_i32_133 : BitVec 32 := 1#32
  let v268 : BitVec 32 := Scalar.addi v267 c1_i32_133
  let v269 : BitVec 32 := Scalar.minsi v268 arg16
  let c0_i32_134 : BitVec 32 := 0#32
  let v270 : BitVec 1 := Scalar.cmpi .eq v269 c0_i32_134
  let c1_i32_135 : BitVec 32 := 1#32
  let v271 : BitVec 32 := Scalar.subi v269 c1_i32_135
  let v272 : BitVec 32 := Scalar.select v270 arg16 v271
  let c256_i32_136 : BitVec 32 := 256#32
  let v273 : BitVec 32 := Scalar.muli v272 c256_i32_136
  v273
def k0_off5 (k0_t1 : Fin k0_t1_loop.trips) (k0_t3 : Fin (k0_t3_loop k0_t1).trips) (c0_i32_132 : BitVec 32) : Fin 3 → Nat :=
  let c0_137 : Index := 0#32
  let c2_i32_130 : BitVec 32 := 2#32
  let c0_i32_98 : BitVec 32 := 0#32
  let c0_i32 : BitVec 32 := 0#32
  let c1_i32 : BitVec 32 := 1#32
  let arg16 : BitVec 32 := Scf.iv c0_i32 c1_i32 k0_t1
  let c0_i32_91 : BitVec 32 := 0#32
  let v199 : BitVec 1 := Scalar.cmpi .sgt arg16 c0_i32_91
  let v200 : BitVec 32 := Scalar.extui v199
  let c0_i32_92 : BitVec 32 := 0#32
  let v201 : BitVec 1 := Scalar.cmpi .slt arg16 c0_i32_92
  let v202 : BitVec 32 := Scalar.extui v201
  let v203 : BitVec 32 := Scalar.subi v200 v202
  let c2_i32_90 : BitVec 32 := 2#32
  let c0_i32_93 : BitVec 32 := 0#32
  let v204 : BitVec 1 := Scalar.cmpi .sgt c2_i32_90 c0_i32_93
  let v205 : BitVec 32 := Scalar.extui v204
  let c0_i32_94 : BitVec 32 := 0#32
  let v206 : BitVec 1 := Scalar.cmpi .slt c2_i32_90 c0_i32_94
  let v207 : BitVec 32 := Scalar.extui v206
  let v208 : BitVec 32 := Scalar.subi v205 v207
  let v209 : BitVec 1 := Scalar.cmpi .ne v203 v208
  let v210 : BitVec 32 := Scalar.remsi arg16 c2_i32_90
  let c0_i32_95 : BitVec 32 := 0#32
  let v211 : BitVec 1 := Scalar.cmpi .ne v210 c0_i32_95
  let v212 : BitVec 1 := Scalar.andi v209 v211
  let v198 : BitVec 32 := Scalar.divsi arg16 c2_i32_90
  let c1_i32_96 : BitVec 32 := 1#32
  let v213 : BitVec 32 := Scalar.subi v198 c1_i32_96
  let v214 : BitVec 32 := Scalar.select v212 v213 v198
  let v215 : BitVec 32 := Scalar.subi v214 c0_i32_98
  let c1_i32_99 : BitVec 32 := 1#32
  let v217 : BitVec 32 := Scalar.divsi v215 c1_i32_99
  let v218 : BitVec 32 := Scalar.muli v217 c1_i32_99
  let v219 : BitVec 32 := Scalar.addi c0_i32_98 v218
  let c1_i32_101 : BitVec 32 := 1#32
  let arg17 : BitVec 32 := Scf.iv v219 c1_i32_101 k0_t3
  let v265 : BitVec 32 := Scalar.muli c2_i32_130 arg17
  let c1_i32_131 : BitVec 32 := 1#32
  let v266 : BitVec 32 := Scalar.addi v265 c1_i32_131
  let v267 : BitVec 32 := Scalar.addi v266 c0_i32_132
  let c1_i32_133 : BitVec 32 := 1#32
  let v268 : BitVec 32 := Scalar.addi v267 c1_i32_133
  let v269 : BitVec 32 := Scalar.minsi v268 arg16
  let c0_i32_134 : BitVec 32 := 0#32
  let v270 : BitVec 1 := Scalar.cmpi .eq v269 c0_i32_134
  let c1_i32_135 : BitVec 32 := 1#32
  let v271 : BitVec 32 := Scalar.subi v269 c1_i32_135
  let v272 : BitVec 32 := Scalar.select v270 arg16 v271
  let c256_i32_136 : BitVec 32 := 256#32
  let v273 : BitVec 32 := Scalar.muli v272 c256_i32_136
  let v274 : BitVec 32 := v273
  let v275 : Index := Scalar.indexCast v274
  let c0_138 : Index := 0#32
  ![0, v275.toNat, 0]
def k0_mult9 (k0_t1 : Fin k0_t1_loop.trips) (k0_t3 : Fin (k0_t3_loop k0_t1).trips) : BitVec 32 :=
  let c2_i32_130 : BitVec 32 := 2#32
  let c0_i32_98 : BitVec 32 := 0#32
  let c0_i32 : BitVec 32 := 0#32
  let c1_i32 : BitVec 32 := 1#32
  let arg16 : BitVec 32 := Scf.iv c0_i32 c1_i32 k0_t1
  let c0_i32_91 : BitVec 32 := 0#32
  let v199 : BitVec 1 := Scalar.cmpi .sgt arg16 c0_i32_91
  let v200 : BitVec 32 := Scalar.extui v199
  let c0_i32_92 : BitVec 32 := 0#32
  let v201 : BitVec 1 := Scalar.cmpi .slt arg16 c0_i32_92
  let v202 : BitVec 32 := Scalar.extui v201
  let v203 : BitVec 32 := Scalar.subi v200 v202
  let c2_i32_90 : BitVec 32 := 2#32
  let c0_i32_93 : BitVec 32 := 0#32
  let v204 : BitVec 1 := Scalar.cmpi .sgt c2_i32_90 c0_i32_93
  let v205 : BitVec 32 := Scalar.extui v204
  let c0_i32_94 : BitVec 32 := 0#32
  let v206 : BitVec 1 := Scalar.cmpi .slt c2_i32_90 c0_i32_94
  let v207 : BitVec 32 := Scalar.extui v206
  let v208 : BitVec 32 := Scalar.subi v205 v207
  let v209 : BitVec 1 := Scalar.cmpi .ne v203 v208
  let v210 : BitVec 32 := Scalar.remsi arg16 c2_i32_90
  let c0_i32_95 : BitVec 32 := 0#32
  let v211 : BitVec 1 := Scalar.cmpi .ne v210 c0_i32_95
  let v212 : BitVec 1 := Scalar.andi v209 v211
  let v198 : BitVec 32 := Scalar.divsi arg16 c2_i32_90
  let c1_i32_96 : BitVec 32 := 1#32
  let v213 : BitVec 32 := Scalar.subi v198 c1_i32_96
  let v214 : BitVec 32 := Scalar.select v212 v213 v198
  let v215 : BitVec 32 := Scalar.subi v214 c0_i32_98
  let c1_i32_99 : BitVec 32 := 1#32
  let v217 : BitVec 32 := Scalar.divsi v215 c1_i32_99
  let v218 : BitVec 32 := Scalar.muli v217 c1_i32_99
  let v219 : BitVec 32 := Scalar.addi c0_i32_98 v218
  let c1_i32_101 : BitVec 32 := 1#32
  let arg17 : BitVec 32 := Scf.iv v219 c1_i32_101 k0_t3
  let v265 : BitVec 32 := Scalar.muli c2_i32_130 arg17
  let c1_i32_131 : BitVec 32 := 1#32
  let v266 : BitVec 32 := Scalar.addi v265 c1_i32_131
  let c0_i32_132 : BitVec 32 := 0#32
  let v267 : BitVec 32 := Scalar.addi v266 c0_i32_132
  let c1_i32_159 : BitVec 32 := 1#32
  let v314 : BitVec 32 := Scalar.subi v267 c1_i32_159
  let c0_i32_160 : BitVec 32 := 0#32
  let v315 : BitVec 1 := Scalar.cmpi .eq v314 c0_i32_160
  let c1_i32_161 : BitVec 32 := 1#32
  let v316 : BitVec 32 := Scalar.subi v314 c1_i32_161
  let v317 : BitVec 32 := Scalar.select v315 arg16 v316
  let c256_i32_162 : BitVec 32 := 256#32
  let v318 : BitVec 32 := Scalar.muli v317 c256_i32_162
  v318
def k0_off6 (k0_t1 : Fin k0_t1_loop.trips) (k0_t3 : Fin (k0_t3_loop k0_t1).trips) (c0_i32_132 : BitVec 32) : Fin 3 → Nat :=
  let c0_163 : Index := 0#32
  let c0_164 : Index := 0#32
  let c2_i32_130 : BitVec 32 := 2#32
  let c0_i32_98 : BitVec 32 := 0#32
  let c0_i32 : BitVec 32 := 0#32
  let c1_i32 : BitVec 32 := 1#32
  let arg16 : BitVec 32 := Scf.iv c0_i32 c1_i32 k0_t1
  let c0_i32_91 : BitVec 32 := 0#32
  let v199 : BitVec 1 := Scalar.cmpi .sgt arg16 c0_i32_91
  let v200 : BitVec 32 := Scalar.extui v199
  let c0_i32_92 : BitVec 32 := 0#32
  let v201 : BitVec 1 := Scalar.cmpi .slt arg16 c0_i32_92
  let v202 : BitVec 32 := Scalar.extui v201
  let v203 : BitVec 32 := Scalar.subi v200 v202
  let c2_i32_90 : BitVec 32 := 2#32
  let c0_i32_93 : BitVec 32 := 0#32
  let v204 : BitVec 1 := Scalar.cmpi .sgt c2_i32_90 c0_i32_93
  let v205 : BitVec 32 := Scalar.extui v204
  let c0_i32_94 : BitVec 32 := 0#32
  let v206 : BitVec 1 := Scalar.cmpi .slt c2_i32_90 c0_i32_94
  let v207 : BitVec 32 := Scalar.extui v206
  let v208 : BitVec 32 := Scalar.subi v205 v207
  let v209 : BitVec 1 := Scalar.cmpi .ne v203 v208
  let v210 : BitVec 32 := Scalar.remsi arg16 c2_i32_90
  let c0_i32_95 : BitVec 32 := 0#32
  let v211 : BitVec 1 := Scalar.cmpi .ne v210 c0_i32_95
  let v212 : BitVec 1 := Scalar.andi v209 v211
  let v198 : BitVec 32 := Scalar.divsi arg16 c2_i32_90
  let c1_i32_96 : BitVec 32 := 1#32
  let v213 : BitVec 32 := Scalar.subi v198 c1_i32_96
  let v214 : BitVec 32 := Scalar.select v212 v213 v198
  let v215 : BitVec 32 := Scalar.subi v214 c0_i32_98
  let c1_i32_99 : BitVec 32 := 1#32
  let v217 : BitVec 32 := Scalar.divsi v215 c1_i32_99
  let v218 : BitVec 32 := Scalar.muli v217 c1_i32_99
  let v219 : BitVec 32 := Scalar.addi c0_i32_98 v218
  let c1_i32_101 : BitVec 32 := 1#32
  let arg17 : BitVec 32 := Scf.iv v219 c1_i32_101 k0_t3
  let v265 : BitVec 32 := Scalar.muli c2_i32_130 arg17
  let c1_i32_131 : BitVec 32 := 1#32
  let v266 : BitVec 32 := Scalar.addi v265 c1_i32_131
  let v267 : BitVec 32 := Scalar.addi v266 c0_i32_132
  let c1_i32_159 : BitVec 32 := 1#32
  let v314 : BitVec 32 := Scalar.subi v267 c1_i32_159
  let c0_i32_160 : BitVec 32 := 0#32
  let v315 : BitVec 1 := Scalar.cmpi .eq v314 c0_i32_160
  let c1_i32_161 : BitVec 32 := 1#32
  let v316 : BitVec 32 := Scalar.subi v314 c1_i32_161
  let v317 : BitVec 32 := Scalar.select v315 arg16 v316
  let c256_i32_162 : BitVec 32 := 256#32
  let v318 : BitVec 32 := Scalar.muli v317 c256_i32_162
  let v319 : BitVec 32 := v318
  let v320 : Index := Scalar.indexCast v319
  ![0, 0, v320.toNat]
def k0_mult10 (k0_t1 : Fin k0_t1_loop.trips) (k0_t3 : Fin (k0_t3_loop k0_t1).trips) : BitVec 32 :=
  let c2_i32_188 : BitVec 32 := 2#32
  let c0_i32_98 : BitVec 32 := 0#32
  let c0_i32 : BitVec 32 := 0#32
  let c1_i32 : BitVec 32 := 1#32
  let arg16 : BitVec 32 := Scf.iv c0_i32 c1_i32 k0_t1
  let c0_i32_91 : BitVec 32 := 0#32
  let v199 : BitVec 1 := Scalar.cmpi .sgt arg16 c0_i32_91
  let v200 : BitVec 32 := Scalar.extui v199
  let c0_i32_92 : BitVec 32 := 0#32
  let v201 : BitVec 1 := Scalar.cmpi .slt arg16 c0_i32_92
  let v202 : BitVec 32 := Scalar.extui v201
  let v203 : BitVec 32 := Scalar.subi v200 v202
  let c2_i32_90 : BitVec 32 := 2#32
  let c0_i32_93 : BitVec 32 := 0#32
  let v204 : BitVec 1 := Scalar.cmpi .sgt c2_i32_90 c0_i32_93
  let v205 : BitVec 32 := Scalar.extui v204
  let c0_i32_94 : BitVec 32 := 0#32
  let v206 : BitVec 1 := Scalar.cmpi .slt c2_i32_90 c0_i32_94
  let v207 : BitVec 32 := Scalar.extui v206
  let v208 : BitVec 32 := Scalar.subi v205 v207
  let v209 : BitVec 1 := Scalar.cmpi .ne v203 v208
  let v210 : BitVec 32 := Scalar.remsi arg16 c2_i32_90
  let c0_i32_95 : BitVec 32 := 0#32
  let v211 : BitVec 1 := Scalar.cmpi .ne v210 c0_i32_95
  let v212 : BitVec 1 := Scalar.andi v209 v211
  let v198 : BitVec 32 := Scalar.divsi arg16 c2_i32_90
  let c1_i32_96 : BitVec 32 := 1#32
  let v213 : BitVec 32 := Scalar.subi v198 c1_i32_96
  let v214 : BitVec 32 := Scalar.select v212 v213 v198
  let v215 : BitVec 32 := Scalar.subi v214 c0_i32_98
  let c1_i32_99 : BitVec 32 := 1#32
  let v217 : BitVec 32 := Scalar.divsi v215 c1_i32_99
  let v218 : BitVec 32 := Scalar.muli v217 c1_i32_99
  let v219 : BitVec 32 := Scalar.addi c0_i32_98 v218
  let c1_i32_101 : BitVec 32 := 1#32
  let arg17 : BitVec 32 := Scf.iv v219 c1_i32_101 k0_t3
  let v350 : BitVec 32 := Scalar.muli c2_i32_188 arg17
  let c1_i32_189 : BitVec 32 := 1#32
  let v351 : BitVec 32 := Scalar.addi v350 c1_i32_189
  let c1_i32_190 : BitVec 32 := 1#32
  let v352 : BitVec 32 := Scalar.addi v351 c1_i32_190
  let c1_i32_191 : BitVec 32 := 1#32
  let v353 : BitVec 32 := Scalar.addi v352 c1_i32_191
  let v354 : BitVec 32 := Scalar.minsi v353 arg16
  let c0_i32_192 : BitVec 32 := 0#32
  let v355 : BitVec 1 := Scalar.cmpi .eq v354 c0_i32_192
  let c1_i32_193 : BitVec 32 := 1#32
  let v356 : BitVec 32 := Scalar.subi v354 c1_i32_193
  let v357 : BitVec 32 := Scalar.select v355 arg16 v356
  let c256_i32_194 : BitVec 32 := 256#32
  let v358 : BitVec 32 := Scalar.muli v357 c256_i32_194
  v358
def k0_mult11 (k0_t1 : Fin k0_t1_loop.trips) (k0_t3 : Fin (k0_t3_loop k0_t1).trips) : BitVec 32 :=
  let c2_i32_188 : BitVec 32 := 2#32
  let c0_i32_98 : BitVec 32 := 0#32
  let c0_i32 : BitVec 32 := 0#32
  let c1_i32 : BitVec 32 := 1#32
  let arg16 : BitVec 32 := Scf.iv c0_i32 c1_i32 k0_t1
  let c0_i32_91 : BitVec 32 := 0#32
  let v199 : BitVec 1 := Scalar.cmpi .sgt arg16 c0_i32_91
  let v200 : BitVec 32 := Scalar.extui v199
  let c0_i32_92 : BitVec 32 := 0#32
  let v201 : BitVec 1 := Scalar.cmpi .slt arg16 c0_i32_92
  let v202 : BitVec 32 := Scalar.extui v201
  let v203 : BitVec 32 := Scalar.subi v200 v202
  let c2_i32_90 : BitVec 32 := 2#32
  let c0_i32_93 : BitVec 32 := 0#32
  let v204 : BitVec 1 := Scalar.cmpi .sgt c2_i32_90 c0_i32_93
  let v205 : BitVec 32 := Scalar.extui v204
  let c0_i32_94 : BitVec 32 := 0#32
  let v206 : BitVec 1 := Scalar.cmpi .slt c2_i32_90 c0_i32_94
  let v207 : BitVec 32 := Scalar.extui v206
  let v208 : BitVec 32 := Scalar.subi v205 v207
  let v209 : BitVec 1 := Scalar.cmpi .ne v203 v208
  let v210 : BitVec 32 := Scalar.remsi arg16 c2_i32_90
  let c0_i32_95 : BitVec 32 := 0#32
  let v211 : BitVec 1 := Scalar.cmpi .ne v210 c0_i32_95
  let v212 : BitVec 1 := Scalar.andi v209 v211
  let v198 : BitVec 32 := Scalar.divsi arg16 c2_i32_90
  let c1_i32_96 : BitVec 32 := 1#32
  let v213 : BitVec 32 := Scalar.subi v198 c1_i32_96
  let v214 : BitVec 32 := Scalar.select v212 v213 v198
  let v215 : BitVec 32 := Scalar.subi v214 c0_i32_98
  let c1_i32_99 : BitVec 32 := 1#32
  let v217 : BitVec 32 := Scalar.divsi v215 c1_i32_99
  let v218 : BitVec 32 := Scalar.muli v217 c1_i32_99
  let v219 : BitVec 32 := Scalar.addi c0_i32_98 v218
  let c1_i32_101 : BitVec 32 := 1#32
  let arg17 : BitVec 32 := Scf.iv v219 c1_i32_101 k0_t3
  let v350 : BitVec 32 := Scalar.muli c2_i32_188 arg17
  let c1_i32_189 : BitVec 32 := 1#32
  let v351 : BitVec 32 := Scalar.addi v350 c1_i32_189
  let c1_i32_190 : BitVec 32 := 1#32
  let v352 : BitVec 32 := Scalar.addi v351 c1_i32_190
  let c1_i32_218 : BitVec 32 := 1#32
  let v399 : BitVec 32 := Scalar.subi v352 c1_i32_218
  let c0_i32_219 : BitVec 32 := 0#32
  let v400 : BitVec 1 := Scalar.cmpi .eq v399 c0_i32_219
  let c1_i32_220 : BitVec 32 := 1#32
  let v401 : BitVec 32 := Scalar.subi v399 c1_i32_220
  let v402 : BitVec 32 := Scalar.select v400 arg16 v401
  let c256_i32_221 : BitVec 32 := 256#32
  let v403 : BitVec 32 := Scalar.muli v402 c256_i32_221
  v403
def k0_cond1 (k0_t1 : Fin k0_t1_loop.trips) : BitVec 1 :=
  let c0_i32 : BitVec 32 := 0#32
  let c1_i32 : BitVec 32 := 1#32
  let arg16 : BitVec 32 := Scf.iv c0_i32 c1_i32 k0_t1
  let c2_i32_102 : BitVec 32 := 2#32
  let c0_i32_103 : BitVec 32 := 0#32
  let v220 : BitVec 1 := Scalar.cmpi .eq c2_i32_102 c0_i32_103
  let c1_i32_104 : BitVec 32 := 1#32
  let v221 : BitVec 32 := Scalar.select v220 c1_i32_104 c2_i32_102
  let v222 : BitVec 32 := Scalar.remsi arg16 v221
  let c0_i32_106 : BitVec 32 := 0#32
  let v224 : BitVec 1 := Scalar.cmpi .slt v222 c0_i32_106
  let c0_i32_107 : BitVec 32 := 0#32
  let v225 : BitVec 1 := Scalar.cmpi .slt v221 c0_i32_107
  let v226 : BitVec 1 := Scalar.xori v224 v225
  let c0_i32_105 : BitVec 32 := 0#32
  let v223 : BitVec 1 := Scalar.cmpi .ne v222 c0_i32_105
  let v227 : BitVec 1 := Scalar.andi v226 v223
  let v228 : BitVec 32 := Scalar.addi v222 v221
  let v229 : BitVec 32 := Scalar.select v227 v228 v222
  let c1_i32_108 : BitVec 32 := 1#32
  let v230 : BitVec 1 := Scalar.cmpi .eq v229 c1_i32_108
  let v231 : BitVec 32 := Scalar.extui v230
  let c0_i32_109 : BitVec 32 := 0#32
  let v232 : BitVec 1 := Scalar.cmpi .ne v231 c0_i32_109
  v232

def k0_mult12 (k0_t1 : Fin k0_t1_loop.trips) : BitVec 32 :=
  let c0_i32 : BitVec 32 := 0#32
  let c1_i32 : BitVec 32 := 1#32
  let arg16 : BitVec 32 := Scf.iv c0_i32 c1_i32 k0_t1
  let c1_i32_130 : BitVec 32 := 1#32
  let v265 : BitVec 32 := Scalar.subi arg16 c1_i32_130
  let c0_i32_131 : BitVec 32 := 0#32
  let v266 : BitVec 1 := Scalar.cmpi .eq v265 c0_i32_131
  let c1_i32_132 : BitVec 32 := 1#32
  let v267 : BitVec 32 := Scalar.subi v265 c1_i32_132
  let v268 : BitVec 32 := Scalar.select v266 arg16 v267
  let c256_i32_133 : BitVec 32 := 256#32
  let v269 : BitVec 32 := Scalar.muli v268 c256_i32_133
  v269
def k0_off7 (k0_t1 : Fin k0_t1_loop.trips) : Fin 3 → Nat :=
  let c0_134 : Index := 0#32
  let c0_135 : Index := 0#32
  let c0_i32 : BitVec 32 := 0#32
  let c1_i32 : BitVec 32 := 1#32
  let arg16 : BitVec 32 := Scf.iv c0_i32 c1_i32 k0_t1
  let c1_i32_130 : BitVec 32 := 1#32
  let v265 : BitVec 32 := Scalar.subi arg16 c1_i32_130
  let c0_i32_131 : BitVec 32 := 0#32
  let v266 : BitVec 1 := Scalar.cmpi .eq v265 c0_i32_131
  let c1_i32_132 : BitVec 32 := 1#32
  let v267 : BitVec 32 := Scalar.subi v265 c1_i32_132
  let v268 : BitVec 32 := Scalar.select v266 arg16 v267
  let c256_i32_133 : BitVec 32 := 256#32
  let v269 : BitVec 32 := Scalar.muli v268 c256_i32_133
  let v270 : BitVec 32 := v269
  let v271 : Index := Scalar.indexCast v270
  ![0, 0, v271.toNat]
def k0_mult13 (k0_t1 : Fin k0_t1_loop.trips) : BitVec 32 :=
  let c0_i32 : BitVec 32 := 0#32
  let c1_i32 : BitVec 32 := 1#32
  let arg16 : BitVec 32 := Scf.iv c0_i32 c1_i32 k0_t1
  let c0_i32_176 : BitVec 32 := 0#32
  let v333 : BitVec 1 := Scalar.cmpi .eq arg16 c0_i32_176
  let c1_i32_177 : BitVec 32 := 1#32
  let v334 : BitVec 32 := Scalar.subi arg16 c1_i32_177
  let v335 : BitVec 32 := Scalar.select v333 arg16 v334
  let c256_i32_178 : BitVec 32 := 256#32
  let v336 : BitVec 32 := Scalar.muli v335 c256_i32_178
  v336
def k0_off8 (k0_t1 : Fin k0_t1_loop.trips) : Fin 3 → Nat :=
  let c0_179 : Index := 0#32
  let c0_180 : Index := 0#32
  let c0_i32 : BitVec 32 := 0#32
  let c1_i32 : BitVec 32 := 1#32
  let arg16 : BitVec 32 := Scf.iv c0_i32 c1_i32 k0_t1
  let c0_i32_176 : BitVec 32 := 0#32
  let v333 : BitVec 1 := Scalar.cmpi .eq arg16 c0_i32_176
  let c1_i32_177 : BitVec 32 := 1#32
  let v334 : BitVec 32 := Scalar.subi arg16 c1_i32_177
  let v335 : BitVec 32 := Scalar.select v333 arg16 v334
  let c256_i32_178 : BitVec 32 := 256#32
  let v336 : BitVec 32 := Scalar.muli v335 c256_i32_178
  let v337 : BitVec 32 := v336
  let v338 : Index := Scalar.indexCast v337
  ![0, 0, v338.toNat]
def k0_cond2 (k0_t1 : Fin k0_t1_loop.trips) : BitVec 1 :=
  let c0_i32 : BitVec 32 := 0#32
  let c1_i32 : BitVec 32 := 1#32
  let arg16 : BitVec 32 := Scf.iv c0_i32 c1_i32 k0_t1
  let c2_i32_110 : BitVec 32 := 2#32
  let c0_i32_111 : BitVec 32 := 0#32
  let v233 : BitVec 1 := Scalar.cmpi .eq c2_i32_110 c0_i32_111
  let c1_i32_112 : BitVec 32 := 1#32
  let v234 : BitVec 32 := Scalar.select v233 c1_i32_112 c2_i32_110
  let v235 : BitVec 32 := Scalar.remsi arg16 v234
  let c0_i32_114 : BitVec 32 := 0#32
  let v237 : BitVec 1 := Scalar.cmpi .slt v235 c0_i32_114
  let c0_i32_115 : BitVec 32 := 0#32
  let v238 : BitVec 1 := Scalar.cmpi .slt v234 c0_i32_115
  let v239 : BitVec 1 := Scalar.xori v237 v238
  let c0_i32_113 : BitVec 32 := 0#32
  let v236 : BitVec 1 := Scalar.cmpi .ne v235 c0_i32_113
  let v240 : BitVec 1 := Scalar.andi v239 v236
  let v241 : BitVec 32 := Scalar.addi v235 v234
  let v242 : BitVec 32 := Scalar.select v240 v241 v235
  let c0_i32_116 : BitVec 32 := 0#32
  let v243 : BitVec 1 := Scalar.cmpi .eq v242 c0_i32_116
  let v244 : BitVec 32 := Scalar.extui v243
  let c0_i32_117 : BitVec 32 := 0#32
  let v245 : BitVec 1 := Scalar.cmpi .ne v244 c0_i32_117
  v245

def k0_mult14 (k0_t1 : Fin k0_t1_loop.trips) : BitVec 32 :=
  let c0_i32 : BitVec 32 := 0#32
  let c1_i32 : BitVec 32 := 1#32
  let arg16 : BitVec 32 := Scf.iv c0_i32 c1_i32 k0_t1
  let c0_i32_130 : BitVec 32 := 0#32
  let v265 : BitVec 1 := Scalar.cmpi .eq arg16 c0_i32_130
  let c1_i32_131 : BitVec 32 := 1#32
  let v266 : BitVec 32 := Scalar.subi arg16 c1_i32_131
  let v267 : BitVec 32 := Scalar.select v265 arg16 v266
  let c256_i32_132 : BitVec 32 := 256#32
  let v268 : BitVec 32 := Scalar.muli v267 c256_i32_132
  v268
def k0_off9 (k0_t1 : Fin k0_t1_loop.trips) : Fin 3 → Nat :=
  let c0_133 : Index := 0#32
  let c0_134 : Index := 0#32
  let c0_i32 : BitVec 32 := 0#32
  let c1_i32 : BitVec 32 := 1#32
  let arg16 : BitVec 32 := Scf.iv c0_i32 c1_i32 k0_t1
  let c0_i32_130 : BitVec 32 := 0#32
  let v265 : BitVec 1 := Scalar.cmpi .eq arg16 c0_i32_130
  let c1_i32_131 : BitVec 32 := 1#32
  let v266 : BitVec 32 := Scalar.subi arg16 c1_i32_131
  let v267 : BitVec 32 := Scalar.select v265 arg16 v266
  let c256_i32_132 : BitVec 32 := 256#32
  let v268 : BitVec 32 := Scalar.muli v267 c256_i32_132
  let v269 : BitVec 32 := v268
  let v270 : Index := Scalar.indexCast v269
  ![0, 0, v270.toNat]
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S1x8192x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x8192x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x128x8192 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x32x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x8192x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== KernelIdeal.lean ====
variable {F : FTy → Type} [FloatOps F] [Named F]
def κ : String → Option EReal := fun
  | "q_scale" => some (((1 / 8) * (Real.log 2)⁻¹ : ℝ) : EReal)
  | _ => none
-- ==== ReferenceIdeal.lean ====
abbrev S4x8192x8x64 : Shape := ⟨4, ![4, 8192, 8, 64]⟩
abbrev S4x8x8192x64 : Shape := ⟨4, ![4, 8, 8192, 64]⟩
abbrev S_ : Shape := ⟨0, ![]⟩
abbrev S4x8x32x256x64 : Shape := ⟨5, ![4, 8, 32, 256, 64]⟩
abbrev S4x8x32x64 : Shape := ⟨4, ![4, 8, 32, 64]⟩
abbrev S4x8x8192x32 : Shape := ⟨4, ![4, 8, 8192, 32]⟩
abbrev S8192 : Shape := ⟨1, ![8192]⟩
abbrev S32 : Shape := ⟨1, ![32]⟩
abbrev S1x32 : Shape := ⟨2, ![1, 32]⟩
abbrev S8192x1 : Shape := ⟨2, ![8192, 1]⟩
abbrev S8192x32 : Shape := ⟨2, ![8192, 32]⟩
abbrev S4x8x8192x3 : Shape := ⟨4, ![4, 8, 8192, 3]⟩
abbrev S4x8x8192x3x1 : Shape := ⟨5, ![4, 8, 8192, 3, 1]⟩
abbrev S4x8x8192x3x256x64 : Shape := ⟨6, ![4, 8, 8192, 3, 256, 64]⟩
abbrev S3 : Shape := ⟨1, ![3]⟩
abbrev S1x3 : Shape := ⟨2, ![1, 3]⟩
abbrev S8192x3 : Shape := ⟨2, ![8192, 3]⟩
abbrev S4x8x8192x3x256 : Shape := ⟨5, ![4, 8, 8192, 3, 256]⟩
abbrev S1x1x8192x3x1 : Shape := ⟨5, ![1, 1, 8192, 3, 1]⟩
abbrev S4x8x8192x768 : Shape := ⟨4, ![4, 8, 8192, 768]⟩
abbrev S256 : Shape := ⟨1, ![256]⟩
abbrev S4x8x32x256x256 : Shape := ⟨5, ![4, 8, 32, 256, 256]⟩
abbrev S1x256 : Shape := ⟨2, ![1, 256]⟩
abbrev S256x1 : Shape := ⟨2, ![256, 1]⟩
abbrev S256x256 : Shape := ⟨2, ![256, 256]⟩
abbrev S4x8x8192x256 : Shape := ⟨4, ![4, 8, 8192, 256]⟩
abbrev S4x8x8192x1024 : Shape := ⟨4, ![4, 8, 8192, 1024]⟩
abbrev S4x8x8192 : Shape := ⟨3, ![4, 8, 8192]⟩
abbrev S4x8x8192x1 : Shape := ⟨4, ![4, 8, 8192, 1]⟩
abbrev S4x8192x512 : Shape := ⟨3, ![4, 8192, 512]⟩

abbrev nBuf : Space → Nat
  | .hbm => 121
  | .vmem => 0
  | .smem => 0
  | _ => 0

abbrev bufTy : (tb : Table) → Fin (tcTables nBuf tb) → BufTy
  | .hbm, ⟨0, _⟩ => ⟨S4x8192x8x64, .f32⟩
  | .hbm, ⟨1, _⟩ => ⟨S4x8192x8x64, .f32⟩
  | .hbm, ⟨2, _⟩ => ⟨S4x8192x8x64, .f32⟩
  | .hbm, ⟨3, _⟩ => ⟨S4x8x8192x64, .f32⟩
  | .hbm, ⟨4, _⟩ => ⟨S_, .f32⟩
  | .hbm, ⟨5, _⟩ => ⟨S4x8x8192x64, .f32⟩
  | .hbm, ⟨6, _⟩ => ⟨S4x8x8192x64, .f32⟩
  | .hbm, ⟨7, _⟩ => ⟨S4x8x8192x64, .f32⟩
  | .hbm, ⟨8, _⟩ => ⟨S4x8x8192x64, .f32⟩
  | .hbm, ⟨9, _⟩ => ⟨S4x8x32x256x64, .f32⟩
  | .hbm, ⟨10, _⟩ => ⟨S4x8x32x256x64, .f32⟩
  | .hbm, ⟨11, _⟩ => ⟨S_, .f32⟩
  | .hbm, ⟨12, _⟩ => ⟨S4x8x32x64, .f32⟩
  | .hbm, ⟨13, _⟩ => ⟨S_, .f32⟩
  | .hbm, ⟨14, _⟩ => ⟨S4x8x32x64, .f32⟩
  | .hbm, ⟨15, _⟩ => ⟨S4x8x32x64, .f32⟩
  | .hbm, ⟨16, _⟩ => ⟨S4x8x8192x32, .f32⟩
  | .hbm, ⟨17, _⟩ => ⟨S8192, .i32⟩
  | .hbm, ⟨18, _⟩ => ⟨S_, .i32⟩
  | .hbm, ⟨19, _⟩ => ⟨S_, .i32⟩
  | .hbm, ⟨20, _⟩ => ⟨S8192, .i32⟩
  | .hbm, ⟨21, _⟩ => ⟨S8192, .i32⟩
  | .hbm, ⟨22, _⟩ => ⟨S8192, .i32⟩
  | .hbm, ⟨23, _⟩ => ⟨S_, .i32⟩
  | .hbm, ⟨24, _⟩ => ⟨S8192, .i32⟩
  | .hbm, ⟨25, _⟩ => ⟨S8192, .i1⟩
  | .hbm, ⟨26, _⟩ => ⟨S8192, .i32⟩
  | .hbm, ⟨27, _⟩ => ⟨S8192, .i32⟩
  | .hbm, ⟨28, _⟩ => ⟨S_, .i32⟩
  | .hbm, ⟨29, _⟩ => ⟨S8192, .i32⟩
  | .hbm, ⟨30, _⟩ => ⟨S8192, .i1⟩
  | .hbm, ⟨31, _⟩ => ⟨S8192, .i1⟩
  | .hbm, ⟨32, _⟩ => ⟨S_, .i32⟩
  | .hbm, ⟨33, _⟩ => ⟨S8192, .i32⟩
  | .hbm, ⟨34, _⟩ => ⟨S8192, .i32⟩
  | .hbm, ⟨35, _⟩ => ⟨S8192, .i32⟩
  | .hbm, ⟨36, _⟩ => ⟨S32, .i32⟩
  | .hbm, ⟨37, _⟩ => ⟨S1x32, .i32⟩
  | .hbm, ⟨38, _⟩ => ⟨S8192x1, .i32⟩
  | .hbm, ⟨39, _⟩ => ⟨S8192x32, .i32⟩
  | .hbm, ⟨40, _⟩ => ⟨S8192x32, .i32⟩
  | .hbm, ⟨41, _⟩ => ⟨S8192x32, .i1⟩
  | .hbm, ⟨42, _⟩ => ⟨S_, .f32⟩
  | .hbm, ⟨43, _⟩ => ⟨S_, .f32⟩
  | .hbm, ⟨44, _⟩ => ⟨S4x8x8192x32, .i1⟩
  | .hbm, ⟨45, _⟩ => ⟨S4x8x8192x32, .f32⟩
  | .hbm, ⟨46, _⟩ => ⟨S4x8x8192x32, .f32⟩
  | .hbm, ⟨47, _⟩ => ⟨S4x8x8192x3, .f32⟩
  | .hbm, ⟨48, _⟩ => ⟨S4x8x8192x3, .i32⟩
  | .hbm, ⟨49, _⟩ => ⟨S_, .i32⟩
  | .hbm, ⟨50, _⟩ => ⟨S4x8x8192x3, .i32⟩
  | .hbm, ⟨51, _⟩ => ⟨S4x8x8192x3, .i1⟩
  | .hbm, ⟨52, _⟩ => ⟨S_, .i32⟩
  | .hbm, ⟨53, _⟩ => ⟨S4x8x8192x3, .i32⟩
  | .hbm, ⟨54, _⟩ => ⟨S4x8x8192x3, .i32⟩
  | .hbm, ⟨55, _⟩ => ⟨S4x8x8192x3, .i32⟩
  | .hbm, ⟨56, _⟩ => ⟨S4x8x8192x3x1, .i32⟩
  | .hbm, ⟨57, _⟩ => ⟨S4x8x8192x3x256x64, .f32⟩
  | .hbm, ⟨58, _⟩ => ⟨S_, .i32⟩
  | .hbm, ⟨59, _⟩ => ⟨S4x8x8192x3, .i32⟩
  | .hbm, ⟨60, _⟩ => ⟨S4x8x8192x3, .i1⟩
  | .hbm, ⟨61, _⟩ => ⟨S_, .i32⟩
  | .hbm, ⟨62, _⟩ => ⟨S4x8x8192x3, .i32⟩
  | .hbm, ⟨63, _⟩ => ⟨S4x8x8192x3, .i32⟩
  | .hbm, ⟨64, _⟩ => ⟨S4x8x8192x3, .i32⟩
  | .hbm, ⟨65, _⟩ => ⟨S4x8x8192x3x1, .i32⟩
  | .hbm, ⟨66, _⟩ => ⟨S4x8x8192x3x256x64, .f32⟩
  | .hbm, ⟨67, _⟩ => ⟨S3, .i32⟩
  | .hbm, ⟨68, _⟩ => ⟨S1x3, .i32⟩
  | .hbm, ⟨69, _⟩ => ⟨S8192x1, .i32⟩
  | .hbm, ⟨70, _⟩ => ⟨S8192x3, .i32⟩
  | .hbm, ⟨71, _⟩ => ⟨S8192x3, .i32⟩
  | .hbm, ⟨72, _⟩ => ⟨S8192x3, .i1⟩
  | .hbm, ⟨73, _⟩ => ⟨S4x8x8192x3x256, .f32⟩
  | .hbm, ⟨74, _⟩ => ⟨S1x1x8192x3x1, .i1⟩
  | .hbm, ⟨75, _⟩ => ⟨S_, .f32⟩
  | .hbm, ⟨76, _⟩ => ⟨S_, .f32⟩
  | .hbm, ⟨77, _⟩ => ⟨S4x8x8192x3x256, .i1⟩
  | .hbm, ⟨78, _⟩ => ⟨S4x8x8192x3x256, .f32⟩
  | .hbm, ⟨79, _⟩ => ⟨S4x8x8192x3x256, .f32⟩
  | .hbm, ⟨80, _⟩ => ⟨S4x8x8192x768, .f32⟩
  | .hbm, ⟨81, _⟩ => ⟨S4x8x32x256x64, .f32⟩
  | .hbm, ⟨82, _⟩ => ⟨S256, .i32⟩
  | .hbm, ⟨83, _⟩ => ⟨S4x8x32x256x256, .f32⟩
  | .hbm, ⟨84, _⟩ => ⟨S1x256, .i32⟩
  | .hbm, ⟨85, _⟩ => ⟨S256x1, .i32⟩
  | .hbm, ⟨86, _⟩ => ⟨S256x256, .i32⟩
  | .hbm, ⟨87, _⟩ => ⟨S256x256, .i32⟩
  | .hbm, ⟨88, _⟩ => ⟨S256x256, .i1⟩
  | .hbm, ⟨89, _⟩ => ⟨S_, .f32⟩
  | .hbm, ⟨90, _⟩ => ⟨S_, .f32⟩
  | .hbm, ⟨91, _⟩ => ⟨S4x8x32x256x256, .i1⟩
  | .hbm, ⟨92, _⟩ => ⟨S4x8x32x256x256, .f32⟩
  | .hbm, ⟨93, _⟩ => ⟨S4x8x32x256x256, .f32⟩
  | .hbm, ⟨94, _⟩ => ⟨S4x8x8192x256, .f32⟩
  | .hbm, ⟨95, _⟩ => ⟨S4x8x8192x1024, .f32⟩
  | .hbm, ⟨96, _⟩ => ⟨S_, .f32⟩
  | .hbm, ⟨97, _⟩ => ⟨S4x8x8192, .f32⟩
  | .hbm, ⟨98, _⟩ => ⟨S_, .f32⟩
  | .hbm, ⟨99, _⟩ => ⟨S4x8x8192, .f32⟩
  | .hbm, ⟨100, _⟩ => ⟨S4x8x8192, .f32⟩
  | .hbm, ⟨101, _⟩ => ⟨S4x8x8192x1, .f32⟩
  | .hbm, ⟨102, _⟩ => ⟨S4x8x8192x1024, .f32⟩
  | .hbm, ⟨103, _⟩ => ⟨S4x8x8192x1024, .f32⟩
  | .hbm, ⟨104, _⟩ => ⟨S4x8x8192x1024, .f32⟩
  | .hbm, ⟨105, _⟩ => ⟨S_, .f32⟩
  | .hbm, ⟨106, _⟩ => ⟨S4x8x8192, .f32⟩
  | .hbm, ⟨107, _⟩ => ⟨S4x8x8192x1, .f32⟩
  | .hbm, ⟨108, _⟩ => ⟨S4x8x8192x1024, .f32⟩
  | .hbm, ⟨109, _⟩ => ⟨S4x8x8192x1024, .f32⟩
  | .hbm, ⟨110, _⟩ => ⟨S4x8x8192x768, .f32⟩
  | .hbm, ⟨111, _⟩ => ⟨S4x8x8192x3x256, .f32⟩
  | .hbm, ⟨112, _⟩ => ⟨S4x8x8192x256, .f32⟩
  | .hbm, ⟨113, _⟩ => ⟨S4x8x32x256x256, .f32⟩
  | .hbm, ⟨114, _⟩ => ⟨S4x8x32x256x64, .f32⟩
  | .hbm, ⟨115, _⟩ => ⟨S4x8x8192x64, .f32⟩
  | .hbm, ⟨116, _⟩ => ⟨S4x8x8192x64, .f32⟩
  | .hbm, ⟨117, _⟩ => ⟨S4x8x8192x64, .f32⟩
  | .hbm, ⟨118, _⟩ => ⟨S4x8192x8x64, .f32⟩
  | .hbm, ⟨119, _⟩ => ⟨S4x8192x512, .f32⟩
  | .hbm, ⟨120, _⟩ => ⟨S4x8192x512, .bf16⟩
  | _, _ => ⟨S4x8192x8x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst_0 : Ref sig .tc := ⟨.hbm, 11, rfl⟩
abbrev main_v7 : Ref sig .tc := ⟨.hbm, 12, rfl⟩
abbrev main_cst_1 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_c : Ref sig .tc := ⟨.hbm, 18, rfl⟩
abbrev main_call0_v0 : Ref sig .tc := ⟨.hbm, 19, rfl⟩
abbrev main_call0_v1 : Ref sig .tc := ⟨.hbm, 20, rfl⟩
abbrev main_call0_v2 : Ref sig .tc := ⟨.hbm, 21, rfl⟩
abbrev main_call0_v3 : Ref sig .tc := ⟨.hbm, 22, rfl⟩
abbrev main_call0_v4 : Ref sig .tc := ⟨.hbm, 23, rfl⟩
abbrev main_call0_v5 : Ref sig .tc := ⟨.hbm, 24, rfl⟩
abbrev main_call0_v6 : Ref sig .tc := ⟨.hbm, 25, rfl⟩
abbrev main_call0_v7 : Ref sig .tc := ⟨.hbm, 26, rfl⟩
abbrev main_call0_v8 : Ref sig .tc := ⟨.hbm, 27, rfl⟩
abbrev main_call0_c : Ref sig .tc := ⟨.hbm, 28, rfl⟩
abbrev main_call0_v9 : Ref sig .tc := ⟨.hbm, 29, rfl⟩
abbrev main_call0_v10 : Ref sig .tc := ⟨.hbm, 30, rfl⟩
abbrev main_call0_v11 : Ref sig .tc := ⟨.hbm, 31, rfl⟩
abbrev main_call0_c_0 : Ref sig .tc := ⟨.hbm, 32, rfl⟩
abbrev main_call0_v12 : Ref sig .tc := ⟨.hbm, 33, rfl⟩
abbrev main_call0_v13 : Ref sig .tc := ⟨.hbm, 34, rfl⟩
abbrev main_v12 : Ref sig .tc := ⟨.hbm, 35, rfl⟩
abbrev main_v13 : Ref sig .tc := ⟨.hbm, 36, rfl⟩
abbrev main_v14 : Ref sig .tc := ⟨.hbm, 37, rfl⟩
abbrev main_v15 : Ref sig .tc := ⟨.hbm, 38, rfl⟩
abbrev main_v16 : Ref sig .tc := ⟨.hbm, 39, rfl⟩
abbrev main_v17 : Ref sig .tc := ⟨.hbm, 40, rfl⟩
abbrev main_v18 : Ref sig .tc := ⟨.hbm, 41, rfl⟩
abbrev main_cst_2 : Ref sig .tc := ⟨.hbm, 42, rfl⟩
abbrev main_call1_v0 : Ref sig .tc := ⟨.hbm, 43, rfl⟩
abbrev main_call1_v1 : Ref sig .tc := ⟨.hbm, 44, rfl⟩
abbrev main_call1_v2 : Ref sig .tc := ⟨.hbm, 45, rfl⟩
abbrev main_v19 : Ref sig .tc := ⟨.hbm, 46, rfl⟩
abbrev main_values : Ref sig .tc := ⟨.hbm, 47, rfl⟩
abbrev main_indices : Ref sig .tc := ⟨.hbm, 48, rfl⟩
abbrev main_c_3 : Ref sig .tc := ⟨.hbm, 49, rfl⟩
abbrev main_v20 : Ref sig .tc := ⟨.hbm, 50, rfl⟩
abbrev main_v21 : Ref sig .tc := ⟨.hbm, 51, rfl⟩
abbrev main_c_4 : Ref sig .tc := ⟨.hbm, 52, rfl⟩
abbrev main_v22 : Ref sig .tc := ⟨.hbm, 53, rfl⟩
abbrev main_v23 : Ref sig .tc := ⟨.hbm, 54, rfl⟩
abbrev main_v24 : Ref sig .tc := ⟨.hbm, 55, rfl⟩
abbrev main_v25 : Ref sig .tc := ⟨.hbm, 56, rfl⟩
abbrev main_v26 : Ref sig .tc := ⟨.hbm, 57, rfl⟩
abbrev main_c_5 : Ref sig .tc := ⟨.hbm, 58, rfl⟩
abbrev main_v27 : Ref sig .tc := ⟨.hbm, 59, rfl⟩
abbrev main_v28 : Ref sig .tc := ⟨.hbm, 60, rfl⟩
abbrev main_c_6 : Ref sig .tc := ⟨.hbm, 61, rfl⟩
abbrev main_v29 : Ref sig .tc := ⟨.hbm, 62, rfl⟩
abbrev main_v30 : Ref sig .tc := ⟨.hbm, 63, rfl⟩
abbrev main_v31 : Ref sig .tc := ⟨.hbm, 64, rfl⟩
abbrev main_v32 : Ref sig .tc := ⟨.hbm, 65, rfl⟩
abbrev main_v33 : Ref sig .tc := ⟨.hbm, 66, rfl⟩
abbrev main_v34 : Ref sig .tc := ⟨.hbm, 67, rfl⟩
abbrev main_v35 : Ref sig .tc := ⟨.hbm, 68, rfl⟩
abbrev main_v36 : Ref sig .tc := ⟨.hbm, 69, rfl⟩
abbrev main_v37 : Ref sig .tc := ⟨.hbm, 70, rfl⟩
abbrev main_v38 : Ref sig .tc := ⟨.hbm, 71, rfl⟩
abbrev main_v39 : Ref sig .tc := ⟨.hbm, 72, rfl⟩
abbrev main_v40 : Ref sig .tc := ⟨.hbm, 73, rfl⟩
abbrev main_v41 : Ref sig .tc := ⟨.hbm, 74, rfl⟩
abbrev main_cst_7 : Ref sig .tc := ⟨.hbm, 75, rfl⟩
abbrev main_call2_v0 : Ref sig .tc := ⟨.hbm, 76, rfl⟩
abbrev main_call2_v1 : Ref sig .tc := ⟨.hbm, 77, rfl⟩
abbrev main_call2_v2 : Ref sig .tc := ⟨.hbm, 78, rfl⟩
abbrev main_v42 : Ref sig .tc := ⟨.hbm, 79, rfl⟩
abbrev main_v43 : Ref sig .tc := ⟨.hbm, 80, rfl⟩
abbrev main_v44 : Ref sig .tc := ⟨.hbm, 81, rfl⟩
abbrev main_v45 : Ref sig .tc := ⟨.hbm, 82, rfl⟩
abbrev main_v46 : Ref sig .tc := ⟨.hbm, 83, rfl⟩
abbrev main_v47 : Ref sig .tc := ⟨.hbm, 84, rfl⟩
abbrev main_v48 : Ref sig .tc := ⟨.hbm, 85, rfl⟩
abbrev main_v49 : Ref sig .tc := ⟨.hbm, 86, rfl⟩
abbrev main_v50 : Ref sig .tc := ⟨.hbm, 87, rfl⟩
abbrev main_v51 : Ref sig .tc := ⟨.hbm, 88, rfl⟩
abbrev main_cst_8 : Ref sig .tc := ⟨.hbm, 89, rfl⟩
abbrev main_call3_v0 : Ref sig .tc := ⟨.hbm, 90, rfl⟩
abbrev main_call3_v1 : Ref sig .tc := ⟨.hbm, 91, rfl⟩
abbrev main_call3_v2 : Ref sig .tc := ⟨.hbm, 92, rfl⟩
abbrev main_v52 : Ref sig .tc := ⟨.hbm, 93, rfl⟩
abbrev main_v53 : Ref sig .tc := ⟨.hbm, 94, rfl⟩
abbrev main_v54 : Ref sig .tc := ⟨.hbm, 95, rfl⟩
abbrev main_cst_9 : Ref sig .tc := ⟨.hbm, 96, rfl⟩
abbrev main_v55 : Ref sig .tc := ⟨.hbm, 97, rfl⟩
abbrev main_cst_10 : Ref sig .tc := ⟨.hbm, 98, rfl⟩
abbrev main_v56 : Ref sig .tc := ⟨.hbm, 99, rfl⟩
abbrev main_v57 : Ref sig .tc := ⟨.hbm, 100, rfl⟩
abbrev main_v58 : Ref sig .tc := ⟨.hbm, 101, rfl⟩
abbrev main_v59 : Ref sig .tc := ⟨.hbm, 102, rfl⟩
abbrev main_v60 : Ref sig .tc := ⟨.hbm, 103, rfl⟩
abbrev main_v61 : Ref sig .tc := ⟨.hbm, 104, rfl⟩
abbrev main_cst_11 : Ref sig .tc := ⟨.hbm, 105, rfl⟩
abbrev main_v62 : Ref sig .tc := ⟨.hbm, 106, rfl⟩
abbrev main_v63 : Ref sig .tc := ⟨.hbm, 107, rfl⟩
abbrev main_v64 : Ref sig .tc := ⟨.hbm, 108, rfl⟩
abbrev main_v65 : Ref sig .tc := ⟨.hbm, 109, rfl⟩
abbrev main_v66 : Ref sig .tc := ⟨.hbm, 110, rfl⟩
abbrev main_v67 : Ref sig .tc := ⟨.hbm, 111, rfl⟩
abbrev main_v68 : Ref sig .tc := ⟨.hbm, 112, rfl⟩
abbrev main_v69 : Ref sig .tc := ⟨.hbm, 113, rfl⟩
abbrev main_v70 : Ref sig .tc := ⟨.hbm, 114, rfl⟩
abbrev main_v71 : Ref sig .tc := ⟨.hbm, 115, rfl⟩
abbrev main_v72 : Ref sig .tc := ⟨.hbm, 116, rfl⟩
abbrev main_v73 : Ref sig .tc := ⟨.hbm, 117, rfl⟩
abbrev main_v74 : Ref sig .tc := ⟨.hbm, 118, rfl⟩
abbrev main_v75 : Ref sig .tc := ⟨.hbm, 119, rfl⟩
abbrev main_v76 : Ref sig .tc := ⟨.hbm, 120, rfl⟩

abbrev nD : Nat := 1
abbrev τ : Topo := Topo.v7x

variable {F : FTy → Type} [FloatOps F]
-- ==== MixerIn.lean ====
abbrev S4x8192x1024 : Shape := ⟨3, ![4, 8192, 1024]⟩
abbrev S4x6144 : Shape := ⟨2, ![4, 6144]⟩
abbrev S1x1024 : Shape := ⟨2, ![1, 1024]⟩
abbrev S1x1024x4608 : Shape := ⟨3, ![1, 1024, 4608]⟩
abbrev S1x512 : Shape := ⟨2, ![1, 512]⟩
abbrev S1x4x128x128 : Shape := ⟨4, ![1, 4, 128, 128]⟩
abbrev S1x4x128 : Shape := ⟨3, ![1, 4, 128]⟩
abbrev S1x512x1024 : Shape := ⟨3, ![1, 512, 1024]⟩
abbrev S8 : Shape := ⟨1, ![8]⟩
abbrev S_ : Shape := ⟨0, ![]⟩
abbrev S8192 : Shape := ⟨1, ![8192]⟩
abbrev S8192x1 : Shape := ⟨2, ![8192, 1]⟩
abbrev S1x8 : Shape := ⟨2, ![1, 8]⟩
abbrev S8192x8 : Shape := ⟨2, ![8192, 8]⟩
abbrev S8192x48 : Shape := ⟨2, ![8192, 48]⟩
abbrev S8192x64 : Shape := ⟨2, ![8192, 64]⟩
abbrev S1x8192x1x64 : Shape := ⟨4, ![1, 8192, 1, 64]⟩
abbrev S1x8192x2x64 : Shape := ⟨4, ![1, 8192, 2, 64]⟩
abbrev S8192x128 : Shape := ⟨2, ![8192, 128]⟩
abbrev S4x128 : Shape := ⟨2, ![4, 128]⟩
abbrev S128x4 : Shape := ⟨2, ![128, 4]⟩
abbrev S128x4x128 : Shape := ⟨3, ![128, 4, 128]⟩
abbrev S128x512 : Shape := ⟨2, ![128, 512]⟩
abbrev S4x6x1024 : Shape := ⟨3, ![4, 6, 1024]⟩
abbrev S1024x4608 : Shape := ⟨2, ![1024, 4608]⟩
abbrev S4x128x128 : Shape := ⟨3, ![4, 128, 128]⟩
abbrev S512x1024 : Shape := ⟨2, ![512, 1024]⟩
abbrev S4x8192x512 : Shape := ⟨3, ![4, 8192, 512]⟩
abbrev S4x512x8192 : Shape := ⟨3, ![4, 512, 8192]⟩
abbrev S4x16x2x512 : Shape := ⟨4, ![4, 16, 2, 512]⟩
abbrev S1x6x1024 : Shape := ⟨3, ![1, 6, 1024]⟩
abbrev S512x128 : Shape := ⟨2, ![512, 128]⟩
abbrev S1x512x512 : Shape := ⟨3, ![1, 512, 512]⟩
abbrev S1x1x2x512 : Shape := ⟨4, ![1, 1, 2, 512]⟩
abbrev S1x1x1024 : Shape := ⟨3, ![1, 1, 1024]⟩
abbrev S512 : Shape := ⟨1, ![512]⟩
abbrev S512x1 : Shape := ⟨2, ![512, 1]⟩
abbrev S1024x1024 : Shape := ⟨2, ![1024, 1024]⟩
abbrev S1024x1536 : Shape := ⟨2, ![1024, 1536]⟩
abbrev S512x1536 : Shape := ⟨2, ![512, 1536]⟩
abbrev S512x512 : Shape := ⟨2, ![512, 512]⟩
abbrev S128x128 : Shape := ⟨2, ![128, 128]⟩
abbrev S1x128x128 : Shape := ⟨3, ![1, 128, 128]⟩
abbrev S256x512 : Shape := ⟨2, ![256, 512]⟩
abbrev S1x1x1x512 : Shape := ⟨4, ![1, 1, 1, 512]⟩

abbrev nBuf : Space → Nat
  | .hbm => 64
  | .vmem => 29
  | .smem => 0
  | _ => 0

abbrev bufTy : (tb : Table) → Fin (tcTables nBuf tb) → BufTy
  | .hbm, ⟨0, _⟩ => ⟨S4x8192x1024, .f32⟩
  | .hbm, ⟨1, _⟩ => ⟨S4x6144, .f32⟩
  | .hbm, ⟨2, _⟩ => ⟨S1x1024, .f32⟩
  | .hbm, ⟨3, _⟩ => ⟨S1x1024x4608, .f32⟩
  | .hbm, ⟨4, _⟩ => ⟨S1x512, .f32⟩
  | .hbm, ⟨5, _⟩ => ⟨S1x512, .f32⟩
  | .hbm, ⟨6, _⟩ => ⟨S1x4x128x128, .f32⟩
  | .hbm, ⟨7, _⟩ => ⟨S1x4x128, .f32⟩
  | .hbm, ⟨8, _⟩ => ⟨S1x512x1024, .f32⟩
  | .hbm, ⟨9, _⟩ => ⟨S8, .f32⟩
  | .hbm, ⟨10, _⟩ => ⟨S8, .f32⟩
  | .hbm, ⟨11, _⟩ => ⟨S_, .f32⟩
  | .hbm, ⟨12, _⟩ => ⟨S8, .f32⟩
  | .hbm, ⟨13, _⟩ => ⟨S8, .f32⟩
  | .hbm, ⟨14, _⟩ => ⟨S_, .f32⟩
  | .hbm, ⟨15, _⟩ => ⟨S8, .f32⟩
  | .hbm, ⟨16, _⟩ => ⟨S8, .f32⟩
  | .hbm, ⟨17, _⟩ => ⟨S_, .f32⟩
  | .hbm, ⟨18, _⟩ => ⟨S8, .f32⟩
  | .hbm, ⟨19, _⟩ => ⟨S8, .f32⟩
  | .hbm, ⟨20, _⟩ => ⟨S8192, .i32⟩
  | .hbm, ⟨21, _⟩ => ⟨S8192, .f32⟩
  | .hbm, ⟨22, _⟩ => ⟨S8192x1, .f32⟩
  | .hbm, ⟨23, _⟩ => ⟨S1x8, .f32⟩
  | .hbm, ⟨24, _⟩ => ⟨S8192x8, .f32⟩
  | .hbm, ⟨25, _⟩ => ⟨S8192x8, .f32⟩
  | .hbm, ⟨26, _⟩ => ⟨S8192x8, .f32⟩
  | .hbm, ⟨27, _⟩ => ⟨S8192x8, .f32⟩
  | .hbm, ⟨28, _⟩ => ⟨S8192x8, .f32⟩
  | .hbm, ⟨29, _⟩ => ⟨S_, .f32⟩
  | .hbm, ⟨30, _⟩ => ⟨S8192x48, .f32⟩
  | .hbm, ⟨31, _⟩ => ⟨S_, .f32⟩
  | .hbm, ⟨32, _⟩ => ⟨S8192x48, .f32⟩
  | .hbm, ⟨33, _⟩ => ⟨S_, .f32⟩
  | .hbm, ⟨34, _⟩ => ⟨S8192x8, .f32⟩
  | .hbm, ⟨35, _⟩ => ⟨S8192x64, .f32⟩
  | .hbm, ⟨36, _⟩ => ⟨S1x8192x1x64, .f32⟩
  | .hbm, ⟨37, _⟩ => ⟨S1x8192x2x64, .f32⟩
  | .hbm, ⟨38, _⟩ => ⟨S8192x128, .f32⟩
  | .hbm, ⟨39, _⟩ => ⟨S8192x8, .f32⟩
  | .hbm, ⟨40, _⟩ => ⟨S8192x64, .f32⟩
  | .hbm, ⟨41, _⟩ => ⟨S1x8192x1x64, .f32⟩
  | .hbm, ⟨42, _⟩ => ⟨S1x8192x2x64, .f32⟩
  | .hbm, ⟨43, _⟩ => ⟨S8192x128, .f32⟩
  | .hbm, ⟨44, _⟩ => ⟨S8192x64, .f32⟩
  | .hbm, ⟨45, _⟩ => ⟨S1x8192x1x64, .f32⟩
  | .hbm, ⟨46, _⟩ => ⟨S1x8192x2x64, .f32⟩
  | .hbm, ⟨47, _⟩ => ⟨S8192x128, .f32⟩
  | .hbm, ⟨48, _⟩ => ⟨S4x128, .f32⟩
  | .hbm, ⟨49, _⟩ => ⟨S128x4, .f32⟩
  | .hbm, ⟨50, _⟩ => ⟨S128x4x128, .f32⟩
  | .hbm, ⟨51, _⟩ => ⟨S128x512, .f32⟩
  | .hbm, ⟨52, _⟩ => ⟨S4x6x1024, .f32⟩
  | .hbm, ⟨53, _⟩ => ⟨S1024x4608, .f32⟩
  | .hbm, ⟨54, _⟩ => ⟨S1024x4608, .bf16⟩
  | .hbm, ⟨55, _⟩ => ⟨S4x128x128, .f32⟩
  | .hbm, ⟨56, _⟩ => ⟨S512x1024, .f32⟩
  | .hbm, ⟨57, _⟩ => ⟨S512x1024, .bf16⟩
  | .hbm, ⟨58, _⟩ => ⟨S4x8192x512, .f32⟩
  | .hbm, ⟨59, _⟩ => ⟨S4x8192x512, .bf16⟩
  | .hbm, ⟨60, _⟩ => ⟨S4x512x8192, .bf16⟩
  | .hbm, ⟨61, _⟩ => ⟨S4x8192x1024, .bf16⟩
  | .hbm, ⟨62, _⟩ => ⟨S4x8192x1024, .bf16⟩
  | .hbm, ⟨63, _⟩ => ⟨S4x16x2x512, .f32⟩
  | .local _ .vmem, ⟨0, _⟩ => ⟨S1x512x1024, .f32⟩
  | .local _ .vmem, ⟨1, _⟩ => ⟨S1x512x1024, .f32⟩
  | .local _ .vmem, ⟨2, _⟩ => ⟨S1x6x1024, .f32⟩
  | .local _ .vmem, ⟨3, _⟩ => ⟨S1x6x1024, .f32⟩
  | .local _ .vmem, ⟨4, _⟩ => ⟨S1x1024, .f32⟩
  | .local _ .vmem, ⟨5, _⟩ => ⟨S1024x4608, .bf16⟩
  | .local _ .vmem, ⟨6, _⟩ => ⟨S4x128x128, .f32⟩
  | .local _ .vmem, ⟨7, _⟩ => ⟨S128x512, .f32⟩
  | .local _ .vmem, ⟨8, _⟩ => ⟨S1x512, .f32⟩
  | .local _ .vmem, ⟨9, _⟩ => ⟨S1x512, .f32⟩
  | .local _ .vmem, ⟨10, _⟩ => ⟨S512x1024, .bf16⟩
  | .local _ .vmem, ⟨11, _⟩ => ⟨S512x128, .f32⟩
  | .local _ .vmem, ⟨12, _⟩ => ⟨S512x128, .f32⟩
  | .local _ .vmem, ⟨13, _⟩ => ⟨S512x128, .f32⟩
  | .local _ .vmem, ⟨14, _⟩ => ⟨S512x128, .f32⟩
  | .local _ .vmem, ⟨15, _⟩ => ⟨S512x128, .f32⟩
  | .local _ .vmem, ⟨16, _⟩ => ⟨S512x128, .f32⟩
  | .local _ .vmem, ⟨17, _⟩ => ⟨S1x512x512, .f32⟩
  | .local _ .vmem, ⟨18, _⟩ => ⟨S1x512x512, .f32⟩
  | .local _ .vmem, ⟨19, _⟩ => ⟨S1x512x512, .bf16⟩
  | .local _ .vmem, ⟨20, _⟩ => ⟨S1x512x512, .bf16⟩
  | .local _ .vmem, ⟨21, _⟩ => ⟨S1x512x512, .bf16⟩
  | .local _ .vmem, ⟨22, _⟩ => ⟨S1x512x512, .bf16⟩
  | .local _ .vmem, ⟨23, _⟩ => ⟨S1x512x1024, .bf16⟩
  | .local _ .vmem, ⟨24, _⟩ => ⟨S1x512x1024, .bf16⟩
  | .local _ .vmem, ⟨25, _⟩ => ⟨S1x512x1024, .bf16⟩
  | .local _ .vmem, ⟨26, _⟩ => ⟨S1x512x1024, .bf16⟩
  | .local _ .vmem, ⟨27, _⟩ => ⟨S1x1x2x512, .f32⟩
  | .local _ .vmem, ⟨28, _⟩ => ⟨S1x1x2x512, .f32⟩
  | _, _ => ⟨S4x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | _, _ => false

abbrev semScoped : Fin 0 → Bool
  | ⟨_, h⟩ => absurd h (Nat.not_lt_zero _)

abbrev dmaSemScoped : Fin 29 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | _ => false

abbrev sig : RefSig :=
  ofTc nBuf bufTy 0 29 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_cst : Ref sig .tc := ⟨.hbm, 11, rfl⟩
abbrev main_v2 : Ref sig .tc := ⟨.hbm, 12, rfl⟩
abbrev main_v3 : Ref sig .tc := ⟨.hbm, 13, rfl⟩
abbrev main_cst_0 : Ref sig .tc := ⟨.hbm, 14, rfl⟩
abbrev main_v4 : Ref sig .tc := ⟨.hbm, 15, rfl⟩
abbrev main_v5 : Ref sig .tc := ⟨.hbm, 16, rfl⟩
abbrev main_cst_1 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_cst_2 : Ref sig .tc := ⟨.hbm, 29, rfl⟩
abbrev main_v17 : Ref sig .tc := ⟨.hbm, 30, rfl⟩
abbrev main_cst_3 : Ref sig .tc := ⟨.hbm, 31, rfl⟩
abbrev main_v18 : Ref sig .tc := ⟨.hbm, 32, rfl⟩
abbrev main_cst_4 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43_0 : Ref sig .tc := ⟨.hbm, 58, rfl⟩
abbrev main_v43_1 : Ref sig .tc := ⟨.hbm, 59, rfl⟩
abbrev main_v43_2 : Ref sig .tc := ⟨.hbm, 60, rfl⟩
abbrev main_v43_3 : Ref sig .tc := ⟨.hbm, 61, rfl⟩
abbrev main_v43_4 : Ref sig .tc := ⟨.hbm, 62, rfl⟩
abbrev main_v43_5 : Ref sig .tc := ⟨.hbm, 63, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg9_1 : Ref sig .tc := ⟨.vmem, 12, rfl⟩
abbrev cc0_stg10_0 : Ref sig .tc := ⟨.vmem, 13, rfl⟩
abbrev cc0_stg10_1 : Ref sig .tc := ⟨.vmem, 14, rfl⟩
abbrev cc0_stg11_0 : Ref sig .tc := ⟨.vmem, 15, rfl⟩
abbrev cc0_stg11_1 : Ref sig .tc := ⟨.vmem, 16, rfl⟩
abbrev cc0_stg12_0 : Ref sig .tc := ⟨.vmem, 17, rfl⟩
abbrev cc0_stg12_1 : Ref sig .tc := ⟨.vmem, 18, rfl⟩
abbrev cc0_stg13_0 : Ref sig .tc := ⟨.vmem, 19, rfl⟩
abbrev cc0_stg13_1 : Ref sig .tc := ⟨.vmem, 20, rfl⟩
abbrev cc0_stg14_0 : Ref sig .tc := ⟨.vmem, 21, rfl⟩
abbrev cc0_stg14_1 : Ref sig .tc := ⟨.vmem, 22, rfl⟩
abbrev cc0_stg15_0 : Ref sig .tc := ⟨.vmem, 23, rfl⟩
abbrev cc0_stg15_1 : Ref sig .tc := ⟨.vmem, 24, rfl⟩
abbrev cc0_stg16_0 : Ref sig .tc := ⟨.vmem, 25, rfl⟩
abbrev cc0_stg16_1 : Ref sig .tc := ⟨.vmem, 26, rfl⟩
abbrev cc0_stg17_0 : Ref sig .tc := ⟨.vmem, 27, rfl⟩
abbrev cc0_stg17_1 : Ref sig .tc := ⟨.vmem, 28, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem9_1 : DmaSem sig := 12
abbrev cc0_sem10_0 : DmaSem sig := 13
abbrev cc0_sem10_1 : DmaSem sig := 14
abbrev cc0_sem11_0 : DmaSem sig := 15
abbrev cc0_sem11_1 : DmaSem sig := 16
abbrev cc0_sem12_0 : DmaSem sig := 17
abbrev cc0_sem12_1 : DmaSem sig := 18
abbrev cc0_sem13_0 : DmaSem sig := 19
abbrev cc0_sem13_1 : DmaSem sig := 20
abbrev cc0_sem14_0 : DmaSem sig := 21
abbrev cc0_sem14_1 : DmaSem sig := 22
abbrev cc0_sem15_0 : DmaSem sig := 23
abbrev cc0_sem15_1 : DmaSem sig := 24
abbrev cc0_sem16_0 : DmaSem sig := 25
abbrev cc0_sem16_1 : DmaSem sig := 26
abbrev cc0_sem17_0 : DmaSem sig := 27
abbrev cc0_sem17_1 : DmaSem sig := 28

abbrev nD : Nat := 1
abbrev τ : Topo := Topo.v7x

variable {F : FTy → Type} [FloatOps F]

abbrev grid0 : Pipeline.Grid := ⟨2, ![4, 16], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_12 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_13 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_14 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_15 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_16 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_17 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x6x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1024x4608 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S4x128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S128x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S512x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 2 → Memref sig .tc .vmem S512x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![false, true]

abbrev stage0_10 : Fin 2 → Memref sig .tc .vmem S512x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![false, true]

abbrev stage0_11 : Fin 2 → Memref sig .tc .vmem S512x128 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![false, true]

abbrev stage0_12 : Fin 2 → Memref sig .tc .vmem S1x512x512 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 2 → Memref sig .tc .vmem S1x512x512 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]

abbrev stage0_14 : Fin 2 → Memref sig .tc .vmem S1x512x512 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, true]

abbrev stage0_15 : Fin 2 → Memref sig .tc .vmem S1x512x1024 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, true]

abbrev stage0_16 : Fin 2 → Memref sig .tc .vmem S1x512x1024 .bf16 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true, true]

abbrev stage0_17 : Fin 2 → Memref sig .tc .vmem S1x1x2x512 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true, true]
-- ==== MixerInReferenceIdeal.lean ====
abbrev S4x8192x1024 : Shape := ⟨3, ![4, 8192, 1024]⟩
abbrev S4x6144 : Shape := ⟨2, ![4, 6144]⟩
abbrev S1x1024 : Shape := ⟨2, ![1, 1024]⟩
abbrev S1x1024x4608 : Shape := ⟨3, ![1, 1024, 4608]⟩
abbrev S1x512 : Shape := ⟨2, ![1, 512]⟩
abbrev S1x4x128x128 : Shape := ⟨4, ![1, 4, 128, 128]⟩
abbrev S1x4x128 : Shape := ⟨3, ![1, 4, 128]⟩
abbrev S1x512x1024 : Shape := ⟨3, ![1, 512, 1024]⟩
abbrev S8192 : Shape := ⟨1, ![8192]⟩
abbrev S4x1024 : Shape := ⟨2, ![4, 1024]⟩
abbrev S1024 : Shape := ⟨1, ![1024]⟩
abbrev S_ : Shape := ⟨0, ![]⟩
abbrev S4x8192 : Shape := ⟨2, ![4, 8192]⟩
abbrev S4x8192x1 : Shape := ⟨3, ![4, 8192, 1]⟩
abbrev S1x1x1024 : Shape := ⟨3, ![1, 1, 1024]⟩
abbrev S4x1x1024 : Shape := ⟨3, ![4, 1, 1024]⟩
abbrev S1024x4608 : Shape := ⟨2, ![1024, 4608]⟩
abbrev S4x8192x4608 : Shape := ⟨3, ![4, 8192, 4608]⟩
abbrev S4x8192x512 : Shape := ⟨3, ![4, 8192, 512]⟩
abbrev S512 : Shape := ⟨1, ![512]⟩
abbrev S4x128x128 : Shape := ⟨3, ![4, 128, 128]⟩
abbrev S4x128 : Shape := ⟨2, ![4, 128]⟩
abbrev S1x1x512 : Shape := ⟨3, ![1, 1, 512]⟩
abbrev S4x64x128x4x128 : Shape := ⟨5, ![4, 64, 128, 4, 128]⟩
abbrev S128x128 : Shape := ⟨2, ![128, 128]⟩
abbrev S1x128x128 : Shape := ⟨3, ![1, 128, 128]⟩
abbrev S4x4x64x128x128 : Shape := ⟨5, ![4, 4, 64, 128, 128]⟩
abbrev S128x4 : Shape := ⟨2, ![128, 4]⟩
abbrev S1x1x128x4x1 : Shape := ⟨5, ![1, 1, 128, 4, 1]⟩
abbrev S512x1024 : Shape := ⟨2, ![512, 1024]⟩
abbrev S4x8192x8x64 : Shape := ⟨4, ![4, 8192, 8, 64]⟩
abbrev S8 : Shape := ⟨1, ![8]⟩
abbrev S8192x1 : Shape := ⟨2, ![8192, 1]⟩
abbrev S1x8 : Shape := ⟨2, ![1, 8]⟩
abbrev S8192x8 : Shape := ⟨2, ![8192, 8]⟩
abbrev S1x8192x1x8 : Shape := ⟨4, ![1, 8192, 1, 8]⟩
abbrev S4x8192x8x8 : Shape := ⟨4, ![4, 8192, 8, 8]⟩
abbrev S4x8192x8x16 : Shape := ⟨4, ![4, 8192, 8, 16]⟩
abbrev S4x8192x8x48 : Shape := ⟨4, ![4, 8192, 8, 48]⟩
abbrev S4x32x256x8x64 : Shape := ⟨5, ![4, 32, 256, 8, 64]⟩
abbrev S4x32x8x64 : Shape := ⟨4, ![4, 32, 8, 64]⟩
abbrev S4x512x8192 : Shape := ⟨3, ![4, 512, 8192]⟩
abbrev S4x16x2x512 : Shape := ⟨4, ![4, 16, 2, 512]⟩

abbrev nBuf : Space → Nat
  | .hbm => 235
  | .vmem => 0
  | .smem => 0
  | _ => 0

abbrev hbmTy0_0 (i : Nat) : BufTy := match i % 128 with
  | 0 => ⟨S4x8192x1024, .f32⟩
  | 1 => ⟨S4x6144, .f32⟩
  | 2 => ⟨S1x1024, .f32⟩
  | 3 => ⟨S1x1024x4608, .f32⟩
  | 4 => ⟨S1x512, .f32⟩
  | 5 => ⟨S1x512, .f32⟩
  | 6 => ⟨S1x4x128x128, .f32⟩
  | 7 => ⟨S1x4x128, .f32⟩
  | 8 => ⟨S1x512x1024, .f32⟩
  | 9 => ⟨S8192, .i32⟩
  | 10 => ⟨S4x1024, .f32⟩
  | 11 => ⟨S4x1024, .f32⟩
  | 12 => ⟨S4x1024, .f32⟩
  | 13 => ⟨S4x1024, .f32⟩
  | 14 => ⟨S4x1024, .f32⟩
  | 15 => ⟨S4x1024, .f32⟩
  | 16 => ⟨S1024, .f32⟩
  | 17 => ⟨S4x8192x1024, .f32⟩
  | 18 => ⟨S_, .f32⟩
  | 19 => ⟨S4x8192, .f32⟩
  | 20 => ⟨S4x8192x1, .f32⟩
  | 21 => ⟨S_, .f32⟩
  | 22 => ⟨S4x8192x1, .f32⟩
  | 23 => ⟨S4x8192x1, .f32⟩
  | 24 => ⟨S_, .f32⟩
  | 25 => ⟨S4x8192x1, .f32⟩
  | 26 => ⟨S4x8192x1, .f32⟩
  | 27 => ⟨S4x8192x1, .f32⟩
  | 28 => ⟨S4x8192x1024, .f32⟩
  | 29 => ⟨S4x8192x1024, .f32⟩
  | 30 => ⟨S1x1x1024, .f32⟩
  | 31 => ⟨S4x8192x1024, .f32⟩
  | 32 => ⟨S4x8192x1024, .f32⟩
  | 33 => ⟨S4x1x1024, .f32⟩
  | 34 => ⟨S_, .f32⟩
  | 35 => ⟨S4x1x1024, .f32⟩
  | 36 => ⟨S4x1x1024, .f32⟩
  | 37 => ⟨S4x8192x1024, .f32⟩
  | 38 => ⟨S4x8192x1024, .f32⟩
  | 39 => ⟨S4x1x1024, .f32⟩
  | 40 => ⟨S4x8192x1024, .f32⟩
  | 41 => ⟨S4x8192x1024, .f32⟩
  | 42 => ⟨S1024x4608, .f32⟩
  | 43 => ⟨S4x8192x4608, .f32⟩
  | 44 => ⟨S4x8192x1024, .f32⟩
  | 45 => ⟨S4x8192x512, .f32⟩
  | 46 => ⟨S4x8192x512, .f32⟩
  | 47 => ⟨S4x8192x512, .f32⟩
  | 48 => ⟨S4x8192x1024, .f32⟩
  | 49 => ⟨S4x8192x1024, .f32⟩
  | 50 => ⟨S512, .f32⟩
  | 51 => ⟨S512, .f32⟩
  | 52 => ⟨S4x128x128, .f32⟩
  | 53 => ⟨S4x128, .f32⟩
  | 54 => ⟨S4x8192x1024, .f32⟩
  | 55 => ⟨S4x8192x1024, .f32⟩
  | 56 => ⟨S_, .f32⟩
  | 57 => ⟨S4x8192x1024, .f32⟩
  | 58 => ⟨S4x8192x1024, .f32⟩
  | 59 => ⟨S4x8192x1024, .f32⟩
  | 60 => ⟨S_, .f32⟩
  | 61 => ⟨S4x8192x1024, .f32⟩
  | 62 => ⟨S4x8192x1024, .f32⟩
  | 63 => ⟨S4x8192x1024, .f32⟩
  | 64 => ⟨S_, .f32⟩
  | 65 => ⟨S4x8192x1024, .f32⟩
  | 66 => ⟨S4x8192x1024, .f32⟩
  | 67 => ⟨S_, .f32⟩
  | 68 => ⟨S4x8192x1024, .f32⟩
  | 69 => ⟨S4x8192x1024, .f32⟩
  | 70 => ⟨S4x8192x1024, .f32⟩
  | 71 => ⟨S4x8192x512, .f32⟩
  | 72 => ⟨S4x8192x512, .f32⟩
  | 73 => ⟨S_, .f32⟩
  | 74 => ⟨S4x8192, .f32⟩
  | 75 => ⟨S4x8192x1, .f32⟩
  | 76 => ⟨S_, .f32⟩
  | 77 => ⟨S4x8192x1, .f32⟩
  | 78 => ⟨S4x8192x1, .f32⟩
  | 79 => ⟨S4x8192x512, .f32⟩
  | 80 => ⟨S4x8192x512, .f32⟩
  | 81 => ⟨S4x8192x512, .f32⟩
  | 82 => ⟨S_, .f32⟩
  | 83 => ⟨S4x8192, .f32⟩
  | 84 => ⟨S4x8192x1, .f32⟩
  | 85 => ⟨S_, .f32⟩
  | 86 => ⟨S4x8192x1, .f32⟩
  | 87 => ⟨S4x8192x1, .f32⟩
  | 88 => ⟨S4x8192x512, .f32⟩
  | 89 => ⟨S4x8192x512, .f32⟩
  | 90 => ⟨S_, .f32⟩
  | 91 => ⟨S4x8192x1, .f32⟩
  | 92 => ⟨S4x8192x1, .f32⟩
  | 93 => ⟨S4x8192x1, .f32⟩
  | 94 => ⟨S4x8192x512, .f32⟩
  | 95 => ⟨S4x8192x512, .f32⟩
  | 96 => ⟨S1x1x512, .f32⟩
  | 97 => ⟨S4x8192x512, .f32⟩
  | 98 => ⟨S4x8192x512, .f32⟩
  | 99 => ⟨S1x1x512, .f32⟩
  | 100 => ⟨S4x8192x512, .f32⟩
  | 101 => ⟨S4x8192x512, .f32⟩
  | 102 => ⟨S4x64x128x4x128, .f32⟩
  | 103 => ⟨S_, .i1⟩
  | 104 => ⟨S128x128, .i1⟩
  | 105 => ⟨S128x128, .i32⟩
  | 106 => ⟨S_, .i32⟩
  | 107 => ⟨S128x128, .i32⟩
  | 108 => ⟨S128x128, .i32⟩
  | 109 => ⟨S128x128, .i32⟩
  | 110 => ⟨S128x128, .i1⟩
  | 111 => ⟨S_, .i1⟩
  | 112 => ⟨S128x128, .i1⟩
  | 113 => ⟨S128x128, .i1⟩
  | 114 => ⟨S1x128x128, .i1⟩
  | 115 => ⟨S_, .i32⟩
  | 116 => ⟨S_, .f32⟩
  | 117 => ⟨S4x128x128, .i1⟩
  | 118 => ⟨S4x128x128, .f32⟩
  | 119 => ⟨S4x128x128, .f32⟩
  | 120 => ⟨S4x4x64x128x128, .f32⟩
  | 121 => ⟨S4x64x128x4x128, .f32⟩
  | 122 => ⟨S128x4, .f32⟩
  | 123 => ⟨S1x1x128x4x1, .f32⟩
  | 124 => ⟨S4x64x128x4x128, .f32⟩
  | 125 => ⟨S4x64x128x4x128, .f32⟩
  | 126 => ⟨S4x8192x512, .f32⟩
  | 127 => ⟨S4x8192x512, .f32⟩
  | _ => ⟨S4x8192x1024, .f32⟩

abbrev hbmTy0_1 (i : Nat) : BufTy := match i % 128 with
  | 0 => ⟨S512x1024, .f32⟩
  | 1 => ⟨S4x8192x1024, .f32⟩
  | 2 => ⟨S4x8192x8x64, .f32⟩
  | 3 => ⟨S8, .f32⟩
  | 4 => ⟨S8, .f32⟩
  | 5 => ⟨S_, .f32⟩
  | 6 => ⟨S8, .f32⟩
  | 7 => ⟨S8, .f32⟩
  | 8 => ⟨S_, .f32⟩
  | 9 => ⟨S8, .f32⟩
  | 10 => ⟨S8, .f32⟩
  | 11 => ⟨S_, .f32⟩
  | 12 => ⟨S8, .f32⟩
  | 13 => ⟨S8, .f32⟩
  | 14 => ⟨S8192, .f32⟩
  | 15 => ⟨S8192x1, .f32⟩
  | 16 => ⟨S1x8, .f32⟩
  | 17 => ⟨S8192x8, .f32⟩
  | 18 => ⟨S8192x8, .f32⟩
  | 19 => ⟨S8192x8, .f32⟩
  | 20 => ⟨S8192x8, .f32⟩
  | 21 => ⟨S1x8192x1x8, .f32⟩
  | 22 => ⟨S8192x8, .f32⟩
  | 23 => ⟨S1x8192x1x8, .f32⟩
  | 24 => ⟨S4x8192x8x8, .f32⟩
  | 25 => ⟨S4x8192x8x8, .f32⟩
  | 26 => ⟨S4x8192x8x8, .f32⟩
  | 27 => ⟨S4x8192x8x8, .f32⟩
  | 28 => ⟨S4x8192x8x8, .f32⟩
  | 29 => ⟨S4x8192x8x8, .f32⟩
  | 30 => ⟨S4x8192x8x8, .f32⟩
  | 31 => ⟨S4x8192x8x8, .f32⟩
  | 32 => ⟨S4x8192x8x8, .f32⟩
  | 33 => ⟨S4x8192x8x8, .f32⟩
  | 34 => ⟨S4x8192x8x8, .f32⟩
  | 35 => ⟨S4x8192x8x8, .f32⟩
  | 36 => ⟨S4x8192x8x16, .f32⟩
  | 37 => ⟨S4x8192x8x48, .f32⟩
  | 38 => ⟨S4x8192x8x64, .f32⟩
  | 39 => ⟨S4x8192x8x64, .f32⟩
  | 40 => ⟨S8, .f32⟩
  | 41 => ⟨S8, .f32⟩
  | 42 => ⟨S_, .f32⟩
  | 43 => ⟨S8, .f32⟩
  | 44 => ⟨S8, .f32⟩
  | 45 => ⟨S_, .f32⟩
  | 46 => ⟨S8, .f32⟩
  | 47 => ⟨S8, .f32⟩
  | 48 => ⟨S_, .f32⟩
  | 49 => ⟨S8, .f32⟩
  | 50 => ⟨S8, .f32⟩
  | 51 => ⟨S8192, .f32⟩
  | 52 => ⟨S8192x1, .f32⟩
  | 53 => ⟨S1x8, .f32⟩
  | 54 => ⟨S8192x8, .f32⟩
  | 55 => ⟨S8192x8, .f32⟩
  | 56 => ⟨S8192x8, .f32⟩
  | 57 => ⟨S8192x8, .f32⟩
  | 58 => ⟨S1x8192x1x8, .f32⟩
  | 59 => ⟨S8192x8, .f32⟩
  | 60 => ⟨S1x8192x1x8, .f32⟩
  | 61 => ⟨S4x8192x8x8, .f32⟩
  | 62 => ⟨S4x8192x8x8, .f32⟩
  | 63 => ⟨S4x8192x8x8, .f32⟩
  | 64 => ⟨S4x8192x8x8, .f32⟩
  | 65 => ⟨S4x8192x8x8, .f32⟩
  | 66 => ⟨S4x8192x8x8, .f32⟩
  | 67 => ⟨S4x8192x8x8, .f32⟩
  | 68 => ⟨S4x8192x8x8, .f32⟩
  | 69 => ⟨S4x8192x8x8, .f32⟩
  | 70 => ⟨S4x8192x8x8, .f32⟩
  | 71 => ⟨S4x8192x8x8, .f32⟩
  | 72 => ⟨S4x8192x8x8, .f32⟩
  | 73 => ⟨S4x8192x8x16, .f32⟩
  | 74 => ⟨S4x8192x8x48, .f32⟩
  | 75 => ⟨S4x8192x8x64, .f32⟩
  | 76 => ⟨S4x32x256x8x64, .f32⟩
  | 77 => ⟨S_, .f32⟩
  | 78 => ⟨S4x32x8x64, .f32⟩
  | 79 => ⟨S_, .f32⟩
  | 80 => ⟨S4x32x8x64, .f32⟩
  | 81 => ⟨S4x32x8x64, .f32⟩
  | 82 => ⟨S4x8192x512, .f32⟩
  | 83 => ⟨S4x8192x512, .f32⟩
  | 84 => ⟨S4x8192x512, .bf16⟩
  | 85 => ⟨S4x512x8192, .f32⟩
  | 86 => ⟨S4x512x8192, .bf16⟩
  | 87 => ⟨S4x8192x1024, .f32⟩
  | 88 => ⟨S4x8192x1024, .f32⟩
  | 89 => ⟨S_, .f32⟩
  | 90 => ⟨S4x8192x1024, .f32⟩
  | 91 => ⟨S4x8192x1024, .f32⟩
  | 92 => ⟨S_, .f32⟩
  | 93 => ⟨S4x8192x1024, .f32⟩
  | 94 => ⟨S4x8192x1024, .f32⟩
  | 95 => ⟨S4x8192x1024, .f32⟩
  | 96 => ⟨S4x8192x1024, .bf16⟩
  | 97 => ⟨S4x8192x1024, .f32⟩
  | 98 => ⟨S4x8192x1024, .f32⟩
  | 99 => ⟨S_, .f32⟩
  | 100 => ⟨S4x8192x1024, .f32⟩
  | 101 => ⟨S4x8192x1024, .f32⟩
  | 102 => ⟨S_, .f32⟩
  | 103 => ⟨S4x8192x1024, .f32⟩
  | 104 => ⟨S4x8192x1024, .f32⟩
  | 105 => ⟨S4x8192x1024, .bf16⟩
  | 106 => ⟨S4x16x2x512, .f32⟩
  | _ => ⟨S4x8192x1024, .f32⟩

abbrev hbmTy (i : Nat) : BufTy := match i / 128 with
  | 0 => hbmTy0_0 i
  | 1 => hbmTy0_1 i
  | _ => ⟨S4x8192x1024, .f32⟩

abbrev bufTy : (tb : Table) → Fin (tcTables nBuf tb) → BufTy
  | .hbm, ⟨i, _⟩ => hbmTy i
  | _, _ => ⟨S4x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_cst : Ref sig .tc := ⟨.hbm, 18, rfl⟩
abbrev main_v9 : Ref sig .tc := ⟨.hbm, 19, rfl⟩
abbrev main_v10 : Ref sig .tc := ⟨.hbm, 20, rfl⟩
abbrev main_cst_0 : Ref sig .tc := ⟨.hbm, 21, rfl⟩
abbrev main_v11 : Ref sig .tc := ⟨.hbm, 22, rfl⟩
abbrev main_v12 : Ref sig .tc := ⟨.hbm, 23, rfl⟩
abbrev main_cst_1 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_2 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_cst_3 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_cst_4 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_cst_5 : Ref sig .tc := ⟨.hbm, 64, rfl⟩
abbrev main_v49 : Ref sig .tc := ⟨.hbm, 65, rfl⟩
abbrev main_v50 : Ref sig .tc := ⟨.hbm, 66, rfl⟩
abbrev main_cst_6 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_v54 : Ref sig .tc := ⟨.hbm, 71, rfl⟩
abbrev main_v55 : Ref sig .tc := ⟨.hbm, 72, rfl⟩
abbrev main_cst_7 : Ref sig .tc := ⟨.hbm, 73, rfl⟩
abbrev main_v56 : Ref sig .tc := ⟨.hbm, 74, rfl⟩
abbrev main_v57 : Ref sig .tc := ⟨.hbm, 75, rfl⟩
abbrev main_cst_8 : Ref sig .tc := ⟨.hbm, 76, rfl⟩
abbrev main_v58 : Ref sig .tc := ⟨.hbm, 77, rfl⟩
abbrev main_v59 : Ref sig .tc := ⟨.hbm, 78, rfl⟩
abbrev main_v60 : Ref sig .tc := ⟨.hbm, 79, rfl⟩
abbrev main_v61 : Ref sig .tc := ⟨.hbm, 80, rfl⟩
abbrev main_v62 : Ref sig .tc := ⟨.hbm, 81, rfl⟩
abbrev main_cst_9 : Ref sig .tc := ⟨.hbm, 82, rfl⟩
abbrev main_v63 : Ref sig .tc := ⟨.hbm, 83, rfl⟩
abbrev main_v64 : Ref sig .tc := ⟨.hbm, 84, rfl⟩
abbrev main_cst_10 : Ref sig .tc := ⟨.hbm, 85, rfl⟩
abbrev main_v65 : Ref sig .tc := ⟨.hbm, 86, rfl⟩
abbrev main_v66 : Ref sig .tc := ⟨.hbm, 87, rfl⟩
abbrev main_v67 : Ref sig .tc := ⟨.hbm, 88, rfl⟩
abbrev main_v68 : Ref sig .tc := ⟨.hbm, 89, rfl⟩
abbrev main_cst_11 : Ref sig .tc := ⟨.hbm, 90, rfl⟩
abbrev main_v69 : Ref sig .tc := ⟨.hbm, 91, rfl⟩
abbrev main_v70 : Ref sig .tc := ⟨.hbm, 92, rfl⟩
abbrev main_v71 : Ref sig .tc := ⟨.hbm, 93, rfl⟩
abbrev main_v72 : Ref sig .tc := ⟨.hbm, 94, rfl⟩
abbrev main_v73 : Ref sig .tc := ⟨.hbm, 95, rfl⟩
abbrev main_v74 : Ref sig .tc := ⟨.hbm, 96, rfl⟩
abbrev main_v75 : Ref sig .tc := ⟨.hbm, 97, rfl⟩
abbrev main_v76 : Ref sig .tc := ⟨.hbm, 98, rfl⟩
abbrev main_v77 : Ref sig .tc := ⟨.hbm, 99, rfl⟩
abbrev main_v78 : Ref sig .tc := ⟨.hbm, 100, rfl⟩
abbrev main_v79 : Ref sig .tc := ⟨.hbm, 101, rfl⟩
abbrev main_v80 : Ref sig .tc := ⟨.hbm, 102, rfl⟩
abbrev main_c : Ref sig .tc := ⟨.hbm, 103, rfl⟩
abbrev main_v81 : Ref sig .tc := ⟨.hbm, 104, rfl⟩
abbrev main_call0_v0 : Ref sig .tc := ⟨.hbm, 105, rfl⟩
abbrev main_call0_c : Ref sig .tc := ⟨.hbm, 106, rfl⟩
abbrev main_call0_v1 : Ref sig .tc := ⟨.hbm, 107, rfl⟩
abbrev main_call0_v2 : Ref sig .tc := ⟨.hbm, 108, rfl⟩
abbrev main_call0_v3 : Ref sig .tc := ⟨.hbm, 109, rfl⟩
abbrev main_call0_v4 : Ref sig .tc := ⟨.hbm, 110, rfl⟩
abbrev main_call0_c_0 : Ref sig .tc := ⟨.hbm, 111, rfl⟩
abbrev main_call0_v5 : Ref sig .tc := ⟨.hbm, 112, rfl⟩
abbrev main_v82 : Ref sig .tc := ⟨.hbm, 113, rfl⟩
abbrev main_v83 : Ref sig .tc := ⟨.hbm, 114, rfl⟩
abbrev main_c_12 : Ref sig .tc := ⟨.hbm, 115, rfl⟩
abbrev main_call1_v0 : Ref sig .tc := ⟨.hbm, 116, rfl⟩
abbrev main_call1_v1 : Ref sig .tc := ⟨.hbm, 117, rfl⟩
abbrev main_call1_v2 : Ref sig .tc := ⟨.hbm, 118, rfl⟩
abbrev main_v84 : Ref sig .tc := ⟨.hbm, 119, rfl⟩
abbrev main_v85 : Ref sig .tc := ⟨.hbm, 120, rfl⟩
abbrev main_v86 : Ref sig .tc := ⟨.hbm, 121, rfl⟩
abbrev main_v87 : Ref sig .tc := ⟨.hbm, 122, rfl⟩
abbrev main_v88 : Ref sig .tc := ⟨.hbm, 123, rfl⟩
abbrev main_v89 : Ref sig .tc := ⟨.hbm, 124, rfl⟩
abbrev main_v90 : Ref sig .tc := ⟨.hbm, 125, rfl⟩
abbrev main_v91 : Ref sig .tc := ⟨.hbm, 126, rfl⟩
abbrev main_v92 : Ref sig .tc := ⟨.hbm, 127, rfl⟩
abbrev main_v93 : Ref sig .tc := ⟨.hbm, 128, rfl⟩
abbrev main_v94 : Ref sig .tc := ⟨.hbm, 129, rfl⟩
abbrev main_v95 : Ref sig .tc := ⟨.hbm, 130, rfl⟩
abbrev main_v96 : Ref sig .tc := ⟨.hbm, 131, rfl⟩
abbrev main_v97 : Ref sig .tc := ⟨.hbm, 132, rfl⟩
abbrev main_cst_13 : Ref sig .tc := ⟨.hbm, 133, rfl⟩
abbrev main_v98 : Ref sig .tc := ⟨.hbm, 134, rfl⟩
abbrev main_v99 : Ref sig .tc := ⟨.hbm, 135, rfl⟩
abbrev main_cst_14 : Ref sig .tc := ⟨.hbm, 136, rfl⟩
abbrev main_v100 : Ref sig .tc := ⟨.hbm, 137, rfl⟩
abbrev main_v101 : Ref sig .tc := ⟨.hbm, 138, rfl⟩
abbrev main_cst_15 : Ref sig .tc := ⟨.hbm, 139, rfl⟩
abbrev main_v102 : Ref sig .tc := ⟨.hbm, 140, rfl⟩
abbrev main_v103 : Ref sig .tc := ⟨.hbm, 141, rfl⟩
abbrev main_v104 : Ref sig .tc := ⟨.hbm, 142, rfl⟩
abbrev main_v105 : Ref sig .tc := ⟨.hbm, 143, rfl⟩
abbrev main_v106 : Ref sig .tc := ⟨.hbm, 144, rfl⟩
abbrev main_v107 : Ref sig .tc := ⟨.hbm, 145, rfl⟩
abbrev main_v108 : Ref sig .tc := ⟨.hbm, 146, rfl⟩
abbrev main_v109 : Ref sig .tc := ⟨.hbm, 147, rfl⟩
abbrev main_v110 : Ref sig .tc := ⟨.hbm, 148, rfl⟩
abbrev main_v111 : Ref sig .tc := ⟨.hbm, 149, rfl⟩
abbrev main_v112 : Ref sig .tc := ⟨.hbm, 150, rfl⟩
abbrev main_v113 : Ref sig .tc := ⟨.hbm, 151, rfl⟩
abbrev main_v114 : Ref sig .tc := ⟨.hbm, 152, rfl⟩
abbrev main_v115 : Ref sig .tc := ⟨.hbm, 153, rfl⟩
abbrev main_v116 : Ref sig .tc := ⟨.hbm, 154, rfl⟩
abbrev main_v117 : Ref sig .tc := ⟨.hbm, 155, rfl⟩
abbrev main_v118 : Ref sig .tc := ⟨.hbm, 156, rfl⟩
abbrev main_v119 : Ref sig .tc := ⟨.hbm, 157, rfl⟩
abbrev main_v120 : Ref sig .tc := ⟨.hbm, 158, rfl⟩
abbrev main_v121 : Ref sig .tc := ⟨.hbm, 159, rfl⟩
abbrev main_v122 : Ref sig .tc := ⟨.hbm, 160, rfl⟩
abbrev main_v123 : Ref sig .tc := ⟨.hbm, 161, rfl⟩
abbrev main_v124 : Ref sig .tc := ⟨.hbm, 162, rfl⟩
abbrev main_v125 : Ref sig .tc := ⟨.hbm, 163, rfl⟩
abbrev main_v126 : Ref sig .tc := ⟨.hbm, 164, rfl⟩
abbrev main_v127 : Ref sig .tc := ⟨.hbm, 165, rfl⟩
abbrev main_v128 : Ref sig .tc := ⟨.hbm, 166, rfl⟩
abbrev main_v129 : Ref sig .tc := ⟨.hbm, 167, rfl⟩
abbrev main_v130 : Ref sig .tc := ⟨.hbm, 168, rfl⟩
abbrev main_v131 : Ref sig .tc := ⟨.hbm, 169, rfl⟩
abbrev main_cst_16 : Ref sig .tc := ⟨.hbm, 170, rfl⟩
abbrev main_v132 : Ref sig .tc := ⟨.hbm, 171, rfl⟩
abbrev main_v133 : Ref sig .tc := ⟨.hbm, 172, rfl⟩
abbrev main_cst_17 : Ref sig .tc := ⟨.hbm, 173, rfl⟩
abbrev main_v134 : Ref sig .tc := ⟨.hbm, 174, rfl⟩
abbrev main_v135 : Ref sig .tc := ⟨.hbm, 175, rfl⟩
abbrev main_cst_18 : Ref sig .tc := ⟨.hbm, 176, rfl⟩
abbrev main_v136 : Ref sig .tc := ⟨.hbm, 177, rfl⟩
abbrev main_v137 : Ref sig .tc := ⟨.hbm, 178, rfl⟩
abbrev main_v138 : Ref sig .tc := ⟨.hbm, 179, rfl⟩
abbrev main_v139 : Ref sig .tc := ⟨.hbm, 180, rfl⟩
abbrev main_v140 : Ref sig .tc := ⟨.hbm, 181, rfl⟩
abbrev main_v141 : Ref sig .tc := ⟨.hbm, 182, rfl⟩
abbrev main_v142 : Ref sig .tc := ⟨.hbm, 183, rfl⟩
abbrev main_v143 : Ref sig .tc := ⟨.hbm, 184, rfl⟩
abbrev main_v144 : Ref sig .tc := ⟨.hbm, 185, rfl⟩
abbrev main_v145 : Ref sig .tc := ⟨.hbm, 186, rfl⟩
abbrev main_v146 : Ref sig .tc := ⟨.hbm, 187, rfl⟩
abbrev main_v147 : Ref sig .tc := ⟨.hbm, 188, rfl⟩
abbrev main_v148 : Ref sig .tc := ⟨.hbm, 189, rfl⟩
abbrev main_v149 : Ref sig .tc := ⟨.hbm, 190, rfl⟩
abbrev main_v150 : Ref sig .tc := ⟨.hbm, 191, rfl⟩
abbrev main_v151 : Ref sig .tc := ⟨.hbm, 192, rfl⟩
abbrev main_v152 : Ref sig .tc := ⟨.hbm, 193, rfl⟩
abbrev main_v153 : Ref sig .tc := ⟨.hbm, 194, rfl⟩
abbrev main_v154 : Ref sig .tc := ⟨.hbm, 195, rfl⟩
abbrev main_v155 : Ref sig .tc := ⟨.hbm, 196, rfl⟩
abbrev main_v156 : Ref sig .tc := ⟨.hbm, 197, rfl⟩
abbrev main_v157 : Ref sig .tc := ⟨.hbm, 198, rfl⟩
abbrev main_v158 : Ref sig .tc := ⟨.hbm, 199, rfl⟩
abbrev main_v159 : Ref sig .tc := ⟨.hbm, 200, rfl⟩
abbrev main_v160 : Ref sig .tc := ⟨.hbm, 201, rfl⟩
abbrev main_v161 : Ref sig .tc := ⟨.hbm, 202, rfl⟩
abbrev main_v162 : Ref sig .tc := ⟨.hbm, 203, rfl⟩
abbrev main_v163 : Ref sig .tc := ⟨.hbm, 204, rfl⟩
abbrev main_cst_19 : Ref sig .tc := ⟨.hbm, 205, rfl⟩
abbrev main_v164 : Ref sig .tc := ⟨.hbm, 206, rfl⟩
abbrev main_cst_20 : Ref sig .tc := ⟨.hbm, 207, rfl⟩
abbrev main_v165 : Ref sig .tc := ⟨.hbm, 208, rfl⟩
abbrev main_v166 : Ref sig .tc := ⟨.hbm, 209, rfl⟩
abbrev main_v167 : Ref sig .tc := ⟨.hbm, 210, rfl⟩
abbrev main_v168 : Ref sig .tc := ⟨.hbm, 211, rfl⟩
abbrev main_v169 : Ref sig .tc := ⟨.hbm, 212, rfl⟩
abbrev main_v170 : Ref sig .tc := ⟨.hbm, 213, rfl⟩
abbrev main_v171 : Ref sig .tc := ⟨.hbm, 214, rfl⟩
abbrev main_v172 : Ref sig .tc := ⟨.hbm, 215, rfl⟩
abbrev main_v173 : Ref sig .tc := ⟨.hbm, 216, rfl⟩
abbrev main_cst_21 : Ref sig .tc := ⟨.hbm, 217, rfl⟩
abbrev main_v174 : Ref sig .tc := ⟨.hbm, 218, rfl⟩
abbrev main_v175 : Ref sig .tc := ⟨.hbm, 219, rfl⟩
abbrev main_cst_22 : Ref sig .tc := ⟨.hbm, 220, rfl⟩
abbrev main_v176 : Ref sig .tc := ⟨.hbm, 221, rfl⟩
abbrev main_v177 : Ref sig .tc := ⟨.hbm, 222, rfl⟩
abbrev main_v178 : Ref sig .tc := ⟨.hbm, 223, rfl⟩
abbrev main_v179 : Ref sig .tc := ⟨.hbm, 224, rfl⟩
abbrev main_v180 : Ref sig .tc := ⟨.hbm, 225, rfl⟩
abbrev main_v181 : Ref sig .tc := ⟨.hbm, 226, rfl⟩
abbrev main_cst_23 : Ref sig .tc := ⟨.hbm, 227, rfl⟩
abbrev main_v182 : Ref sig .tc := ⟨.hbm, 228, rfl⟩
abbrev main_v183 : Ref sig .tc := ⟨.hbm, 229, rfl⟩
abbrev main_cst_24 : Ref sig .tc := ⟨.hbm, 230, rfl⟩
abbrev main_v184 : Ref sig .tc := ⟨.hbm, 231, rfl⟩
abbrev main_v185 : Ref sig .tc := ⟨.hbm, 232, rfl⟩
abbrev main_v186 : Ref sig .tc := ⟨.hbm, 233, rfl⟩
abbrev main_v187 : Ref sig .tc := ⟨.hbm, 234, rfl⟩

abbrev nD : Nat := 1
abbrev τ : Topo := Topo.v7x

variable {F : FTy → Type} [FloatOps F]
-- ==== MixerOut.lean ====
abbrev S4x8192x512 : Shape := ⟨3, ![4, 8192, 512]⟩
abbrev S4x8192x1024 : Shape := ⟨3, ![4, 8192, 1024]⟩
abbrev S4x6144 : Shape := ⟨2, ![4, 6144]⟩
abbrev S1x512x1024 : Shape := ⟨3, ![1, 512, 1024]⟩
abbrev S1x1024x1024 : Shape := ⟨3, ![1, 1024, 1024]⟩
abbrev S1x1024 : Shape := ⟨2, ![1, 1024]⟩
abbrev S1024x256 : Shape := ⟨2, ![1024, 256]⟩
abbrev S1x128 : Shape := ⟨2, ![1, 128]⟩
abbrev S4x6x1024 : Shape := ⟨3, ![4, 6, 1024]⟩
abbrev S512x1024 : Shape := ⟨2, ![512, 1024]⟩
abbrev S1024x1024 : Shape := ⟨2, ![1024, 1024]⟩
abbrev S8x32768 : Shape := ⟨2, ![8, 32768]⟩
abbrev S4x8192x128 : Shape := ⟨3, ![4, 8192, 128]⟩
abbrev S1x512x512 : Shape := ⟨3, ![1, 512, 512]⟩
abbrev S1x6x1024 : Shape := ⟨3, ![1, 6, 1024]⟩
abbrev S8x512 : Shape := ⟨2, ![8, 512]⟩
abbrev S1x512x128 : Shape := ⟨3, ![1, 512, 128]⟩
abbrev S512x512 : Shape := ⟨2, ![512, 512]⟩
abbrev S1x1x1024 : Shape := ⟨3, ![1, 1, 1024]⟩
abbrev S512 : Shape := ⟨1, ![512]⟩
abbrev S512x1 : Shape := ⟨2, ![512, 1]⟩
abbrev S512x128 : Shape := ⟨2, ![512, 128]⟩
abbrev S128 : Shape := ⟨1, ![128]⟩
abbrev S128x512 : Shape := ⟨2, ![128, 512]⟩

abbrev nBuf : Space → Nat
  | .hbm => 20
  | .vmem => 25
  | .smem => 0
  | _ => 0

abbrev bufTy : (tb : Table) → Fin (tcTables nBuf tb) → BufTy
  | .hbm, ⟨0, _⟩ => ⟨S4x8192x512, .bf16⟩
  | .hbm, ⟨1, _⟩ => ⟨S4x8192x1024, .bf16⟩
  | .hbm, ⟨2, _⟩ => ⟨S4x8192x1024, .bf16⟩
  | .hbm, ⟨3, _⟩ => ⟨S4x8192x1024, .f32⟩
  | .hbm, ⟨4, _⟩ => ⟨S4x6144, .f32⟩
  | .hbm, ⟨5, _⟩ => ⟨S1x512x1024, .f32⟩
  | .hbm, ⟨6, _⟩ => ⟨S1x1024x1024, .f32⟩
  | .hbm, ⟨7, _⟩ => ⟨S1x1024, .f32⟩
  | .hbm, ⟨8, _⟩ => ⟨S1024x256, .bf16⟩
  | .hbm, ⟨9, _⟩ => ⟨S1x128, .f32⟩
  | .hbm, ⟨10, _⟩ => ⟨S4x6x1024, .f32⟩
  | .hbm, ⟨11, _⟩ => ⟨S512x1024, .f32⟩
  | .hbm, ⟨12, _⟩ => ⟨S512x1024, .bf16⟩
  | .hbm, ⟨13, _⟩ => ⟨S1024x1024, .f32⟩
  | .hbm, ⟨14, _⟩ => ⟨S1024x1024, .bf16⟩
  | .hbm, ⟨15, _⟩ => ⟨S4x8192x1024, .f32⟩
  | .hbm, ⟨16, _⟩ => ⟨S4x8192x1024, .f32⟩
  | .hbm, ⟨17, _⟩ => ⟨S8x32768, .i32⟩
  | .hbm, ⟨18, _⟩ => ⟨S4x8192x128, .f32⟩
  | .hbm, ⟨19, _⟩ => ⟨S1x128, .f32⟩
  | .local _ .vmem, ⟨0, _⟩ => ⟨S1x512x512, .bf16⟩
  | .local _ .vmem, ⟨1, _⟩ => ⟨S1x512x512, .bf16⟩
  | .local _ .vmem, ⟨2, _⟩ => ⟨S1x512x1024, .bf16⟩
  | .local _ .vmem, ⟨3, _⟩ => ⟨S1x512x1024, .bf16⟩
  | .local _ .vmem, ⟨4, _⟩ => ⟨S1x512x1024, .bf16⟩
  | .local _ .vmem, ⟨5, _⟩ => ⟨S1x512x1024, .bf16⟩
  | .local _ .vmem, ⟨6, _⟩ => ⟨S1x512x1024, .f32⟩
  | .local _ .vmem, ⟨7, _⟩ => ⟨S1x512x1024, .f32⟩
  | .local _ .vmem, ⟨8, _⟩ => ⟨S1x6x1024, .f32⟩
  | .local _ .vmem, ⟨9, _⟩ => ⟨S1x6x1024, .f32⟩
  | .local _ .vmem, ⟨10, _⟩ => ⟨S512x1024, .bf16⟩
  | .local _ .vmem, ⟨11, _⟩ => ⟨S1024x1024, .bf16⟩
  | .local _ .vmem, ⟨12, _⟩ => ⟨S1x1024, .f32⟩
  | .local _ .vmem, ⟨13, _⟩ => ⟨S1024x256, .bf16⟩
  | .local _ .vmem, ⟨14, _⟩ => ⟨S1x128, .f32⟩
  | .local _ .vmem, ⟨15, _⟩ => ⟨S1x512x1024, .f32⟩
  | .local _ .vmem, ⟨16, _⟩ => ⟨S1x512x1024, .f32⟩
  | .local _ .vmem, ⟨17, _⟩ => ⟨S1x512x1024, .f32⟩
  | .local _ .vmem, ⟨18, _⟩ => ⟨S1x512x1024, .f32⟩
  | .local _ .vmem, ⟨19, _⟩ => ⟨S8x512, .i32⟩
  | .local _ .vmem, ⟨20, _⟩ => ⟨S8x512, .i32⟩
  | .local _ .vmem, ⟨21, _⟩ => ⟨S1x512x128, .f32⟩
  | .local _ .vmem, ⟨22, _⟩ => ⟨S1x512x128, .f32⟩
  | .local _ .vmem, ⟨23, _⟩ => ⟨S1x128, .f32⟩
  | .local _ .vmem, ⟨24, _⟩ => ⟨S1x128, .f32⟩
  | _, _ => ⟨S4x8192x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5_0 : Ref sig .tc := ⟨.hbm, 15, rfl⟩
abbrev main_v5_1 : Ref sig .tc := ⟨.hbm, 16, rfl⟩
abbrev main_v5_2 : Ref sig .tc := ⟨.hbm, 17, rfl⟩
abbrev main_v5_3 : Ref sig .tc := ⟨.hbm, 18, rfl⟩
abbrev main_v5_4 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg10_1 : Ref sig .tc := ⟨.vmem, 16, rfl⟩
abbrev cc0_stg11_0 : Ref sig .tc := ⟨.vmem, 17, rfl⟩
abbrev cc0_stg11_1 : Ref sig .tc := ⟨.vmem, 18, rfl⟩
abbrev cc0_stg12_0 : Ref sig .tc := ⟨.vmem, 19, rfl⟩
abbrev cc0_stg12_1 : Ref sig .tc := ⟨.vmem, 20, rfl⟩
abbrev cc0_stg13_0 : Ref sig .tc := ⟨.vmem, 21, rfl⟩
abbrev cc0_stg13_1 : Ref sig .tc := ⟨.vmem, 22, rfl⟩
abbrev cc0_stg14_0 : Ref sig .tc := ⟨.vmem, 23, rfl⟩
abbrev cc0_scratch0 : Ref sig .tc := ⟨.vmem, 24, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem10_0 : DmaSem sig := 15
abbrev cc0_sem10_1 : DmaSem sig := 16
abbrev cc0_sem11_0 : DmaSem sig := 17
abbrev cc0_sem11_1 : DmaSem sig := 18
abbrev cc0_sem12_0 : DmaSem sig := 19
abbrev cc0_sem12_1 : DmaSem sig := 20
abbrev cc0_sem13_0 : DmaSem sig := 21
abbrev cc0_sem13_1 : DmaSem sig := 22
abbrev cc0_sem14_0 : DmaSem sig := 23

abbrev nD : Nat := 1
abbrev τ : Topo := Topo.v7x

variable {F : FTy → Type} [FloatOps F]

abbrev grid0 : Pipeline.Grid := ⟨2, ![4, 16], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_12 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![c0_i32.toNat, v1.toNat]

def cc0_transform_13 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_14 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1x512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x6x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 1 → Memref sig .tc .vmem S512x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1024x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1024x256 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S1x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 2 → Memref sig .tc .vmem S1x512x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S1x512x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S8x512 .i32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 2 → Memref sig .tc .vmem S1x512x128 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]

abbrev stage0_14 : Fin 1 → Memref sig .tc .vmem S1x128 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false, false]
-- ==== MixerOutReferenceIdeal.lean ====
abbrev S4x8192x512 : Shape := ⟨3, ![4, 8192, 512]⟩
abbrev S4x8192x1024 : Shape := ⟨3, ![4, 8192, 1024]⟩
abbrev S4x6144 : Shape := ⟨2, ![4, 6144]⟩
abbrev S1x512x1024 : Shape := ⟨3, ![1, 512, 1024]⟩
abbrev S1x1024x1024 : Shape := ⟨3, ![1, 1024, 1024]⟩
abbrev S1x1024 : Shape := ⟨2, ![1, 1024]⟩
abbrev S1024x256 : Shape := ⟨2, ![1024, 256]⟩
abbrev S1x128 : Shape := ⟨2, ![1, 128]⟩
abbrev S4x1024 : Shape := ⟨2, ![4, 1024]⟩
abbrev S512x1024 : Shape := ⟨2, ![512, 1024]⟩
abbrev S4x1x1024 : Shape := ⟨3, ![4, 1, 1024]⟩
abbrev S1024x1024 : Shape := ⟨2, ![1024, 1024]⟩
abbrev S1024 : Shape := ⟨1, ![1024]⟩
abbrev S_ : Shape := ⟨0, ![]⟩
abbrev S4x8192 : Shape := ⟨2, ![4, 8192]⟩
abbrev S4x8192x1 : Shape := ⟨3, ![4, 8192, 1]⟩
abbrev S1x1x1024 : Shape := ⟨3, ![1, 1, 1024]⟩

abbrev nBuf : Space → Nat
  | .hbm => 55
  | .vmem => 0
  | .smem => 0
  | _ => 0

abbrev bufTy : (tb : Table) → Fin (tcTables nBuf tb) → BufTy
  | .hbm, ⟨0, _⟩ => ⟨S4x8192x512, .bf16⟩
  | .hbm, ⟨1, _⟩ => ⟨S4x8192x1024, .bf16⟩
  | .hbm, ⟨2, _⟩ => ⟨S4x8192x1024, .bf16⟩
  | .hbm, ⟨3, _⟩ => ⟨S4x8192x1024, .f32⟩
  | .hbm, ⟨4, _⟩ => ⟨S4x6144, .f32⟩
  | .hbm, ⟨5, _⟩ => ⟨S1x512x1024, .f32⟩
  | .hbm, ⟨6, _⟩ => ⟨S1x1024x1024, .f32⟩
  | .hbm, ⟨7, _⟩ => ⟨S1x1024, .f32⟩
  | .hbm, ⟨8, _⟩ => ⟨S1024x256, .bf16⟩
  | .hbm, ⟨9, _⟩ => ⟨S1x128, .f32⟩
  | .hbm, ⟨10, _⟩ => ⟨S4x1024, .f32⟩
  | .hbm, ⟨11, _⟩ => ⟨S4x1024, .f32⟩
  | .hbm, ⟨12, _⟩ => ⟨S4x1024, .f32⟩
  | .hbm, ⟨13, _⟩ => ⟨S4x1024, .f32⟩
  | .hbm, ⟨14, _⟩ => ⟨S4x1024, .f32⟩
  | .hbm, ⟨15, _⟩ => ⟨S4x1024, .f32⟩
  | .hbm, ⟨16, _⟩ => ⟨S4x8192x512, .f32⟩
  | .hbm, ⟨17, _⟩ => ⟨S512x1024, .f32⟩
  | .hbm, ⟨18, _⟩ => ⟨S4x8192x1024, .f32⟩
  | .hbm, ⟨19, _⟩ => ⟨S4x8192x1024, .f32⟩
  | .hbm, ⟨20, _⟩ => ⟨S4x8192x1024, .f32⟩
  | .hbm, ⟨21, _⟩ => ⟨S4x8192x1024, .f32⟩
  | .hbm, ⟨22, _⟩ => ⟨S4x8192x1024, .f32⟩
  | .hbm, ⟨23, _⟩ => ⟨S4x1x1024, .f32⟩
  | .hbm, ⟨24, _⟩ => ⟨S1024x1024, .f32⟩
  | .hbm, ⟨25, _⟩ => ⟨S4x8192x1024, .f32⟩
  | .hbm, ⟨26, _⟩ => ⟨S4x8192x1024, .f32⟩
  | .hbm, ⟨27, _⟩ => ⟨S4x8192x1024, .f32⟩
  | .hbm, ⟨28, _⟩ => ⟨S4x8192x1024, .f32⟩
  | .hbm, ⟨29, _⟩ => ⟨S1024, .f32⟩
  | .hbm, ⟨30, _⟩ => ⟨S4x8192x1024, .f32⟩
  | .hbm, ⟨31, _⟩ => ⟨S_, .f32⟩
  | .hbm, ⟨32, _⟩ => ⟨S4x8192, .f32⟩
  | .hbm, ⟨33, _⟩ => ⟨S4x8192x1, .f32⟩
  | .hbm, ⟨34, _⟩ => ⟨S_, .f32⟩
  | .hbm, ⟨35, _⟩ => ⟨S4x8192x1, .f32⟩
  | .hbm, ⟨36, _⟩ => ⟨S4x8192x1, .f32⟩
  | .hbm, ⟨37, _⟩ => ⟨S_, .f32⟩
  | .hbm, ⟨38, _⟩ => ⟨S4x8192x1, .f32⟩
  | .hbm, ⟨39, _⟩ => ⟨S4x8192x1, .f32⟩
  | .hbm, ⟨40, _⟩ => ⟨S4x8192x1, .f32⟩
  | .hbm, ⟨41, _⟩ => ⟨S4x8192x1024, .f32⟩
  | .hbm, ⟨42, _⟩ => ⟨S4x8192x1024, .f32⟩
  | .hbm, ⟨43, _⟩ => ⟨S1x1x1024, .f32⟩
  | .hbm, ⟨44, _⟩ => ⟨S4x8192x1024, .f32⟩
  | .hbm, ⟨45, _⟩ => ⟨S4x8192x1024, .f32⟩
  | .hbm, ⟨46, _⟩ => ⟨S4x1x1024, .f32⟩
  | .hbm, ⟨47, _⟩ => ⟨S_, .f32⟩
  | .hbm, ⟨48, _⟩ => ⟨S4x1x1024, .f32⟩
  | .hbm, ⟨49, _⟩ => ⟨S4x1x1024, .f32⟩
  | .hbm, ⟨50, _⟩ => ⟨S4x8192x1024, .f32⟩
  | .hbm, ⟨51, _⟩ => ⟨S4x8192x1024, .f32⟩
  | .hbm, ⟨52, _⟩ => ⟨S4x1x1024, .f32⟩
  | .hbm, ⟨53, _⟩ => ⟨S4x8192x1024, .f32⟩
  | .hbm, ⟨54, _⟩ => ⟨S4x8192x1024, .f32⟩
  | _, _ => ⟨S4x8192x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_cst : Ref sig .tc := ⟨.hbm, 31, rfl⟩
abbrev main_v21 : Ref sig .tc := ⟨.hbm, 32, rfl⟩
abbrev main_v22 : Ref sig .tc := ⟨.hbm, 33, rfl⟩
abbrev main_cst_0 : Ref sig .tc := ⟨.hbm, 34, rfl⟩
abbrev main_v23 : Ref sig .tc := ⟨.hbm, 35, rfl⟩
abbrev main_v24 : Ref sig .tc := ⟨.hbm, 36, rfl⟩
abbrev main_cst_1 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_cst_2 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩

abbrev nD : Nat := 1
abbrev τ : Topo := Topo.v7x

variable {F : FTy → Type} [FloatOps F]
-- ==== Proof.Moba.State.lean ====
/- One trip of the kernel's loop over pairs of key blocks: the state it works on, written as values, and the values it
   leaves. -/
module

public import proofs.«01_k».proof.Proof.Gen.KernelIdeal.Skeleton
public import Idealize.ShloMosaic.Lib.Exec
public import Idealize.ShloMosaic.Lib.Tactic
public import Idealize.ShloMosaic.Lib.Pipeline.Kit
public import Idealize.ShloMosaic.Lib.VecWindow
public import Idealize.ShloMosaic.Lib.WholeRead

@[expose] public section

noncomputable section

namespace Cert.KernelIdeal.Moba

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open VecWindow (window put)

variable {F : FTy → Type} [FloatOps F] [Named F]

local notation "𝕄" => MT nD τ sig Unit (Elt F) ℕ (UR sig nD τ) ℕ

/-- What the scratch buffers hold between two trips: the running maximum, the accumulators of the two heads (64 rows of
    weighted values and 16 of the weights' sum), the scores and the weights of an odd and an even block, and the factors by
    which the accumulators are rescaled. -/
structure St (F : FTy → Type) [FloatOps F] where
  m : Vec F S1x512 .f32
  acc : Vec F S2x80x256 .f32
  s0 : Vec F S256x512 .f32
  s1 : Vec F S256x512 .f32
  p0 : Vec F S256x512 .bf16
  p1 : Vec F S256x512 .bf16
  a0 : Vec F S1x512 .f32
  a1 : Vec F S1x512 .f32

/-- The accumulators of head 0 and of head 1 of the pair, and their replacement. -/
def getA0 (x : Vec F S2x80x256 .f32) : Vec F S1x80x256 .f32 := window x ![0, 0, 0] S1x80x256.size inb_S2x80x256_S1x80x256_0_0_0
def getA1 (x : Vec F S2x80x256 .f32) : Vec F S1x80x256 .f32 := window x ![1, 0, 0] S1x80x256.size inb_S2x80x256_S1x80x256_1_0_0
def putA0 (x : Vec F S2x80x256 .f32) (w : Vec F S1x80x256 .f32) : Vec F S2x80x256 .f32 := put x ![0, 0, 0] S1x80x256.size w
def putA1 (x : Vec F S2x80x256 .f32) (w : Vec F S1x80x256 .f32) : Vec F S2x80x256 .f32 := put x ![1, 0, 0] S1x80x256.size w

/-- The columns of head 0 and of head 1 of a row of factors, and of the weights. -/
def rowL (x : Vec F S1x512 .f32) : Vec F S1x256 .f32 := window x ![0, 0] S1x256.size inb_S1x512_S1x256_0_0
def rowR (x : Vec F S1x512 .f32) : Vec F S1x256 .f32 := window x ![0, 256] S1x256.size inb_S1x512_S1x256_0_256
def colL (x : Vec F S256x512 .bf16) : Vec F S256x256 .bf16 := window x ![0, 0] S256x256.size inb_S256x512_S256x256_0_0
def colR (x : Vec F S256x512 .bf16) : Vec F S256x256 .bf16 := window x ![0, 256] S256x256.size inb_S256x512_S256x256_0_256

/-- The blocks of keys and of values a trip takes: the keys two turns ahead, the values of the turn. -/
def keyAt (k : Vec F S1x8192x128 .bf16) (t1 : Fin k0_t1_loop.trips) (t2 : Fin (k0_t2_loop t1).trips) (r : Fin 2) : Vec F S1x256x128 .bf16 :=
  window k (k0_off3 t1 t2 (BitVec.ofNat 32 r.val)) S1x256x128.size (k0_off3_inb t1 t2 r)
def valAt (v : Vec F S1x128x8192 .bf16) (t1 : Fin k0_t1_loop.trips) (t2 : Fin (k0_t2_loop t1).trips) (r : Fin 2) : Vec F S1x128x256 .bf16 :=
  window v (k0_off4 t1 t2 (BitVec.ofNat 32 r.val)) S1x128x256.size (k0_off4_inb t1 t2 r)

/-- The number of the second turn of a trip. -/
def turn2 {n : ℕ} (t2 : Fin n) : BitVec 32 := Scalar.addi (Scalar.addi (Scalar.muli 2#32 (Scf.iv 0#32 1#32 t2)) 1#32) 1#32

/-- The first turn of a trip. -/
def turnA (t1 : Fin k0_t1_loop.trips) (t2 : Fin (k0_t2_loop t1).trips) (q : FVec F S128x512 .bf16) (k : Vec F S1x8192x128 .bf16) (v : Vec F S1x128x8192 .bf16)
    (bits : Vec F S1x512 .i32) (s : St F) : St F where
  m := k0_pay8 (k0_pay4 t1 0#32 1#32 t2 s.s1 bits s.m)
  acc := putA1 (putA0 s.acc (k0_pay12 (k0_pay11 (valAt v t1 t2 0) (rowL s.a0) (getA0 s.acc) (colL s.p0))))
    (k0_pay13 (k0_pay9 (valAt v t1 t2 0)) (k0_pay10 (F := F)) (rowR s.a0) (getA1 s.acc) (colR s.p0))
  s0 := k0_pay2 q (keyAt k t1 t2 0)
  s1 := s.s1
  p0 := s.p0
  p1 := k0_pay7 s.s1 (k0_pay3 t1 0#32 1#32 t2 bits) (k0_pay4 t1 0#32 1#32 t2 s.s1 bits s.m)
  a0 := s.a0
  a1 := k0_pay6 (k0_pay5 t1 0#32 1#32 t2 s.s1 bits s.m)

/-- The second turn of a trip. -/
def turnB (t1 : Fin k0_t1_loop.trips) (t2 : Fin (k0_t2_loop t1).trips) (q : FVec F S128x512 .bf16) (k : Vec F S1x8192x128 .bf16) (v : Vec F S1x128x8192 .bf16)
    (bits : Vec F S1x512 .i32) (s : St F) : St F where
  m := k0_pay19 (turn2 t2) s.s0 bits s.m
  acc := putA1 (putA0 s.acc (k0_pay22 (valAt v t1 t2 1) (rowL s.a1) (getA0 s.acc) (colL s.p1)))
    (k0_pay23 (valAt v t1 t2 1) (rowR s.a1) (getA1 s.acc) (colR s.p1))
  s0 := s.s0
  s1 := k0_pay14 q (keyAt k t1 t2 1)
  p0 := k0_pay18 (turn2 t2) s.s0 bits s.m
  p1 := s.p1
  a0 := k0_pay17 (turn2 t2) s.s0 bits s.m
  a1 := s.a1

/-- A trip: its two turns. -/
def trip (t1 : Fin k0_t1_loop.trips) (t2 : Fin (k0_t2_loop t1).trips) (q : FVec F S128x512 .bf16) (k : Vec F S1x8192x128 .bf16) (v : Vec F S1x128x8192 .bf16)
    (bits : Vec F S1x512 .i32) (s : St F) : St F :=
  turnB t1 t2 q k v bits (turnA t1 t2 q k v bits s)

theorem getA1_putA0 (x : Vec F S2x80x256 .f32) (w : Vec F S1x80x256 .f32) : getA1 (putA0 x w) = getA1 x :=
  VecWindow.window_put_of_disjoint _ _ _ _ _ _ _ 0 (.inr (by decide))
theorem getA0_putA1 (x : Vec F S2x80x256 .f32) (w : Vec F S1x80x256 .f32) : getA0 (putA1 x w) = getA0 x :=
  VecWindow.window_put_of_disjoint _ _ _ _ _ _ _ 0 (.inl (by decide))
theorem getA0_putA0 (x : Vec F S2x80x256 .f32) (w : Vec F S1x80x256 .f32) : getA0 (putA0 x w) = w :=
  VecWindow.window_put_same _ _ _ _ _
theorem getA1_putA1 (x : Vec F S2x80x256 .f32) (w : Vec F S1x80x256 .f32) : getA1 (putA1 x w) = w :=
  VecWindow.window_put_same _ _ _ _ _

section Memory
variable {sig' : RefSig} {κ : Kind} {sp : Space} {s : Shape} {e : EltTy} {Val : EltTy → Type}

/-- A load at a unit-stride rectangle reads the window of what the view reads. -/
theorem readAt_win (v : View sig' κ sp s e) (f : v.ty.Contents Val) {off size : Fin s.rank → ℕ} (inb : ∀ a, off a + size a ≤ s.size a) :
    v.readAt Val (Rect.unit off size inb).toLoadRect f = window (v.read Val f) off size inb :=
  View.readAt_unit v f inb rfl inb

/-- A store at a unit-stride rectangle puts its payload over the window. -/
theorem read_cons (v : View sig' κ sp s e) (f : v.ty.Contents Val) {off size : Fin s.rank → ℕ} (inb : ∀ a, off a + size a ≤ s.size a)
    (w : (Rect.unit off size inb).shape.Idx → Val e) (L : List (View.Piece Val s e)) :
    v.read Val (v.writes Val f (⟨Rect.unit off size inb, w⟩ :: L)) = put (v.read Val (v.writes Val f L)) off size w :=
  View.read_writes_cons_put v f inb w L rfl

/-- A load from what earlier stores cover. -/
theorem readCov_win [∀ e, Nonempty (Val e)] (v : View sig' κ sp s e) {off size : Fin s.rank → ℕ} (inb : ∀ a, off a + size a ≤ s.size a) (L : List (View.Piece Val s e)) :
    v.readCov L (Rect.unit off size inb).toLoadRect = window (v.read Val (v.writes Val v.junk L)) off size inb :=
  readAt_win v _ inb

theorem read_nil (v : View sig' κ sp s e) (f : v.ty.Contents Val) : v.read Val (v.writes Val f []) = v.read Val f := rfl

variable {α : Type}

theorem window_full (x : s.Idx → α) {off : Fin s.rank → ℕ} (inb : ∀ a, off a + s.size a ≤ s.size a) : window x off s.size inb = x :=
  funext fun y => congrArg x (Rect.emb_unit_full inb y)

theorem put_full (x w : s.Idx → α) {off : Fin s.rank → ℕ} (h : ∀ a, off a = 0) : put x off s.size w = w := by
  funext y
  unfold put
  rw [dif_pos (fun a => by rw [h a]; exact ⟨Nat.zero_le _, by rw [Nat.zero_add]; exact (y a).isLt⟩)]
  exact congrArg w (funext fun a => Fin.ext (by show (y a).val - off a = _; rw [h a]; rfl))

theorem window_256_512 (x : S256x512.Idx → α) (inb : ∀ a, ![0, 0] a + ![256, 512] a ≤ S256x512.size a) : window x ![0, 0] ![256, 512] inb = x :=
  window_full x inb
theorem put_256_512 (x w : S256x512.Idx → α) : put (s := S256x512) x ![0, 0] ![256, 512] w = w :=
  put_full x w (by intro a; fin_cases a <;> rfl)

theorem window_1_512 (x : S1x512.Idx → α) (inb : ∀ a, ![0, 0] a + ![1, 512] a ≤ S1x512.size a) : window x ![0, 0] ![1, 512] inb = x :=
  window_full x inb
theorem put_1_512 (x w : S1x512.Idx → α) : put (s := S1x512) x ![0, 0] ![1, 512] w = w :=
  put_full x w (by intro a; fin_cases a <;> rfl)

theorem window_1_32_128 (x : S1x32x128.Idx → α) (inb : ∀ a, ![0, 0, 0] a + ![1, 32, 128] a ≤ S1x32x128.size a) : window x ![0, 0, 0] ![1, 32, 128] inb = x :=
  window_full x inb
theorem put_1_32_128 (x w : S1x32x128.Idx → α) : put (s := S1x32x128) x ![0, 0, 0] ![1, 32, 128] w = w :=
  put_full x w (by intro a; fin_cases a <;> rfl)

theorem window_2_80_256 (x : S2x80x256.Idx → α) (inb : ∀ a, ![0, 0, 0] a + ![2, 80, 256] a ≤ S2x80x256.size a) : window x ![0, 0, 0] ![2, 80, 256] inb = x :=
  window_full x inb
theorem put_2_80_256 (x w : S2x80x256.Idx → α) : put (s := S2x80x256) x ![0, 0, 0] ![2, 80, 256] w = w :=
  put_full x w (by intro a; fin_cases a <;> rfl)

/-- The accumulators over two turns, the second reading what the first left of them. -/
theorem acc_turns (x x' : Vec F S2x80x256 .f32) (A B : Vec F S1x80x256 .f32) (f g : Vec F S1x80x256 .f32 → Vec F S1x80x256 .f32) :
    putA1 (putA0 (putA1 (putA0 x A) B) (f (getA0 (putA1 (putA0 x' A) B))))
        (g (getA1 (putA0 (putA1 (putA0 x' A) B) (f (getA0 (putA1 (putA0 x' A) B))))))
      = putA1 (putA0 (putA1 (putA0 x A) B) (f (getA0 (putA1 (putA0 x A) B)))) (g (getA1 (putA1 (putA0 x A) B))) := by
  simp only [getA1_putA0, getA0_putA1, getA0_putA0, getA1_putA1]

/-- Two puts that fill the pair of accumulators leave nothing of what was there. -/
theorem putA1_putA0_any (x x' : Vec F S2x80x256 .f32) (a b : Vec F S1x80x256 .f32) : putA1 (putA0 x a) b = putA1 (putA0 x' a) b := by
  funext y
  unfold putA1 putA0 put
  have h0 := (y 0).isLt; have h1 := (y 1).isLt; have h2 := (y 2).isLt
  split
  · rfl
  · next h =>
    split
    · rfl
    · next h' =>
      exfalso
      have : (y 0).val = 0 ∨ (y 0).val = 1 := by
        have : S2x80x256.size 0 = 2 := rfl
        omega
      rcases this with e | e
      · exact h' fun a => by fin_cases a <;> simp <;> first | omega | exact h1 | exact h2
      · exact h fun a => by fin_cases a <;> simp <;> first | omega | exact h1 | exact h2

end Memory

end Cert.KernelIdeal.Moba

end
-- ==== Proof.Moba.Trip.lean ====
/- The run of one trip of the loop over pairs of key blocks, on values. -/
module

public import proofs.«01_k».proof.Proof.Moba.State
public import Idealize.ShloMosaic.Lib.Exec
public import Idealize.ShloMosaic.Lib.Tactic
public import Idealize.ShloMosaic.Lib.Pipeline.Kit
public import Idealize.ShloMosaic.Lib.VecWindow
public import Idealize.ShloMosaic.Lib.WholeRead

@[expose] public section

noncomputable section

namespace Cert.KernelIdeal.Moba

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open VecWindow (window put)

variable {F : FTy → Type} [FloatOps F] [Named F]

local notation "𝕄" => MT nD τ sig Unit (Elt F) ℕ (UR sig nD τ) ℕ

/-- The scratch buffers at a state. -/
abbrev ownSt (c : Dev nD) (arg7 : Memref sig .tc .vmem S1x512 .f32) (arg8 : Memref sig .tc .vmem S2x80x256 .f32) (arg10 : Memref sig .tc .vmem S256x512 .f32) (arg11 : Memref sig .tc .vmem S256x512 .f32) (arg12 : Memref sig .tc .vmem S256x512 .bf16) (arg13 : Memref sig .tc .vmem S256x512 .bf16) (arg14 : Memref sig .tc .vmem S1x512 .f32) (arg15 : Memref sig .tc .vmem S1x512 .f32) (s : St F) : sProp 𝕄 :=
  iprop(owns (c : Thread nD τ) arg7 fullShare (s).m ∗ owns (c : Thread nD τ) arg8 fullShare (s).acc ∗ owns (c : Thread nD τ) arg10 fullShare (s).s0 ∗ owns (c : Thread nD τ) arg11 fullShare (s).s1 ∗ owns (c : Thread nD τ) arg12 fullShare (s).p0 ∗ owns (c : Thread nD τ) arg13 fullShare (s).p1 ∗ owns (c : Thread nD τ) arg14 fullShare (s).a0 ∗ owns (c : Thread nD τ) arg15 fullShare (s).a1)

set_option maxHeartbeats 4000000 in
theorem run_trip (c : Dev nD) (i : grid0.Coords) (arg2 : Memref sig .tc .vmem S1x8192x128 .f32) (harg2 : arg2.IsWhole) (arg3 : Memref sig .tc .vmem S1x8192x128 .bf16) (harg3 : arg3.IsWhole) (arg4 : Memref sig .tc .vmem S1x128x8192 .bf16) (harg4 : arg4.IsWhole) (arg5 : Memref sig .tc .vmem S1x32x128 .f32) (harg5 : arg5.IsWhole) (arg6 : Memref sig .tc .vmem S1x8192x128 .bf16) (harg6 : arg6.IsWhole) (arg7 : Memref sig .tc .vmem S1x512 .f32) (harg7 : arg7.IsWhole) (arg8 : Memref sig .tc .vmem S2x80x256 .f32) (harg8 : arg8.IsWhole) (arg9 : Memref sig .tc .vmem S1x512 .i32) (harg9 : arg9.IsWhole) (arg10 : Memref sig .tc .vmem S256x512 .f32) (harg10 : arg10.IsWhole) (arg11 : Memref sig .tc .vmem S256x512 .f32) (harg11 : arg11.IsWhole) (arg12 : Memref sig .tc .vmem S256x512 .bf16) (harg12 : arg12.IsWhole) (arg13 : Memref sig .tc .vmem S256x512 .bf16) (harg13 : arg13.IsWhole) (arg14 : Memref sig .tc .vmem S1x512 .f32) (harg14 : arg14.IsWhole) (arg15 : Memref sig .tc .vmem S1x512 .f32) (harg15 : arg15.IsWhole)
    (t1 : Fin k0_t1_loop.trips) (arg16 : BitVec 32) (q : FVec F S128x512 .bf16) (k2 : Vec F S1x256x128 .bf16)
    (t2 : Fin (k0_t2_loop t1).trips) (a : Unit) (k : Vec F S1x8192x128 .bf16) (v : Vec F S1x128x8192 .bf16) (bits : Vec F S1x512 .i32) (s : St F)
    (E : Set ℕ) (K : Unit → sProp 𝕄) :
    iprop(owns (c : Thread nD τ) arg3 fullShare k ∗ owns (c : Thread nD τ) arg4 fullShare v ∗ owns (c : Thread nD τ) arg9 fullShare bits
        ∗ ownSt c arg7 arg8 arg10 arg11 arg12 arg13 arg14 arg15 s
        ∗ (iprop(owns (c : Thread nD τ) arg3 fullShare k ∗ owns (c : Thread nD τ) arg4 fullShare v ∗ owns (c : Thread nD τ) arg9 fullShare bits
        ∗ ownSt c arg7 arg8 arg10 arg11 arg12 arg13 arg14 arg15 (trip t1 t2 q k v bits s)) -∗ K ()))
      ⊢ wp frame (wpE (defs₀ (F := F)) Variants.none c none) E (k0_t2_body i arg2 harg2 arg3 harg3 arg4 harg4 arg5 harg5 arg6 harg6 arg7 harg7 arg8 harg8 arg9 harg9 arg10 harg10 arg11 harg11 arg12 harg12 arg13 harg13 arg14 harg14 arg15 harg15 t1 arg16 q k2 t2 a) K := by
  unfold ownSt owns
  iintro ⟨⟨%f3, %hf3, H3⟩, ⟨%f4, %hf4, H4⟩, ⟨%f9, %hf9, H9⟩, ⟨⟨%f7, %hf7, H7⟩, ⟨%f8, %hf8, H8⟩, ⟨%f10, %hf10, H10⟩, ⟨%f11, %hf11, H11⟩, ⟨%f12, %hf12, H12⟩, ⟨%f13, %hf13, H13⟩, ⟨%f14, %hf14, H14⟩, ⟨%f15, %hf15, H15⟩⟩, Hk⟩
  unfold k0_t2_body
  simp only [k0_part1_eq_skeleton, k0_part2_eq_skeleton, k0_part3_eq_skeleton, k0_part4_eq_skeleton, k0_part5_eq_skeleton]
  unfold k0_part1_skel k0_part2_skel k0_part3_skel k0_part4_skel k0_part5_skel
  sl_exec
  sl_step
  iapply Hk
  isplitl [H3]
  · iexists _; isplitr; swap; · iexact H3
    ipureintro
    exact hf3
  isplitl [H4]
  · iexists _; isplitr; swap; · iexact H4
    ipureintro
    exact hf4
  isplitl [H9]
  · iexists _; isplitr; swap; · iexact H9
    ipureintro
    exact hf9
  isplitl [H7]
  · iexists _; isplitr; swap; · iexact H7
    ipureintro
    delta run_trip.sl.v350 run_trip.sl.H10_1 run_trip.sl.v267 run_trip.sl.v416 run_trip.sl.v351 run_trip.sl.v411 run_trip.sl.v425 run_trip.sl.H15_1 run_trip.sl.v401 run_trip.sl.v265 run_trip.sl.v377 run_trip.sl.v429 run_trip.sl.H8_2 run_trip.sl.v369 run_trip.sl.H8_3 run_trip.sl.v412 run_trip.sl.arg17 run_trip.sl.v400 run_trip.sl.v352 run_trip.sl.v399 run_trip.sl.v266 run_trip.sl.H13_1 run_trip.sl.v340 run_trip.sl.H7_1 run_trip.sl.v424
    simp only [readAt_win, readCov_win, read_cons, read_nil, window_256_512, put_256_512, window_1_512, put_1_512, VecWindow.window_put_same, hf3, hf4, hf9, hf7, hf8, hf10, hf11, hf12, hf13, hf14, hf15, trip, turnA, turnB]
    try rfl
  isplitl [H8]
  · iexists _; isplitr; swap; · iexact H8
    ipureintro
    delta run_trip.sl.v350 run_trip.sl.H10_1 run_trip.sl.v267 run_trip.sl.v416 run_trip.sl.v351 run_trip.sl.v411 run_trip.sl.v425 run_trip.sl.H15_1 run_trip.sl.v401 run_trip.sl.v265 run_trip.sl.v377 run_trip.sl.v429 run_trip.sl.H8_2 run_trip.sl.v369 run_trip.sl.H8_3 run_trip.sl.v412 run_trip.sl.arg17 run_trip.sl.v400 run_trip.sl.v352 run_trip.sl.v399 run_trip.sl.v266 run_trip.sl.H13_1 run_trip.sl.v340 run_trip.sl.H7_1 run_trip.sl.v424
    simp only [readAt_win, readCov_win, read_cons, read_nil, window_256_512, put_256_512, window_1_512, put_1_512, VecWindow.window_put_same, hf3, hf4, hf9, hf7, hf8, hf10, hf11, hf12, hf13, hf14, hf15, trip, turnA, turnB]
    exact acc_turns s.acc _ _ _
      (fun w => k0_pay22 (valAt v t1 t2 1) (rowL (k0_pay6 (k0_pay5 t1 0#32 1#32 t2 s.s1 bits s.m))) w
        (colL (k0_pay7 s.s1 (k0_pay3 t1 0#32 1#32 t2 bits) (k0_pay4 t1 0#32 1#32 t2 s.s1 bits s.m))))
      (fun w => k0_pay23 (valAt v t1 t2 1) (rowR (k0_pay6 (k0_pay5 t1 0#32 1#32 t2 s.s1 bits s.m))) w
        (colR (k0_pay7 s.s1 (k0_pay3 t1 0#32 1#32 t2 bits) (k0_pay4 t1 0#32 1#32 t2 s.s1 bits s.m))))
  isplitl [H10]
  · iexists _; isplitr; swap; · iexact H10
    ipureintro
    delta run_trip.sl.v350 run_trip.sl.H10_1 run_trip.sl.v267 run_trip.sl.v416 run_trip.sl.v351 run_trip.sl.v411 run_trip.sl.v425 run_trip.sl.H15_1 run_trip.sl.v401 run_trip.sl.v265 run_trip.sl.v377 run_trip.sl.v429 run_trip.sl.H8_2 run_trip.sl.v369 run_trip.sl.H8_3 run_trip.sl.v412 run_trip.sl.arg17 run_trip.sl.v400 run_trip.sl.v352 run_trip.sl.v399 run_trip.sl.v266 run_trip.sl.H13_1 run_trip.sl.v340 run_trip.sl.H7_1 run_trip.sl.v424
    simp only [readAt_win, readCov_win, read_cons, read_nil, window_256_512, put_256_512, window_1_512, put_1_512, VecWindow.window_put_same, hf3, hf4, hf9, hf7, hf8, hf10, hf11, hf12, hf13, hf14, hf15, trip, turnA, turnB]
    try rfl
  isplitl [H11]
  · iexists _; isplitr; swap; · iexact H11
    ipureintro
    delta run_trip.sl.v350 run_trip.sl.H10_1 run_trip.sl.v267 run_trip.sl.v416 run_trip.sl.v351 run_trip.sl.v411 run_trip.sl.v425 run_trip.sl.H15_1 run_trip.sl.v401 run_trip.sl.v265 run_trip.sl.v377 run_trip.sl.v429 run_trip.sl.H8_2 run_trip.sl.v369 run_trip.sl.H8_3 run_trip.sl.v412 run_trip.sl.arg17 run_trip.sl.v400 run_trip.sl.v352 run_trip.sl.v399 run_trip.sl.v266 run_trip.sl.H13_1 run_trip.sl.v340 run_trip.sl.H7_1 run_trip.sl.v424
    simp only [readAt_win, readCov_win, read_cons, read_nil, window_256_512, put_256_512, window_1_512, put_1_512, VecWindow.window_put_same, hf3, hf4, hf9, hf7, hf8, hf10, hf11, hf12, hf13, hf14, hf15, trip, turnA, turnB]
    try rfl
  isplitl [H12]
  · iexists _; isplitr; swap; · iexact H12
    ipureintro
    delta run_trip.sl.v350 run_trip.sl.H10_1 run_trip.sl.v267 run_trip.sl.v416 run_trip.sl.v351 run_trip.sl.v411 run_trip.sl.v425 run_trip.sl.H15_1 run_trip.sl.v401 run_trip.sl.v265 run_trip.sl.v377 run_trip.sl.v429 run_trip.sl.H8_2 run_trip.sl.v369 run_trip.sl.H8_3 run_trip.sl.v412 run_trip.sl.arg17 run_trip.sl.v400 run_trip.sl.v352 run_trip.sl.v399 run_trip.sl.v266 run_trip.sl.H13_1 run_trip.sl.v340 run_trip.sl.H7_1 run_trip.sl.v424
    simp only [readAt_win, readCov_win, read_cons, read_nil, window_256_512, put_256_512, window_1_512, put_1_512, VecWindow.window_put_same, hf3, hf4, hf9, hf7, hf8, hf10, hf11, hf12, hf13, hf14, hf15, trip, turnA, turnB]
    try rfl
  isplitl [H13]
  · iexists _; isplitr; swap; · iexact H13
    ipureintro
    delta run_trip.sl.v350 run_trip.sl.H10_1 run_trip.sl.v267 run_trip.sl.v416 run_trip.sl.v351 run_trip.sl.v411 run_trip.sl.v425 run_trip.sl.H15_1 run_trip.sl.v401 run_trip.sl.v265 run_trip.sl.v377 run_trip.sl.v429 run_trip.sl.H8_2 run_trip.sl.v369 run_trip.sl.H8_3 run_trip.sl.v412 run_trip.sl.arg17 run_trip.sl.v400 run_trip.sl.v352 run_trip.sl.v399 run_trip.sl.v266 run_trip.sl.H13_1 run_trip.sl.v340 run_trip.sl.H7_1 run_trip.sl.v424
    simp only [readAt_win, readCov_win, read_cons, read_nil, window_256_512, put_256_512, window_1_512, put_1_512, VecWindow.window_put_same, hf3, hf4, hf9, hf7, hf8, hf10, hf11, hf12, hf13, hf14, hf15, trip, turnA, turnB]
    try rfl
  isplitl [H14]
  · iexists _; isplitr; swap; · iexact H14
    ipureintro
    delta run_trip.sl.v350 run_trip.sl.H10_1 run_trip.sl.v267 run_trip.sl.v416 run_trip.sl.v351 run_trip.sl.v411 run_trip.sl.v425 run_trip.sl.H15_1 run_trip.sl.v401 run_trip.sl.v265 run_trip.sl.v377 run_trip.sl.v429 run_trip.sl.H8_2 run_trip.sl.v369 run_trip.sl.H8_3 run_trip.sl.v412 run_trip.sl.arg17 run_trip.sl.v400 run_trip.sl.v352 run_trip.sl.v399 run_trip.sl.v266 run_trip.sl.H13_1 run_trip.sl.v340 run_trip.sl.H7_1 run_trip.sl.v424
    simp only [readAt_win, readCov_win, read_cons, read_nil, window_256_512, put_256_512, window_1_512, put_1_512, VecWindow.window_put_same, hf3, hf4, hf9, hf7, hf8, hf10, hf11, hf12, hf13, hf14, hf15, trip, turnA, turnB]
    try rfl
  iexists _; isplitr; swap; · iexact H15
  ipureintro
  delta run_trip.sl.v350 run_trip.sl.H10_1 run_trip.sl.v267 run_trip.sl.v416 run_trip.sl.v351 run_trip.sl.v411 run_trip.sl.v425 run_trip.sl.H15_1 run_trip.sl.v401 run_trip.sl.v265 run_trip.sl.v377 run_trip.sl.v429 run_trip.sl.H8_2 run_trip.sl.v369 run_trip.sl.H8_3 run_trip.sl.v412 run_trip.sl.arg17 run_trip.sl.v400 run_trip.sl.v352 run_trip.sl.v399 run_trip.sl.v266 run_trip.sl.H13_1 run_trip.sl.v340 run_trip.sl.H7_1 run_trip.sl.v424
  simp only [readAt_win, readCov_win, read_cons, read_nil, window_256_512, put_256_512, window_1_512, put_1_512, VecWindow.window_put_same, hf3, hf4, hf9, hf7, hf8, hf10, hf11, hf12, hf13, hf14, hf15, trip, turnA, turnB]
  try rfl

end Cert.KernelIdeal.Moba

end
-- ==== Proof.Moba.Tile.lean ====
/- The run of one tile of 256 queries, on values: the own block of keys, the loop over the pairs of past blocks, and
   what is left after the loop. -/
module

public import proofs.«01_k».proof.Proof.Moba.Trip
public import Idealize.ShloMosaic.Lib.Exec
public import Idealize.ShloMosaic.Lib.Tactic
public import Idealize.ShloMosaic.Lib.Pipeline.Kit
public import Idealize.ShloMosaic.Lib.VecWindow
public import Idealize.ShloMosaic.Lib.WholeRead
public import Idealize.ShloMosaic.Lib.LoopRemainder

@[expose] public section

noncomputable section

namespace Cert.KernelIdeal.Moba

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open VecWindow (window put)

variable {F : FTy → Type} [FloatOps F] [Named F]

local notation "𝕄" => MT nD τ sig Unit (Elt F) ℕ (UR sig nD τ) ℕ

/-- An odd tile has a turn left after its pairs, an even one has not: one of the two conditions holds. -/
theorem cond2_of_not : ∀ t1 : Fin k0_t1_loop.trips, ¬ k0_cond1 t1 = 1#1 → k0_cond2 t1 = 1#1 := by decide +kernel
theorem not_cond2 : ∀ t1 : Fin k0_t1_loop.trips, k0_cond1 t1 = 1#1 → ¬ k0_cond2 t1 = 1#1 := by decide +kernel

theorem not_cond1 : ∀ t1 : Fin k0_t1_loop.trips, k0_cond2 t1 = 1#1 → ¬ k0_cond1 t1 = 1#1 := by decide +kernel

/-- What is left of an odd tile: the block before the last, then the last. -/
def tailOdd (t1 : Fin k0_t1_loop.trips) (h : k0_cond1 t1 = 1#1) (v : Vec F S1x128x8192 .bf16) (bits : Vec F S1x512 .i32) (s : St F) : Vec F S2x80x256 .f32 :=
  let v0 := window v (k0_off7 t1) S1x128x256.size (k0_off7_inb t1 h)
  let v1 := window v (k0_off8 t1) S1x128x256.size (k0_off8_inb t1 h)
  let acc := putA1 (putA0 s.acc (k0_pay48 v0 (rowL s.a0) (getA0 s.acc) (colL s.p0))) (k0_pay50 (k0_pay49 v0 (rowR s.a0) (getA1 s.acc) (colR s.p0)))
  let a1 := k0_pay53 (Scf.iv 0#32 1#32 t1) s.s1 bits s.m
  let p1 := k0_pay54 (Scf.iv 0#32 1#32 t1) s.s1 bits s.m
  putA1 (putA0 acc (k0_pay58 v1 (rowL a1) (getA0 acc) (colL p1))) (k0_pay95 (k0_pay59 v1 (rowR a1) (getA1 acc) (colR p1)))

/-- What is left of an even tile: the last block. -/
def tailEven (t1 : Fin k0_t1_loop.trips) (h : k0_cond2 t1 = 1#1) (v : Vec F S1x128x8192 .bf16) (s : St F) : Vec F S2x80x256 .f32 :=
  let v0 := window v (k0_off9 t1) S1x128x256.size (k0_off9_inb t1 h)
  putA1 (putA0 s.acc (k0_pay62 v0 (rowL s.a0) (getA0 s.acc) (colL s.p0))) (k0_pay96 (k0_pay63 v0 (rowR s.a0) (getA1 s.acc) (colR s.p0)))

/-- The accumulators at the end of a tile. -/
def tailAcc (t1 : Fin k0_t1_loop.trips) (v : Vec F S1x128x8192 .bf16) (bits : Vec F S1x512 .i32) (s : St F) : Vec F S2x80x256 .f32 :=
  if h : k0_cond1 t1 = 1#1 then tailOdd t1 h v bits s else tailEven t1 (cond2_of_not t1 h) v s

/-- A tile of the result from the accumulators. -/
def outOf (x : Vec F S2x80x256 .f32) : FVec F S256x128 .bf16 :=
  k0_pay97 (window x ![0, 0, 0] S1x64x256.size inb_S2x80x256_S1x64x256_0_0_0) (window x ![0, 64, 0] S1x1x256.size inb_S2x80x256_S1x1x256_0_64_0)
    (window x ![1, 0, 0] S1x64x256.size inb_S2x80x256_S1x64x256_1_0_0) (window x ![1, 64, 0] S1x1x256.size inb_S2x80x256_S1x1x256_1_64_0)

/-- The scratch buffers at any contents. -/
abbrev ownAny (c : Dev nD) (arg7 : Memref sig .tc .vmem S1x512 .f32) (arg8 : Memref sig .tc .vmem S2x80x256 .f32) (arg9 : Memref sig .tc .vmem S1x512 .i32) (arg10 : Memref sig .tc .vmem S256x512 .f32) (arg11 : Memref sig .tc .vmem S256x512 .f32) (arg12 : Memref sig .tc .vmem S256x512 .bf16) (arg13 : Memref sig .tc .vmem S256x512 .bf16) (arg14 : Memref sig .tc .vmem S1x512 .f32) (arg15 : Memref sig .tc .vmem S1x512 .f32) : sProp 𝕄 :=
  iprop((∃ x, owns (c : Thread nD τ) arg7 fullShare x) ∗ (∃ x, owns (c : Thread nD τ) arg8 fullShare x) ∗ (∃ x, owns (c : Thread nD τ) arg9 fullShare x) ∗ (∃ x, owns (c : Thread nD τ) arg10 fullShare x) ∗ (∃ x, owns (c : Thread nD τ) arg11 fullShare x) ∗ (∃ x, owns (c : Thread nD τ) arg12 fullShare x) ∗ (∃ x, owns (c : Thread nD τ) arg13 fullShare x) ∗ (∃ x, owns (c : Thread nD τ) arg14 fullShare x) ∗ (∃ x, owns (c : Thread nD τ) arg15 fullShare x))

/-- The accumulators over two turns, as they are read back. -/
theorem acc_turns_any (x x' x'' : Vec F S2x80x256 .f32) (A B : Vec F S1x80x256 .f32) (f g : Vec F S1x80x256 .f32 → Vec F S1x80x256 .f32) :
    putA1 (putA0 x'' (f (getA0 (putA1 (putA0 x' A) B))))
        (g (getA1 (putA0 (putA1 (putA0 x' A) B) (f (getA0 (putA1 (putA0 x' A) B))))))
      = putA1 (putA0 (putA1 (putA0 x A) B) (f (getA0 (putA1 (putA0 x A) B)))) (g (getA1 (putA1 (putA0 x A) B))) := by
  simp only [getA1_putA0, getA0_putA1, getA0_putA0, getA1_putA1]
  exact putA1_putA0_any _ _ _ _

set_option maxHeartbeats 4000000 in
/-- The part of an odd tile after its loop. -/
theorem run_tailOdd (c : Dev nD) (i : grid0.Coords) (arg2 : Memref sig .tc .vmem S1x8192x128 .f32) (harg2 : arg2.IsWhole) (arg3 : Memref sig .tc .vmem S1x8192x128 .bf16) (harg3 : arg3.IsWhole) (arg4 : Memref sig .tc .vmem S1x128x8192 .bf16) (harg4 : arg4.IsWhole) (arg5 : Memref sig .tc .vmem S1x32x128 .f32) (harg5 : arg5.IsWhole) (arg6 : Memref sig .tc .vmem S1x8192x128 .bf16) (harg6 : arg6.IsWhole) (arg7 : Memref sig .tc .vmem S1x512 .f32) (harg7 : arg7.IsWhole) (arg8 : Memref sig .tc .vmem S2x80x256 .f32) (harg8 : arg8.IsWhole) (arg9 : Memref sig .tc .vmem S1x512 .i32) (harg9 : arg9.IsWhole) (arg10 : Memref sig .tc .vmem S256x512 .f32) (harg10 : arg10.IsWhole) (arg11 : Memref sig .tc .vmem S256x512 .f32) (harg11 : arg11.IsWhole) (arg12 : Memref sig .tc .vmem S256x512 .bf16) (harg12 : arg12.IsWhole) (arg13 : Memref sig .tc .vmem S256x512 .bf16) (harg13 : arg13.IsWhole) (arg14 : Memref sig .tc .vmem S1x512 .f32) (harg14 : arg14.IsWhole) (arg15 : Memref sig .tc .vmem S1x512 .f32) (harg15 : arg15.IsWhole)
    (t1 : Fin k0_t1_loop.trips) (h1 : k0_cond1 t1 = 1#1) (w2 w222 : BitVec 32) (w227 : BitVec 1) (w228 : BitVec 32)
    (v : Vec F S1x128x8192 .bf16) (o : Vec F S1x8192x128 .bf16) (bits : Vec F S1x512 .i32) (s : St F)
    (E : Set ℕ) (K : (Σ' (v260 : FVec F S256x128 .bf16), Vec F S1x256x128 .bf16) → sProp 𝕄) :
    iprop(owns (c : Thread nD τ) arg4 fullShare v ∗ owns (c : Thread nD τ) arg6 fullShare o ∗ owns (c : Thread nD τ) arg9 fullShare bits
        ∗ ownSt c arg7 arg8 arg10 arg11 arg12 arg13 arg14 arg15 s
        ∗ (∀ x, ∀ w, iprop(⌜x = outOf (tailOdd t1 h1 v bits s)⌝ ∗ owns (c : Thread nD τ) arg4 fullShare v ∗ owns (c : Thread nD τ) arg6 fullShare o
        ∗ ownAny c arg7 arg8 arg9 arg10 arg11 arg12 arg13 arg14 arg15) -∗ K ⟨x, w⟩))
      ⊢ wp frame (wpE (defs₀ (F := F)) Variants.none c none) E (k0_part21 i arg2 harg2 arg3 harg3 arg4 harg4 arg5 harg5 arg6 harg6 arg7 harg7 arg8 harg8 arg9 harg9 arg10 harg10 arg11 harg11 arg12 harg12 arg13 harg13 arg14 harg14 arg15 harg15 t1 (Scf.iv 0#32 1#32 t1) w2 w222 w227 w228) K := by
  have hn := not_cond2 t1 h1
  unfold ownSt ownAny owns
  iintro ⟨⟨%f4, %hf4, H4⟩, ⟨%f6, %hf6, H6⟩, ⟨%f9, %hf9, H9⟩, ⟨⟨%f7, %hf7, H7⟩, ⟨%f8, %hf8, H8⟩, ⟨%f10, %hf10, H10⟩, ⟨%f11, %hf11, H11⟩, ⟨%f12, %hf12, H12⟩, ⟨%f13, %hf13, H13⟩, ⟨%f14, %hf14, H14⟩, ⟨%f15, %hf15, H15⟩⟩, Hk⟩
  simp only [k0_part21_eq_skeleton]
  unfold k0_part21_skel
  simp only [k0_part11_eq_skeleton, k0_part12_eq_skeleton, k0_part13_eq_skeleton]
  unfold k0_part11_skel k0_part12_skel k0_part13_skel
  sl_exec
  sl_step
  iapply Hk
  isplitr
  · ipureintro
    delta run_tailOdd.sl.H13_1 run_tailOdd.sl.H15_1 run_tailOdd.sl.H8_2 run_tailOdd.sl.H8_3 run_tailOdd.sl.H8_4 run_tailOdd.sl.v246 run_tailOdd.sl.v248 run_tailOdd.sl.v252 run_tailOdd.sl.v254 run_tailOdd.sl.v291 run_tailOdd.sl.v344 run_tailOdd.sl.v345 run_tailOdd.sl.v349 run_tailOdd.sl.v357 run_tailOdd.sl.v358 run_tailOdd.sl.v362
    simp only [readAt_win, readCov_win, read_cons, read_nil, window_256_512, put_256_512, window_1_512, put_1_512, VecWindow.window_put_same, hf4, hf9, hf7, hf8, hf10, hf11, hf12, hf13, hf14, hf15]
    exact congrArg outOf (acc_turns_any s.acc _ _ _ _
      (fun w => k0_pay58 (window v (k0_off8 t1) S1x128x256.size (k0_off8_inb t1 h1)) (rowL (k0_pay53 (Scf.iv 0#32 1#32 t1) s.s1 bits s.m)) w
        (colL (k0_pay54 (Scf.iv 0#32 1#32 t1) s.s1 bits s.m)))
      (fun w => k0_pay95 (k0_pay59 (window v (k0_off8 t1) S1x128x256.size (k0_off8_inb t1 h1)) (rowR (k0_pay53 (Scf.iv 0#32 1#32 t1) s.s1 bits s.m)) w
        (colR (k0_pay54 (Scf.iv 0#32 1#32 t1) s.s1 bits s.m)))))
  isplitl [H4]
  · iexists _; isplitr; swap; · iexact H4
    ipureintro; exact hf4
  isplitl [H6]
  · iexists _; isplitr; swap; · iexact H6
    ipureintro; exact hf6
  isplitl [H7]
  · iexists _; iexists _; isplitr; swap; · iexact H7
    ipureintro; rfl
  isplitl [H8]
  · iexists _; iexists _; isplitr; swap; · iexact H8
    ipureintro; rfl
  isplitl [H9]
  · iexists _; iexists _; isplitr; swap; · iexact H9
    ipureintro; rfl
  isplitl [H10]
  · iexists _; iexists _; isplitr; swap; · iexact H10
    ipureintro; rfl
  isplitl [H11]
  · iexists _; iexists _; isplitr; swap; · iexact H11
    ipureintro; rfl
  isplitl [H12]
  · iexists _; iexists _; isplitr; swap; · iexact H12
    ipureintro; rfl
  isplitl [H13]
  · iexists _; iexists _; isplitr; swap; · iexact H13
    ipureintro; rfl
  isplitl [H14]
  · iexists _; iexists _; isplitr; swap; · iexact H14
    ipureintro; rfl
  iexists _; iexists _; isplitr; swap; · iexact H15
  ipureintro; rfl

set_option maxHeartbeats 4000000 in
/-- The part of an even tile after its loop. -/
theorem run_tailEven (c : Dev nD) (i : grid0.Coords) (arg2 : Memref sig .tc .vmem S1x8192x128 .f32) (harg2 : arg2.IsWhole) (arg3 : Memref sig .tc .vmem S1x8192x128 .bf16) (harg3 : arg3.IsWhole) (arg4 : Memref sig .tc .vmem S1x128x8192 .bf16) (harg4 : arg4.IsWhole) (arg5 : Memref sig .tc .vmem S1x32x128 .f32) (harg5 : arg5.IsWhole) (arg6 : Memref sig .tc .vmem S1x8192x128 .bf16) (harg6 : arg6.IsWhole) (arg7 : Memref sig .tc .vmem S1x512 .f32) (harg7 : arg7.IsWhole) (arg8 : Memref sig .tc .vmem S2x80x256 .f32) (harg8 : arg8.IsWhole) (arg9 : Memref sig .tc .vmem S1x512 .i32) (harg9 : arg9.IsWhole) (arg10 : Memref sig .tc .vmem S256x512 .f32) (harg10 : arg10.IsWhole) (arg11 : Memref sig .tc .vmem S256x512 .f32) (harg11 : arg11.IsWhole) (arg12 : Memref sig .tc .vmem S256x512 .bf16) (harg12 : arg12.IsWhole) (arg13 : Memref sig .tc .vmem S256x512 .bf16) (harg13 : arg13.IsWhole) (arg14 : Memref sig .tc .vmem S1x512 .f32) (harg14 : arg14.IsWhole) (arg15 : Memref sig .tc .vmem S1x512 .f32) (harg15 : arg15.IsWhole)
    (t1 : Fin k0_t1_loop.trips) (h2 : k0_cond2 t1 = 1#1) (w2 w222 : BitVec 32) (w227 : BitVec 1) (w228 : BitVec 32)
    (v : Vec F S1x128x8192 .bf16) (o : Vec F S1x8192x128 .bf16) (bits : Vec F S1x512 .i32) (s : St F)
    (E : Set ℕ) (K : (Σ' (v260 : FVec F S256x128 .bf16), Vec F S1x256x128 .bf16) → sProp 𝕄) :
    iprop(owns (c : Thread nD τ) arg4 fullShare v ∗ owns (c : Thread nD τ) arg6 fullShare o ∗ owns (c : Thread nD τ) arg9 fullShare bits
        ∗ ownSt c arg7 arg8 arg10 arg11 arg12 arg13 arg14 arg15 s
        ∗ (∀ x, ∀ w, iprop(⌜x = outOf (tailEven t1 h2 v s)⌝ ∗ owns (c : Thread nD τ) arg4 fullShare v ∗ owns (c : Thread nD τ) arg6 fullShare o
        ∗ ownAny c arg7 arg8 arg9 arg10 arg11 arg12 arg13 arg14 arg15) -∗ K ⟨x, w⟩))
      ⊢ wp frame (wpE (defs₀ (F := F)) Variants.none c none) E (k0_part21 i arg2 harg2 arg3 harg3 arg4 harg4 arg5 harg5 arg6 harg6 arg7 harg7 arg8 harg8 arg9 harg9 arg10 harg10 arg11 harg11 arg12 harg12 arg13 harg13 arg14 harg14 arg15 harg15 t1 (Scf.iv 0#32 1#32 t1) w2 w222 w227 w228) K := by
  have hn := not_cond1 t1 h2
  unfold ownSt ownAny owns
  iintro ⟨⟨%f4, %hf4, H4⟩, ⟨%f6, %hf6, H6⟩, ⟨%f9, %hf9, H9⟩, ⟨⟨%f7, %hf7, H7⟩, ⟨%f8, %hf8, H8⟩, ⟨%f10, %hf10, H10⟩, ⟨%f11, %hf11, H11⟩, ⟨%f12, %hf12, H12⟩, ⟨%f13, %hf13, H13⟩, ⟨%f14, %hf14, H14⟩, ⟨%f15, %hf15, H15⟩⟩, Hk⟩
  simp only [k0_part21_eq_skeleton]
  unfold k0_part21_skel
  simp only [k0_part14_eq_skeleton]
  unfold k0_part14_skel
  sl_exec
  sl_step
  iapply Hk
  isplitr
  · ipureintro
    delta run_tailEven.sl.H8_2 run_tailEven.sl.v246 run_tailEven.sl.v248 run_tailEven.sl.v252 run_tailEven.sl.v254 run_tailEven.sl.v290
    simp only [readAt_win, readCov_win, read_cons, read_nil, window_256_512, put_256_512, window_1_512, put_1_512, VecWindow.window_put_same, hf4, hf9, hf7, hf8, hf10, hf11, hf12, hf13, hf14, hf15]
    exact congrArg outOf (putA1_putA0_any _ s.acc _ _)
  isplitl [H4]
  · iexists _; isplitr; swap; · iexact H4
    ipureintro; exact hf4
  isplitl [H6]
  · iexists _; isplitr; swap; · iexact H6
    ipureintro; exact hf6
  isplitl [H7]
  · iexists _; iexists _; isplitr; swap; · iexact H7
    ipureintro; rfl
  isplitl [H8]
  · iexists _; iexists _; isplitr; swap; · iexact H8
    ipureintro; rfl
  isplitl [H9]
  · iexists _; iexists _; isplitr; swap; · iexact H9
    ipureintro; rfl
  isplitl [H10]
  · iexists _; iexists _; isplitr; swap; · iexact H10
    ipureintro; rfl
  isplitl [H11]
  · iexists _; iexists _; isplitr; swap; · iexact H11
    ipureintro; rfl
  isplitl [H12]
  · iexists _; iexists _; isplitr; swap; · iexact H12
    ipureintro; rfl
  isplitl [H13]
  · iexists _; iexists _; isplitr; swap; · iexact H13
    ipureintro; rfl
  isplitl [H14]
  · iexists _; iexists _; isplitr; swap; · iexact H14
    ipureintro; rfl
  iexists _; iexists _; isplitr; swap; · iexact H15
  ipureintro; rfl

/-- The queries of a tile, scaled, rounded and split by head. -/
def tileQ (t1 : Fin k0_t1_loop.trips) (qv : Vec F S1x8192x128 .f32) : FVec F S128x512 .bf16 :=
  k0_pay64 (window qv (k0_off1 t1) S1x256x128.size (k0_off1_inb t1))

/-- The blocks a tile's queries have picked, as the bits of a word. -/
def tileBits (t1 : Fin k0_t1_loop.trips) (qv : Vec F S1x8192x128 .f32) (km : Vec F S1x32x128 .f32) : Vec F S1x512 .i32 :=
  let x := window qv (k0_off1 t1) S1x256x128.size (k0_off1_inb t1)
  let i := Scf.iv 0#32 1#32 t1
  let n : IVec S32x512 32 := iota .tc S32x512 32 [0] iota_S32x512_d0_w32
  let g := k0_pay65 0#32 1#32 t1 x km
  let m := k0_pay67 0#32 1#32 t1 x km
  k0_pay74 (k0_pay71 i n g k0_pay66 m) (Scalar.cmpi .sgt i 2#32) (k0_pay72 n g m) k0_pay73

/-- Four blocks of 128 columns of a row. -/
def fillRow (x : Vec F S1x512 .f32) (a b c d : Vec F S1x128 .f32) : Vec F S1x512 .f32 :=
  put (put (put (put x ![0, 0] S1x128.size a) ![0, 128] S1x128.size b) ![0, 256] S1x128.size c) ![0, 384] S1x128.size d
def fillCol (x : Vec F S256x512 .bf16) (a b c d : Vec F S256x128 .bf16) : Vec F S256x512 .bf16 :=
  put (put (put (put x ![0, 0] S256x128.size a) ![0, 128] S256x128.size b) ![0, 256] S256x128.size c) ![0, 384] S256x128.size d

theorem fillRow_any (x x' : Vec F S1x512 .f32) (a b c d : Vec F S1x128 .f32) : fillRow x a b c d = fillRow x' a b c d := by
  funext y
  unfold fillRow put
  have h0 := (y 0).isLt; have h1 : (y 1).val < 512 := (y 1).isLt
  split
  · rfl
  · next e4 =>
    split
    · rfl
    · next e3 =>
      split
      · rfl
      · next e2 =>
        split
        · rfl
        · next e1 =>
          exfalso
          have h0' : (y 0).val < 1 := h0
          have n1 : ¬ (y 1).val < 128 := fun h => e1 fun a => by fin_cases a <;> simp <;> omega
          have n2 : ¬ (128 ≤ (y 1).val ∧ (y 1).val < 256) := fun h => e2 fun a => by fin_cases a <;> simp <;> omega
          have n3 : ¬ (256 ≤ (y 1).val ∧ (y 1).val < 384) := fun h => e3 fun a => by fin_cases a <;> simp <;> omega
          have n4 : ¬ (384 ≤ (y 1).val ∧ (y 1).val < 512) := fun h => e4 fun a => by fin_cases a <;> simp <;> omega
          omega

theorem fillCol_any (x x' : Vec F S256x512 .bf16) (a b c d : Vec F S256x128 .bf16) : fillCol x a b c d = fillCol x' a b c d := by
  funext y
  unfold fillCol put
  have h0 := (y 0).isLt; have h1 : (y 1).val < 512 := (y 1).isLt
  split
  · rfl
  · next e4 =>
    split
    · rfl
    · next e3 =>
      split
      · rfl
      · next e2 =>
        split
        · rfl
        · next e1 =>
          exfalso
          have h0' : (y 0).val < 256 := h0
          have n1 : ¬ (y 1).val < 128 := fun h => e1 fun a => by fin_cases a <;> simp <;> omega
          have n2 : ¬ (128 ≤ (y 1).val ∧ (y 1).val < 256) := fun h => e2 fun a => by fin_cases a <;> simp <;> omega
          have n3 : ¬ (256 ≤ (y 1).val ∧ (y 1).val < 384) := fun h => e3 fun a => by fin_cases a <;> simp <;> omega
          have n4 : ¬ (384 ≤ (y 1).val ∧ (y 1).val < 512) := fun h => e4 fun a => by fin_cases a <;> simp <;> omega
          omega

/-- The rows and columns of the own block that a quarter of the queries reads. -/
def quarter (x : Vec F S256x512 .f32) (o : Fin 2 → ℕ) (h : ∀ a, o a + S256x128.size a ≤ S256x512.size a) : Vec F S256x128 .f32 := window x o S256x128.size h

/-- The state a tile's loop starts from: the own block is done, its weights wait to be used; what the weights and
    factors of an odd block are is of no account. -/
def startSt (t1 : Fin k0_t1_loop.trips) (qv : Vec F S1x8192x128 .f32) (k : Vec F S1x8192x128 .bf16) (p1 : Vec F S256x512 .bf16) (a1 : Vec F S1x512 .f32) : St F :=
  let q := tileQ t1 qv
  let s0 := k0_pay75 q (window k (k0_off2 t1 0#32) S1x256x128.size (k0_off2_inb t1 0))
  let x := iota .tc S256x128 32 [0] iota_S256x128_d0_w32
  let y := iota .tc S256x128 32 [1] iota_S256x128_d1_w32
  let c0 := quarter s0 ![0, 0] inb_S256x512_S256x128_0_0
  let c1 := quarter s0 ![0, 128] inb_S256x512_S256x128_0_128
  let c2 := quarter s0 ![0, 256] inb_S256x512_S256x128_0_256
  let c3 := quarter s0 ![0, 384] inb_S256x512_S256x128_0_384
  { m := fillRow (k0_pay92 (F := F)) (k0_pay79 (k0_pay77 c0)) (k0_pay83 x y c1) (k0_pay87 x y c2) (k0_pay91 x y c3)
    acc := k0_pay93 (F := F)
    s0 := s0
    s1 := k0_pay94 q (window k (k0_off2 t1 1#32) S1x256x128.size (k0_off2_inb t1 1))
    p0 := fillCol (fun _ => Scalar.ofBits .bf16 0#16) (k0_pay78 c0) (k0_pay82 x y c1) (k0_pay86 x y c2) (k0_pay90 x y c3)
    p1 := p1
    a0 := k0_pay92 (F := F)
    a1 := a1 }

/-- The state after `n` trips. -/
def loopSt (t1 : Fin k0_t1_loop.trips) (q : FVec F S128x512 .bf16) (k : Vec F S1x8192x128 .bf16) (v : Vec F S1x128x8192 .bf16)
    (bits : Vec F S1x512 .i32) (s : St F) : ℕ → St F
  | 0 => s
  | n + 1 => if h : n < (k0_t2_loop t1).trips then trip t1 ⟨n, h⟩ q k v bits (loopSt t1 q k v bits s n) else loopSt t1 q k v bits s n

theorem loopSt_succ (t1 : Fin k0_t1_loop.trips) (q : FVec F S128x512 .bf16) (k : Vec F S1x8192x128 .bf16) (v : Vec F S1x128x8192 .bf16)
    (bits : Vec F S1x512 .i32) (s : St F) (n : Fin (k0_t2_loop t1).trips) :
    loopSt t1 q k v bits s (n.val + 1) = trip t1 n q k v bits (loopSt t1 q k v bits s n.val) := dif_pos n.isLt

theorem trip_odd (t1 : Fin k0_t1_loop.trips) (t2 : Fin (k0_t2_loop t1).trips) (q : FVec F S128x512 .bf16) (k : Vec F S1x8192x128 .bf16) (v : Vec F S1x128x8192 .bf16)
    (bits : Vec F S1x512 .i32) (m acc s0 s1 p0 p1 a0 a1 p1' a1') :
    trip t1 t2 q k v bits ⟨m, acc, s0, s1, p0, p1, a0, a1⟩ = trip t1 t2 q k v bits ⟨m, acc, s0, s1, p0, p1', a0, a1'⟩ := by
  unfold trip turnA
  dsimp only

theorem tailAcc_odd (t1 : Fin k0_t1_loop.trips) (v : Vec F S1x128x8192 .bf16)
    (bits : Vec F S1x512 .i32) (m acc s0 s1 p0 p1 a0 a1 p1' a1') :
    tailAcc t1 v bits ⟨m, acc, s0, s1, p0, p1, a0, a1⟩ = tailAcc t1 v bits ⟨m, acc, s0, s1, p0, p1', a0, a1'⟩ := by
  unfold tailAcc tailOdd tailEven
  dsimp only

/-- The end of a tile does not depend on what the weights and factors of an odd block were at its start. -/
theorem tail_start (t1 : Fin k0_t1_loop.trips) (qv : Vec F S1x8192x128 .f32) (q : FVec F S128x512 .bf16) (k : Vec F S1x8192x128 .bf16) (v : Vec F S1x128x8192 .bf16)
    (bits : Vec F S1x512 .i32) (p1 p1' : Vec F S256x512 .bf16) (a1 a1' : Vec F S1x512 .f32) (n : ℕ) :
    tailAcc t1 v bits (loopSt t1 q k v bits (startSt t1 qv k p1 a1) n) = tailAcc t1 v bits (loopSt t1 q k v bits (startSt t1 qv k p1' a1') n) := by
  have key : ∀ n, ∃ m acc s0 s1 p0 x x' a0 y y', loopSt t1 q k v bits (startSt t1 qv k p1 a1) n = ⟨m, acc, s0, s1, p0, x, a0, y⟩
      ∧ loopSt t1 q k v bits (startSt t1 qv k p1' a1') n = ⟨m, acc, s0, s1, p0, x', a0, y'⟩ := by
    intro n
    induction n with
    | zero => exact ⟨_, _, _, _, _, p1, p1', _, a1, a1', rfl, rfl⟩
    | succ n ih =>
      obtain ⟨m, acc, s0, s1, p0, x, x', a0, y, y', h, h'⟩ := ih
      unfold loopSt
      rw [h, h']
      split
      · rw [trip_odd t1 _ q k v bits m acc s0 s1 p0 x a0 y x' y']
        obtain ⟨m', acc', s0', s1', p0', p', a0', a'⟩ := trip t1 ⟨n, ‹_›⟩ q k v bits ⟨m, acc, s0, s1, p0, x', a0, y'⟩
        exact ⟨_, _, _, _, _, _, _, _, _, _, rfl, rfl⟩
      · exact ⟨_, _, _, _, _, _, _, _, _, _, rfl, rfl⟩
  obtain ⟨m, acc, s0, s1, p0, x, x', a0, y, y', h, h'⟩ := key n
  rw [h, h']
  exact tailAcc_odd ..

/-- A tile of the result. -/
def tileOut (t1 : Fin k0_t1_loop.trips) (qv : Vec F S1x8192x128 .f32) (k : Vec F S1x8192x128 .bf16) (v : Vec F S1x128x8192 .bf16) (km : Vec F S1x32x128 .f32) : FVec F S1x256x128 .bf16 :=
  k0_pay1 (outOf (tailAcc t1 v (tileBits t1 qv km) (loopSt t1 (tileQ t1 qv) k v (tileBits t1 qv km)
    (startSt t1 qv k (fun _ => Scalar.ofBits .bf16 0#16) (k0_pay92 (F := F))) (k0_t2_loop t1).trips)))

set_option maxHeartbeats 8000000 in
/-- The part of a tile that is its loop. -/
theorem run_loop (c : Dev nD) (i : grid0.Coords) (arg2 : Memref sig .tc .vmem S1x8192x128 .f32) (harg2 : arg2.IsWhole) (arg3 : Memref sig .tc .vmem S1x8192x128 .bf16) (harg3 : arg3.IsWhole) (arg4 : Memref sig .tc .vmem S1x128x8192 .bf16) (harg4 : arg4.IsWhole) (arg5 : Memref sig .tc .vmem S1x32x128 .f32) (harg5 : arg5.IsWhole) (arg6 : Memref sig .tc .vmem S1x8192x128 .bf16) (harg6 : arg6.IsWhole) (arg7 : Memref sig .tc .vmem S1x512 .f32) (harg7 : arg7.IsWhole) (arg8 : Memref sig .tc .vmem S2x80x256 .f32) (harg8 : arg8.IsWhole) (arg9 : Memref sig .tc .vmem S1x512 .i32) (harg9 : arg9.IsWhole) (arg10 : Memref sig .tc .vmem S256x512 .f32) (harg10 : arg10.IsWhole) (arg11 : Memref sig .tc .vmem S256x512 .f32) (harg11 : arg11.IsWhole) (arg12 : Memref sig .tc .vmem S256x512 .bf16) (harg12 : arg12.IsWhole) (arg13 : Memref sig .tc .vmem S256x512 .bf16) (harg13 : arg13.IsWhole) (arg14 : Memref sig .tc .vmem S1x512 .f32) (harg14 : arg14.IsWhole) (arg15 : Memref sig .tc .vmem S1x512 .f32) (harg15 : arg15.IsWhole)
    (t1 : Fin k0_t1_loop.trips) (q : FVec F S128x512 .bf16) (k2 : Vec F S1x256x128 .bf16)
    (k : Vec F S1x8192x128 .bf16) (v : Vec F S1x128x8192 .bf16) (bits : Vec F S1x512 .i32) (s s' : St F) (hs : { s with s1 := k0_pay94 q k2 } = s')
    (E : Set ℕ) (K : (Σ' (v222 : BitVec 32) (v227 : BitVec 1), BitVec 32) → sProp 𝕄) :
    iprop(owns (c : Thread nD τ) arg3 fullShare k ∗ owns (c : Thread nD τ) arg4 fullShare v ∗ owns (c : Thread nD τ) arg9 fullShare bits
        ∗ ownSt c arg7 arg8 arg10 arg11 arg12 arg13 arg14 arg15 s
        ∗ (∀ r, iprop(owns (c : Thread nD τ) arg3 fullShare k ∗ owns (c : Thread nD τ) arg4 fullShare v ∗ owns (c : Thread nD τ) arg9 fullShare bits
        ∗ ownSt c arg7 arg8 arg10 arg11 arg12 arg13 arg14 arg15 (loopSt t1 q k v bits s' (k0_t2_loop t1).trips)) -∗ K r))
      ⊢ wp frame (wpE (defs₀ (F := F)) Variants.none c none) E (k0_part20 i arg2 harg2 arg3 harg3 arg4 harg4 arg5 harg5 arg6 harg6 arg7 harg7 arg8 harg8 arg9 harg9 arg10 harg10 arg11 harg11 arg12 harg12 arg13 harg13 arg14 harg14 arg15 harg15 t1 (Scf.iv 0#32 1#32 t1) q k2) K := by
  subst hs
  unfold ownSt owns
  iintro ⟨⟨%f3, %hf3, H3⟩, ⟨%f4, %hf4, H4⟩, ⟨%f9, %hf9, H9⟩, ⟨⟨%f7, %hf7, H7⟩, ⟨%f8, %hf8, H8⟩, ⟨%f10, %hf10, H10⟩, ⟨%f11, %hf11, H11⟩, ⟨%f12, %hf12, H12⟩, ⟨%f13, %hf13, H13⟩, ⟨%f14, %hf14, H14⟩, ⟨%f15, %hf15, H15⟩⟩, Hk⟩
  simp only [k0_part20_eq_skeleton]
  unfold k0_part20_skel
  sl_exec
  sl_for (fun n _ => iprop(owns (c : Thread nD τ) arg3 fullShare k ∗ owns (c : Thread nD τ) arg4 fullShare v ∗ owns (c : Thread nD τ) arg9 fullShare bits
      ∗ ownSt c arg7 arg8 arg10 arg11 arg12 arg13 arg14 arg15 (loopSt t1 q k v bits { s with s1 := k0_pay94 q k2 } n))) $$ [H3 H4 H7 H8 H9 H10 H11 H12 H13 H14 H15]
  case region =>
    intro n a
    iintro ⟨H3, H4, H9, Hs⟩
    iapply (run_trip c i arg2 harg2 arg3 harg3 arg4 harg4 arg5 harg5 arg6 harg6 arg7 harg7 arg8 harg8 arg9 harg9 arg10 harg10 arg11 harg11 arg12 harg12 arg13 harg13 arg14 harg14 arg15 harg15 t1 _ q k2 n a k v bits _ E _)
    rw [loopSt_succ]
    isplitl [H3]; · iexact H3
    isplitl [H4]; · iexact H4
    isplitl [H9]; · iexact H9
    isplitl [Hs]; · iexact Hs
    iintro H
    iexact H
  · unfold ownSt owns
    isplitl [H3]
    · iexists _; isplitr; swap; · iexact H3
      ipureintro
      exact hf3
    isplitl [H4]
    · iexists _; isplitr; swap; · iexact H4
      ipureintro
      exact hf4
    isplitl [H9]
    · iexists _; isplitr; swap; · iexact H9
      ipureintro
      exact hf9
    isplitl [H7]
    · iexists _; isplitr; swap; · iexact H7
      ipureintro
      exact hf7
    isplitl [H8]
    · iexists _; isplitr; swap; · iexact H8
      ipureintro
      exact hf8
    isplitl [H10]
    · iexists _; isplitr; swap; · iexact H10
      ipureintro
      exact hf10
    isplitl [H11]
    · iexists _; isplitr; swap; · iexact H11
      ipureintro
      delta run_loop.sl.H11_1
      simp only [readAt_win, readCov_win, read_cons, read_nil, window_256_512, put_256_512]
      rfl
    isplitl [H12]
    · iexists _; isplitr; swap; · iexact H12
      ipureintro
      exact hf12
    isplitl [H13]
    · iexists _; isplitr; swap; · iexact H13
      ipureintro
      exact hf13
    isplitl [H14]
    · iexists _; isplitr; swap; · iexact H14
      ipureintro
      exact hf14
    iexists _; isplitr; swap; · iexact H15
    ipureintro
    exact hf15
  iintro %a H
  sl_exec
  sl_step
  iapply Hk
  iexact H

set_option maxHeartbeats 8000000 in
/-- A trip of the loop over the tiles. -/
theorem run_tile (c : Dev nD) (i : grid0.Coords) (arg2 : Memref sig .tc .vmem S1x8192x128 .f32) (harg2 : arg2.IsWhole) (arg3 : Memref sig .tc .vmem S1x8192x128 .bf16) (harg3 : arg3.IsWhole) (arg4 : Memref sig .tc .vmem S1x128x8192 .bf16) (harg4 : arg4.IsWhole) (arg5 : Memref sig .tc .vmem S1x32x128 .f32) (harg5 : arg5.IsWhole) (arg6 : Memref sig .tc .vmem S1x8192x128 .bf16) (harg6 : arg6.IsWhole) (arg7 : Memref sig .tc .vmem S1x512 .f32) (harg7 : arg7.IsWhole) (arg8 : Memref sig .tc .vmem S2x80x256 .f32) (harg8 : arg8.IsWhole) (arg9 : Memref sig .tc .vmem S1x512 .i32) (harg9 : arg9.IsWhole) (arg10 : Memref sig .tc .vmem S256x512 .f32) (harg10 : arg10.IsWhole) (arg11 : Memref sig .tc .vmem S256x512 .f32) (harg11 : arg11.IsWhole) (arg12 : Memref sig .tc .vmem S256x512 .bf16) (harg12 : arg12.IsWhole) (arg13 : Memref sig .tc .vmem S256x512 .bf16) (harg13 : arg13.IsWhole) (arg14 : Memref sig .tc .vmem S1x512 .f32) (harg14 : arg14.IsWhole) (arg15 : Memref sig .tc .vmem S1x512 .f32) (harg15 : arg15.IsWhole)
    (t1 : Fin k0_t1_loop.trips) (a : Unit)
    (qv : Vec F S1x8192x128 .f32) (k : Vec F S1x8192x128 .bf16) (v : Vec F S1x128x8192 .bf16) (km : Vec F S1x32x128 .f32) (o : Vec F S1x8192x128 .bf16)
    (E : Set ℕ) (K : Unit → sProp 𝕄) :
    iprop(owns (c : Thread nD τ) arg2 fullShare qv ∗ owns (c : Thread nD τ) arg3 fullShare k ∗ owns (c : Thread nD τ) arg4 fullShare v ∗ owns (c : Thread nD τ) arg5 fullShare km ∗ owns (c : Thread nD τ) arg6 fullShare o
        ∗ ownAny c arg7 arg8 arg9 arg10 arg11 arg12 arg13 arg14 arg15
        ∗ (iprop(owns (c : Thread nD τ) arg2 fullShare qv ∗ owns (c : Thread nD τ) arg3 fullShare k ∗ owns (c : Thread nD τ) arg4 fullShare v ∗ owns (c : Thread nD τ) arg5 fullShare km ∗ owns (c : Thread nD τ) arg6 fullShare (put o (k0_off1 t1) S1x256x128.size (tileOut t1 qv k v km))
        ∗ ownAny c arg7 arg8 arg9 arg10 arg11 arg12 arg13 arg14 arg15) -∗ K ()))
      ⊢ wp frame (wpE (defs₀ (F := F)) Variants.none c none) E (k0_t1_body i arg2 harg2 arg3 harg3 arg4 harg4 arg5 harg5 arg6 harg6 arg7 harg7 arg8 harg8 arg9 harg9 arg10 harg10 arg11 harg11 arg12 harg12 arg13 harg13 arg14 harg14 arg15 harg15 t1 a) K := by
  unfold ownAny owns
  iintro ⟨⟨%f2, %hf2, H2⟩, ⟨%f3, %hf3, H3⟩, ⟨%f4, %hf4, H4⟩, ⟨%f5, %hf5, H5⟩, ⟨%f6, %hf6, H6⟩, ⟨⟨%x7, %f7, %hf7, H7⟩, ⟨%x8, %f8, %hf8, H8⟩, ⟨%x9, %f9, %hf9, H9⟩, ⟨%x10, %f10, %hf10, H10⟩, ⟨%x11, %f11, %hf11, H11⟩, ⟨%x12, %f12, %hf12, H12⟩, ⟨%x13, %f13, %hf13, H13⟩, ⟨%x14, %f14, %hf14, H14⟩, ⟨%x15, %f15, %hf15, H15⟩⟩, Hk⟩
  unfold k0_t1_body
  generalize hP20 : k0_part20 (F := F) i arg2 harg2 arg3 harg3 arg4 harg4 arg5 harg5 arg6 harg6 arg7 harg7 arg8 harg8 arg9 harg9 arg10 harg10 arg11 harg11 arg12 harg12 arg13 harg13 arg14 harg14 arg15 harg15 t1 = P20
  generalize hP21 : k0_part21 (F := F) i arg2 harg2 arg3 harg3 arg4 harg4 arg5 harg5 arg6 harg6 arg7 harg7 arg8 harg8 arg9 harg9 arg10 harg10 arg11 harg11 arg12 harg12 arg13 harg13 arg14 harg14 arg15 harg15 t1 = P21
  simp only [k0_part15_eq_skeleton, k0_part16_eq_skeleton, k0_part17_eq_skeleton, k0_part18_eq_skeleton, k0_part19_eq_skeleton]
  unfold k0_part15_skel k0_part16_skel k0_part17_skel k0_part18_skel k0_part19_skel
  sl_exec
  simp only [readAt_win, hf2, hf3, hf5]
  rw [wp_bind]
  subst hP20
  iapply (run_loop c i arg2 harg2 arg3 harg3 arg4 harg4 arg5 harg5 arg6 harg6 arg7 harg7 arg8 harg8 arg9 harg9 arg10 harg10 arg11 harg11 arg12 harg12 arg13 harg13 arg14 harg14 arg15 harg15 t1 (tileQ t1 qv) (window k (k0_off2 t1 1#32) S1x256x128.size (k0_off2_inb t1 1)) k v (tileBits t1 qv km)
    { startSt t1 qv k (View.read (Elt F) arg13.view f13) (View.read (Elt F) arg15.view f15) with s1 := View.read (Elt F) arg11.view f11 } (startSt t1 qv k (View.read (Elt F) arg13.view f13) (View.read (Elt F) arg15.view f15)) rfl E _)
  unfold ownSt owns
  isplitl [H3]
  · iexists _; isplitr; swap; · iexact H3
    ipureintro
    exact hf3
  isplitl [H4]
  · iexists _; isplitr; swap; · iexact H4
    ipureintro
    exact hf4
  isplitl [H9]
  · iexists _; isplitr; swap; · iexact H9
    ipureintro
    delta run_tile.sl.H10_1 run_tile.sl.arg16 run_tile.sl.v1 run_tile.sl.v103 run_tile.sl.v104 run_tile.sl.v108 run_tile.sl.v126 run_tile.sl.v144 run_tile.sl.v162 run_tile.sl.v31 run_tile.sl.v81
    simp only [readAt_win, readCov_win, read_cons, read_nil, window_256_512, put_256_512, window_1_512, put_1_512, window_1_32_128, put_2_80_256, VecWindow.window_put_same, hf2, hf3, hf5]
    rfl
  isplitl [H7 H8 H10 H11 H12 H13 H14 H15]
  · isplitl [H7]
    · iexists _; isplitr; swap; · iexact H7
      ipureintro
      delta run_tile.sl.H10_1 run_tile.sl.arg16 run_tile.sl.v1 run_tile.sl.v103 run_tile.sl.v104 run_tile.sl.v108 run_tile.sl.v126 run_tile.sl.v144 run_tile.sl.v162 run_tile.sl.v31 run_tile.sl.v81
      simp only [readAt_win, readCov_win, read_cons, read_nil, window_256_512, put_256_512, window_1_512, put_1_512, window_1_32_128, put_2_80_256, VecWindow.window_put_same, hf2, hf3, hf5]
      exact fillRow_any _ _ _ _ _ _
    isplitl [H8]
    · iexists _; isplitr; swap; · iexact H8
      ipureintro
      simp only [readAt_win, readCov_win, read_cons, read_nil, window_256_512, put_256_512, window_1_512, put_1_512, window_1_32_128, put_2_80_256, VecWindow.window_put_same, hf2, hf3, hf5]
      rfl
    isplitl [H10]
    · iexists _; isplitr; swap; · iexact H10
      ipureintro
      delta run_tile.sl.H10_1 run_tile.sl.arg16 run_tile.sl.v1 run_tile.sl.v103 run_tile.sl.v104 run_tile.sl.v108 run_tile.sl.v126 run_tile.sl.v144 run_tile.sl.v162 run_tile.sl.v31 run_tile.sl.v81
      simp only [readAt_win, readCov_win, read_cons, read_nil, window_256_512, put_256_512, window_1_512, put_1_512, window_1_32_128, put_2_80_256, VecWindow.window_put_same, hf2, hf3, hf5]
      rfl
    isplitl [H11]
    · iexists _; isplitr; swap; · iexact H11
      ipureintro
      rfl
    isplitl [H12]
    · iexists _; isplitr; swap; · iexact H12
      ipureintro
      delta run_tile.sl.H10_1 run_tile.sl.arg16 run_tile.sl.v1 run_tile.sl.v103 run_tile.sl.v104 run_tile.sl.v108 run_tile.sl.v126 run_tile.sl.v144 run_tile.sl.v162 run_tile.sl.v31 run_tile.sl.v81
      simp only [readAt_win, readCov_win, read_cons, read_nil, window_256_512, put_256_512, window_1_512, put_1_512, window_1_32_128, put_2_80_256, VecWindow.window_put_same, hf2, hf3, hf5]
      exact fillCol_any _ _ _ _ _ _
    isplitl [H13]
    · iexists _; isplitr; swap; · iexact H13
      ipureintro
      rfl
    isplitl [H14]
    · iexists _; isplitr; swap; · iexact H14
      ipureintro
      simp only [readAt_win, readCov_win, read_cons, read_nil, window_256_512, put_256_512, window_1_512, put_1_512, window_1_32_128, put_2_80_256, VecWindow.window_put_same, hf2, hf3, hf5]
      rfl
    iexists _; isplitr; swap; · iexact H15
    ipureintro
    rfl
  iintro %r ⟨H3, H4, H9, Hs⟩
  rw [wp_bind]
  subst hP21
  by_cases h1 : k0_cond1 t1 = 1#1
  · iapply (run_tailOdd c i arg2 harg2 arg3 harg3 arg4 harg4 arg5 harg5 arg6 harg6 arg7 harg7 arg8 harg8 arg9 harg9 arg10 harg10 arg11 harg11 arg12 harg12 arg13 harg13 arg14 harg14 arg15 harg15 t1 h1 _ _ _ _ v o (tileBits t1 qv km) (loopSt t1 (tileQ t1 qv) k v (tileBits t1 qv km) (startSt t1 qv k (View.read (Elt F) arg13.view f13) (View.read (Elt F) arg15.view f15)) (k0_t2_loop t1).trips) E _)
    unfold owns
    isplitl [H4]; · iexact H4
    isplitl [H6]
    · iexists _; isplitr; swap; · iexact H6
      ipureintro; exact hf6
    isplitl [H9]; · iexact H9
    isplitl [Hs]; · iexact Hs
    iintro %x %w ⟨%hx, H4, ⟨%g6, %hg6, H6⟩, Hs⟩
    sl_exec
    sl_step
    iapply Hk
    isplitl [H2]
    · iexists _; isplitr; swap; · iexact H2
      ipureintro; exact hf2
    isplitl [H3]; · iexact H3
    isplitl [H4]; · iexact H4
    isplitl [H5]
    · iexists _; isplitr; swap; · iexact H5
      ipureintro; exact hf5
    isplitl [H6]
    · iexists _; isplitr; swap; · iexact H6
      ipureintro
      rw [read_cons, read_nil, hg6]
      refine congrArg (fun z => put o _ _ (k0_pay1 z)) (hx.trans (congrArg outOf ?_))
      exact (dif_pos h1).symm.trans (tail_start ..)
    iexact Hs
  · iapply (run_tailEven c i arg2 harg2 arg3 harg3 arg4 harg4 arg5 harg5 arg6 harg6 arg7 harg7 arg8 harg8 arg9 harg9 arg10 harg10 arg11 harg11 arg12 harg12 arg13 harg13 arg14 harg14 arg15 harg15 t1 (cond2_of_not t1 h1) _ _ _ _ v o (tileBits t1 qv km) (loopSt t1 (tileQ t1 qv) k v (tileBits t1 qv km) (startSt t1 qv k (View.read (Elt F) arg13.view f13) (View.read (Elt F) arg15.view f15)) (k0_t2_loop t1).trips) E _)
    unfold owns
    isplitl [H4]; · iexact H4
    isplitl [H6]
    · iexists _; isplitr; swap; · iexact H6
      ipureintro; exact hf6
    isplitl [H9]; · iexact H9
    isplitl [Hs]; · iexact Hs
    iintro %x %w ⟨%hx, H4, ⟨%g6, %hg6, H6⟩, Hs⟩
    sl_exec
    sl_step
    iapply Hk
    isplitl [H2]
    · iexists _; isplitr; swap; · iexact H2
      ipureintro; exact hf2
    isplitl [H3]; · iexact H3
    isplitl [H4]; · iexact H4
    isplitl [H5]
    · iexists _; isplitr; swap; · iexact H5
      ipureintro; exact hf5
    isplitl [H6]
    · iexists _; isplitr; swap; · iexact H6
      ipureintro
      rw [read_cons, read_nil, hg6]
      refine congrArg (fun z => put o _ _ (k0_pay1 z)) (hx.trans (congrArg outOf ?_))
      exact (dif_neg h1).symm.trans (tail_start ..)
    iexact Hs

end Cert.KernelIdeal.Moba

end
-- ==== Proof.Moba.Body.lean ====
/- The run of the kernel's body: the loop over the tiles, and the launch. -/
module

public import proofs.«01_k».proof.Proof.Moba.Tile
public import proofs.«01_k».proof.Proof.Gen.KernelIdeal.Frame
public import proofs.«01_k».proof.Proof.Gen.KernelIdeal.Launch
public import proofs.«01_k».proof.Proof.Gen.KernelIdeal.Points
public import Idealize.ShloMosaic.PureOps.BitExact

@[expose] public section

noncomputable section

namespace Cert.KernelIdeal.Moba

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf ΦA)
open VecWindow (window put)

variable {F : FTy → Type} [FloatOps F] [Named F]

local notation "𝕄" => MT nD τ sig Unit (Elt F) ℕ (UR sig nD τ) ℕ

/-- An index of the block, within its tile. -/
def inTile (y : S1x8192x128.Idx) : S1x256x128.Idx := fun a => ⟨![0, (y 1).val % 256, (y 2).val] a, by
  fin_cases a
  · exact Nat.zero_lt_one
  · exact Nat.mod_lt _ (by decide)
  · exact (y 2).isLt⟩

/-- What the body leaves in the block of the result: each tile of 256 rows. -/
def blockOut (qv : Vec F S1x8192x128 .f32) (k : Vec F S1x8192x128 .bf16) (v : Vec F S1x128x8192 .bf16) (km : Vec F S1x32x128 .f32) : Vec F S1x8192x128 .bf16 :=
  fun y => tileOut (⟨(y 1).val / 256, by have h : (y 1).val < 8192 := (y 1).isLt; show _ < 32; omega⟩ : Fin k0_t1_loop.trips) qv k v km
    (inTile y)

/-- A tile put leaves the rows up to its end at the body's values, if those before it are. -/
theorem put_tile (qv : Vec F S1x8192x128 .f32) (k : Vec F S1x8192x128 .bf16) (v : Vec F S1x128x8192 .bf16) (km : Vec F S1x32x128 .f32)
    (t1 : Fin k0_t1_loop.trips) (o : Vec F S1x8192x128 .bf16) (h : ∀ y, (y 1).val < 256 * t1.val → o y = blockOut qv k v km y)
    (y : S1x8192x128.Idx) (hy : (y 1).val < 256 * (t1.val + 1)) :
    put o (k0_off1 t1) S1x256x128.size (tileOut t1 qv k v km) y = blockOut qv k v km y := by
  rw [k0_off1_eq]
  unfold put
  split
  · next hm =>
    have h1 := hm 1
    have h1a : 256 * t1.val ≤ (y 1).val := h1.1
    have e : (⟨(y 1).val / 256, by have h : (y 1).val < 8192 := (y 1).isLt; show _ < 32; omega⟩ : Fin k0_t1_loop.trips) = t1 :=
      Fin.ext (by show (y 1).val / 256 = t1.val; omega)
    unfold blockOut
    rw [e]
    refine congrArg (tileOut t1 qv k v km) (funext fun a => Fin.ext ?_)
    fin_cases a
    · show (y 0).val - 0 = 0
      have : (y 0).val < 1 := (y 0).isLt
      omega
    · show (y 1).val - 256 * t1.val = (y 1).val % 256
      omega
    · show (y 2).val - 0 = (y 2).val
      omega
  · next hm =>
    refine h y ?_
    by_contra hc
    refine hm fun a => ?_
    match a with
    | ⟨0, _⟩ => exact ⟨Nat.zero_le _, lt_of_lt_of_eq (y 0).isLt (Nat.zero_add 1).symm⟩
    | ⟨1, _⟩ =>
      refine ⟨?_, ?_⟩
      · show 256 * t1.val ≤ (y 1).val
        omega
      · show (y 1).val < 256 * t1.val + 256
        omega
    | ⟨2, _⟩ => exact ⟨Nat.zero_le _, lt_of_lt_of_eq (y 2).isLt (Nat.zero_add 128).symm⟩

set_option maxHeartbeats 4000000 in
/-- The body, on the blocks of a point and the scratch buffers. -/
theorem run_body (c : Dev nD) (i : grid0.Coords) (arg2 : Memref sig .tc .vmem S1x8192x128 .f32) (harg2 : arg2.IsWhole) (arg3 : Memref sig .tc .vmem S1x8192x128 .bf16) (harg3 : arg3.IsWhole) (arg4 : Memref sig .tc .vmem S1x128x8192 .bf16) (harg4 : arg4.IsWhole) (arg5 : Memref sig .tc .vmem S1x32x128 .f32) (harg5 : arg5.IsWhole) (arg6 : Memref sig .tc .vmem S1x8192x128 .bf16) (harg6 : arg6.IsWhole) (arg7 : Memref sig .tc .vmem S1x512 .f32) (harg7 : arg7.IsWhole) (arg8 : Memref sig .tc .vmem S2x80x256 .f32) (harg8 : arg8.IsWhole) (arg9 : Memref sig .tc .vmem S1x512 .i32) (harg9 : arg9.IsWhole) (arg10 : Memref sig .tc .vmem S256x512 .f32) (harg10 : arg10.IsWhole) (arg11 : Memref sig .tc .vmem S256x512 .f32) (harg11 : arg11.IsWhole) (arg12 : Memref sig .tc .vmem S256x512 .bf16) (harg12 : arg12.IsWhole) (arg13 : Memref sig .tc .vmem S256x512 .bf16) (harg13 : arg13.IsWhole) (arg14 : Memref sig .tc .vmem S1x512 .f32) (harg14 : arg14.IsWhole) (arg15 : Memref sig .tc .vmem S1x512 .f32) (harg15 : arg15.IsWhole)
    (qv : Vec F S1x8192x128 .f32) (k : Vec F S1x8192x128 .bf16) (v : Vec F S1x128x8192 .bf16) (km : Vec F S1x32x128 .f32)
    (E : Set ℕ) (K : PUnit → sProp 𝕄) :
    iprop(owns (c : Thread nD τ) arg2 fullShare qv ∗ owns (c : Thread nD τ) arg3 fullShare k ∗ owns (c : Thread nD τ) arg4 fullShare v ∗ owns (c : Thread nD τ) arg5 fullShare km ∗ (∃ o, owns (c : Thread nD τ) arg6 fullShare o)
        ∗ ownAny c arg7 arg8 arg9 arg10 arg11 arg12 arg13 arg14 arg15
        ∗ (iprop(owns (c : Thread nD τ) arg2 fullShare qv ∗ owns (c : Thread nD τ) arg3 fullShare k ∗ owns (c : Thread nD τ) arg4 fullShare v ∗ owns (c : Thread nD τ) arg5 fullShare km ∗ owns (c : Thread nD τ) arg6 fullShare (blockOut qv k v km)
        ∗ ownAny c arg7 arg8 arg9 arg10 arg11 arg12 arg13 arg14 arg15) -∗ K ⟨⟩))
      ⊢ wp frame (wpE (defs₀ (F := F)) Variants.none c none) E (cc0_moba i arg2 harg2 arg3 harg3 arg4 harg4 arg5 harg5 arg6 harg6 arg7 harg7 arg8 harg8 arg9 harg9 arg10 harg10 arg11 harg11 arg12 harg12 arg13 harg13 arg14 harg14 arg15 harg15) K := by
  rw [cc0_moba_eq_skeleton]
  unfold cc0_moba_skel
  iintro ⟨H2, H3, H4, H5, ⟨%o, H6⟩, Hs, Hk⟩
  sl_for (fun n _ => iprop(owns (c : Thread nD τ) arg2 fullShare qv ∗ owns (c : Thread nD τ) arg3 fullShare k ∗ owns (c : Thread nD τ) arg4 fullShare v ∗ owns (c : Thread nD τ) arg5 fullShare km
      ∗ (∃ o : Vec F S1x8192x128 .bf16, ⌜∀ y, (y 1).val < 256 * n → o y = blockOut qv k v km y⌝ ∗ owns (c : Thread nD τ) arg6 fullShare o)
      ∗ ownAny c arg7 arg8 arg9 arg10 arg11 arg12 arg13 arg14 arg15)) $$ [H2 H3 H4 H5 H6 Hs]
  case region =>
    intro n a
    iintro ⟨H2, H3, H4, H5, ⟨%x, %hx, H6⟩, Hs⟩
    iapply (run_tile c i arg2 harg2 arg3 harg3 arg4 harg4 arg5 harg5 arg6 harg6 arg7 harg7 arg8 harg8 arg9 harg9 arg10 harg10 arg11 harg11 arg12 harg12 arg13 harg13 arg14 harg14 arg15 harg15 n a qv k v km x E _)
    isplitl [H2]; · iexact H2
    isplitl [H3]; · iexact H3
    isplitl [H4]; · iexact H4
    isplitl [H5]; · iexact H5
    isplitl [H6]; · iexact H6
    isplitl [Hs]; · iexact Hs
    iintro ⟨H2, H3, H4, H5, H6, Hs⟩
    isplitl [H2]; · iexact H2
    isplitl [H3]; · iexact H3
    isplitl [H4]; · iexact H4
    isplitl [H5]; · iexact H5
    isplitl [H6]
    · iexists _; isplitr; swap; · iexact H6
      ipureintro
      exact put_tile qv k v km n x hx
    iexact Hs
  · isplitl [H2]; · iexact H2
    isplitl [H3]; · iexact H3
    isplitl [H4]; · iexact H4
    isplitl [H5]; · iexact H5
    isplitl [H6]
    · iexists o; isplitr; swap; · iexact H6
      ipureintro
      intro y hy
      exact absurd hy (Nat.not_lt_zero _)
    iexact Hs
  iintro %a ⟨H2, H3, H4, H5, ⟨%x, %hx, H6⟩, Hs⟩
  have e : x = blockOut qv k v km := funext fun y => hx y (by
    have : (y 1).val < 8192 := (y 1).isLt
    show (y 1).val < 256 * 32
    omega)
  subst e
  sl_step
  iapply Hk
  isplitl [H2]; · iexact H2
  isplitl [H3]; · iexact H3
  isplitl [H4]; · iexact H4
  isplitl [H5]; · iexact H5
  isplitl [H6]; · iexact H6
  iexact Hs

variable (m : (ℓ : Loc nD τ sig) → Buf (Elt F) ℓ) (ρ : Dev nD → PrngReg)

/-- The block of the result at a point of the grid. -/
def outsAt (c : Dev nD) (t : Fin cfg0.N) : Vec F S1x8192x128 .bf16 :=
  blockOut (iblk m c 0 t) (iblk m c 1 t) (iblk m c 2 t) (iblk m c 3 t)

/-- The pipeline's data: each input's buffer at its block, the result's at the body's. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => outsAt m c t
  Φ _ := Pipeline.ΦA spec0 c
  q _ := fullShare
  owed _ := 0

theorem A_eq (c : Dev nD) (w : Fin cfg0.W) : (dats m 0 c).A w = V m c (Pipeline.arrRef spec0 w) := rfl
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = outsAt m c t := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d

/-- The scratch buffers, whole, as the body takes them. -/
theorem scratch_eq (c : Dev nD) :
    (Pipeline.scopedRest (Ix := Unit) (Name := ℕ) (U := UR sig nD τ) (Lvl := ℕ) (Val := Elt F) spec0 c : sProp 𝕄)
      = ownAny c (Memref.whole cc0_scratch0) (Memref.whole cc0_scratch1) (Memref.whole cc0_scratch2) (Memref.whole cc0_scratch3) (Memref.whole cc0_scratch4) (Memref.whole cc0_scratch5) (Memref.whole cc0_scratch6) (Memref.whole cc0_scratch7) (Memref.whole cc0_scratch8) := by
  rw [scopedRest0_eq]
  unfold ownAny
  have e : ∀ b : Ref sig .tc, (iprop(∃ f : Buf (Elt F) ((c : Thread nD τ).loc b), ((c : Thread nD τ).loc b) ↦{fullShare} f) : sProp 𝕄)
      = iprop(∃ x, owns (c : Thread nD τ) (Memref.whole b) fullShare x) := fun b =>
    congrArg _ (funext fun x => (owns_whole (c : Thread nD τ) b fullShare x).symm)
  simp only [e]
  rfl

/-- The body at every point of the grid. -/
theorem body_obligation (c : Dev nD) : BodyObligation (dats (F := F) m 0 c) (defs₀ (F := F)) Variants.none () Set.univ := fun t => by
  rw [bigSep_W0, bigSep_W0]
  sl_whnfR [defs₀, Defs.onTc]
  simp only [before0_0, before0_1, before0_2, before0_3]
  rw [show (dats m 0 c).Φ t.succ = (dats m 0 c).Φ t.castSucc from rfl,
    show (dats m 0 c).owesAt () t.succ = (dats m 0 c).owesAt () t.castSucc from rfl, after0_0, after0_1, after0_2, after0_3, after0_4]
  rw [show (dats m 0 c).Φ t.castSucc = iprop(ownAny c (Memref.whole cc0_scratch0) (Memref.whole cc0_scratch1) (Memref.whole cc0_scratch2) (Memref.whole cc0_scratch3) (Memref.whole cc0_scratch4) (Memref.whole cc0_scratch5) (Memref.whole cc0_scratch6) (Memref.whole cc0_scratch7) (Memref.whole cc0_scratch8) ∗ ∃ r, prngReg c r) from
    congrArg (fun z => iprop(z ∗ ∃ r, prngReg c r)) (scratch_eq c)]
  unfold outsAt
  iintro ⟨⟨Hs, Hr⟩, Ho, ⟨%d0, H0⟩, ⟨%d1, H1⟩, ⟨%d2, H2⟩, ⟨%d3, H3⟩, ⟨%d4, H4⟩⟩
  iapply (run_body c _ _ _ _ _ _ _ _ _ _ _ _ _ _ _ _ _ _ _ _ _ _ _ _ _ _ _ _ _ (iblk m c 0 t) (iblk m c 1 t) (iblk m c 2 t) (iblk m c 3 t) Set.univ _)
  isplitl [H0]; · iexact H0
  isplitl [H1]; · iexact H1
  isplitl [H2]; · iexact H2
  isplitl [H3]; · iexact H3
  isplitl [H4]; · iexists _; iexact H4
  isplitl [Hs]; · iexact Hs
  iintro ⟨H0, H1, H2, H3, H4, Hs⟩
  isplitl [Hs Hr]
  · isplitl [Hs]; · iexact Hs
    iexact Hr
  isplitl [Ho]; · iexact Ho
  isplitl [H0]; · iexact H0
  isplitl [H1]; · iexact H1
  isplitl [H2]; · iexact H2
  isplitl [H3]; · iexact H3
  iexact H4

set_option backward.isDefEq.respectTransparency.types false in
/-- The launch: every array of the pipeline ends at what the data say, and every counter at zero. -/
theorem run_main : θ_run defs (onTc (τ := τ) (main (F := F))) (s₀ m ρ)
    (fun r => Pipeline.FramePost cfgs (dats m) 0 (V m) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := fun _ _ => rfl) (hΦ := fun _ _ => rfl)

/-- The frame, for any float values. -/
theorem frame_any : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  θ_run_with_sems (frame_of m ρ (dats m) fun _ _ => rfl) (run_main m ρ)

end Cert.KernelIdeal.Moba

end
-- ==== Proof.Moba.Frames.lean ====
/- The frames of both printed programs, of one run. -/
module

public import proofs.«01_k».proof.Proof.Moba.Body
public import proofs.«01_k».proof.Proof.Gen.Kernel
public import proofs.«01_k».proof.Kernel

@[expose] public section

noncomputable section

namespace Cert.Proof

open Idealize.ShloMosaic Idealize.SL.Sem

/-- At the bits, a named constant is the literal it stands at. -/
local instance bitsNamed : Named Bits := ⟨fun _ _ _ bits => Scalar.ofBits _ bits⟩

/-- The body tables of the two printed programs agree at the bits. -/
theorem defs0_eq : Cert.Kernel.defs₀ (F := Bits) = Cert.KernelIdeal.defs₀ (F := Bits) := by
  unfold Cert.Kernel.defs₀ Cert.KernelIdeal.defs₀
  refine congrArg Defs.onTc (funext fun l => funext fun x => ?_)
  match l, x with
  | ⟨0, _⟩, (t, s) => rfl
  | ⟨_ + 1, h⟩, _ => exact absurd h (Nat.not_lt.2 (Nat.le_add_left _ _))

theorem defs_eq : Cert.Kernel.defs (F := Bits) = Cert.KernelIdeal.defs (F := Bits) := by
  unfold Cert.Kernel.defs Cert.KernelIdeal.defs
  rw [defs0_eq]
  rfl

theorem frame_kernel (m : (ℓ : Loc Cert.Kernel.nD Cert.Kernel.τ Cert.Kernel.sig) → Buf (Elt Bits) ℓ) (g : Dev Cert.Kernel.nD → PrngReg) :
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0) := by
  rw [defs_eq]
  exact Cert.KernelIdeal.Moba.frame_any (F := Bits) m g

end Cert.Proof

end
-- ==== Proof.Moba.Pick.lean ====
/- The blocks a query picks: the first three places of an order by gate, the greater first and of two alike the earlier,
   reached by three rounds of "the greatest, the first of them, struck out" and by a stable sort alike. -/
module

public import Idealize.ShloMosaic.Lib.Pointwise
public import Idealize.ShloMosaic.Lib.SortFacts

@[expose] public section

noncomputable section

namespace Cert.Moba

open Idealize.ShloMosaic
open scoped Classical

variable {n : ℕ}

/-- Block `a` comes before block `b`: its gate is greater, or as great and it is the earlier. -/
def ahead (g : Fin n → EReal) (a b : Fin n) : Prop := g b < g a ∨ (g a = g b ∧ a < b)

theorem ahead_irrefl (g : Fin n → EReal) (a : Fin n) : ¬ ahead g a a := fun h => h.elim (lt_irrefl _) (fun h => lt_irrefl _ h.2)

theorem ahead_trans {g : Fin n → EReal} {a b c : Fin n} (h : ahead g a b) (h' : ahead g b c) : ahead g a c := by
  rcases h with h | ⟨h, i⟩ <;> rcases h' with h' | ⟨h', i'⟩
  · exact .inl (h'.trans h)
  · exact .inl (h' ▸ h)
  · exact .inl (h ▸ h')
  · exact .inr ⟨h.trans h', i.trans i'⟩

theorem ahead_total (g : Fin n → EReal) {a b : Fin n} (h : a ≠ b) : ahead g a b ∨ ahead g b a := by
  rcases lt_trichotomy (g a) (g b) with e | e | e
  · exact .inr (.inl e)
  · rcases lt_or_gt_of_ne h with i | i
    · exact .inl (.inr ⟨e, i⟩)
    · exact .inr (.inr ⟨e.symm, i⟩)
  · exact .inl (.inl e)

/-- The place of a block in the order: how many come before it. -/
def place (g : Fin n → EReal) (b : Fin n) : ℕ := (Finset.univ.filter fun a => ahead g a b).card

theorem place_lt {g : Fin n → EReal} {a b : Fin n} (h : ahead g a b) : place g a < place g b := by
  refine Finset.card_lt_card ⟨fun c hc => ?_, fun hs => ?_⟩
  · simp only [Finset.mem_filter, Finset.mem_univ, true_and] at hc ⊢
    exact ahead_trans hc h
  · have : a ∈ Finset.univ.filter fun c => ahead g c a := hs (by simp only [Finset.mem_filter, Finset.mem_univ, true_and]; exact h)
    simp only [Finset.mem_filter, Finset.mem_univ, true_and] at this
    exact ahead_irrefl g a this

theorem place_inj {g : Fin n → EReal} {a b : Fin n} (h : place g a = place g b) : a = b := by
  by_contra hne
  rcases ahead_total g hne with h' | h' <;> exact absurd h (by have := place_lt h'; omega)

theorem ahead_of_place {g : Fin n → EReal} {a b : Fin n} (h : place g a < place g b) : ahead g a b := by
  have hne : a ≠ b := fun e => by rw [e] at h; exact lt_irrefl _ h
  rcases ahead_total g hne with h' | h'
  · exact h'
  · exact absurd (place_lt h') (by omega)

/-- The order depends on how the gates compare alone. -/
theorem place_congr (g g' : Fin n → EReal) (h : ∀ a b, g a < g b ↔ g' a < g' b) (b : Fin n) : place g b = place g' b := by
  unfold place
  congr 1
  ext a
  simp only [Finset.mem_filter, Finset.mem_univ, true_and]
  have e : ∀ a b, g a = g b ↔ g' a = g' b := fun a b => by
    constructor
    · intro hh
      exact le_antisymm (not_lt.mp fun hl => ((h b a).mpr hl).ne hh.symm) (not_lt.mp fun hl => ((h a b).mpr hl).ne hh)
    · intro hh
      exact le_antisymm (not_lt.mp fun hl => ((h b a).mp hl).ne hh.symm) (not_lt.mp fun hl => ((h a b).mp hl).ne hh)
  unfold ahead
  rw [h b a, e a b]

theorem pairwise_insert (g : Fin n → EReal) (R : Fin n → Fin n → Bool) (hR : ∀ a b, R a b = true ↔ g b < g a) (a : Fin n) (l : List (Fin n))
    (ha : ∀ b ∈ l, a < b) (hl : l.Pairwise (ahead g)) : (insertBefore R a l).Pairwise (ahead g) := by
  induction l with
  | nil => exact List.pairwise_singleton _ _
  | cons b l ih =>
    rw [List.pairwise_cons] at hl
    unfold insertBefore
    split
    · next h =>
      refine List.pairwise_cons.mpr ⟨fun c hc => ?_, ih (fun b hb => ha b (List.mem_cons_of_mem _ hb)) hl.2⟩
      rcases List.mem_cons.mp ((perm_insertBefore R a l).mem_iff.mp hc) with rfl | hc'
      · exact .inl ((hR _ _).mp h)
      · exact hl.1 c hc'
    · next h =>
      have hab : g b ≤ g a := not_lt.mp fun hh => h ((hR _ _).mpr hh)
      refine List.pairwise_cons.mpr ⟨fun c hc => ?_, List.pairwise_cons.mpr hl⟩
      have hac := ha c hc
      have hcb : g c ≤ g b := by
        rcases List.mem_cons.mp hc with rfl | hc'
        · exact le_rfl
        · rcases hl.1 c hc' with h' | h'
          · exact h'.le
          · exact h'.1.ge
      rcases lt_or_eq_of_le (hcb.trans hab) with h' | h'
      · exact .inl h'
      · exact .inr ⟨h'.symm, hac⟩

theorem pairwise_sort (g : Fin n → EReal) (R : Fin n → Fin n → Bool) (hR : ∀ a b, R a b = true ↔ g b < g a) (l : List (Fin n))
    (hl : l.Pairwise (· < ·)) : (stableSort R l).Pairwise (ahead g) := by
  induction l with
  | nil => exact List.Pairwise.nil
  | cons a l ih =>
    rw [List.pairwise_cons] at hl
    unfold stableSort
    exact pairwise_insert g R hR a _ (fun b hb => hl.1 b ((perm_stableSort R l).mem_iff.mp hb)) (ih hl.2)

/-- A stable sort by the gate, the greater first, puts at each position the block of that place. -/
theorem place_sortedFrom (g : Fin n → EReal) (R : Fin n → Fin n → Bool) (hR : ∀ a b, R a b = true ↔ g b < g a) (r : Fin n) :
    place g (sortedFrom R r) = r.val := by
  have hp : ∀ a b : Fin n, a < b → ahead g (sortedFrom R a) (sortedFrom R b) := by
    intro a b hab
    have h := List.pairwise_iff_get.mp (pairwise_sort g R hR (List.finRange n) (List.pairwise_lt_finRange n))
    unfold sortedFrom
    exact h _ _ (Fin.mk_lt_mk.mpr hab)
  have e : (Finset.univ.filter fun a => ahead g a (sortedFrom R r)) = (Finset.univ.filter fun a => a < r).image (sortedFrom R) := by
    ext a
    simp only [Finset.mem_filter, Finset.mem_univ, true_and, Finset.mem_image]
    constructor
    · intro h
      obtain ⟨k, rfl⟩ := sortedFrom_surjective R a
      refine ⟨k, ?_, rfl⟩
      rcases lt_trichotomy k r with h' | h' | h'
      · exact h'
      · subst h'; exact absurd h (ahead_irrefl g _)
      · exact absurd (ahead_trans h (hp _ _ h')) (ahead_irrefl g _)
    · rintro ⟨k, hk, rfl⟩
      exact hp _ _ hk
  unfold place
  rw [e, Finset.card_image_of_injective _ (sortedFrom_injective R)]
  have : (Finset.univ.filter fun a : Fin n => a < r) = Finset.Iio r := by ext a; simp
  rw [this, Fin.card_Iio]

/-- At every place there is a block. -/
theorem exists_place (g : Fin n → EReal) (r : ℕ) (hr : r < n) : ∃ b, place g b = r :=
  ⟨_, place_sortedFrom g (fun a b => decide (g b < g a)) (fun a b => by simp) ⟨r, hr⟩⟩

/-- Blocks whose gates are open come before those whose gates are not. -/
theorem place_open {g : Fin n → EReal} {i : ℕ} (hi : i ≤ n) (h0 : ∀ b : Fin n, b.val < i → g b ≠ ⊥) (h1 : ∀ b : Fin n, ¬ b.val < i → g b = ⊥)
    (b : Fin n) (hb : place g b < i) : b.val < i := by
  by_contra hc
  refine absurd hb (not_lt.mpr ?_)
  have : (Finset.univ.filter fun a : Fin n => a.val < i) ⊆ Finset.univ.filter fun a => ahead g a b := by
    intro a ha
    simp only [Finset.mem_filter, Finset.mem_univ, true_and] at ha ⊢
    exact .inl (by rw [h1 b hc]; exact bot_lt_iff_ne_bot.mpr (h0 a ha))
  refine le_trans ?_ (Finset.card_le_card this)
  rw [Fin.card_filter_val_lt, min_eq_right hi]

/-- One round: what is left of the gates once the blocks before place `r` are struck out, the first of its greatest. -/
theorem round {g : Fin n → EReal} {i : ℕ} (hi : i ≤ n) (h0 : ∀ b : Fin n, b.val < i → g b ≠ ⊥) (h1 : ∀ b : Fin n, ¬ b.val < i → g b = ⊥)
    (r : ℕ) (hr : r < i) (h : Fin n → EReal) (hh : ∀ b, h b = if place g b < r then ⊥ else g b) (f : Fin n)
    (hf : ∀ b, h b ≤ h f) (hf' : ∀ b, h b = h f → f ≤ b) : place g f = r := by
  obtain ⟨b, hb⟩ := exists_place g r (lt_of_lt_of_le hr hi)
  have hbi : b.val < i := place_open hi h0 h1 b (by omega)
  have hbv : h b = g b := by rw [hh, if_neg (by omega)]
  have hfg : ¬ place g f < r := by
    intro hc
    have := hf b
    rw [hbv, hh f, if_pos hc, le_bot_iff] at this
    exact h0 b hbi this
  have hfv : h f = g f := by rw [hh, if_neg hfg]
  have : f = b := by
    by_contra hne
    have hlt : place g b < place g f := by
      have : place g f ≠ place g b := fun e => hne (place_inj e)
      omega
    rcases ahead_of_place hlt with e | e
    · exact absurd (hf b) (not_le.mpr (by rw [hbv, hfv]; exact e))
    · exact absurd (hf' b (by rw [hbv, hfv]; exact e.1)) (not_le.mpr e.2)
  rw [this, hb]

/-- Striking out the block of place `r` as well. -/
theorem struck {g : Fin n → EReal} (r : ℕ) (h : Fin n → EReal) (hh : ∀ b, h b = if place g b < r then ⊥ else g b) (f : Fin n)
    (hf : place g f = r) (b : Fin n) : (if b = f then ⊥ else h b) = if place g b < r + 1 then ⊥ else g b := by
  by_cases hb : b = f
  · rw [if_pos hb, hb, if_pos (by omega)]
  · have : place g b ≠ r := fun e => hb (place_inj (e.trans hf.symm))
    rw [if_neg hb, hh]
    by_cases h' : place g b < r
    · rw [if_pos h', if_pos (by omega)]
    · rw [if_neg h', if_neg (by omega)]

/-! The first of the greatest, as the least of the words of the blocks that are as great as the greatest. -/

theorem fold_minsi_le {ι : Type} (s : Finset ι) (c : BitVec 32) (p : ι → BitVec 32) :
    (∀ j ∈ s, (s.fold IntOp.minsi c p).toInt ≤ (p j).toInt) ∧ (s.fold IntOp.minsi c p).toInt ≤ c.toInt
      ∧ (s.fold IntOp.minsi c p = c ∨ ∃ j ∈ s, s.fold IntOp.minsi c p = p j) := by
  induction s using Finset.induction_on with
  | empty => exact ⟨by simp, le_rfl, .inl rfl⟩
  | insert a s ha ih =>
    rw [Finset.fold_insert ha]
    set w := s.fold IntOp.minsi c p
    unfold IntOp.minsi
    have hs : (p a).slt w = decide ((p a).toInt < w.toInt) := rfl
    rw [hs]
    by_cases h : (p a).toInt < w.toInt
    · simp only [h, decide_true, if_true]
      refine ⟨fun j hj => ?_, by omega, .inr ⟨a, Finset.mem_insert_self _ _, rfl⟩⟩
      rcases Finset.mem_insert.mp hj with rfl | hj
      · exact le_rfl
      · have := ih.1 j hj; omega
    · simp only [h, decide_false, if_false, Bool.false_eq_true]
      refine ⟨fun j hj => ?_, ih.2.1, ?_⟩
      · rcases Finset.mem_insert.mp hj with rfl | hj
        · omega
        · exact ih.1 j hj
      · rcases ih.2.2 with e | ⟨j, hj, e⟩
        · exact .inl e
        · exact .inr ⟨j, Finset.mem_insert_of_mem hj, e⟩

theorem toInt_word (k : ℕ) (h : k ≤ 32) : (BitVec.ofNat 32 k).toInt = (k : ℤ) := by
  rw [BitVec.toInt_eq_toNat_of_lt] <;> rw [BitVec.toNat_ofNat, Nat.mod_eq_of_lt (by omega)]
  omega

/-- The word of the first of the greatest. -/
theorem first_word (h : Fin 32 → EReal) :
    ∃ f : Fin 32, (∀ b, h b ≤ h f) ∧ (∀ b, h b = h f → f ≤ b)
      ∧ (Finset.univ.fold IntOp.minsi 2147483647#32 fun x : Fin 32 => if h x = Finset.univ.fold max ⊥ h then BitVec.ofNat 32 x.val else 32#32)
          = BitVec.ofNat 32 f.val := by
  have e : Finset.univ.fold max ⊥ h = Finset.univ.sup h := rfl
  rw [e]
  obtain ⟨a, -, ha⟩ := Finset.exists_mem_eq_sup Finset.univ ⟨(0 : Fin 32), Finset.mem_univ _⟩ h
  have hle : ∀ b, h b ≤ Finset.univ.sup h := fun b => Finset.le_sup (Finset.mem_univ b)
  set M := Finset.univ.sup h
  set p : Fin 32 → BitVec 32 := fun x => if h x = M then BitVec.ofNat 32 x.val else 32#32 with hp
  obtain ⟨h1, -, h3⟩ := fold_minsi_le Finset.univ 2147483647#32 p
  set w := Finset.univ.fold IntOp.minsi 2147483647#32 p
  have hpa : p a = BitVec.ofNat 32 a.val := by rw [hp]; exact if_pos ha.symm
  have hwa : w.toInt ≤ a.val := by
    have := h1 a (Finset.mem_univ a)
    rw [hpa, toInt_word _ (by omega)] at this
    exact this
  rcases h3 with e | ⟨f, -, e⟩
  · rw [e] at hwa
    have : (2147483647#32).toInt = 2147483647 := by decide
    omega
  · have hf : h f = M := by
      by_contra hc
      have : p f = 32#32 := if_neg hc
      rw [e, this] at hwa
      have : (32#32).toInt = 32 := by decide
      omega
    have hpf : p f = BitVec.ofNat 32 f.val := if_pos hf
    refine ⟨f, fun b => hf ▸ hle b, fun b hb => ?_, by rw [e, hpf]⟩
    have := h1 b (Finset.mem_univ b)
    rw [e, hpf, show p b = BitVec.ofNat 32 b.val from if_pos (hb.trans hf), toInt_word _ (by omega), toInt_word _ (by omega)] at this
    exact Fin.le_def.mpr (by omega)

/-- Three rounds, the later ones only while there are open blocks left, as the bits of a word. -/
theorem bits_iff (g : Fin 32 → EReal) {i : ℕ} (hi : i ≤ 32) (h0 : ∀ b : Fin 32, b.val < i → g b ≠ ⊥) (h1 : ∀ b : Fin 32, ¬ b.val < i → g b = ⊥)
    (f0 f1 f2 : Fin 32) (g1 g2 : Fin 32 → EReal)
    (hf0 : ∀ b, g b ≤ g f0) (hf0' : ∀ b, g b = g f0 → f0 ≤ b) (hg1 : ∀ b, g1 b = if b = f0 then ⊥ else g b)
    (hf1 : ∀ b, g1 b ≤ g1 f1) (hf1' : ∀ b, g1 b = g1 f1 → f1 ≤ b) (hg2 : ∀ b, g2 b = if b = f1 then ⊥ else g1 b)
    (hf2 : ∀ b, g2 b ≤ g2 f2) (hf2' : ∀ b, g2 b = g2 f2 → f2 ≤ b) (u : Fin 32) :
    ((0 < i ∧ u = f0) ∨ (1 < i ∧ u = f1) ∨ (2 < i ∧ u = f2)) ↔ place g u < min 3 i := by
  have e0 : 0 < i → place g f0 = 0 := fun h => round hi h0 h1 0 h g (fun b => by simp) f0 hf0 hf0'
  have s1 : 0 < i → ∀ b, g1 b = if place g b < 1 then ⊥ else g b := fun h b => by
    rw [hg1]; exact struck 0 g (fun b => by simp) f0 (e0 h) b
  have e1 : 1 < i → place g f1 = 1 := fun h => round hi h0 h1 1 h g1 (s1 (by omega)) f1 hf1 hf1'
  have s2 : 1 < i → ∀ b, g2 b = if place g b < 2 then ⊥ else g b := fun h b => by
    rw [hg2]; exact struck 1 g1 (s1 (by omega)) f1 (e1 h) b
  have e2 : 2 < i → place g f2 = 2 := fun h => round hi h0 h1 2 h g2 (s2 (by omega)) f2 hf2 hf2'
  constructor
  · rintro (⟨h, rfl⟩ | ⟨h, rfl⟩ | ⟨h, rfl⟩)
    · rw [e0 h]; omega
    · rw [e1 h]; omega
    · rw [e2 h]; omega
  · intro h
    have hc : place g u = 0 ∨ place g u = 1 ∨ place g u = 2 := by omega
    rcases hc with hc | hc | hc
    · exact .inl ⟨by omega, place_inj (hc.trans (e0 (by omega)).symm)⟩
    · exact .inr (.inl ⟨by omega, place_inj (hc.trans (e1 (by omega)).symm)⟩)
    · exact .inr (.inr ⟨by omega, place_inj (hc.trans (e2 (by omega)).symm)⟩)

/-- A sum over the picked blocks is the sum over the places. -/
theorem sum_place (g : Fin 32 → EReal) (sel : Fin 3 → Fin 32) (hsel : ∀ r, place g (sel r) = r.val) (i : ℕ) (f : Fin 32 → ℝ) :
    (∑ u, if place g u < min 3 i then f u else 0) = ∑ r : Fin 3, if r.val < i then f (sel r) else 0 := by
  have hinj : Function.Injective sel := fun a b h => Fin.ext (by rw [← hsel a, ← hsel b, h])
  rw [← Finset.sum_filter, ← Finset.sum_filter]
  have : (Finset.univ.filter fun u => place g u < min 3 i) = (Finset.univ.filter fun r : Fin 3 => r.val < i).image sel := by
    ext u
    simp only [Finset.mem_filter, Finset.mem_univ, true_and, Finset.mem_image]
    constructor
    · intro h
      refine ⟨⟨place g u, by omega⟩, by show place g u < i; omega, place_inj (g := g) ?_⟩
      rw [hsel]
    · rintro ⟨r, hr, rfl⟩
      rw [hsel]; have := r.isLt; omega
  rw [this, Finset.sum_image fun a _ b _ h => hinj h]

end Cert.Moba

end
-- ==== Proof.Moba.Turn.lean ====
/- The arithmetic of a running softmax over the extended reals: the greatest score seen so far rescales what has been
   summed, and the quotient of two sums so rescaled is the quotient of the unscaled ones. -/
module

public import Idealize.ShloMosaic.Lib.Pointwise

@[expose] public section

noncomputable section

namespace Cert.Moba

open Idealize.ShloMosaic

/-- A power of two. -/
abbrev pow2 (x : ℝ) : ℝ := Real.rpow 2 x

theorem pow2_pos (x : ℝ) : 0 < pow2 x := Real.rpow_pos_of_pos (by norm_num) x
theorem pow2_add (x y : ℝ) : pow2 (x + y) = pow2 x * pow2 y := Real.rpow_add (by norm_num) x y

/-- A finite sum of reals is a real. -/
theorem coe_sum {ι : Type} (s : Finset ι) (f : ι → ℝ) : ((∑ j ∈ s, f j : ℝ) : EReal) = ∑ j ∈ s, (f j : EReal) := by
  classical
  induction s using Finset.induction_on with
  | empty => simp
  | insert a s ha ih => rw [Finset.sum_insert ha, Finset.sum_insert ha, EReal.coe_add, ih]

/-- The maximum of finitely many values, none of them ⊤ and one of them a real, is a real. -/
theorem foldMax_real {ι : Type} [Fintype ι] (s : ι → EReal) (h : ∀ j, s j ≠ ⊤) (j0 : ι) (h0 : s j0 ≠ ⊥) :
    ∃ μ : ℝ, Finset.univ.fold max ⊥ s = (μ : EReal) := by
  have e : Finset.univ.fold max ⊥ s = Finset.univ.sup s := rfl
  rw [e]
  have hb : Finset.univ.sup s ≠ ⊥ := fun hh => h0 (le_bot_iff.mp (hh ▸ Finset.le_sup (Finset.mem_univ j0)))
  have ht : Finset.univ.sup s ≠ ⊤ := by
    obtain ⟨j, -, hj⟩ := Finset.exists_mem_eq_sup Finset.univ ⟨j0, Finset.mem_univ j0⟩ s
    rw [hj]; exact h j
  exact ⟨_, (EReal.coe_toReal ht hb).symm⟩

theorem exp2_sub (x y : ℝ) : Ideal.exp2 ((x : EReal) - (y : EReal)) = ((pow2 x * pow2 (-y) : ℝ) : EReal) := by
  rw [← EReal.coe_sub, Ideal.exp2_coe, sub_eq_add_neg]
  exact congrArg _ (pow2_add x (-y))

/-- One turn: a block of scores taken into the running sums if its bit is set. -/
theorem turn {L : ℕ} (hL : 0 < L) (μ : ℝ) (σ : Fin L → ℝ) (b : BitVec 1) :
    ∃ μ' : ℝ, Scalar.select b (max (μ : EReal) (Finset.univ.fold max ⊥ fun l => (σ l : EReal))) (μ : EReal) = (μ' : EReal)
      ∧ ∀ (N : ℝ) (x : Fin L → ℝ),
        Ideal.exp2 ((μ : EReal) - (μ' : EReal)) * ((pow2 (-μ) * N : ℝ) : EReal)
            + ∑ l, (x l : EReal) * Ideal.exp2 ((σ l : EReal) - Scalar.select b (μ' : EReal) ⊤)
          = ((pow2 (-μ') * (N + if b = 1#1 then ∑ l, x l * pow2 (σ l) else 0) : ℝ) : EReal) := by
  have resc : ∀ (μ' N : ℝ), Ideal.exp2 ((μ : EReal) - (μ' : EReal)) * ((pow2 (-μ) * N : ℝ) : EReal) = ((pow2 (-μ') * N : ℝ) : EReal) := by
    intro μ' N
    rw [exp2_sub, ← EReal.coe_mul]
    congr 1
    have : pow2 μ * pow2 (-μ) = 1 := by rw [← pow2_add, add_neg_cancel]; exact Real.rpow_zero 2
    calc _ = (pow2 μ * pow2 (-μ)) * (pow2 (-μ') * N) := by ring
      _ = _ := by rw [this, one_mul]
  rcases BitVec.eq_zero_or_eq_one b with rfl | rfl
  · refine ⟨μ, rfl, fun N x => ?_⟩
    rw [resc]
    have : ∀ l, (x l : EReal) * Ideal.exp2 ((σ l : EReal) - Scalar.select 0#1 (μ : EReal) ⊤) = 0 := by
      intro l
      show (x l : EReal) * Ideal.exp2 ((σ l : EReal) - ⊤) = 0
      rw [EReal.sub_top, Ideal.exp2_bot, mul_zero]
    rw [Finset.sum_congr rfl fun l _ => this l, Finset.sum_const_zero, add_zero, if_neg (by decide), add_zero]
  · obtain ⟨ν, hν⟩ := foldMax_real (fun l => (σ l : EReal)) (fun l => EReal.coe_ne_top _) ⟨0, hL⟩ (EReal.coe_ne_bot _)
    refine ⟨max μ ν, ?_, fun N x => ?_⟩
    · show max (μ : EReal) (Finset.univ.fold max ⊥ fun l => (σ l : EReal)) = _
      rw [hν]; exact (EReal.coe_strictMono.monotone.map_max).symm
    · rw [resc, if_pos rfl]
      have : ∀ l, (x l : EReal) * Ideal.exp2 ((σ l : EReal) - Scalar.select 1#1 ((max μ ν : ℝ) : EReal) ⊤)
          = ((pow2 (-(max μ ν)) * (x l * pow2 (σ l)) : ℝ) : EReal) := by
        intro l
        show (x l : EReal) * Ideal.exp2 ((σ l : EReal) - ((max μ ν : ℝ) : EReal)) = _
        rw [exp2_sub, ← EReal.coe_mul]
        congr 1; ring
      rw [Finset.sum_congr rfl fun l _ => this l, ← coe_sum, ← EReal.coe_add, ← Finset.mul_sum, ← mul_add]

/-- The first block: the scores of the keys up to the query's own. -/
theorem start {L : ℕ} (ok : Fin L → Prop) [DecidablePred ok] (l0 : Fin L) (h0 : ok l0) (σ : Fin L → ℝ) :
    ∃ μ : ℝ, (Finset.univ.fold max ⊥ fun l => if ok l then (σ l : EReal) else ⊥) = (μ : EReal)
      ∧ ∀ (x : Fin L → ℝ),
        ∑ l, (x l : EReal) * Ideal.exp2 ((if ok l then (σ l : EReal) else ⊥) - (μ : EReal))
          = ((pow2 (-μ) * ∑ l, (if ok l then x l * pow2 (σ l) else 0) : ℝ) : EReal) := by
  obtain ⟨μ, hμ⟩ := foldMax_real (fun l => if ok l then (σ l : EReal) else ⊥)
    (fun l => by split; exacts [EReal.coe_ne_top _, bot_ne_top]) l0 (by rw [if_pos h0]; exact EReal.coe_ne_bot _)
  refine ⟨μ, hμ, fun x => ?_⟩
  rw [Finset.mul_sum, coe_sum]
  refine Finset.sum_congr rfl fun l _ => ?_
  by_cases h : ok l
  · rw [if_pos h, if_pos h, exp2_sub, ← EReal.coe_mul]
    congr 1; ring
  · rw [if_neg h, if_neg h, EReal.bot_sub, Ideal.exp2_bot, mul_zero, mul_zero, EReal.coe_zero]

/-- The quotient of two sums rescaled alike. -/
theorem quot (μ N D : ℝ) (hD : 0 < D) : Ideal.div ((pow2 (-μ) * N : ℝ) : EReal) ((pow2 (-μ) * D : ℝ) : EReal) = ((N / D : ℝ) : EReal) := by
  have hp := pow2_pos (-μ)
  have hne : pow2 (-μ) * D ≠ 0 := (mul_pos hp hD).ne'
  unfold Ideal.div
  rw [if_neg (by rw [← EReal.coe_zero, EReal.coe_eq_coe_iff]; exact hne), ← EReal.coe_inv, ← EReal.coe_mul]
  congr 1
  rw [← div_eq_mul_inv, mul_div_mul_left _ _ hp.ne']

/-- A real quotient. -/
theorem div_coe (a b : ℝ) (hb : b ≠ 0) : Ideal.div (a : EReal) (b : EReal) = ((a / b : ℝ) : EReal) := by
  unfold Ideal.div
  rw [if_neg (by rw [← EReal.coe_zero, EReal.coe_eq_coe_iff]; exact hb), ← EReal.coe_inv, ← EReal.coe_mul, ← div_eq_mul_inv]

theorem exp_sub (x y : ℝ) : Ideal.exp ((x : EReal) - (y : EReal)) = ((Real.exp x * Real.exp (-y) : ℝ) : EReal) := by
  rw [← EReal.coe_sub, Ideal.exp_coe, sub_eq_add_neg]
  exact congrArg _ (Real.exp_add x (-y))

/-- A softmax with some scores left out: at each place the weight over the weights' sum. -/
theorem softmax {ι : Type} [Fintype ι] (ok : ι → Prop) [DecidablePred ok] (j0 : ι) (h0 : ok j0) (σ : ι → ℝ) (s : ι → EReal)
    (hs : ∀ j, s j = if ok j then (σ j : EReal) else ⊥) (j : ι) :
    Ideal.div (Ideal.exp (s j - Finset.univ.fold max ⊥ s)) (∑ j', Ideal.exp (s j' - Finset.univ.fold max ⊥ s))
      = (((if ok j then Real.exp (σ j) else 0) / ∑ j', (if ok j' then Real.exp (σ j') else 0) : ℝ) : EReal) := by
  obtain ⟨μ, hμ⟩ := foldMax_real s (fun l => by rw [hs]; split; exacts [EReal.coe_ne_top _, bot_ne_top]) j0
    (by rw [hs, if_pos h0]; exact EReal.coe_ne_bot _)
  rw [hμ]
  have e : ∀ l, Ideal.exp (s l - (μ : EReal)) = ((Real.exp (-μ) * (if ok l then Real.exp (σ l) else 0) : ℝ) : EReal) := by
    intro l
    rw [hs]
    by_cases h : ok l
    · rw [if_pos h, if_pos h, exp_sub, mul_comm]
    · rw [if_neg h, if_neg h, EReal.bot_sub, Ideal.exp_bot, mul_zero, EReal.coe_zero]
  rw [Finset.sum_congr rfl fun l _ => e l, ← coe_sum, e, ← Finset.mul_sum]
  have hpos : 0 < ∑ l, (if ok l then Real.exp (σ l) else 0) :=
    Finset.sum_pos' (fun l _ => by split; exacts [(Real.exp_pos _).le, le_rfl]) ⟨j0, Finset.mem_univ _, by rw [if_pos h0]; exact Real.exp_pos _⟩
  rw [div_coe _ _ (mul_pos (Real.exp_pos _) hpos).ne', mul_div_mul_left _ _ (Real.exp_pos _).ne']

end Cert.Moba

end
-- ==== Proof.Moba.Spec.lean ====
/- What a query's attention over blocks is, over the reals: the weights of its own block's keys up to its own, and of the
   blocks it picks. -/
module

public import proofs.«01_k».proof.Proof.Moba.Pick
public import proofs.«01_k».proof.Proof.Moba.Turn

@[expose] public section

noncomputable section

namespace Cert.Moba

open Idealize.ShloMosaic
open scoped Classical

/-- A query's score of a key. -/
def score (qd kd : Fin 64 → ℝ) : ℝ := ∑ x, qd x * (1 / 8) * kd x

/-- A query's gate to a block: its score of the block's mean key, closed for its own block and those after. -/
def gate (qd : Fin 64 → ℝ) (kd : Fin 32 → Fin 256 → Fin 64 → ℝ) (i : ℕ) (n : Fin 32) : EReal :=
  if n.val < i then ((∑ x, qd x * (1 / 8) * ((∑ l, kd n l x) / 256) : ℝ) : EReal) else ⊥

/-- A sum over the keys a query attends to, each by its weight. -/
def mass (qd : Fin 64 → ℝ) (kd : Fin 32 → Fin 256 → Fin 64 → ℝ) (i : Fin 32) (y : Fin 256) (x : Fin 32 → Fin 256 → ℝ) : ℝ :=
  (∑ l : Fin 256, if l.val ≤ y.val then x i l * Real.exp (score qd (kd i l)) else 0)
    + ∑ u, if place (gate qd kd i.val) u < min 3 i.val then ∑ l, x u l * Real.exp (score qd (kd u l)) else 0

/-- The attention. -/
def attn (qd : Fin 64 → ℝ) (kd vd : Fin 32 → Fin 256 → Fin 64 → ℝ) (i : Fin 32) (y : Fin 256) (d : Fin 64) : ℝ :=
  mass qd kd i y (fun n l => vd n l d) / mass qd kd i y fun _ _ => 1

theorem mass_pos (qd : Fin 64 → ℝ) (kd : Fin 32 → Fin 256 → Fin 64 → ℝ) (i : Fin 32) (y : Fin 256) : 0 < mass qd kd i y fun _ _ => 1 := by
  unfold mass
  refine add_pos_of_pos_of_nonneg ?_ (Finset.sum_nonneg fun u _ => ?_)
  · refine Finset.sum_pos' (fun l _ => ?_) ⟨y, Finset.mem_univ _, ?_⟩
    · split
      · rw [one_mul]; exact (Real.exp_pos _).le
      · exact le_rfl
    · rw [if_pos le_rfl, one_mul]; exact Real.exp_pos _
  · split
    · exact Finset.sum_nonneg fun l _ => by rw [one_mul]; exact (Real.exp_pos _).le
    · exact le_rfl

theorem gate_open (qd : Fin 64 → ℝ) (kd : Fin 32 → Fin 256 → Fin 64 → ℝ) (i : ℕ) (b : Fin 32) (h : b.val < i) : gate qd kd i b ≠ ⊥ := by
  unfold gate; rw [if_pos h]; exact EReal.coe_ne_bot _

theorem gate_closed (qd : Fin 64 → ℝ) (kd : Fin 32 → Fin 256 → Fin 64 → ℝ) (i : ℕ) (b : Fin 32) (h : ¬ b.val < i) : gate qd kd i b = ⊥ := by
  unfold gate; rw [if_neg h]

theorem neg_inf : Ideal.ofBits .f32 0xFF800000#32 = ⊥ := by simp [Ideal.ofBits, Ideal.ieee]
theorem pos_inf : Ideal.ofBits .f32 0x7F800000#32 = ⊤ := by simp [Ideal.ofBits, Ideal.ieee]
theorem eighth : Ideal.ofBits .f32 0x3E000000#32 = ((1 / 8 : ℝ) : EReal) := by
  simp [Ideal.ofBits, Ideal.ieee, -EReal.coe_mul]; norm_num
theorem c256 : Ideal.ofBits .f32 0x43800000#32 = ((256 : ℝ) : EReal) := by
  simp [Ideal.ofBits, Ideal.ieee, -EReal.coe_mul]; norm_num

theorem slt_small (a b : ℕ) (ha : a < 2 ^ 31) (hb : b < 2 ^ 31) : IntOp.cmpi .slt (BitVec.ofNat 32 a) (BitVec.ofNat 32 b) = BitVec.ofBool (decide (a < b)) := by
  have e : ∀ n < 2 ^ 31, (BitVec.ofNat 32 n).toInt = n := fun n hn => by
    rw [BitVec.toInt_eq_toNat_of_lt] <;> rw [BitVec.toNat_ofNat, Nat.mod_eq_of_lt (by omega)]
    omega
  show BitVec.ofBool ((BitVec.ofNat 32 a).slt (BitVec.ofNat 32 b)) = _
  congr 1
  show decide ((BitVec.ofNat 32 a).toInt < (BitVec.ofNat 32 b).toInt) = _
  rw [e a ha, e b hb]
  exact decide_eq_decide.mpr Int.ofNat_lt

theorem sle_small (a b : ℕ) (ha : a < 2 ^ 31) (hb : b < 2 ^ 31) : IntOp.cmpi .sle (BitVec.ofNat 32 a) (BitVec.ofNat 32 b) = BitVec.ofBool (decide (a ≤ b)) := by
  have e : ∀ n < 2 ^ 31, (BitVec.ofNat 32 n).toInt = n := fun n hn => by
    rw [BitVec.toInt_eq_toNat_of_lt] <;> rw [BitVec.toNat_ofNat, Nat.mod_eq_of_lt (by omega)]
    omega
  show BitVec.ofBool ((BitVec.ofNat 32 a).sle (BitVec.ofNat 32 b)) = _
  congr 1
  show decide ((BitVec.ofNat 32 a).toInt ≤ (BitVec.ofNat 32 b).toInt) = _
  rw [e a ha, e b hb]
  exact decide_eq_decide.mpr Int.ofNat_le

theorem sge_small (a b : ℕ) (ha : a < 2 ^ 31) (hb : b < 2 ^ 31) : IntOp.cmpi .sge (BitVec.ofNat 32 a) (BitVec.ofNat 32 b) = BitVec.ofBool (decide (b ≤ a)) :=
  sle_small b a hb ha

theorem sgt_small (a b : ℕ) (ha : a < 2 ^ 31) (hb : b < 2 ^ 31) : IntOp.cmpi .sgt (BitVec.ofNat 32 a) (BitVec.ofNat 32 b) = BitVec.ofBool (decide (b < a)) :=
  slt_small b a hb ha

theorem select_bool {α : Type} (p : Prop) [Decidable p] (a b : α) : Scalar.select (BitVec.ofBool (decide p)) a b = if p then a else b := by
  by_cases h : p
  · rw [if_pos h, decide_eq_true h]; rfl
  · rw [if_neg h, decide_eq_false h]; rfl

end Cert.Moba

end
-- ==== Proof.Moba.Finite.lean ====
/- The precondition, read: every element of the three arrays is a real. -/
module

public import proofs.«01_k».proof.Pre_finite
public import proofs.«01_k».proof.Proof.Moba.Spec
public import Idealize.ShloMosaic.Lib.ReduceAll
public import Idealize.ShloMosaic.Lib.Pointwise

@[expose] public section

noncomputable section

namespace Cert.Pre_finite

open Idealize.ShloMosaic Cert.Moba Facts

theorem facts : Facts where
  bcast_S_S4x8192x8x64 := by decide
  reducesTo_S4x8192x8x64_S_d0_1_2_3 := by decide
  h_S_ := by decide

instance : Subsingleton S_.Idx := ⟨fun a b => funext fun i => i.elim0⟩

/-- A value whose distance from zero is below the infinity is a real. -/
theorem real_of_abs (x : Ideal .f32) (h : Ideal.cmp .olt (max (x : EReal) (-(x : EReal))) ⊤ = 1#1) : ∃ r : ℝ, x = (r : EReal) := by
  have lt : max (x : EReal) (-(x : EReal)) < ⊤ := by
    unfold Ideal.cmp at h
    by_contra hn
    simp [hn] at h
  rw [max_lt_iff] at lt
  obtain ⟨h1, h2⟩ := lt
  have hb : (x : EReal) ≠ ⊥ := fun e => by
    rw [e] at h2
    simp at h2
  exact ⟨(x : EReal).toReal, (EReal.coe_toReal h1.ne hb).symm⟩

variable [Facts]

/-- One array's part of the precondition: every element's distance from zero is below the infinity. -/
def bounded (a : FVec Ideal S4x8192x8x64 .f32) : IVec S_ 1 :=
  Host.reduce IntOp.andi (cmpf .olt (Host.absf a) (broadcastInDim S4x8192x8x64 ![] bcast_S_S4x8192x8x64 (constant S_ .f32 0x7F800000#32)))
    (constantI S_ 1 1#1) reducesTo_S4x8192x8x64_S_d0_1_2_3 h_S_

theorem fn_eq (a b c : FVec Ideal S4x8192x8x64 .f32) : fn (F := Ideal) a b c = andi (andi (bounded a) (bounded b)) (bounded c) := rfl

theorem real_of_bounded (a : FVec Ideal S4x8192x8x64 .f32) (j : S_.Idx) (h : bounded a j = 1#1) (i : S4x8192x8x64.Idx) : ∃ r : ℝ, a i = (r : EReal) := by
  have e := Host.reduce_andi_all _ _ _ _ j h i
  refine real_of_abs (a i) ?_
  rw [← pos_inf]
  exact e

/-- Under the precondition the arrays are of reals. -/
theorem reals (a b c : FVec Ideal S4x8192x8x64 .f32) (h : fn (F := Ideal) a b c = fun _ => 1#1) :
    ∃ ra rb rc : Fin 4 → Fin 8192 → Fin 8 → Fin 64 → ℝ, (∀ b s h d, a (ix4 b s h d) = (ra b s h d : EReal)) ∧
      (∀ b' s h d, b (ix4 b' s h d) = (rb b' s h d : EReal)) ∧ (∀ b s h d, c (ix4 b s h d) = (rc b s h d : EReal)) := by
  have j : S_.Idx := fun i => i.elim0
  have e : IntOp.andi (IntOp.andi (bounded a j) (bounded b j)) (bounded c j) = 1#1 := by
    have := congrFun h j
    rw [fn_eq] at this
    exact this
  obtain ⟨e1, e3⟩ := IntOp.andi_eq_one.1 e
  obtain ⟨e1, e2⟩ := IntOp.andi_eq_one.1 e1
  choose ra ha using fun i => real_of_bounded a j e1 i
  choose rb hb using fun i => real_of_bounded b j e2 i
  choose rc hc using fun i => real_of_bounded c j e3 i
  exact ⟨fun b s h d => ra (ix4 b s h d), fun b s h d => rb (ix4 b s h d), fun b s h d => rc (ix4 b s h d), fun _ _ _ _ => ha _, fun _ _ _ _ => hb _,
    fun _ _ _ _ => hc _⟩

end Cert.Pre_finite

end
-- ==== Proof.Moba.Host.lean ====
/- The arrays the kernel is launched on, read at an index: the queries, keys and values laid out by feature, and the blocks'
   mean keys. -/
module

public import proofs.«01_k».proof.Proof.Gen.KernelIdeal.Frame
public import proofs.«01_k».proof.Proof.Moba.Spec
public import Idealize.ShloMosaic.Lib.StableHlo.ReadAt
public import Idealize.ShloMosaic.Lib.Pointwise

@[expose] public section

noncomputable section

namespace Cert.KernelIdeal.Moba

open Cert.KernelIdeal Cert.KernelIdeal.Gen
open Idealize.ShloMosaic Idealize.ShloMosaic.TcCoe Cert.Moba

variable (m : (ℓ : Loc nD τ sig) → Buf (Elt Ideal) ℓ) (c : Dev nD)

/-- The arguments as launched. -/
abbrev argQ : FVec Ideal S4x8192x8x64 .f32 := m ((c : Thread nD τ).loc main_arg0)
abbrev argK : FVec Ideal S4x8192x8x64 .f32 := m ((c : Thread nD τ).loc main_arg1)
abbrev argV : FVec Ideal S4x8192x8x64 .f32 := m ((c : Thread nD τ).loc main_arg2)

theorem queries_in (b : Fin 4) (s : Fin 8192) (e : Fin 512) :
    (V m c main_v0 : FVec Ideal S4x8192x512 .f32) (ix3 b s e) = argQ m c (ix4 b s ⟨e.val / 64, by omega⟩ ⟨e.val % 64, by omega⟩) := by
  unfold V
  after_reads_at

theorem keys_in (b : Fin 4) (s : Fin 8192) (e : Fin 512) :
    (V m c main_v8 : FVec Ideal S4x8192x512 .bf16) (ix3 b s e) = argK m c (ix4 b s ⟨e.val / 64, by omega⟩ ⟨e.val % 64, by omega⟩) := by
  unfold V
  after_reads_at

theorem values_in (b : Fin 4) (e : Fin 512) (s : Fin 8192) :
    (V m c main_v9 : FVec Ideal S4x512x8192 .bf16) (ix3 b e s) = argV m c (ix4 b s ⟨e.val / 64, by omega⟩ ⟨e.val % 64, by omega⟩) := by
  unfold V
  after_reads_at

theorem means_in (b : Fin 4) (n : Fin 32) (e : Fin 512) :
    (V m c main_v5 : FVec Ideal S4x32x512 .f32) (ix3 b n e)
      = Ideal.div (∑ l : Fin 256, argK m c (ix4 b ⟨256 * n.val + l.val, by omega⟩ ⟨e.val / 64, by omega⟩ ⟨e.val % 64, by omega⟩)) ((256 : ℝ) : EReal) := by
  unfold V
  after_reads_at
  refine (congrArg (Ideal.div _) c256).trans (congrArg (fun z => Ideal.div z _) (Finset.sum_congr rfl fun l _ => ?_))
  exact congrArg (fun s => argK m c (ix4 b s ⟨e.val / 64, by omega⟩ ⟨e.val % 64, by omega⟩)) (Fin.ext (by show n.val * 256 + l.val = 256 * n.val + l.val; omega))

end Cert.KernelIdeal.Moba

end
-- ==== Proof.Moba.Read.lean ====
/- The kernel's payloads read at an index. -/
module

public import proofs.«01_k».proof.Proof.Moba.Tile
public import proofs.«01_k».proof.Proof.Moba.Spec

@[expose] public section

noncomputable section

namespace Cert.KernelIdeal.Moba

open Cert.KernelIdeal Cert.KernelIdeal.Gen
open Idealize.ShloMosaic Cert.Moba
open VecWindow (window put)

theorem scores_apply (q : FVec Ideal S128x512 .bf16) (kb : Vec Ideal S1x256x128 .bf16) (l : Fin 256) (c : Fin 512) :
    k0_pay2 q kb (ix2 l c) = ∑ x : Fin 128, kb (ix3 0 l x) * q (ix2 x c) := by
  pointwise [k0_pay2]

/-- Whether the block of turn `t` is among those the word names. -/
def bitOf (t : BitVec 32) (w : BitVec 32) : BitVec 1 :=
  IntOp.cmpi .eq (IntOp.andi (IntOp.shrui .vector w (Scalar.minsi (Scalar.subi t 1#32) 31#32)) 1#32) 1#32

/-- The running maximum after a turn, at one column. -/
def topOf (b : BitVec 1) (m : EReal) (s : Fin 256 → EReal) : EReal := Scalar.select b (max m (Finset.univ.fold max ⊥ s)) m

theorem top_apply (t : BitVec 32) (s : Vec Ideal S256x512 .f32) (b : Vec Ideal S1x512 .i32) (m : Vec Ideal S1x512 .f32) (c : Fin 512) :
    k0_pay19 t s b m (ix2 0 c) = topOf (bitOf t (b (ix2 0 c))) (m (ix2 0 c)) fun l => s (ix2 l c) := by
  pointwise [k0_pay19, k0_pay16, k0_pay15]
  unfold topOf bitOf
  rw [← neg_inf]

theorem factor_apply (t : BitVec 32) (s : Vec Ideal S256x512 .f32) (b : Vec Ideal S1x512 .i32) (m : Vec Ideal S1x512 .f32) (c : Fin 512) :
    k0_pay17 t s b m (ix2 0 c) = Ideal.exp2 (m (ix2 0 c) - topOf (bitOf t (b (ix2 0 c))) (m (ix2 0 c)) fun l => s (ix2 l c)) := by
  pointwise [k0_pay17, k0_pay16, k0_pay15]
  unfold topOf bitOf
  rw [← neg_inf]
  rfl

theorem weight_apply (t : BitVec 32) (s : Vec Ideal S256x512 .f32) (b : Vec Ideal S1x512 .i32) (m : Vec Ideal S1x512 .f32) (l : Fin 256) (c : Fin 512) :
    k0_pay18 t s b m (ix2 l c) = Ideal.exp2 (s (ix2 l c) - Scalar.select (bitOf t (b (ix2 0 c))) (topOf (bitOf t (b (ix2 0 c))) (m (ix2 0 c)) fun l => s (ix2 l c)) ⊤) := by
  pointwise [k0_pay18, k0_pay16, k0_pay15]
  unfold topOf bitOf
  rw [← neg_inf, ← pos_inf]
  rfl

/-- The rows a head's accumulators multiply the weights by: its 64 values, then ones. -/
def rowOf (h : Fin 2) (vb : Vec Ideal S1x128x256 .bf16) (r : Fin 80) (l : Fin 256) : EReal :=
  if e : r.val < 64 then vb (ix3 0 ⟨64 * h.val + r.val, by omega⟩ l) else 1

theorem accL_apply (vb : Vec Ideal S1x128x256 .bf16) (a : Vec Ideal S1x256 .f32) (acc : Vec Ideal S1x80x256 .f32) (p : Vec Ideal S256x256 .bf16) (r : Fin 80) (y : Fin 256) :
    k0_pay12 (k0_pay11 vb a acc p) (ix3 0 r y) = a (ix2 0 y) * acc (ix3 0 r y) + ∑ l : Fin 256, rowOf 0 vb r l * p (ix2 l y) := by
  pointwise [k0_pay12, k0_pay11, k0_pay9, k0_pay10]
  refine congrArg _ (Finset.sum_congr rfl fun l _ => congrArg (· * _) ?_)
  unfold rowOf
  split
  · refine congrArg vb ?_
    congr 1
    exact Fin.ext (by simp)
  · first | rfl | skip

theorem accR_apply (vb : Vec Ideal S1x128x256 .bf16) (a : Vec Ideal S1x256 .f32) (acc : Vec Ideal S1x80x256 .f32) (p : Vec Ideal S256x256 .bf16) (r : Fin 80) (y : Fin 256) :
    k0_pay13 (k0_pay9 vb) (k0_pay10 (F := Ideal)) a acc p (ix3 0 r y) = a (ix2 0 y) * acc (ix3 0 r y) + ∑ l : Fin 256, rowOf 1 vb r l * p (ix2 l y) := by
  pointwise [k0_pay13, k0_pay9, k0_pay10]
  refine congrArg _ (Finset.sum_congr rfl fun l _ => congrArg (· * _) ?_)
  unfold rowOf
  split
  · refine congrArg vb ?_
    congr 1
  · first | rfl | skip

/-- The scale of the queries: an eighth over the logarithm of two. -/
def scale : ℝ := (1 / 8) * (Real.log 2)⁻¹

theorem queries_apply (x : Vec Ideal S1x256x128 .f32) (f : Fin 128) (c : Fin 512) :
    k0_pay64 x (ix2 f c) = if f.val / 64 = c.val / 256 then x (ix3 0 ⟨c.val % 256, by omega⟩ f) * ((scale : ℝ) : EReal) else 0 := by
  pointwise [k0_pay64]
  by_cases e : c.val < 256
  · rw [dif_pos e]
    refine Eq.trans (b := Scalar.select (IntOp.cmpi .slt (BitVec.ofNat 32 f.val) (BitVec.ofNat 32 64)) (x (ix3 0 ⟨c.val, e⟩ f) * ((scale : ℝ) : EReal)) 0) rfl ?_
    rw [slt_small _ _ (by omega) (by omega), select_bool]
    refine if_congr (by omega) ?_ rfl
    have : (⟨c.val % 256, by omega⟩ : Fin 256) = ⟨c.val, e⟩ := Fin.ext (Nat.mod_eq_of_lt e)
    rw [this]
  · rw [dif_neg e]
    refine Eq.trans (b := Scalar.select (IntOp.cmpi .sge (BitVec.ofNat 32 f.val) (BitVec.ofNat 32 64)) (x (ix3 0 ⟨c.val - 256, by omega⟩ f) * ((scale : ℝ) : EReal)) 0) rfl ?_
    rw [sge_small _ _ (by omega) (by omega), select_bool]
    refine if_congr (by omega) ?_ rfl
    have : (⟨c.val % 256, by omega⟩ : Fin 256) = ⟨c.val - 256, by omega⟩ := Fin.ext (by show c.val % 256 = c.val - 256; omega)
    rw [this]

theorem gates_apply (t1 : Fin k0_t1_loop.trips) (x : Vec Ideal S1x256x128 .f32) (km : Vec Ideal S1x32x128 .f32) (n : Fin 32) (c : Fin 512) :
    k0_pay65 0#32 1#32 t1 x km (ix2 n c)
      = Scalar.select (IntOp.cmpi .slt (BitVec.ofNat 32 n.val) (Scf.iv 0#32 1#32 t1))
          (∑ f : Fin 128, km (ix3 0 n f) * k0_pay64 x (ix2 f c) + ∑ f : Fin 128, (km (ix3 0 n f) - km (ix3 0 n f)) * k0_pay64 x (ix2 f c)) ⊥ := by
  pointwise [k0_pay65]
  rw [← neg_inf]

/-- The first quarter's and the third's queries see the keys up to their own; the second's and the fourth's are 128 further. -/
theorem low_apply (s : Vec Ideal S256x128 .f32) (l : Fin 256) (y : Fin 128) :
    k0_pay76 s (ix2 l y) = if l.val ≤ y.val then s (ix2 l y) else ⊥ := by
  pointwise [k0_pay76]
  rw [show IntOp.addi (BitVec.ofNat 32 y.val) 0#32 = BitVec.ofNat 32 y.val from BitVec.add_zero _, sle_small _ _ (by omega) (by omega), select_bool, neg_inf]

theorem high_apply (s : Vec Ideal S256x128 .f32) (l : Fin 256) (y : Fin 128) :
    k0_pay80 (iota .tc S256x128 32 [0] iota_S256x128_d0_w32) (iota .tc S256x128 32 [1] iota_S256x128_d1_w32) s (ix2 l y) = if l.val ≤ y.val + 128 then s (ix2 l y) else ⊥ := by
  pointwise [k0_pay80]
  rw [show IntOp.addi (BitVec.ofNat 32 y.val) 128#32 = BitVec.ofNat 32 (y.val + 128) from (BitVec.ofNat_add ..).symm, sle_small _ _ (by omega) (by omega), select_bool, neg_inf]

theorem top0_apply (s : Vec Ideal S256x128 .f32) (y : Fin 128) :
    k0_pay79 (k0_pay77 s) (ix2 0 y) = Finset.univ.fold max ⊥ fun l : Fin 256 => k0_pay76 s (ix2 l y) := by
  pointwise [k0_pay79, k0_pay77]
  rw [← neg_inf]
theorem top1_apply (x y' : IVec S256x128 32) (s : Vec Ideal S256x128 .f32) (y : Fin 128) :
    k0_pay83 x y' s (ix2 0 y) = Finset.univ.fold max ⊥ fun l : Fin 256 => k0_pay80 x y' s (ix2 l y) := by
  pointwise [k0_pay83, k0_pay81]
  rw [← neg_inf]

theorem first0_apply (s : Vec Ideal S256x128 .f32) (l : Fin 256) (y : Fin 128) :
    k0_pay78 s (ix2 l y) = Ideal.exp2 (k0_pay76 s (ix2 l y) - Finset.univ.fold max ⊥ fun l : Fin 256 => k0_pay76 s (ix2 l y)) := by
  pointwise [k0_pay78, k0_pay77]
  rw [← neg_inf]
  rfl
theorem first1_apply (x y' : IVec S256x128 32) (s : Vec Ideal S256x128 .f32) (l : Fin 256) (y : Fin 128) :
    k0_pay82 x y' s (ix2 l y) = Ideal.exp2 (k0_pay80 x y' s (ix2 l y) - Finset.univ.fold max ⊥ fun l : Fin 256 => k0_pay80 x y' s (ix2 l y)) := by
  pointwise [k0_pay82, k0_pay81]
  rw [← neg_inf]
  rfl

theorem one_apply (c : Fin 512) : k0_pay92 (F := Ideal) (ix2 0 c) = 1 := by
  pointwise [k0_pay92]

theorem zero_apply (h : Fin 2) (r : Fin 80) (y : Fin 256) : k0_pay93 (F := Ideal) (ix3 h r y) = 0 := by
  pointwise [k0_pay93]

theorem out_apply (a : Vec Ideal S1x64x256 .f32) (b : Vec Ideal S1x1x256 .f32) (c : Vec Ideal S1x64x256 .f32) (d : Vec Ideal S1x1x256 .f32) (y : Fin 256) (f : Fin 128) :
    k0_pay97 a b c d (ix2 y f) = if e : f.val < 64 then Ideal.div (a (ix3 0 ⟨f.val, e⟩ y)) (b (ix3 0 0 y)) else Ideal.div (c (ix3 0 ⟨f.val - 64, by omega⟩ y)) (d (ix3 0 0 y)) := by
  pointwise [k0_pay97]

theorem block_apply (x : FVec Ideal S256x128 .bf16) (y : Fin 256) (f : Fin 128) : k0_pay1 x (ix3 0 y f) = x (ix2 y f) := by
  pointwise [k0_pay1]

end Cert.KernelIdeal.Moba

end
-- ==== Proof.Moba.Word.lean ====
/- Where the kernel takes its blocks, and the word in which it keeps the blocks a query attends to. -/
module

public import proofs.«01_k».proof.Proof.Moba.Read
public import proofs.«01_k».proof.Proof.Moba.Pick

@[expose] public section

noncomputable section

namespace Cert.KernelIdeal.Moba

open Cert.KernelIdeal Cert.KernelIdeal.Gen
open Idealize.ShloMosaic Cert.Moba
open VecWindow (window put)

/-- The block of turn `t`: the tile's own first, then the past ones in order. -/
def blk (t i : ℕ) : ℕ := if t = 0 then i else t - 1

theorem trips_eq : ∀ t1 : Fin k0_t1_loop.trips, (k0_t2_loop t1).trips = t1.val / 2 := by decide +kernel
theorem off1_eq : ∀ t1 : Fin k0_t1_loop.trips, k0_off1 t1 = ![0, 256 * t1.val, 0] := by decide +kernel
theorem off2_eq : ∀ t1 : Fin k0_t1_loop.trips, k0_off2 t1 0#32 = ![0, 256 * t1.val, 0] ∧ k0_off2 t1 1#32 = ![0, 0, 0] := by decide +kernel
theorem off3_eq : ∀ t1 : Fin k0_t1_loop.trips, ∀ t2 : Fin (k0_t2_loop t1).trips, ∀ r : Fin 2, k0_off3 t1 t2 (BitVec.ofNat 32 r.val) = ![0, 256 * (min (2 * t2.val + r.val + 2) t1.val - 1), 0] := by decide +kernel
theorem off4_eq : ∀ t1 : Fin k0_t1_loop.trips, ∀ t2 : Fin (k0_t2_loop t1).trips, ∀ r : Fin 2, k0_off4 t1 t2 (BitVec.ofNat 32 r.val) = ![0, 0, 256 * blk (2 * t2.val + r.val) t1.val] := by decide +kernel
theorem off7_eq : ∀ t1 : Fin k0_t1_loop.trips, k0_cond1 t1 = 1#1 → t1.val % 2 = 1 ∧ k0_off7 t1 = ![0, 0, 256 * blk (t1.val - 1) t1.val] ∧ k0_off8 t1 = ![0, 0, 256 * blk t1.val t1.val] := by decide +kernel
theorem off9_eq : ∀ t1 : Fin k0_t1_loop.trips, k0_cond2 t1 = 1#1 → t1.val % 2 = 0 ∧ k0_off9 t1 = ![0, 0, 256 * blk t1.val t1.val] := by decide +kernel

theorem iv_eq : ∀ t1 : Fin k0_t1_loop.trips, Scf.iv 0#32 1#32 t1 = BitVec.ofNat 32 t1.val := by decide +kernel
theorem over0 : ∀ t1 : Fin k0_t1_loop.trips, Scalar.cmpi .sgt (Scf.iv 0#32 1#32 t1) 0#32 = BitVec.ofBool (decide (0 < t1.val)) := by decide +kernel
theorem over1 : ∀ t1 : Fin k0_t1_loop.trips, Scalar.cmpi .sgt (Scf.iv 0#32 1#32 t1) 1#32 = BitVec.ofBool (decide (1 < t1.val)) := by decide +kernel
theorem over2 : ∀ t1 : Fin k0_t1_loop.trips, Scalar.cmpi .sgt (Scf.iv 0#32 1#32 t1) 2#32 = BitVec.ofBool (decide (2 < t1.val)) := by decide +kernel

theorem t1_lt (t1 : Fin k0_t1_loop.trips) : t1.val < 32 := t1.isLt

/-- The first block of the largest gate, as the kernel looks for it. -/
def firstWord (h : Fin 32 → EReal) : BitVec 32 :=
  Finset.univ.fold IntOp.minsi 2147483647#32 fun x : Fin 32 => if h x = Finset.univ.fold max ⊥ h then BitVec.ofNat 32 x.val else 32#32

theorem first0_word (t1 : Fin k0_t1_loop.trips) (x : Vec Ideal S1x256x128 .f32) (km : Vec Ideal S1x32x128 .f32) (c : Fin 512) :
    k0_pay68 (k0_pay67 0#32 1#32 t1 x km) (ix2 0 c) = firstWord fun n => k0_pay65 0#32 1#32 t1 x km (ix2 n c) := by
  pointwise [k0_pay68, k0_pay67]
  rw [neg_inf]
  rfl

theorem second_gate (g : FVec Ideal S32x512 .f32) (m : IVec S32x512 32) (k : Fin 32) (c : Fin 512) :
    k0_pay69 (iota Kind.tc S32x512 32 [0] iota_S32x512_d0_w32) g m (ix2 k c) = Scalar.select (IntOp.cmpi .eq (BitVec.ofNat 32 k.val) (k0_pay68 m (ix2 0 c))) ⊥ (g (ix2 k c)) := by
  pointwise [k0_pay69]
  rw [neg_inf]

theorem second_word (g : FVec Ideal S32x512 .f32) (m : IVec S32x512 32) (c : Fin 512) :
    k0_pay70 (iota Kind.tc S32x512 32 [0] iota_S32x512_d0_w32) g m (ix2 0 c) = firstWord fun n => k0_pay69 (iota Kind.tc S32x512 32 [0] iota_S32x512_d0_w32) g m (ix2 n c) := by
  pointwise [k0_pay70]
  rw [neg_inf]
  rfl

theorem third_word (g : FVec Ideal S32x512 .f32) (m : IVec S32x512 32) (c : Fin 512) :
    k0_pay72 (iota Kind.tc S32x512 32 [0] iota_S32x512_d0_w32) g m (ix2 0 c) = IntOp.shli .vector 1#32 (firstWord fun n => Scalar.select (IntOp.cmpi .eq (BitVec.ofNat 32 n.val) (k0_pay70 (iota Kind.tc S32x512 32 [0] iota_S32x512_d0_w32) g m (ix2 0 c))) ⊥ (k0_pay69 (iota Kind.tc S32x512 32 [0] iota_S32x512_d0_w32) g m (ix2 n c))) := by
  pointwise [k0_pay72]
  rw [neg_inf]
  rfl

theorem word_apply (g : FVec Ideal S32x512 .f32) (m : IVec S32x512 32) (w : BitVec 32) (b : BitVec 1) (c : Fin 512) :
    k0_pay74 (k0_pay71 w (iota Kind.tc S32x512 32 [0] iota_S32x512_d0_w32) g k0_pay66 m) b (k0_pay72 (iota Kind.tc S32x512 32 [0] iota_S32x512_d0_w32) g m) k0_pay73 (ix2 0 c)
      = IntOp.ori (IntOp.ori (IntOp.ori 0#32 (Scalar.select (Scalar.cmpi .sgt w 0#32) (IntOp.shli .vector 1#32 (k0_pay68 m (ix2 0 c))) 0#32))
          (Scalar.select (Scalar.cmpi .sgt w 1#32) (IntOp.shli .vector 1#32 (k0_pay70 (iota Kind.tc S32x512 32 [0] iota_S32x512_d0_w32) g m (ix2 0 c))) 0#32))
        (Scalar.select b (k0_pay72 (iota Kind.tc S32x512 32 [0] iota_S32x512_d0_w32) g m (ix2 0 c)) 0#32) := by
  pointwise [k0_pay74, k0_pay71, k0_pay66, k0_pay73]

theorem term_bit : ∀ (b : Bool) (f u : Fin 32),
    (Scalar.select (BitVec.ofBool b) (IntOp.shli .vector 1#32 (BitVec.ofNat 32 f.val)) 0#32).getLsbD u.val = (b && decide (u = f)) := by decide +kernel

theorem same_lane (n f : Fin 32) (a b : EReal) :
    Scalar.select (IntOp.cmpi .eq (BitVec.ofNat 32 n.val) (BitVec.ofNat 32 f.val)) a b = if n = f then a else b := by
  have : ∀ n f : Fin 32, IntOp.cmpi .eq (BitVec.ofNat 32 n.val) (BitVec.ofNat 32 f.val) = BitVec.ofBool (decide (n = f)) := by decide +kernel
  rw [this, select_bool]

/-- A bit of the word says whether the block is among the first three, the past blocks ranked by their gates. -/
theorem word_bit (t1 : Fin k0_t1_loop.trips) (qv : Vec Ideal S1x8192x128 .f32) (km : Vec Ideal S1x32x128 .f32) (c : Fin 512) (g : Fin 32 → EReal)
    (hg : ∀ n, k0_pay65 0#32 1#32 t1 (window qv (k0_off1 t1) S1x256x128.size (k0_off1_inb t1)) km (ix2 n c) = g n)
    (h0 : ∀ b : Fin 32, b.val < t1.val → g b ≠ ⊥) (h1 : ∀ b : Fin 32, ¬ b.val < t1.val → g b = ⊥) (u : Fin 32) :
    (tileBits t1 qv km (ix2 0 c)).getLsbD u.val = decide (place g u < min 3 t1.val) := by
  have ht := t1_lt t1
  unfold tileBits
  dsimp only
  rw [word_apply, third_word, second_word, first0_word]
  have e : (fun n => k0_pay65 0#32 1#32 t1 (window qv (k0_off1 t1) S1x256x128.size (k0_off1_inb t1)) km (ix2 n c)) = g := funext hg
  rw [e]
  obtain ⟨f0, hf0, hf0', w0⟩ := first_word g
  have e1 : (fun n : Fin 32 => k0_pay69 (iota Kind.tc S32x512 32 [0] iota_S32x512_d0_w32) (k0_pay65 0#32 1#32 t1 (window qv (k0_off1 t1) S1x256x128.size (k0_off1_inb t1)) km)
      (k0_pay67 0#32 1#32 t1 (window qv (k0_off1 t1) S1x256x128.size (k0_off1_inb t1)) km) (ix2 n c)) = fun n => if n = f0 then ⊥ else g n := by
    funext n
    rw [second_gate, first0_word, e, hg]
    refine Eq.trans ?_ (same_lane n f0 ⊥ (g n))
    exact congrArg (fun z => Scalar.select (IntOp.cmpi .eq (BitVec.ofNat 32 n.val) z) ⊥ (g n)) w0
  rw [e1]
  obtain ⟨f1, hf1, hf1', w1⟩ := first_word fun n => if n = f0 then ⊥ else g n
  have e2 : (fun n : Fin 32 => Scalar.select (IntOp.cmpi .eq (BitVec.ofNat 32 n.val) (firstWord fun n => if n = f0 then ⊥ else g n)) ⊥
      (k0_pay69 (iota Kind.tc S32x512 32 [0] iota_S32x512_d0_w32) (k0_pay65 0#32 1#32 t1 (window qv (k0_off1 t1) S1x256x128.size (k0_off1_inb t1)) km)
      (k0_pay67 0#32 1#32 t1 (window qv (k0_off1 t1) S1x256x128.size (k0_off1_inb t1)) km) (ix2 n c))) = fun n => if n = f1 then ⊥ else if n = f0 then ⊥ else g n := by
    funext n
    have := congrFun e1 n
    dsimp only at this
    rw [this]
    refine Eq.trans ?_ (same_lane n f1 ⊥ _)
    exact congrArg (fun z => Scalar.select (IntOp.cmpi .eq (BitVec.ofNat 32 n.val) z) ⊥ (if n = f0 then ⊥ else g n)) w1
  rw [e2]
  obtain ⟨f2, hf2, hf2', w2⟩ := first_word fun n => if n = f1 then ⊥ else if n = f0 then ⊥ else g n
  have w0' : firstWord g = BitVec.ofNat 32 f0.val := w0
  have w1' : (firstWord fun n => if n = f0 then ⊥ else g n) = BitVec.ofNat 32 f1.val := w1
  have w2' : (firstWord fun n => if n = f1 then ⊥ else if n = f0 then ⊥ else g n) = BitVec.ofNat 32 f2.val := w2
  rw [w0', w1', w2', over0, over1, over2]
  unfold IntOp.ori
  rw [BitVec.getLsbD_or, BitVec.getLsbD_or, BitVec.getLsbD_or, term_bit, term_bit, term_bit]
  have := bits_iff g (by omega : t1.val ≤ 32) h0 h1 f0 f1 f2 _ _ hf0 hf0' (fun b => rfl) hf1 hf1' (fun b => rfl) hf2 hf2' u
  rw [Bool.eq_iff_iff]
  simp only [BitVec.getLsbD_zero, Bool.false_or, Bool.or_eq_true, Bool.and_eq_true, decide_eq_true_eq]
  rw [← this, or_assoc]

/-- The bit a turn asks for. -/
theorem bitOf_eq (u : Fin 32) (w : BitVec 32) : bitOf (BitVec.ofNat 32 (u.val + 1)) w = BitVec.ofBool (w.getLsbD u.val) := by
  have : ∀ u : Fin 32, Scalar.minsi (Scalar.subi (BitVec.ofNat 32 (u.val + 1)) 1#32) 31#32 = BitVec.ofNat 32 u.val := by decide +kernel
  have lt : ∀ u : Fin 32, (BitVec.ofNat 32 u.val).toNat = u.val := by decide +kernel
  unfold bitOf IntOp.andi IntOp.shrui
  rw [this, lt, if_pos u.isLt, BitVec.and_one_eq_setWidth_ofBool_getLsbD]
  have : (w >>> BitVec.ofNat 32 u.val).getLsbD 0 = w.getLsbD u.val := by
    rw [BitVec.ushiftRight_eq', BitVec.getLsbD_ushiftRight, lt, Nat.add_zero]
  rw [this]
  cases w.getLsbD u.val <;> rfl

end Cert.KernelIdeal.Moba

end
-- ==== Proof.Moba.TileRead.lean ====
/- The parts of a tile's state read at an index: the columns of its two heads, the accumulators, and the start of the own
   block, which is written a quarter of the columns at a time. -/
module

public import proofs.«01_k».proof.Proof.Moba.Word
public import proofs.«01_k».proof.Proof.Moba.Turn

@[expose] public section

noncomputable section

namespace Cert.KernelIdeal.Moba

open Cert.KernelIdeal Cert.KernelIdeal.Gen
open Idealize.ShloMosaic Cert.Moba
open VecWindow (window put)

/-- The column of head `h` of the pair and query `y`. -/
def col (h : Fin 2) (y : Fin 256) : Fin 512 := ⟨256 * h.val + y.val, by omega⟩

theorem window_at {s : Shape} {α : Type} (x : s.Idx → α) {off size : Fin s.rank → ℕ} (inb : ∀ a, off a + size a ≤ s.size a)
    (y : (Rect.unit off size inb).shape.Idx) (z : s.Idx) (h : ∀ a : Fin s.rank, off a + (y a).val = (z a).val) : window x off size inb y = x z := by
  refine congrArg x (funext fun a => Fin.ext ?_)
  have e : ((Rect.unit off size inb).emb y a).val = off a + 1 * (y a).val := rfl
  rw [e, one_mul, h a]

theorem keys_at (k : Vec Ideal S1x8192x128 .bf16) {off : Fin 3 → ℕ} (inb : ∀ a, off a + S1x256x128.size a ≤ S1x8192x128.size a) (n : ℕ) (hn : n < 32) (e : off = ![0, 256 * n, 0])
    (l : Fin 256) (x : Fin 128) : window k off S1x256x128.size inb (ix3 0 l x) = k (ix3 0 ⟨256 * n + l.val, by omega⟩ x) := by
  refine window_at k inb _ _ fun a => ?_
  subst e
  fin_cases a
  · rfl
  · rfl
  · exact Nat.zero_add _

theorem queries_at (k : Vec Ideal S1x8192x128 .f32) {off : Fin 3 → ℕ} (inb : ∀ a, off a + S1x256x128.size a ≤ S1x8192x128.size a) (n : ℕ) (hn : n < 32) (e : off = ![0, 256 * n, 0])
    (l : Fin 256) (x : Fin 128) : window k off S1x256x128.size inb (ix3 0 l x) = k (ix3 0 ⟨256 * n + l.val, by omega⟩ x) := by
  refine window_at k inb _ _ fun a => ?_
  subst e
  fin_cases a
  · rfl
  · rfl
  · exact Nat.zero_add _

theorem values_at (v : Vec Ideal S1x128x8192 .bf16) {off : Fin 3 → ℕ} (inb : ∀ a, off a + S1x128x256.size a ≤ S1x128x8192.size a) (n : ℕ) (hn : n < 32) (e : off = ![0, 0, 256 * n])
    (x : Fin 128) (l : Fin 256) : window v off S1x128x256.size inb (ix3 0 x l) = v (ix3 0 x ⟨256 * n + l.val, by omega⟩) := by
  refine window_at v inb _ _ fun a => ?_
  subst e
  fin_cases a
  · rfl
  · exact Nat.zero_add _
  · rfl

theorem getA0_apply (x : Vec Ideal S2x80x256 .f32) (r : Fin 80) (y : Fin 256) : getA0 x (ix3 0 r y) = x (ix3 0 r y) :=
  window_at x _ _ _ fun a => by fin_cases a <;> exact Nat.zero_add _
theorem getA1_apply (x : Vec Ideal S2x80x256 .f32) (r : Fin 80) (y : Fin 256) : getA1 x (ix3 0 r y) = x (ix3 1 r y) :=
  window_at x _ _ _ fun a => by
    fin_cases a
    · rfl
    · exact Nat.zero_add _
    · exact Nat.zero_add _
theorem rowL_apply (x : Vec Ideal S1x512 .f32) (y : Fin 256) : rowL x (ix2 0 y) = x (ix2 0 (col 0 y)) :=
  window_at x _ _ _ fun a => by fin_cases a <;> rfl
theorem rowR_apply (x : Vec Ideal S1x512 .f32) (y : Fin 256) : rowR x (ix2 0 y) = x (ix2 0 (col 1 y)) :=
  window_at x _ _ _ fun a => by fin_cases a <;> rfl
theorem colL_apply (x : Vec Ideal S256x512 .bf16) (l : Fin 256) (y : Fin 256) : colL x (ix2 l y) = x (ix2 l (col 0 y)) :=
  window_at x _ _ _ fun a => by
    fin_cases a
    · exact Nat.zero_add _
    · rfl
theorem colR_apply (x : Vec Ideal S256x512 .bf16) (l : Fin 256) (y : Fin 256) : colR x (ix2 l y) = x (ix2 l (col 1 y)) :=
  window_at x _ _ _ fun a => by
    fin_cases a
    · exact Nat.zero_add _
    · rfl

/-- The accumulators after a turn: rescaled, and a block's weighted rows added. -/
def accNext (acc : Vec Ideal S2x80x256 .f32) (vb : Vec Ideal S1x128x256 .bf16) (a : Vec Ideal S1x512 .f32) (p : Vec Ideal S256x512 .bf16) : Vec Ideal S2x80x256 .f32 :=
  putA1 (putA0 acc (k0_pay12 (k0_pay11 vb (rowL a) (getA0 acc) (colL p)))) (k0_pay13 (k0_pay9 vb) (k0_pay10 (F := Ideal)) (rowR a) (getA1 acc) (colR p))

theorem accNext_apply (acc : Vec Ideal S2x80x256 .f32) (vb : Vec Ideal S1x128x256 .bf16) (a : Vec Ideal S1x512 .f32) (p : Vec Ideal S256x512 .bf16) (h : Fin 2) (r : Fin 80) (y : Fin 256) :
    accNext acc vb a p (ix3 h r y) = a (ix2 0 (col h y)) * acc (ix3 h r y) + ∑ l : Fin 256, rowOf h vb r l * p (ix2 l (col h y)) := by
  unfold accNext
  have two : h = 0 ∨ h = 1 := by omega
  rcases two with rfl | rfl
  · refine (getA0_apply _ r y).symm.trans ?_
    rw [getA0_putA1, getA0_putA0, accL_apply, rowL_apply, getA0_apply]
    exact congrArg _ (Finset.sum_congr rfl fun l _ => by rw [colL_apply])
  · refine (getA1_apply _ r y).symm.trans ?_
    rw [getA1_putA1, accR_apply, rowR_apply, getA1_apply]
    exact congrArg _ (Finset.sum_congr rfl fun l _ => by rw [colR_apply])

/-- The column of quarter `j` and place `y`. -/
def colQ (j : Fin 4) (y : Fin 128) : Fin 512 := ⟨128 * j.val + y.val, by omega⟩

theorem fillRow_apply (x : Vec Ideal S1x512 .f32) (a b c d : Vec Ideal S1x128 .f32) (j : Fin 4) (y : Fin 128) :
    fillRow x a b c d (ix2 0 (colQ j y)) = (match j with | 0 => a | 1 => b | 2 => c | 3 => d) (ix2 0 y) := by
  unfold fillRow
  have four : j = 0 ∨ j = 1 ∨ j = 2 ∨ j = 3 := by omega
  rcases four with rfl | rfl | rfl | rfl
  · refine (window_at (s := S1x512) _ (size := S1x128.size) inb_S1x512_S1x128_0_0 (ix2 0 y) _ fun a => by fin_cases a <;> rfl).symm.trans ?_
    rw [VecWindow.window_put_of_disjoint _ _ _ _ _ _ _ 1 (.inl (by decide)), VecWindow.window_put_of_disjoint _ _ _ _ _ _ _ 1 (.inl (by decide)),
      VecWindow.window_put_of_disjoint _ _ _ _ _ _ _ 1 (.inl (by decide)), VecWindow.window_put_same]
  · refine (window_at (s := S1x512) _ (size := S1x128.size) inb_S1x512_S1x128_0_128 (ix2 0 y) _ fun a => by fin_cases a <;> rfl).symm.trans ?_
    rw [VecWindow.window_put_of_disjoint _ _ _ _ _ _ _ 1 (.inl (by decide)), VecWindow.window_put_of_disjoint _ _ _ _ _ _ _ 1 (.inl (by decide)),
      VecWindow.window_put_same]
  · refine (window_at (s := S1x512) _ (size := S1x128.size) inb_S1x512_S1x128_0_256 (ix2 0 y) _ fun a => by fin_cases a <;> rfl).symm.trans ?_
    rw [VecWindow.window_put_of_disjoint _ _ _ _ _ _ _ 1 (.inl (by decide)), VecWindow.window_put_same]
  · refine (window_at (s := S1x512) _ (size := S1x128.size) inb_S1x512_S1x128_0_384 (ix2 0 y) _ fun a => by fin_cases a <;> rfl).symm.trans ?_
    rw [VecWindow.window_put_same]

theorem fillCol_apply (x : Vec Ideal S256x512 .bf16) (a b c d : Vec Ideal S256x128 .bf16) (j : Fin 4) (l : Fin 256) (y : Fin 128) :
    fillCol x a b c d (ix2 l (colQ j y)) = (match j with | 0 => a | 1 => b | 2 => c | 3 => d) (ix2 l y) := by
  unfold fillCol
  have four : j = 0 ∨ j = 1 ∨ j = 2 ∨ j = 3 := by omega
  rcases four with rfl | rfl | rfl | rfl
  · refine (window_at (s := S256x512) _ (size := S256x128.size) inb_S256x512_S256x128_0_0 (ix2 l y) _ fun a => by fin_cases a <;> [exact Nat.zero_add _; rfl]).symm.trans ?_
    rw [VecWindow.window_put_of_disjoint _ _ _ _ _ _ _ 1 (.inl (by decide)), VecWindow.window_put_of_disjoint _ _ _ _ _ _ _ 1 (.inl (by decide)),
      VecWindow.window_put_of_disjoint _ _ _ _ _ _ _ 1 (.inl (by decide)), VecWindow.window_put_same]
  · refine (window_at (s := S256x512) _ (size := S256x128.size) inb_S256x512_S256x128_0_128 (ix2 l y) _ fun a => by fin_cases a <;> [exact Nat.zero_add _; rfl]).symm.trans ?_
    rw [VecWindow.window_put_of_disjoint _ _ _ _ _ _ _ 1 (.inl (by decide)), VecWindow.window_put_of_disjoint _ _ _ _ _ _ _ 1 (.inl (by decide)),
      VecWindow.window_put_same]
  · refine (window_at (s := S256x512) _ (size := S256x128.size) inb_S256x512_S256x128_0_256 (ix2 l y) _ fun a => by fin_cases a <;> [exact Nat.zero_add _; rfl]).symm.trans ?_
    rw [VecWindow.window_put_of_disjoint _ _ _ _ _ _ _ 1 (.inl (by decide)), VecWindow.window_put_same]
  · refine (window_at (s := S256x512) _ (size := S256x128.size) inb_S256x512_S256x128_0_384 (ix2 l y) _ fun a => by fin_cases a <;> [exact Nat.zero_add _; rfl]).symm.trans ?_
    rw [VecWindow.window_put_same]

/-- A column of scores with the keys after the query left out. -/
def maskQ (s : Vec Ideal S256x512 .f32) (j : Fin 4) (y : Fin 128) (l : Fin 256) : EReal :=
  if l.val ≤ (128 * j.val + y.val) % 256 then s (ix2 l (colQ j y)) else ⊥

theorem quarter_apply (s : Vec Ideal S256x512 .f32) (j : Fin 4) {o : Fin 2 → ℕ} (inb : ∀ a, o a + S256x128.size a ≤ S256x512.size a) (e : o = ![0, 128 * j.val]) (l : Fin 256) (y : Fin 128) :
    quarter s o inb (ix2 l y) = s (ix2 l (colQ j y)) :=
  window_at s _ _ _ fun a => by
    subst e
    fin_cases a
    · exact Nat.zero_add _
    · rfl

theorem low_mask (s : Vec Ideal S256x512 .f32) (j : Fin 4) (hj : j.val % 2 = 0) {o : Fin 2 → ℕ} (inb : ∀ a, o a + S256x128.size a ≤ S256x512.size a) (e : o = ![0, 128 * j.val]) (y : Fin 128) :
    (fun l : Fin 256 => k0_pay76 (quarter s o inb) (ix2 l y)) = maskQ s j y := by
  funext l
  rw [low_apply, quarter_apply s j inb e]
  exact if_congr (by omega) rfl rfl

theorem high_mask (s : Vec Ideal S256x512 .f32) (j : Fin 4) (hj : j.val % 2 = 1) {o : Fin 2 → ℕ} (inb : ∀ a, o a + S256x128.size a ≤ S256x512.size a) (e : o = ![0, 128 * j.val]) (y : Fin 128) :
    (fun l : Fin 256 => k0_pay80 (iota Kind.tc S256x128 32 [0] iota_S256x128_d0_w32) (iota Kind.tc S256x128 32 [1] iota_S256x128_d1_w32) (quarter s o inb) (ix2 l y)) = maskQ s j y := by
  funext l
  rw [high_apply, quarter_apply s j inb e]
  exact if_congr (by omega) rfl rfl

theorem low_max (s : Vec Ideal S256x512 .f32) (j : Fin 4) (hj : j.val % 2 = 0) {o : Fin 2 → ℕ} (inb : ∀ a, o a + S256x128.size a ≤ S256x512.size a) (e : o = ![0, 128 * j.val]) (y : Fin 128) :
    k0_pay79 (k0_pay77 (quarter s o inb)) (ix2 0 y) = Finset.univ.fold max ⊥ (maskQ s j y) := by
  rw [top0_apply, low_mask s j hj inb e]

theorem high_max (s : Vec Ideal S256x512 .f32) (j : Fin 4) (hj : j.val % 2 = 1) {o : Fin 2 → ℕ} (inb : ∀ a, o a + S256x128.size a ≤ S256x512.size a) (e : o = ![0, 128 * j.val]) (y : Fin 128) :
    k0_pay83 (iota Kind.tc S256x128 32 [0] iota_S256x128_d0_w32) (iota Kind.tc S256x128 32 [1] iota_S256x128_d1_w32) (quarter s o inb) (ix2 0 y) = Finset.univ.fold max ⊥ (maskQ s j y) := by
  rw [top1_apply, high_mask s j hj inb e]

theorem low_weight (s : Vec Ideal S256x512 .f32) (j : Fin 4) (hj : j.val % 2 = 0) {o : Fin 2 → ℕ} (inb : ∀ a, o a + S256x128.size a ≤ S256x512.size a) (e : o = ![0, 128 * j.val]) (l : Fin 256) (y : Fin 128) :
    k0_pay78 (quarter s o inb) (ix2 l y) = Ideal.exp2 (maskQ s j y l - Finset.univ.fold max ⊥ (maskQ s j y)) := by
  rw [first0_apply, low_mask s j hj inb e]
  exact congrArg (fun z => Ideal.exp2 (z - Finset.univ.fold max ⊥ (maskQ s j y))) (congrFun (low_mask s j hj inb e y) l)

theorem high_weight (s : Vec Ideal S256x512 .f32) (j : Fin 4) (hj : j.val % 2 = 1) {o : Fin 2 → ℕ} (inb : ∀ a, o a + S256x128.size a ≤ S256x512.size a) (e : o = ![0, 128 * j.val]) (l : Fin 256) (y : Fin 128) :
    k0_pay82 (iota Kind.tc S256x128 32 [0] iota_S256x128_d0_w32) (iota Kind.tc S256x128 32 [1] iota_S256x128_d1_w32) (quarter s o inb) (ix2 l y) = Ideal.exp2 (maskQ s j y l - Finset.univ.fold max ⊥ (maskQ s j y)) := by
  rw [first1_apply, high_mask s j hj inb e]
  exact congrArg (fun z => Ideal.exp2 (z - Finset.univ.fold max ⊥ (maskQ s j y))) (congrFun (high_mask s j hj inb e y) l)

theorem third_max (s : Vec Ideal S256x128 .f32) : k0_pay87 (iota Kind.tc S256x128 32 [0] iota_S256x128_d0_w32) (iota Kind.tc S256x128 32 [1] iota_S256x128_d1_w32) s = k0_pay79 (k0_pay77 s) := rfl
theorem fourth_max (s : Vec Ideal S256x128 .f32) : k0_pay91 (iota Kind.tc S256x128 32 [0] iota_S256x128_d0_w32) (iota Kind.tc S256x128 32 [1] iota_S256x128_d1_w32) s = k0_pay83 (iota Kind.tc S256x128 32 [0] iota_S256x128_d0_w32) (iota Kind.tc S256x128 32 [1] iota_S256x128_d1_w32) s := rfl
theorem third_weight (s : Vec Ideal S256x128 .f32) : k0_pay86 (iota Kind.tc S256x128 32 [0] iota_S256x128_d0_w32) (iota Kind.tc S256x128 32 [1] iota_S256x128_d1_w32) s = k0_pay78 s := rfl
theorem fourth_weight (s : Vec Ideal S256x128 .f32) : k0_pay90 (iota Kind.tc S256x128 32 [0] iota_S256x128_d0_w32) (iota Kind.tc S256x128 32 [1] iota_S256x128_d1_w32) s = k0_pay82 (iota Kind.tc S256x128 32 [0] iota_S256x128_d0_w32) (iota Kind.tc S256x128 32 [1] iota_S256x128_d1_w32) s := rfl

theorem start_max (t1 : Fin k0_t1_loop.trips) (qv : Vec Ideal S1x8192x128 .f32) (k : Vec Ideal S1x8192x128 .bf16) (p1 : Vec Ideal S256x512 .bf16) (a1 : Vec Ideal S1x512 .f32) (j : Fin 4) (y : Fin 128) :
    (startSt t1 qv k p1 a1).m (ix2 0 (colQ j y)) = Finset.univ.fold max ⊥ (maskQ (startSt t1 qv k p1 a1).s0 j y) := by
  unfold startSt
  dsimp only
  generalize (k0_pay75 (F := Ideal) _ _) = s
  rw [fillRow_apply, third_max, fourth_max]
  have four : j = 0 ∨ j = 1 ∨ j = 2 ∨ j = 3 := by omega
  rcases four with rfl | rfl | rfl | rfl
  · exact low_max s 0 rfl _ rfl y
  · exact high_max s 1 rfl _ rfl y
  · exact low_max s 2 rfl _ rfl y
  · exact high_max s 3 rfl _ rfl y

theorem start_weight (t1 : Fin k0_t1_loop.trips) (qv : Vec Ideal S1x8192x128 .f32) (k : Vec Ideal S1x8192x128 .bf16) (p1 : Vec Ideal S256x512 .bf16) (a1 : Vec Ideal S1x512 .f32) (j : Fin 4) (l : Fin 256) (y : Fin 128) :
    (startSt t1 qv k p1 a1).p0 (ix2 l (colQ j y))
      = Ideal.exp2 (maskQ (startSt t1 qv k p1 a1).s0 j y l - Finset.univ.fold max ⊥ (maskQ (startSt t1 qv k p1 a1).s0 j y)) := by
  unfold startSt
  dsimp only
  generalize (k0_pay75 (F := Ideal) _ _) = s
  rw [fillCol_apply, third_weight, fourth_weight]
  have four : j = 0 ∨ j = 1 ∨ j = 2 ∨ j = 3 := by omega
  rcases four with rfl | rfl | rfl | rfl
  · exact low_weight s 0 rfl _ rfl l y
  · exact high_weight s 1 rfl _ rfl l y
  · exact low_weight s 2 rfl _ rfl l y
  · exact high_weight s 3 rfl _ rfl l y

/-- The scores of the own block that a query sees. -/
def mask (s : Vec Ideal S256x512 .f32) (h : Fin 2) (y : Fin 256) (l : Fin 256) : EReal := if l.val ≤ y.val then s (ix2 l (col h y)) else ⊥

theorem col_quarter (h : Fin 2) (y : Fin 256) : ∃ j y', col h y = colQ j y' ∧ ∀ s, maskQ s j y' = mask s h y := by
  have e : col h y = colQ ⟨(256 * h.val + y.val) / 128, by omega⟩ ⟨(256 * h.val + y.val) % 128, by omega⟩ :=
    Fin.ext (by show 256 * h.val + y.val = 128 * ((256 * h.val + y.val) / 128) + (256 * h.val + y.val) % 128; omega)
  refine ⟨_, _, e, fun s => funext fun l => ?_⟩
  unfold maskQ mask
  rw [← e]
  exact if_congr (by show l.val ≤ (128 * ((256 * h.val + y.val) / 128) + (256 * h.val + y.val) % 128) % 256 ↔ _; omega) rfl rfl

theorem start_max' (t1 : Fin k0_t1_loop.trips) (qv : Vec Ideal S1x8192x128 .f32) (k : Vec Ideal S1x8192x128 .bf16) (p1 : Vec Ideal S256x512 .bf16) (a1 : Vec Ideal S1x512 .f32) (h : Fin 2) (y : Fin 256) :
    (startSt t1 qv k p1 a1).m (ix2 0 (col h y)) = Finset.univ.fold max ⊥ (mask (startSt t1 qv k p1 a1).s0 h y) := by
  obtain ⟨j, y', e, hm⟩ := col_quarter h y
  rw [e, start_max, hm]

theorem start_weight' (t1 : Fin k0_t1_loop.trips) (qv : Vec Ideal S1x8192x128 .f32) (k : Vec Ideal S1x8192x128 .bf16) (p1 : Vec Ideal S256x512 .bf16) (a1 : Vec Ideal S1x512 .f32) (h : Fin 2) (l y : Fin 256) :
    (startSt t1 qv k p1 a1).p0 (ix2 l (col h y)) = Ideal.exp2 (mask (startSt t1 qv k p1 a1).s0 h y l - Finset.univ.fold max ⊥ (mask (startSt t1 qv k p1 a1).s0 h y)) := by
  obtain ⟨j, y', e, hm⟩ := col_quarter h y
  rw [e, start_weight, hm]

/-- The result of a tile: each head's weighted values over its weights' sum. -/
theorem outOf_apply (x : Vec Ideal S2x80x256 .f32) (y : Fin 256) (h : Fin 2) (d : Fin 64) :
    outOf x (ix2 y ⟨64 * h.val + d.val, by omega⟩) = Ideal.div (x (ix3 h ⟨d.val, by omega⟩ y)) (x (ix3 h 64 y)) := by
  unfold outOf
  rw [out_apply]
  have two : h = 0 ∨ h = 1 := by omega
  rcases two with rfl | rfl
  · rw [dif_pos (by show 64 * 0 + d.val < 64; omega)]
    refine congrArg₂ Ideal.div (window_at x _ _ _ fun a => ?_) (window_at x _ _ _ fun a => ?_)
    · fin_cases a
      · rfl
      · show 0 + (64 * 0 + d.val) = d.val; omega
      · exact Nat.zero_add _
    · fin_cases a
      · rfl
      · rfl
      · exact Nat.zero_add _
  · rw [dif_neg (by show ¬ 64 * 1 + d.val < 64; omega)]
    refine congrArg₂ Ideal.div (window_at x _ _ _ fun a => ?_) (window_at x _ _ _ fun a => ?_)
    · fin_cases a
      · rfl
      · show 0 + (64 * 1 + d.val - 64) = d.val; omega
      · exact Nat.zero_add _
    · fin_cases a
      · rfl
      · rfl
      · exact Nat.zero_add _

end Cert.KernelIdeal.Moba

end
-- ==== Proof.Moba.TileValue.lean ====
/- The value of a tile: the running sums of the kernel's turns, and their quotient. -/
module

public import proofs.«01_k».proof.Proof.Moba.TileRead

@[expose] public section

noncomputable section

namespace Cert.KernelIdeal.Moba

open Cert.KernelIdeal Cert.KernelIdeal.Gen
open Idealize.ShloMosaic Cert.Moba
open VecWindow (window put)

/-- The lane of head `h` of the pair and feature `x`. -/
def lane (h : Fin 2) (x : Fin 64) : Fin 128 := ⟨64 * h.val + x.val, by omega⟩
/-- The row of block `n` and place `l`. -/
def row (n : Fin 32) (l : Fin 256) : Fin 8192 := ⟨256 * n.val + l.val, by omega⟩

variable (Q K V : Fin 8192 → Fin 128 → ℝ)

def qOf (i : Fin 32) (h : Fin 2) (y : Fin 256) : Fin 64 → ℝ := fun x => Q (row i y) (lane h x)
def kOf (h : Fin 2) : Fin 32 → Fin 256 → Fin 64 → ℝ := fun n l x => K (row n l) (lane h x)

theorem half_sum (h : Fin 2) (φ : Fin 128 → ℝ) : (∑ f : Fin 128, if f.val / 64 = h.val then φ f else 0) = ∑ x : Fin 64, φ (lane h x) := by
  have e : (∑ f : Fin 128, if f.val / 64 = h.val then φ f else 0)
      = (∑ x : Fin 64, if (Fin.castAdd 64 x).val / 64 = h.val then φ (Fin.castAdd 64 x) else 0)
        + ∑ x : Fin 64, if (Fin.natAdd 64 x).val / 64 = h.val then φ (Fin.natAdd 64 x) else 0 :=
    Fin.sum_univ_add (a := 64) (b := 64) fun f : Fin 128 => if f.val / 64 = h.val then φ f else 0
  rw [e]
  have two : h = 0 ∨ h = 1 := by omega
  rcases two with rfl | rfl
  · have z : (∑ x : Fin 64, if (Fin.natAdd 64 x).val / 64 = (0 : Fin 2).val then φ (Fin.natAdd 64 x) else 0) = 0 :=
      Finset.sum_eq_zero fun x _ => if_neg (by show ¬ (64 + x.val) / 64 = 0; omega)
    rw [z, add_zero]
    refine Finset.sum_congr rfl fun x _ => ?_
    rw [if_pos (by show x.val / 64 = 0; omega)]
    exact congrArg φ (Fin.ext (by show x.val = 64 * 0 + x.val; omega))
  · have z : (∑ x : Fin 64, if (Fin.castAdd 64 x).val / 64 = (1 : Fin 2).val then φ (Fin.castAdd 64 x) else 0) = 0 :=
      Finset.sum_eq_zero fun x _ => if_neg (by show ¬ x.val / 64 = 1; omega)
    rw [z, zero_add]
    refine Finset.sum_congr rfl fun x _ => ?_
    rw [if_pos (by show (64 + x.val) / 64 = 1; omega)]
    exact congrArg φ (Fin.ext (by show 64 + x.val = 64 * 1 + x.val; omega))

theorem log_two_pos : 0 < Real.log 2 := Real.log_pos (by norm_num)

theorem pow2_score (s : ℝ) : pow2 (s / Real.log 2) = Real.exp s := by
  show (2 : ℝ) ^ (s / Real.log 2) = _
  rw [Real.rpow_def_of_pos (by norm_num), mul_div_cancel₀ _ log_two_pos.ne']

/-- A dot product with the scaled queries of one head, over the two heads' lanes. -/
theorem dot_half (h : Fin 2) (q k : Fin 128 → ℝ) :
    (∑ f : Fin 128, k f * (if f.val / 64 = h.val then q f * scale else 0)) = (∑ x : Fin 64, q (lane h x) * (1 / 8) * k (lane h x)) / Real.log 2 := by
  have e : (∑ f : Fin 128, k f * (if f.val / 64 = h.val then q f * scale else 0)) = ∑ f : Fin 128, if f.val / 64 = h.val then k f * (q f * scale) else 0 :=
    Finset.sum_congr rfl fun f _ => by split <;> simp
  rw [e, half_sum, Finset.sum_div]
  refine Finset.sum_congr rfl fun x _ => ?_
  unfold scale
  rw [div_eq_mul_inv]
  ring

variable {Q K V}

section Tile
variable (t1 : Fin k0_t1_loop.trips) (qv : Vec Ideal S1x8192x128 .f32) (k : Vec Ideal S1x8192x128 .bf16) (v : Vec Ideal S1x128x8192 .bf16) (km : Vec Ideal S1x32x128 .f32)
  (hq : ∀ s f, qv (ix3 0 s f) = ((Q s f : ℝ) : EReal)) (hk : ∀ s f, k (ix3 0 s f) = ((K s f : ℝ) : EReal)) (hv : ∀ f s, v (ix3 0 f s) = ((V s f : ℝ) : EReal))
  (hm : ∀ n f, km (ix3 0 n f) = (((∑ l, K (row n l) f) / 256 : ℝ) : EReal))

/-- The tile's number as a block's. -/
abbrev own : Fin 32 := ⟨t1.val, t1_lt t1⟩

include hq in
theorem raw_queries (f : Fin 128) (h : Fin 2) (y : Fin 256) :
    k0_pay64 (window qv (k0_off1 t1) S1x256x128.size (k0_off1_inb t1)) (ix2 f (col h y)) = ((if f.val / 64 = h.val then Q (row (own t1) y) f * scale else 0 : ℝ) : EReal) := by
  rw [queries_apply]
  have e : (if f.val / 64 = (col h y).val / 256 then window qv (k0_off1 t1) S1x256x128.size (k0_off1_inb t1) (ix3 0 ⟨(col h y).val % 256, by omega⟩ f) * ((scale : ℝ) : EReal) else 0)
      = if f.val / 64 = h.val then ((Q (row (own t1) y) f : ℝ) : EReal) * ((scale : ℝ) : EReal) else 0 := by
    refine if_congr (by show _ = (256 * h.val + y.val) / 256 ↔ _; omega) ?_ rfl
    have e' : (⟨(col h y).val % 256, by omega⟩ : Fin 256) = y := Fin.ext (by show (256 * h.val + y.val) % 256 = y.val; omega)
    rw [e', queries_at qv _ t1.val (t1_lt t1) (off1_eq t1)]
    exact congrArg (· * _) (hq (row (own t1) y) f)
  rw [e]
  split
  · exact (EReal.coe_mul _ _).symm
  · rfl

include hq in
theorem tile_queries (f : Fin 128) (h : Fin 2) (y : Fin 256) :
    tileQ t1 qv (ix2 f (col h y)) = ((if f.val / 64 = h.val then Q (row (own t1) y) f * scale else 0 : ℝ) : EReal) := raw_queries t1 qv hq f h y

include hq in
theorem tile_scores (kb : Vec Ideal S1x256x128 .bf16) (n : Fin 32) (hkb : ∀ l x, kb (ix3 0 l x) = ((K (row n l) x : ℝ) : EReal)) (l : Fin 256) (h : Fin 2) (y : Fin 256) :
    k0_pay2 (tileQ t1 qv) kb (ix2 l (col h y)) = ((score (qOf Q (own t1) h y) (kOf K h n l) / Real.log 2 : ℝ) : EReal) := by
  rw [scores_apply]
  refine Eq.trans (Finset.sum_congr rfl fun x _ => ?_) (((coe_sum _ fun x : Fin 128 => K (row n l) x * (if x.val / 64 = h.val then Q (row (own t1) y) x * scale else 0)).symm).trans
    (congrArg (fun z : ℝ => (z : EReal)) (dot_half h (Q (row (own t1) y)) (K (row n l)))))
  rw [hkb, tile_queries t1 qv hq, EReal.coe_mul]

include hq hm in
theorem tile_gates (n : Fin 32) (h : Fin 2) (y : Fin 256) :
    k0_pay65 0#32 1#32 t1 (window qv (k0_off1 t1) S1x256x128.size (k0_off1_inb t1)) km (ix2 n (col h y))
      = if n.val < t1.val then (((∑ x, qOf Q (own t1) h y x * (1 / 8) * ((∑ l, kOf K h n l x) / 256)) / Real.log 2 : ℝ) : EReal) else ⊥ := by
  rw [gates_apply, iv_eq, slt_small _ _ (by omega) (by have := t1_lt t1; omega), select_bool]
  refine if_congr Iff.rfl ?_ rfl
  have z : (∑ f : Fin 128, (km (ix3 0 n f) - km (ix3 0 n f)) * k0_pay64 (window qv (k0_off1 t1) S1x256x128.size (k0_off1_inb t1)) (ix2 f (col h y))) = 0 := by
    refine Finset.sum_eq_zero fun f _ => ?_
    rw [hm, ← EReal.coe_sub, sub_self, EReal.coe_zero, zero_mul]
  rw [z, add_zero]
  refine Eq.trans (Finset.sum_congr rfl fun x _ => ?_) (((coe_sum _ fun x : Fin 128 => ((∑ l, K (row n l) x) / 256) * (if x.val / 64 = h.val then Q (row (own t1) y) x * scale else 0)).symm).trans
    (congrArg (fun z : ℝ => (z : EReal)) (dot_half h (Q (row (own t1) y)) fun x => (∑ l, K (row n l) x) / 256)))
  rw [hm, raw_queries t1 qv hq, EReal.coe_mul]

/-- A query attends to a past block. -/
def chosen (Q K : Fin 8192 → Fin 128 → ℝ) (i : Fin 32) (h : Fin 2) (y : Fin 256) (u : Fin 32) : Prop := place (gate (qOf Q i h y) (kOf K h) i.val) u < min 3 i.val
instance (i : Fin 32) (h : Fin 2) (y : Fin 256) (u : Fin 32) : Decidable (chosen Q K i h y u) := inferInstanceAs (Decidable (_ < _))

theorem chosen_past (i : Fin 32) (h : Fin 2) (y : Fin 256) (u : Fin 32) (c : chosen Q K i h y u) : u.val < i.val :=
  place_open (g := gate (qOf Q i h y) (kOf K h) i.val) (by omega) (fun b hb => gate_open _ _ _ b hb) (fun b hb => gate_closed _ _ _ b hb) u (lt_of_lt_of_le c (Nat.min_le_right _ _))

include hq hm in
theorem tile_bits (h : Fin 2) (y : Fin 256) (u : Fin 32) :
    (tileBits t1 qv km (ix2 0 (col h y))).getLsbD u.val = decide (chosen Q K (own t1) h y u) := by
  rw [word_bit t1 qv km (col h y) _ (fun n => tile_gates t1 qv km hq hm n h y) (fun b hb => by rw [if_pos hb]; exact EReal.coe_ne_bot _) (fun b hb => if_neg hb) u]
  refine decide_eq_decide.mpr ?_
  unfold chosen
  rw [place_congr _ (gate (qOf Q (own t1) h y) (kOf K h) (own t1).val) (fun a b => ?_) u]
  unfold gate
  by_cases ha : a.val < t1.val
  · rw [if_pos ha, if_pos ha]
    by_cases hb : b.val < t1.val
    · rw [if_pos hb, if_pos hb, EReal.coe_lt_coe_iff, EReal.coe_lt_coe_iff]
      exact div_lt_div_iff_of_pos_right log_two_pos
    · rw [if_neg hb, if_neg hb]
      exact iff_of_false not_lt_bot not_lt_bot
  · rw [if_neg ha, if_neg ha]
    by_cases hb : b.val < t1.val
    · rw [if_pos hb, if_pos hb]
      exact iff_of_true (EReal.bot_lt_coe _) (EReal.bot_lt_coe _)
    · rw [if_neg hb, if_neg hb]

/-- The rows of a block's values and the ones below them. -/
def vrow (V : Fin 8192 → Fin 128 → ℝ) (h : Fin 2) (r : Fin 80) (n : Fin 32) (l : Fin 256) : ℝ := if e : r.val < 64 then V (row n l) (lane h ⟨r.val, e⟩) else 1

theorem rowOf_eq (vb : Vec Ideal S1x128x256 .bf16) (n : Fin 32) (hvb : ∀ x l, vb (ix3 0 x l) = ((V (row n l) x : ℝ) : EReal)) (h : Fin 2) (r : Fin 80) (l : Fin 256) :
    rowOf h vb r l = ((vrow V h r n l : ℝ) : EReal) := by
  unfold rowOf vrow
  split
  · exact hvb _ _
  · rfl

/-- The own block's sum and those of the past blocks before the `T`-th that the query attends to. -/
def part (Q K V : Fin 8192 → Fin 128 → ℝ) (i : Fin 32) (h : Fin 2) (y : Fin 256) (r : Fin 80) (T : ℕ) : ℝ :=
  (∑ l : Fin 256, if l.val ≤ y.val then vrow V h r i l * Real.exp (score (qOf Q i h y) (kOf K h i l)) else 0)
    + ∑ u : Fin 32, if u.val < T ∧ chosen Q K i h y u then ∑ l, vrow V h r u l * Real.exp (score (qOf Q i h y) (kOf K h u l)) else 0

theorem part_succ (i : Fin 32) (h : Fin 2) (y : Fin 256) (r : Fin 80) (u : Fin 32) :
    part Q K V i h y r (u.val + 1) = part Q K V i h y r u.val + if chosen Q K i h y u then ∑ l, vrow V h r u l * Real.exp (score (qOf Q i h y) (kOf K h u l)) else 0 := by
  unfold part
  rw [add_assoc]
  refine congrArg (_ + ·) ?_
  have e : (if chosen Q K i h y u then ∑ l, vrow V h r u l * Real.exp (score (qOf Q i h y) (kOf K h u l)) else 0)
      = ∑ w : Fin 32, if w = u then (if chosen Q K i h y w then ∑ l, vrow V h r w l * Real.exp (score (qOf Q i h y) (kOf K h w l)) else 0) else 0 := by
    rw [Finset.sum_ite_eq' Finset.univ u, if_pos (Finset.mem_univ u)]
  rw [e, ← Finset.sum_add_distrib]
  refine Finset.sum_congr rfl fun w _ => ?_
  by_cases c : chosen Q K i h y w
  · by_cases ew : w = u
    · subst ew
      rw [if_pos ⟨Nat.lt_succ_self _, c⟩, if_neg (fun hh => absurd hh.1 (lt_irrefl _)), if_pos rfl, if_pos c, zero_add]
    · have hne : w.val ≠ u.val := fun hh => ew (Fin.ext hh)
      by_cases lt : w.val < u.val
      · rw [if_pos ⟨by omega, c⟩, if_pos ⟨lt, c⟩, if_neg ew, add_zero]
      · rw [if_neg (fun hh => by have := hh.1; omega), if_neg (fun hh => lt hh.1), if_neg ew, add_zero]
  · rw [if_neg (fun hh => c hh.2), if_neg (fun hh => c hh.2), if_neg c, ite_self, add_zero]

theorem part_all (i : Fin 32) (h : Fin 2) (y : Fin 256) (r : Fin 80) :
    part Q K V i h y r i.val = mass (qOf Q i h y) (kOf K h) i y (vrow V h r) := by
  unfold part mass
  refine congrArg (_ + ·) (Finset.sum_congr rfl fun u _ => if_congr ⟨fun hh => hh.2, fun c => ⟨chosen_past i h y u c, c⟩⟩ rfl rfl)

/-- Before turn `T + 1`: the accumulators, once rescaled and the weights of turn `T` added, hold the sums so far. -/
def Inv (Q K V : Fin 8192 → Fin 128 → ℝ) (i : Fin 32) (T : ℕ) (m : Vec Ideal S1x512 .f32) (acc : Vec Ideal S2x80x256 .f32) (a : Vec Ideal S1x512 .f32) (p : Vec Ideal S256x512 .bf16) : Prop :=
  ∀ (h : Fin 2) (y : Fin 256), ∃ μ : ℝ, m (ix2 0 (col h y)) = (μ : EReal) ∧ ∀ (r : Fin 80) (n : Fin 32), n.val = blk T i.val →
    a (ix2 0 (col h y)) * acc (ix3 h r y) + ∑ l : Fin 256, ((vrow V h r n l : ℝ) : EReal) * p (ix2 l (col h y)) = ((pow2 (-μ) * part Q K V i h y r T : ℝ) : EReal)

/-- What the accumulators hold after turn `T`'s weights are added. -/
theorem inv_acc {i : Fin 32} {T : ℕ} {m : Vec Ideal S1x512 .f32} {acc : Vec Ideal S2x80x256 .f32} {a : Vec Ideal S1x512 .f32} {p : Vec Ideal S256x512 .bf16}
    (hI : Inv Q K V i T m acc a p) (vb : Vec Ideal S1x128x256 .bf16) (n : Fin 32) (hn : n.val = blk T i.val) (hvb : ∀ x l, vb (ix3 0 x l) = ((V (row n l) x : ℝ) : EReal)) (h : Fin 2) (y : Fin 256) :
    ∃ μ : ℝ, m (ix2 0 (col h y)) = (μ : EReal) ∧ ∀ r, accNext acc vb a p (ix3 h r y) = ((pow2 (-μ) * part Q K V i h y r T : ℝ) : EReal) := by
  obtain ⟨μ, hμ, hr⟩ := hI h y
  refine ⟨μ, hμ, fun r => ?_⟩
  rw [accNext_apply, ← hr r n hn]
  exact congrArg _ (Finset.sum_congr rfl fun l _ => by rw [rowOf_eq vb n hvb])

theorem inv_step {i : Fin 32} {T : ℕ} (hT : T < i.val) {m : Vec Ideal S1x512 .f32} {acc : Vec Ideal S2x80x256 .f32} {a : Vec Ideal S1x512 .f32} {p : Vec Ideal S256x512 .bf16}
    (hI : Inv Q K V i T m acc a p) (vb : Vec Ideal S1x128x256 .bf16) (n : Fin 32) (hn : n.val = blk T i.val) (hvb : ∀ x l, vb (ix3 0 x l) = ((V (row n l) x : ℝ) : EReal))
    (s : Vec Ideal S256x512 .f32) (u : Fin 32) (hu : u.val = T) (hs : ∀ l h y, s (ix2 l (col h y)) = ((score (qOf Q i h y) (kOf K h u l) / Real.log 2 : ℝ) : EReal))
    (bits : Vec Ideal S1x512 .i32) (hbits : ∀ h y (w : Fin 32), (bits (ix2 0 (col h y))).getLsbD w.val = decide (chosen Q K i h y w))
    (t : BitVec 32) (ht : t = BitVec.ofNat 32 (T + 1)) :
    Inv Q K V i (T + 1) (k0_pay19 t s bits m) (accNext acc vb a p) (k0_pay17 t s bits m) (k0_pay18 t s bits m) := by
  intro h y
  obtain ⟨μ, hμ, hacc⟩ := inv_acc hI vb n hn hvb h y
  obtain ⟨μ', hμ', hsum⟩ := turn (L := 256) (by norm_num) μ (fun l => score (qOf Q i h y) (kOf K h u l) / Real.log 2) (bitOf t (bits (ix2 0 (col h y))))
  have hcol : (fun l : Fin 256 => s (ix2 l (col h y))) = fun l => ((score (qOf Q i h y) (kOf K h u l) / Real.log 2 : ℝ) : EReal) := funext fun l => hs l h y
  have htop : topOf (bitOf t (bits (ix2 0 (col h y)))) (m (ix2 0 (col h y))) (fun l : Fin 256 => s (ix2 l (col h y))) = (μ' : EReal) := by
    rw [hμ, hcol]; exact hμ'
  refine ⟨μ', ?_, fun r w hw => ?_⟩
  · rw [top_apply, htop]
  · have hwu : w = u := Fin.ext (by rw [hw, hu]; unfold blk; rw [if_neg (by omega)]; rfl)
    subst hwu
    rw [factor_apply, htop, hμ, hacc r]
    have e := hsum (part Q K V i h y r T) fun l => vrow V h r w l
    refine Eq.trans (congrArg _ (Finset.sum_congr rfl fun l _ => ?_)) (e.trans (congrArg (fun z : ℝ => (z : EReal)) ?_))
    · rw [weight_apply, htop, hs]
    · refine congrArg (pow2 (-μ') * ·) ?_
      rw [← hu, part_succ]
      refine congrArg (_ + ·) (if_congr ?_ (Finset.sum_congr rfl fun l _ => by rw [pow2_score]) rfl)
      rw [ht, ← hu, bitOf_eq, hbits]
      by_cases c : chosen Q K i h y w
      · rw [decide_eq_true c]; exact iff_of_true rfl c
      · rw [decide_eq_false c]; exact iff_of_false (by decide) c

include hq hk in
theorem start_scores (p1 : Vec Ideal S256x512 .bf16) (a1 : Vec Ideal S1x512 .f32) (l : Fin 256) (h : Fin 2) (y : Fin 256) :
    (startSt t1 qv k p1 a1).s0 (ix2 l (col h y)) = ((score (qOf Q (own t1) h y) (kOf K h (own t1) l) / Real.log 2 : ℝ) : EReal) :=
  tile_scores t1 qv hq _ (own t1) (fun l x => (keys_at k _ t1.val (t1_lt t1) (off2_eq t1).1 l x).trans (hk _ _)) l h y

include hq hk in
theorem start_inv (p1 : Vec Ideal S256x512 .bf16) (a1 : Vec Ideal S1x512 .f32) :
    Inv Q K V (own t1) 0 (startSt t1 qv k p1 a1).m (startSt t1 qv k p1 a1).acc (startSt t1 qv k p1 a1).a0 (startSt t1 qv k p1 a1).p0 := by
  intro h y
  obtain ⟨μ, hμ, hsum⟩ := start (L := 256) (fun l => l.val ≤ y.val) y le_rfl (fun l => score (qOf Q (own t1) h y) (kOf K h (own t1) l) / Real.log 2)
  have hmask : mask (startSt t1 qv k p1 a1).s0 h y = fun l => if l.val ≤ y.val then ((score (qOf Q (own t1) h y) (kOf K h (own t1) l) / Real.log 2 : ℝ) : EReal) else ⊥ := by
    funext l
    unfold mask
    rw [start_scores t1 qv k hq hk]
  refine ⟨μ, ?_, fun r n hn => ?_⟩
  · rw [start_max', hmask]; exact hμ
  · have en : n = own t1 := Fin.ext hn
    subst en
    have z : (startSt t1 qv k p1 a1).acc (ix3 h r y) = 0 := zero_apply h r y
    rw [z, mul_zero, zero_add]
    refine Eq.trans (Finset.sum_congr rfl fun l _ => ?_) ((hsum fun l => vrow V h r (own t1) l).trans (congrArg (fun z : ℝ => (z : EReal)) ?_))
    · rw [start_weight', hmask, hμ]
    · refine congrArg (pow2 (-μ) * ·) ?_
      unfold part
      have z' : (∑ u : Fin 32, if u.val < 0 ∧ chosen Q K (own t1) h y u then ∑ l, vrow V h r u l * Real.exp (score (qOf Q (own t1) h y) (kOf K h u l)) else 0) = 0 :=
        Finset.sum_eq_zero fun u _ => if_neg fun hh => absurd hh.1 (Nat.not_lt_zero _)
      rw [z', add_zero]
      exact Finset.sum_congr rfl fun l _ => by rw [pow2_score]

/-- Between two trips. -/
def Between (Q K V : Fin 8192 → Fin 128 → ℝ) (i : Fin 32) (n : ℕ) (s : St Ideal) : Prop :=
  Inv Q K V i (2 * n) s.m s.acc s.a0 s.p0
    ∧ ∀ (b : Fin 32), b.val = min (2 * n + 1) i.val - 1 → ∀ l h y, s.s1 (ix2 l (col h y)) = ((score (qOf Q i h y) (kOf K h b l) / Real.log 2 : ℝ) : EReal)

include hq hk in
theorem start_between (p1 : Vec Ideal S256x512 .bf16) (a1 : Vec Ideal S1x512 .f32) : Between Q K V (own t1) 0 (startSt t1 qv k p1 a1) := by
  refine ⟨start_inv t1 qv k hq hk p1 a1, fun b hb l h y => ?_⟩
  have eb : b = 0 := Fin.ext (by rw [hb]; show min (2 * 0 + 1) t1.val - 1 = 0; omega)
  subst eb
  exact tile_scores t1 qv hq _ 0 (fun l x => (keys_at k _ 0 (by norm_num) (off2_eq t1).2 l x).trans (hk _ _)) l h y

theorem turnA_number (t1 : Fin k0_t1_loop.trips) (t2 : Fin (k0_t2_loop t1).trips) (s : Vec Ideal S256x512 .f32) (bits : Vec Ideal S1x512 .i32) (m : Vec Ideal S1x512 .f32) :
    k0_pay8 (k0_pay4 t1 0#32 1#32 t2 s bits m) = k0_pay19 (Scalar.addi (Scalar.addi (Scalar.muli 2#32 (Scf.iv 0#32 1#32 t2)) 1#32) 0#32) s bits m
      ∧ k0_pay6 (k0_pay5 t1 0#32 1#32 t2 s bits m) = k0_pay17 (Scalar.addi (Scalar.addi (Scalar.muli 2#32 (Scf.iv 0#32 1#32 t2)) 1#32) 0#32) s bits m
      ∧ k0_pay7 s (k0_pay3 t1 0#32 1#32 t2 bits) (k0_pay4 t1 0#32 1#32 t2 s bits m) = k0_pay18 (Scalar.addi (Scalar.addi (Scalar.muli 2#32 (Scf.iv 0#32 1#32 t2)) 1#32) 0#32) s bits m :=
  ⟨rfl, rfl, rfl⟩

theorem numbers : ∀ t1 : Fin k0_t1_loop.trips, ∀ t2 : Fin (k0_t2_loop t1).trips,
    Scalar.addi (Scalar.addi (Scalar.muli 2#32 (Scf.iv 0#32 1#32 t2)) 1#32) 0#32 = BitVec.ofNat 32 (2 * t2.val + 1) ∧ turn2 t2 = BitVec.ofNat 32 (2 * t2.val + 1 + 1) := by decide +kernel

theorem blk_lt {T i : ℕ} (hi : i < 32) (hT : T ≤ i) : blk T i < 32 := by unfold blk; split <;> omega

theorem turnA_eq (t2 : Fin (k0_t2_loop t1).trips) (q : FVec Ideal S128x512 .bf16) (bits : Vec Ideal S1x512 .i32) (s : St Ideal) :
    (turnA t1 t2 q k v bits s).acc = accNext s.acc (valAt v t1 t2 0) s.a0 s.p0 := rfl
theorem turnB_eq (t2 : Fin (k0_t2_loop t1).trips) (q : FVec Ideal S128x512 .bf16) (bits : Vec Ideal S1x512 .i32) (s : St Ideal) :
    (turnB t1 t2 q k v bits s).acc = accNext s.acc (valAt v t1 t2 1) s.a1 s.p1 := rfl

include hq hk hv in
theorem trip_between (t2 : Fin (k0_t2_loop t1).trips) (bits : Vec Ideal S1x512 .i32) (hbits : ∀ h y (w : Fin 32), (bits (ix2 0 (col h y))).getLsbD w.val = decide (chosen Q K (own t1) h y w))
    (s : St Ideal) (hs : Between Q K V (own t1) t2.val s) : Between Q K V (own t1) (t2.val + 1) (trip t1 t2 (tileQ t1 qv) k v bits s) := by
  have hi := t1_lt t1
  have ht2 : t2.val < t1.val / 2 := lt_of_lt_of_eq t2.isLt (trips_eq t1)
  obtain ⟨hI, hs1⟩ := hs
  obtain ⟨nA, nB⟩ := numbers t1 t2
  obtain ⟨eA1, eA2, eA3⟩ := turnA_number t1 t2 s.s1 bits s.m
  -- the first turn
  have hA : Inv Q K V (own t1) (2 * t2.val + 1) (turnA t1 t2 (tileQ t1 qv) k v bits s).m (turnA t1 t2 (tileQ t1 qv) k v bits s).acc
      (turnA t1 t2 (tileQ t1 qv) k v bits s).a1 (turnA t1 t2 (tileQ t1 qv) k v bits s).p1 := by
    have := inv_step (Q := Q) (K := K) (V := V) (i := own t1) (T := 2 * t2.val) (by show 2 * t2.val < t1.val; omega) hI (valAt v t1 t2 0)
      ⟨blk (2 * t2.val) t1.val, blk_lt hi (by omega)⟩ rfl
      (fun x l => (values_at v _ _ (blk_lt hi (by omega)) (off4_eq t1 t2 0) x l).trans (hv _ _))
      s.s1 ⟨2 * t2.val, by omega⟩ rfl (hs1 ⟨2 * t2.val, by omega⟩ (by show 2 * t2.val = min (2 * t2.val + 1) t1.val - 1; omega)) bits hbits _ nA
    rw [← eA1, ← eA2, ← eA3] at this
    exact this
  have hs0 : ∀ l h y, (turnA t1 t2 (tileQ t1 qv) k v bits s).s0 (ix2 l (col h y))
      = ((score (qOf Q (own t1) h y) (kOf K h ⟨2 * t2.val + 1, by omega⟩ l) / Real.log 2 : ℝ) : EReal) := fun l h y =>
    tile_scores t1 qv hq _ ⟨2 * t2.val + 1, by omega⟩ (fun l x => (keys_at k _ (2 * t2.val + 1) (by omega)
      ((off3_eq t1 t2 0).trans (by rw [show min (2 * t2.val + (0 : Fin 2).val + 2) t1.val - 1 = 2 * t2.val + 1 from by show min (2 * t2.val + 0 + 2) t1.val - 1 = _; omega])) l x).trans (hk _ _)) l h y
  refine ⟨?_, fun b hb l h y => ?_⟩
  · exact inv_step (Q := Q) (K := K) (V := V) (i := own t1) (T := 2 * t2.val + 1) (by show 2 * t2.val + 1 < t1.val; omega) hA (valAt v t1 t2 1)
      ⟨blk (2 * t2.val + 1) t1.val, blk_lt hi (by omega)⟩ rfl
      (fun x l => (values_at v _ _ (blk_lt hi (by omega)) (off4_eq t1 t2 1) x l).trans (hv _ _))
      _ ⟨2 * t2.val + 1, by omega⟩ rfl hs0 bits hbits _ nB
  · exact tile_scores t1 qv hq _ b (fun l x => (keys_at k _ b.val b.isLt
      ((off3_eq t1 t2 1).trans (by rw [hb, show min (2 * t2.val + (1 : Fin 2).val + 2) t1.val - 1 = min (2 * (t2.val + 1) + 1) (own t1).val - 1 from by show min (2 * t2.val + 1 + 2) t1.val - 1 = min (2 * (t2.val + 1) + 1) t1.val - 1; omega])) l x).trans (hk _ _)) l h y

include hq hk hv in
theorem loop_between (bits : Vec Ideal S1x512 .i32) (hbits : ∀ h y (w : Fin 32), (bits (ix2 0 (col h y))).getLsbD w.val = decide (chosen Q K (own t1) h y w))
    (s : St Ideal) (hs : Between Q K V (own t1) 0 s) : ∀ n ≤ (k0_t2_loop t1).trips, Between Q K V (own t1) n (loopSt t1 (tileQ t1 qv) k v bits s n) := by
  intro n
  induction n with
  | zero => exact fun _ => hs
  | succ n ih =>
    intro hn
    rw [show loopSt t1 (tileQ t1 qv) k v bits s (n + 1) = _ from loopSt_succ t1 (tileQ t1 qv) k v bits s ⟨n, hn⟩]
    exact trip_between t1 qv k v hq hk hv ⟨n, hn⟩ bits hbits _ (ih (by omega))

theorem tailEven_eq (hc : k0_cond2 t1 = 1#1) (s : St Ideal) :
    tailEven t1 hc v s = accNext s.acc (window v (k0_off9 t1) S1x128x256.size (k0_off9_inb t1 hc)) s.a0 s.p0 := rfl
theorem tailOdd_eq (hc : k0_cond1 t1 = 1#1) (bits : Vec Ideal S1x512 .i32) (s : St Ideal) :
    tailOdd t1 hc v bits s = accNext (accNext s.acc (window v (k0_off7 t1) S1x128x256.size (k0_off7_inb t1 hc)) s.a0 s.p0) (window v (k0_off8 t1) S1x128x256.size (k0_off8_inb t1 hc))
      (k0_pay17 (Scf.iv 0#32 1#32 t1) s.s1 bits s.m) (k0_pay18 (Scf.iv 0#32 1#32 t1) s.s1 bits s.m) := rfl

include hv in
theorem tail_value (bits : Vec Ideal S1x512 .i32) (hbits : ∀ h y (w : Fin 32), (bits (ix2 0 (col h y))).getLsbD w.val = decide (chosen Q K (own t1) h y w))
    (s : St Ideal) (hs : Between Q K V (own t1) (k0_t2_loop t1).trips s) (h : Fin 2) (y : Fin 256) :
    ∃ μ : ℝ, ∀ r, tailAcc t1 v bits s (ix3 h r y) = ((pow2 (-μ) * part Q K V (own t1) h y r t1.val : ℝ) : EReal) := by
  have hi := t1_lt t1
  rw [trips_eq] at hs
  obtain ⟨hI, hs1⟩ := hs
  unfold tailAcc
  by_cases hc : k0_cond1 t1 = 1#1
  · obtain ⟨odd, o7, o8⟩ := off7_eq t1 hc
    rw [dif_pos hc, tailOdd_eq]
    have e2 : 2 * (t1.val / 2) = t1.val - 1 := by omega
    rw [e2] at hI
    have hI' := inv_step (Q := Q) (K := K) (V := V) (i := own t1) (T := t1.val - 1) (by show t1.val - 1 < t1.val; omega) hI (window v (k0_off7 t1) S1x128x256.size (k0_off7_inb t1 hc))
      ⟨blk (t1.val - 1) t1.val, blk_lt hi (by omega)⟩ rfl
      (fun x l => (values_at v _ _ (blk_lt hi (by omega)) o7 x l).trans (hv _ _))
      s.s1 ⟨t1.val - 1, by omega⟩ rfl (hs1 ⟨t1.val - 1, by omega⟩ (by show t1.val - 1 = min (2 * (t1.val / 2) + 1) t1.val - 1; omega)) bits hbits (Scf.iv 0#32 1#32 t1)
      ((iv_eq t1).trans (by rw [show t1.val - 1 + 1 = t1.val by omega]))
    rw [show t1.val - 1 + 1 = t1.val by omega] at hI'
    obtain ⟨μ, -, hr⟩ := inv_acc hI' (window v (k0_off8 t1) S1x128x256.size (k0_off8_inb t1 hc)) ⟨blk t1.val t1.val, blk_lt hi le_rfl⟩ rfl
      (fun x l => (values_at v _ _ (blk_lt hi le_rfl) o8 x l).trans (hv _ _)) h y
    exact ⟨μ, hr⟩
  · obtain ⟨even, o9⟩ := off9_eq t1 (cond2_of_not t1 hc)
    rw [dif_neg hc, tailEven_eq]
    have e2 : 2 * (t1.val / 2) = t1.val := by omega
    rw [e2] at hI
    obtain ⟨μ, -, hr⟩ := inv_acc hI (window v (k0_off9 t1) S1x128x256.size (k0_off9_inb t1 (cond2_of_not t1 hc))) ⟨blk t1.val t1.val, blk_lt hi le_rfl⟩ rfl
      (fun x l => (values_at v _ _ (blk_lt hi le_rfl) o9 x l).trans (hv _ _)) h y
    exact ⟨μ, hr⟩

include hq hk hv hm in
/-- The value of a tile. -/
theorem tile_value (h : Fin 2) (y : Fin 256) (d : Fin 64) :
    tileOut t1 qv k v km (ix3 0 y (lane h d)) = ((attn (qOf Q (own t1) h y) (kOf K h) (kOf V h) (own t1) y d : ℝ) : EReal) := by
  unfold tileOut
  rw [block_apply]
  have hb := loop_between t1 qv k v hq hk hv (tileBits t1 qv km) (tile_bits t1 qv km hq hm) _ (start_between (V := V) t1 qv k hq hk (fun _ => Scalar.ofBits (F := Ideal) .bf16 0#16) (k0_pay92 (F := Ideal))) _ le_rfl
  obtain ⟨μ, hr⟩ := tail_value t1 v hv (tileBits t1 qv km) (tile_bits t1 qv km hq hm) _ hb h y
  rw [show lane h d = ⟨64 * h.val + d.val, by omega⟩ from rfl, outOf_apply, hr, hr]
  have e1 := part_all (Q := Q) (K := K) (V := V) (own t1) h y ⟨d.val, by omega⟩
  have e2 := part_all (Q := Q) (K := K) (V := V) (own t1) h y 64
  rw [show part Q K V (own t1) h y ⟨d.val, by omega⟩ t1.val = _ from e1, show part Q K V (own t1) h y 64 t1.val = _ from e2]
  have f1 : vrow V h ⟨d.val, by omega⟩ = fun n l => kOf V h n l d := by
    funext n l
    unfold vrow
    rw [dif_pos (show d.val < 64 from d.isLt)]
    rfl
  have f2 : vrow V h 64 = fun _ _ => 1 := by
    funext n l
    unfold vrow
    rw [dif_neg (by decide)]
  rw [f1, f2]
  exact quot μ _ _ (mass_pos _ _ _ _)

end Tile

end Cert.KernelIdeal.Moba

end
-- ==== Proof.Moba.RefTerm.lean ====
/- The reference's result as one chain of named arrays. -/
module

public import proofs.«01_k».proof.Proof.Gen.ReferenceIdeal.Run
public import Idealize.ShloMosaic.Lib.Pointwise

@[expose] public section

noncomputable section

namespace Cert.ReferenceIdeal.Moba

open Cert.ReferenceIdeal Cert.ReferenceIdeal.Gen Cert.ReferenceIdeal.Facts
open Idealize.ShloMosaic

abbrev Arg := FVec Ideal S4x8192x8x64 .f32

def qs (q : Arg) : FVec Ideal S4x8x8192x64 .f32 :=
  mulf (transpose S4x8x8192x64 [0, 2, 1, 3] q transposes_S4x8192x8x64_S4x8x8192x64_0_2_1_3)
    (broadcastInDim S4x8x8192x64 ![] bcast_S_S4x8x8192x64 (constant S_ .f32 0x3E000000#32))

def blocks (k : Arg) : FVec Ideal S4x8x32x256x64 .f32 :=
  shapeCast S4x8x32x256x64 (transpose S4x8x8192x64 [0, 2, 1, 3] k transposes_S4x8192x8x64_S4x8x8192x64_0_2_1_3) shapeCasts_S4x8x8192x64_S4x8x32x256x64

def means (kb : FVec Ideal S4x8x32x256x64 .f32) : FVec Ideal S4x8x32x64 .f32 :=
  Host.divf (Host.reduceAdd kb (constant S_ .f32 0x00000000#32) reducesTo_S4x8x32x256x64_S4x8x32x64_d3 h_S_)
    (broadcastInDim S4x8x32x64 ![] bcast_S_S4x8x32x64 (constant S_ .f32 0x43800000#32))

def own : IVec S8192 32 :=
  let I : IVec S8192 32 := iotaInDim S8192 32 0
  let c : IVec S_ 32 := id (constantI S_ 32 256#32)
  let b : IVec S8192 32 := broadcastInDim S8192 ![] bcast_S_S8192 c
  select
    (andi (cmpi .ne (signi I) (broadcastInDim S8192 ![] bcast_S_S8192 (signi c)))
      (cmpi .ne (Host.remsi I b) (broadcastInDim S8192 ![] bcast_S_S8192 (constantI S_ 32 0#32))))
    (subi (Host.divsi I b) (broadcastInDim S8192 ![] bcast_S_S8192 (constantI S_ 32 1#32))) (Host.divsi I b)

def gates (q : FVec Ideal S4x8x8192x64 .f32) (km : FVec Ideal S4x8x32x64 .f32) : FVec Ideal S4x8x8192x32 .f32 :=
  select
    (broadcastInDim S4x8x8192x32 ![2, 3] bcast_S8192x32_S4x8x8192x32_2_3
      (cmpi .slt (broadcastInDim S8192x32 ![0, 1] bcast_S1x32_S8192x32_0_1 (broadcastInDim S1x32 ![1] bcast_S32_S1x32_1 (iotaInDim S32 32 0)))
        (broadcastInDim S8192x32 ![0, 1] bcast_S8192x1_S8192x32_0_1 (broadcastInDim S8192x1 ![0] bcast_S8192_S8192x1_0 own))))
    (Host.dotGeneral dot_S4x8x8192x64_S4x8x32x64_S4x8x8192x32_3_3_2_2_01_01 none q km)
    (broadcastInDim S4x8x8192x32 ![] bcast_S_S4x8x8192x32 (id (constant S_ .f32 0xFF800000#32)))

def picks (g : FVec Ideal S4x8x8192x32 .f32) : IVec S4x8x8192x3 32 :=
  (Host.topK S4x8x8192x3 3 (FloatOps.cmpfTotal .gt) g sliceFits_S4x8x8192x32_S4x8x8192x3).2

def starts (ix : IVec S4x8x8192x3 32) : IVec S4x8x8192x3x1 32 :=
  broadcastInDim S4x8x8192x3x1 ![0, 1, 2, 3] bcast_S4x8x8192x3_S4x8x8192x3x1_0_1_2_3
    (select (cmpi .slt ix (broadcastInDim S4x8x8192x3 ![] bcast_S_S4x8x8192x3 (constantI S_ 32 0#32)))
      (addi ix (broadcastInDim S4x8x8192x3 ![] bcast_S_S4x8x8192x3 (constantI S_ 32 32#32))) ix)

def picked (kb : FVec Ideal S4x8x32x256x64 .f32) (st : IVec S4x8x8192x3x1 32) : FVec Ideal S4x8x8192x3x256x64 .f32 :=
  Host.gather gather_S4x8x32x256x64_S4x8x8192x3x1_S4x8x8192x3x256x64_45_2_01_01_2_4_11125664 kb st

def farScores (q : FVec Ideal S4x8x8192x64 .f32) (kp : FVec Ideal S4x8x8192x3x256x64 .f32) : FVec Ideal S4x8x8192x3x256 .f32 :=
  select
    (broadcastInDim S4x8x8192x3x256 ![0, 1, 2, 3, 4] bcast_S1x1x8192x3x1_S4x8x8192x3x256_0_1_2_3_4
      (broadcastInDim S1x1x8192x3x1 ![2, 3] bcast_S8192x3_S1x1x8192x3x1_2_3
        (cmpi .slt (broadcastInDim S8192x3 ![0, 1] bcast_S1x3_S8192x3_0_1 (broadcastInDim S1x3 ![1] bcast_S3_S1x3_1 (iotaInDim S3 32 0)))
          (broadcastInDim S8192x3 ![0, 1] bcast_S8192x1_S8192x3_0_1 (broadcastInDim S8192x1 ![0] bcast_S8192_S8192x1_0 own)))))
    (Host.dotGeneral dot_S4x8x8192x64_S4x8x8192x3x256x64_S4x8x8192x3x256_3_5_n_34_012_012 none q kp)
    (broadcastInDim S4x8x8192x3x256 ![] bcast_S_S4x8x8192x3x256 (id (constant S_ .f32 0xFF800000#32)))

def ownScores (q : FVec Ideal S4x8x8192x64 .f32) (kb : FVec Ideal S4x8x32x256x64 .f32) : FVec Ideal S4x8x32x256x256 .f32 :=
  select
    (broadcastInDim S4x8x32x256x256 ![3, 4] bcast_S256x256_S4x8x32x256x256_3_4
      (cmpi .sle (broadcastInDim S256x256 ![0, 1] bcast_S1x256_S256x256_0_1 (broadcastInDim S1x256 ![1] bcast_S256_S1x256_1 (iotaInDim S256 32 0)))
        (broadcastInDim S256x256 ![0, 1] bcast_S256x1_S256x256_0_1 (broadcastInDim S256x1 ![0] bcast_S256_S256x1_0 (iotaInDim S256 32 0)))))
    (Host.dotGeneral dot_S4x8x32x256x64_S4x8x32x256x64_S4x8x32x256x256_4_4_3_3_012_012 none
      (shapeCast S4x8x32x256x64 q shapeCasts_S4x8x8192x64_S4x8x32x256x64) kb)
    (broadcastInDim S4x8x32x256x256 ![] bcast_S_S4x8x32x256x256 (id (constant S_ .f32 0xFF800000#32)))

def scores (far : FVec Ideal S4x8x8192x3x256 .f32) (near : FVec Ideal S4x8x32x256x256 .f32) : FVec Ideal S4x8x8192x1024 .f32 :=
  concatenate S4x8x8192x1024 3
    [⟨S4x8x8192x768, shapeCast S4x8x8192x768 far shapeCasts_S4x8x8192x3x256_S4x8x8192x768⟩,
      ⟨S4x8x8192x256, shapeCast S4x8x8192x256 near shapeCasts_S4x8x32x256x256_S4x8x8192x256⟩]
    concatenates_S4x8x8192x768_S4x8x8192x256_S4x8x8192x1024_d3

def spread (x : FVec Ideal S4x8x8192 .f32) : FVec Ideal S4x8x8192x1024 .f32 :=
  broadcastInDim S4x8x8192x1024 ![0, 1, 2, 3] bcast_S4x8x8192x1_S4x8x8192x1024_0_1_2_3
    (broadcastInDim S4x8x8192x1 ![0, 1, 2] bcast_S4x8x8192_S4x8x8192x1_0_1_2 x)

def tops (s : FVec Ideal S4x8x8192x1024 .f32) : FVec Ideal S4x8x8192 .f32 :=
  maximumf (broadcastInDim S4x8x8192 ![] bcast_S_S4x8x8192 (constant S_ .f32 0xFF800000#32))
    (Host.reduce FloatOps.maximumf s (constant S_ .f32 0xFF800000#32) reducesTo_S4x8x8192x1024_S4x8x8192_d3 h_S_)

def weights (s : FVec Ideal S4x8x8192x1024 .f32) : FVec Ideal S4x8x8192x1024 .f32 :=
  Host.exp (subf s (spread (tops s)))

def shares (w : FVec Ideal S4x8x8192x1024 .f32) : FVec Ideal S4x8x8192x1024 .f32 :=
  Host.divf w (spread (Host.reduceAdd w (constant S_ .f32 0x00000000#32) reducesTo_S4x8x8192x1024_S4x8x8192_d3 h_S_))

def farPart (a : FVec Ideal S4x8x8192x1024 .f32) (vp : FVec Ideal S4x8x8192x3x256x64 .f32) : FVec Ideal S4x8x8192x64 .f32 :=
  Host.dotGeneral dot_S4x8x8192x3x256_S4x8x8192x3x256x64_S4x8x8192x64_43_43_n_5_012_012 none
    (shapeCast S4x8x8192x3x256 (extractStridedSlice S4x8x8192x768 ![0, 0, 0, 0] a slices_S4x8x8192x1024_S4x8x8192x768_0_0_0_0) shapeCasts_S4x8x8192x768_S4x8x8192x3x256) vp

def ownPart (a : FVec Ideal S4x8x8192x1024 .f32) (vb : FVec Ideal S4x8x32x256x64 .f32) : FVec Ideal S4x8x8192x64 .f32 :=
  shapeCast S4x8x8192x64
    (Host.dotGeneral dot_S4x8x32x256x256_S4x8x32x256x64_S4x8x32x256x64_4_3_3_4_012_012 none
      (shapeCast S4x8x32x256x256 (extractStridedSlice S4x8x8192x256 ![0, 0, 0, 768] a slices_S4x8x8192x1024_S4x8x8192x256_0_0_0_768) shapeCasts_S4x8x8192x256_S4x8x32x256x256) vb)
    shapeCasts_S4x8x32x256x64_S4x8x8192x64

def laid (o : FVec Ideal S4x8x8192x64 .f32) : FVec Ideal S4x8192x512 .bf16 :=
  truncf .bf16 (shapeCast S4x8192x512 (transpose S4x8192x8x64 [0, 2, 1, 3] o transposes_S4x8x8192x64_S4x8192x8x64_0_2_1_3) shapeCasts_S4x8192x8x64_S4x8192x512) bitsLt_bf16_f32

def chosen (q k : Arg) : IVec S4x8x8192x3x1 32 := starts (picks (gates (qs q) (means (blocks k))))

def allScores (q k : Arg) : FVec Ideal S4x8x8192x1024 .f32 :=
  scores (farScores (qs q) (picked (blocks k) (chosen q k))) (ownScores (qs q) (blocks k))

def out (q k v : Arg) : FVec Ideal S4x8x8192x64 .f32 :=
  addf (farPart (shares (weights (allScores q k))) (picked (blocks v) (chosen q k))) (ownPart (shares (weights (allScores q k))) (blocks v))

set_option maxRecDepth 8192 in
/-- What the reference's run leaves in its result. -/
theorem res_eq (m : (ℓ : Loc nD τ sig) → Buf (Elt Ideal) ℓ) (c : Dev nD) :
    Value.res_main_v76 m c
      = laid (out (m ((c.tc : Thread nD τ).loc main_arg0)) (m ((c.tc : Thread nD τ).loc main_arg1)) (m ((c.tc : Thread nD τ).loc main_arg2))) := by
  unfold Value.res_main_v76
  rfl

end Cert.ReferenceIdeal.Moba

end
-- ==== Proof.Moba.RefRead.lean ====
/- The reference's arrays read at an index. -/
module

public import proofs.«01_k».proof.Proof.Moba.RefTerm
public import proofs.«01_k».proof.Proof.Moba.Spec

@[expose] public section

noncomputable section

namespace Cert.ReferenceIdeal.Moba

open Cert.ReferenceIdeal Cert.ReferenceIdeal.Gen Cert.ReferenceIdeal.Facts
open Idealize.ShloMosaic Cert.Moba

theorem qs_apply (q : Arg) (b : Fin 4) (h : Fin 8) (s : Fin 8192) (d : Fin 64) :
    qs q (ix4 b h s d) = q (ix4 b s h d) * ((1 / 8 : ℝ) : EReal) := by
  pointwise [qs]
  exact congrArg _ eighth

theorem blocks_apply (k : Arg) (b : Fin 4) (h : Fin 8) (i : Fin 32) (l : Fin 256) (d : Fin 64) :
    blocks k (ix5 b h i l d) = k (ix4 b ⟨i.val * 256 + l.val, by omega⟩ h d) := by
  pointwise [blocks]

theorem means_apply (k : FVec Ideal S4x8x32x256x64 .f32) (b : Fin 4) (h : Fin 8) (i : Fin 32) (d : Fin 64) :
    means k (ix4 b h i d) = Ideal.div (∑ l : Fin 256, k (ix5 b h i l d)) ((256 : ℝ) : EReal) := by
  pointwise [means]
  exact congrArg _ c256

/-- The floor of a word's quotient by 256, as it is written out. -/
def floorDiv (w : BitVec 32) : BitVec 32 :=
  Scalar.select
    (IntOp.andi
      (IntOp.cmpi CmpIPredicate.ne (if w = 0 then (0 : BitVec 32) else if w.msb = true then -1 else 1)
        (if (256#32 : BitVec 32) = 0 then (0 : BitVec 32) else if (256#32 : BitVec 32).msb = true then -1 else 1))
      (IntOp.cmpi CmpIPredicate.ne (IntOp.remsi ArithUnit.host w 256#32) 0#32))
    (IntOp.subi (IntOp.divsi ArithUnit.host w 256#32) 1#32)
    (IntOp.divsi ArithUnit.host w 256#32)

theorem floorDiv_eq : ∀ (a : Fin 32) (c : Fin 256), floorDiv (BitVec.ofNat 32 (a.val * 256 + c.val)) = BitVec.ofNat 32 a.val := by
  decide +kernel

theorem own_apply (s : Fin 8192) : own (ix1 s) = BitVec.ofNat 32 (s.val / 256) := by
  have e : own (ix1 s) = floorDiv (BitVec.ofNat 32 s.val) := by
    pointwise [own]
    rfl
  have h := floorDiv_eq ⟨s.val / 256, by omega⟩ ⟨s.val % 256, by omega⟩
  rw [e, ← h]
  congr 2
  show _ = s.val / 256 * 256 + s.val % 256
  omega

theorem gates_apply (q : FVec Ideal S4x8x8192x64 .f32) (km : FVec Ideal S4x8x32x64 .f32) (b : Fin 4) (h : Fin 8) (s : Fin 8192) (n : Fin 32) :
    gates q km (ix4 b h s n) = if n.val < s.val / 256 then ∑ x : Fin 64, q (ix4 b h s x) * km (ix4 b h n x) else ⊥ := by
  have e : gates q km (ix4 b h s n) = Scalar.select (IntOp.cmpi .slt (BitVec.ofNat 32 n.val) (own (ix1 s))) (∑ x : Fin 64, q (ix4 b h s x) * km (ix4 b h n x))
      (Ideal.ofBits .f32 0xFF800000#32) := by
    pointwise [gates]
    rfl
  rw [e, own_apply, slt_small _ _ (by omega) (by omega), select_bool, neg_inf]

theorem starts_apply (ix : IVec S4x8x8192x3 32) (b : Fin 4) (h : Fin 8) (s : Fin 8192) (r : Fin 3) (u : Fin 32) (hu : ix (ix4 b h s r) = BitVec.ofNat 32 u.val) :
    starts ix (ix5 b h s r 0) = BitVec.ofNat 32 u.val := by
  pointwise [starts]
  rw [hu]
  have := u.isLt
  rw [show IntOp.cmpi CmpIPredicate.slt (BitVec.ofNat 32 u.val) 0#32 = BitVec.ofBool (decide (u.val < 0)) from slt_small _ 0 (by omega) (by omega), select_bool,
    if_neg (by omega)]

theorem farScores_apply (q : FVec Ideal S4x8x8192x64 .f32) (kp : FVec Ideal S4x8x8192x3x256x64 .f32) (b : Fin 4) (h : Fin 8) (s : Fin 8192) (r : Fin 3) (l : Fin 256) :
    farScores q kp (ix5 b h s r l) = if r.val < s.val / 256 then ∑ x : Fin 64, q (ix4 b h s x) * kp (ix6 b h s r l x) else ⊥ := by
  have e : farScores q kp (ix5 b h s r l) = Scalar.select (IntOp.cmpi .slt (BitVec.ofNat 32 r.val) (own (ix1 s))) (∑ x : Fin 64, q (ix4 b h s x) * kp (ix6 b h s r l x))
      (Ideal.ofBits .f32 0xFF800000#32) := by
    pointwise [farScores]
    rfl
  rw [e, own_apply, slt_small _ _ (by omega) (by omega), select_bool, neg_inf]

theorem ownScores_apply (q : FVec Ideal S4x8x8192x64 .f32) (kb : FVec Ideal S4x8x32x256x64 .f32) (b : Fin 4) (h : Fin 8) (i : Fin 32) (y l : Fin 256) :
    ownScores q kb (ix5 b h i y l) = if l.val ≤ y.val then ∑ x : Fin 64, q (ix4 b h ⟨i.val * 256 + y.val, by omega⟩ x) * kb (ix5 b h i l x) else ⊥ := by
  have e : ownScores q kb (ix5 b h i y l) = Scalar.select (IntOp.cmpi .sle (BitVec.ofNat 32 l.val) (BitVec.ofNat 32 y.val))
      (∑ x : Fin 64, q (ix4 b h ⟨i.val * 256 + y.val, by omega⟩ x) * kb (ix5 b h i l x)) (Ideal.ofBits .f32 0xFF800000#32) := by
    pointwise [ownScores]
    rfl
  rw [e, sle_small _ _ (by omega) (by omega), select_bool, neg_inf]

theorem scores_apply (f : FVec Ideal S4x8x8192x3x256 .f32) (g : FVec Ideal S4x8x32x256x256 .f32) (b : Fin 4) (h : Fin 8) (s : Fin 8192) (j : Fin 1024) :
    scores f g (ix4 b h s j) = if e : j.val < 768 then f (ix5 b h s ⟨j.val / 256, by omega⟩ ⟨j.val % 256, by omega⟩)
      else g (ix5 b h ⟨s.val / 256, by omega⟩ ⟨s.val % 256, by omega⟩ ⟨j.val - 768, by omega⟩) := by
  pointwise [scores]

theorem tops_apply (x : FVec Ideal S4x8x8192x1024 .f32) (b : Fin 4) (h : Fin 8) (s : Fin 8192) :
    tops x (ix3 b h s) = Finset.univ.fold max ⊥ fun k : Fin 1024 => x (ix4 b h s k) := by
  have e : ∀ (r0 : 0 < S_.numel), Host.reduce FloatOps.maximumf x (constant S_ .f32 0xFF800000#32) reducesTo_S4x8x8192x1024_S4x8x8192_d3 r0 (ix3 b h s)
      = Finset.univ.fold max (Ideal.ofBits .f32 0xFF800000#32) fun k : Fin 1024 => x (ix4 b h s k) := by
    intro r0
    simp only [pointwise]
  have e' : tops x (ix3 b h s) = max (Ideal.ofBits .f32 0xFF800000#32) (Host.reduce FloatOps.maximumf x (constant S_ .f32 0xFF800000#32) reducesTo_S4x8x8192x1024_S4x8x8192_d3 h_S_ (ix3 b h s)) := by
    unfold tops
    rw [maximumf_apply]
    rfl
  rw [e', e, neg_inf]
  exact max_eq_right bot_le

theorem weights_apply (x : FVec Ideal S4x8x8192x1024 .f32) (b : Fin 4) (h : Fin 8) (s : Fin 8192) (j : Fin 1024) :
    weights x (ix4 b h s j) = Ideal.exp (x (ix4 b h s j) - Finset.univ.fold max ⊥ fun k : Fin 1024 => x (ix4 b h s k)) := by
  rw [← tops_apply]
  pointwise [weights, spread]

theorem shares_apply (x : FVec Ideal S4x8x8192x1024 .f32) (b : Fin 4) (h : Fin 8) (s : Fin 8192) (j : Fin 1024) :
    shares x (ix4 b h s j) = Ideal.div (x (ix4 b h s j)) (∑ k : Fin 1024, x (ix4 b h s k)) := by
  pointwise [shares, spread]

theorem farPart_apply (x : FVec Ideal S4x8x8192x1024 .f32) (vp : FVec Ideal S4x8x8192x3x256x64 .f32) (b : Fin 4) (h : Fin 8) (s : Fin 8192) (d : Fin 64) :
    farPart x vp (ix4 b h s d) = ∑ l : Fin 256, ∑ r : Fin 3, x (ix4 b h s ⟨r.val * 256 + l.val, by omega⟩) * vp (ix6 b h s r l d) := by
  pointwise [farPart]

theorem ownPart_apply (x : FVec Ideal S4x8x8192x1024 .f32) (vb : FVec Ideal S4x8x32x256x64 .f32) (b : Fin 4) (h : Fin 8) (s : Fin 8192) (d : Fin 64) :
    ownPart x vb (ix4 b h s d) = ∑ l : Fin 256, x (ix4 b h s ⟨768 + l.val, by omega⟩) * vb (ix5 b h ⟨s.val / 256, by omega⟩ l d) := by
  pointwise [ownPart]

theorem laid_apply (o : FVec Ideal S4x8x8192x64 .f32) (b : Fin 4) (s : Fin 8192) (e : Fin 512) :
    laid o (ix3 b s e) = o (ix4 b ⟨e.val / 64, by omega⟩ s ⟨e.val % 64, by omega⟩) := by
  pointwise [laid]

theorem picks_apply (g : FVec Ideal S4x8x8192x32 .f32) (b : Fin 4) (h : Fin 8) (s : Fin 8192) (r : Fin 3) :
    picks g (ix4 b h s r) = BitVec.ofNat 32 (sortedFrom (fun k k' : Fin 32 => (FloatOps.cmpfTotal (F := Ideal) (φ := .f32) .gt (g (ix4 b h s k)) (g (ix4 b h s k'))) == 1#1) ⟨r.val, by omega⟩).val := by
  have al : ∀ (c k : Fin 32), (ix4 b h s c : S4x8x8192x32.Idx).along (3 : Fin 4) k = ix4 b h s k := by
    intro c k
    funext a
    unfold Shape.Idx.along
    match a with
    | ⟨0, _⟩ => rfl
    | ⟨1, _⟩ => rfl
    | ⟨2, _⟩ => rfl
    | ⟨3, _⟩ => rfl
  have sl : ∀ (f : S4x8x8192x32.Idx → BitVec 32), extractStridedSlice S4x8x8192x3 (fun _ => 0) f sliceFits_S4x8x8192x32_S4x8x8192x3 (ix4 b h s r) = f (ix4 b h s ⟨r.val, by omega⟩) := by
    intro f
    refine congrArg f (funext fun a => Fin.ext ?_)
    match a with
    | ⟨0, _⟩ => exact Nat.zero_add _
    | ⟨1, _⟩ => exact Nat.zero_add _
    | ⟨2, _⟩ => exact Nat.zero_add _
    | ⟨3, _⟩ => exact Nat.zero_add _
  unfold picks Host.topK Host.sort2
  simp only [show (3 : ℕ) < S4x8x8192x32.rank from by decide, dif_pos]
  rw [sl]
  have io : ∀ (c k : Fin 32), iotaInDim S4x8x8192x32 32 (3 : Fin 4) ((ix4 b h s c : S4x8x8192x32.Idx).along (3 : Fin 4) k) = BitVec.ofNat 32 k.val := fun c k => by
    rw [al]; rfl
  refine (io _ _).trans ?_
  refine congrArg (fun R : Fin 32 → Fin 32 → Bool => BitVec.ofNat 32 (sortedFrom R ⟨r.val, by omega⟩).val) (funext fun k => funext fun k' => ?_)
  exact congrArg₂ (fun i j => FloatOps.cmpfTotal (F := Ideal) (φ := .f32) .gt (g i) (g j) == 1#1) (al _ k) (al _ k')

theorem picked_apply (kb : FVec Ideal S4x8x32x256x64 .f32) (st : IVec S4x8x8192x3x1 32) (b : Fin 4) (h : Fin 8) (s : Fin 8192) (n : Fin 3) (l : Fin 256) (d : Fin 64) (u : Fin 32)
    (hu : st (ix5 b h s n 0) = BitVec.ofNat 32 u.val) :
    picked kb st (ix6 b h s n l d) = kb (ix5 b h u l d) := by
  have e : ∀ a : Fin 5, (gather_S4x8x32x256x64_S4x8x8192x3x1_S4x8x8192x3x256x64_45_2_01_01_2_4_11125664.operandIdx (ix6 b h s n l d) st a).val
      = (ix5 b h u l d : S4x8x32x256x64.Idx) a := by
    intro a
    match a with
    | ⟨0, _⟩ =>
      show 0 + b.val + 0 = b.val
      omega
    | ⟨1, _⟩ =>
      show 0 + h.val + 0 = h.val
      omega
    | ⟨2, _⟩ =>
      have si : gather_S4x8x32x256x64_S4x8x8192x3x1_S4x8x8192x3x256x64_45_2_01_01_2_4_11125664.siIdx (ix6 b h s n l d) ⟨0, by decide⟩ = ix5 b h s n 0 := by
        funext c
        match c with
        | ⟨0, _⟩ => rfl
        | ⟨1, _⟩ => rfl
        | ⟨2, _⟩ => rfl
        | ⟨3, _⟩ => rfl
        | ⟨4, _⟩ => rfl
      show min (st (gather_S4x8x32x256x64_S4x8x8192x3x1_S4x8x8192x3x256x64_45_2_01_01_2_4_11125664.siIdx (ix6 b h s n l d) ⟨0, _⟩)).toInt.toNat 31 + 0 + 0 = u.val
      rw [si, hu, BitVec.toInt_eq_toNat_of_lt (by rw [BitVec.toNat_ofNat, Nat.mod_eq_of_lt (by omega)]; omega), BitVec.toNat_ofNat, Nat.mod_eq_of_lt (by omega)]
      have := u.isLt
      simp only [Int.toNat_natCast]
      omega
    | ⟨3, _⟩ =>
      show 0 + 0 + l.val = l.val
      omega
    | ⟨4, _⟩ =>
      show 0 + 0 + d.val = d.val
      omega
  exact congrArg kb (funext fun a => Fin.ext (e a))

end Cert.ReferenceIdeal.Moba

end
-- ==== Proof.Moba.RefValue.lean ====
/- What the reference computes: the attention over the blocks each query picks. -/
module

public import proofs.«01_k».proof.Proof.Moba.RefRead

@[expose] public section

noncomputable section

namespace Cert.ReferenceIdeal.Moba

open Cert.ReferenceIdeal Cert.ReferenceIdeal.Gen Cert.ReferenceIdeal.Facts
open Idealize.ShloMosaic Cert.Moba
open scoped Classical

/-- The columns of a row of scores: three blocks of the picked, then the query's own. -/
theorem sum_columns (f : Fin 1024 → ℝ) :
    ∑ j, f j = (∑ r : Fin 3, ∑ l : Fin 256, f ⟨r.val * 256 + l.val, by omega⟩) + ∑ l : Fin 256, f ⟨768 + l.val, by omega⟩ := by
  rw [show (∑ j, f j) = ∑ j : Fin (768 + 256), f j from rfl, Fin.sum_univ_add]
  congr 1
  rw [← Fintype.sum_prod_type', ← (finProdFinEquiv (m := 3) (n := 256)).sum_comp]
  refine Finset.sum_congr rfl fun p _ => congrArg f (Fin.ext ?_)
  show p.2.val + 256 * p.1.val = p.1.val * 256 + p.2.val
  omega

theorem addf_at (a b : FVec Ideal S4x8x8192x64 .f32) (i : S4x8x8192x64.Idx) : addf a b i = a i + b i := rfl

section
variable (q k v : Arg) (qr kr vr : Fin 4 → Fin 8192 → Fin 8 → Fin 64 → ℝ)
  (hq : ∀ b s h d, q (ix4 b s h d) = (qr b s h d : EReal)) (hk : ∀ b s h d, k (ix4 b s h d) = (kr b s h d : EReal))
  (hv : ∀ b s h d, v (ix4 b s h d) = (vr b s h d : EReal))

/-- The keys or values of one head by block. -/
def byBlock (kr : Fin 4 → Fin 8192 → Fin 8 → Fin 64 → ℝ) (b : Fin 4) (h : Fin 8) (n : Fin 32) (l : Fin 256) (d : Fin 64) : ℝ :=
  kr b ⟨n.val * 256 + l.val, by omega⟩ h d

include hq in
theorem qs_real (b : Fin 4) (h : Fin 8) (s : Fin 8192) (d : Fin 64) : qs q (ix4 b h s d) = ((qr b s h d * (1 / 8) : ℝ) : EReal) := by
  rw [qs_apply, hq, ← EReal.coe_mul]

include hk in
theorem blocks_real (b : Fin 4) (h : Fin 8) (n : Fin 32) (l : Fin 256) (d : Fin 64) : blocks k (ix5 b h n l d) = (byBlock kr b h n l d : EReal) := by
  rw [blocks_apply, hk]; rfl

include hk in
theorem means_real (b : Fin 4) (h : Fin 8) (n : Fin 32) (d : Fin 64) : means (blocks k) (ix4 b h n d) = (((∑ l, byBlock kr b h n l d) / 256 : ℝ) : EReal) := by
  rw [means_apply, Finset.sum_congr rfl fun l _ => blocks_real k kr hk b h n l d, ← coe_sum, div_coe _ _ (by norm_num)]

include hq hk in
theorem gates_real (b : Fin 4) (h : Fin 8) (s : Fin 8192) (n : Fin 32) :
    gates (qs q) (means (blocks k)) (ix4 b h s n) = gate (qr b s h) (byBlock kr b h) (s.val / 256) n := by
  rw [gates_apply]
  unfold gate
  refine if_congr Iff.rfl ?_ rfl
  rw [coe_sum]
  refine Finset.sum_congr rfl fun x _ => ?_
  rw [qs_real q qr hq, means_real k kr hk, ← EReal.coe_mul]

include hq hk in
/-- The blocks the reference picks for a query, in order. -/
theorem exists_sel (b : Fin 4) (h : Fin 8) (s : Fin 8192) :
    ∃ sel : Fin 3 → Fin 32, (∀ r, place (gate (qr b s h) (byBlock kr b h) (s.val / 256)) (sel r) = r.val)
      ∧ ∀ r, chosen q k (ix5 b h s r 0) = BitVec.ofNat 32 (sel r).val := by
  refine ⟨fun r => sortedFrom (fun k' k'' : Fin 32 => (FloatOps.cmpfTotal (F := Ideal) (φ := .f32) .gt (gates (qs q) (means (blocks k)) (ix4 b h s k'))
    (gates (qs q) (means (blocks k)) (ix4 b h s k''))) == 1#1) ⟨r.val, by omega⟩, fun r => ?_, fun r => ?_⟩
  · refine place_sortedFrom _ _ (fun a c => ?_) _
    rw [gates_real q k qr kr hq hk, gates_real q k qr kr hq hk]
    show (BitVec.ofBool (decide (_ < _)) == 1#1) = true ↔ _
    rw [beq_iff_eq]
    by_cases hh : gate (qr b s h) (byBlock kr b h) (s.val / 256) c < gate (qr b s h) (byBlock kr b h) (s.val / 256) a
    · simp only [hh, decide_true, iff_true]; rfl
    · simp only [hh, decide_false, iff_false]; decide
  · exact starts_apply _ b h s r _ (picks_apply _ b h s r)

include hq hk hv in
theorem out_real (b : Fin 4) (h : Fin 8) (s : Fin 8192) (d : Fin 64) :
    out q k v (ix4 b h s d)
      = (attn (qr b s h) (byBlock kr b h) (byBlock vr b h) ⟨s.val / 256, by omega⟩ ⟨s.val % 256, by omega⟩ d : EReal) := by
  obtain ⟨sel, hsel, hch⟩ := exists_sel q k qr kr hq hk b h s
  set qd := qr b s h with hqd
  set kd := byBlock kr b h with hkd
  set vd := byBlock vr b h with hvd
  have hs' : (⟨s.val / 256 * 256 + s.val % 256, by omega⟩ : Fin 8192) = s := Fin.ext (by show s.val / 256 * 256 + s.val % 256 = s.val; omega)
  let i : Fin 32 := ⟨s.val / 256, by omega⟩
  let y : Fin 256 := ⟨s.val % 256, by omega⟩
  have hsc : ∀ n l, ∑ x : Fin 64, qs q (ix4 b h s x) * blocks k (ix5 b h n l x) = (score qd (kd n l) : EReal) := by
    intro n l
    unfold score
    rw [coe_sum]
    refine Finset.sum_congr rfl fun x _ => ?_
    rw [qs_real q qr hq, blocks_real k kr hk, ← EReal.coe_mul]
  -- the scores, those left out at the bottom
  let ok : Fin 1024 → Prop := fun j => if j.val < 768 then j.val / 256 < i.val else j.val - 768 ≤ y.val
  let σ : Fin 1024 → ℝ := fun j => if e : j.val < 768 then score qd (kd (sel ⟨j.val / 256, by omega⟩) ⟨j.val % 256, by omega⟩) else score qd (kd i ⟨j.val - 768, by omega⟩)
  have hall : ∀ j, allScores q k (ix4 b h s j) = if ok j then (σ j : EReal) else ⊥ := by
    intro j
    unfold allScores
    rw [scores_apply]
    by_cases e : j.val < 768
    · rw [dif_pos e, farScores_apply]
      refine if_congr (by show _ ↔ if _ then _ else _; rw [if_pos e]) ?_ rfl
      show _ = ((dite _ _ _ : ℝ) : EReal)
      rw [dif_pos e, ← hsc]
      refine Finset.sum_congr rfl fun x _ => congrArg _ ?_
      exact picked_apply _ _ b h s _ _ x _ (hch _)
    · rw [dif_neg e, ownScores_apply]
      refine if_congr (by show _ ↔ if _ then _ else _; rw [if_neg e]) ?_ rfl
      show _ = ((dite _ _ _ : ℝ) : EReal)
      rw [dif_neg e, ← hsc]
      refine Finset.sum_congr rfl fun x _ => ?_
      rw [hs']
  let W : Fin 1024 → ℝ := fun j => if ok j then Real.exp (σ j) else 0
  have hok0 : ok ⟨768, by omega⟩ := by
    show if (768 : ℕ) < 768 then _ else _
    rw [if_neg (by omega)]
    show 768 - 768 ≤ y.val
    omega
  have hshare : ∀ j, shares (weights (allScores q k)) (ix4 b h s j) = ((W j / ∑ j', W j' : ℝ) : EReal) := by
    intro j
    rw [shares_apply]
    simp only [weights_apply]
    exact softmax ok ⟨768, by omega⟩ hok0 σ (fun j => allScores q k (ix4 b h s j)) hall j
  -- a sum over the columns, each by its weight
  have hfar : ∀ (r : Fin 3) (l : Fin 256), W ⟨r.val * 256 + l.val, by omega⟩ = if r.val < i.val then Real.exp (score qd (kd (sel r) l)) else 0 := by
    intro r l
    have e : r.val * 256 + l.val < 768 := by omega
    have e1 : (r.val * 256 + l.val) / 256 = r.val := by omega
    have e2 : (r.val * 256 + l.val) % 256 = l.val := by omega
    refine if_congr (by show (if _ then _ else _) ↔ _; rw [if_pos e]; show (r.val * 256 + l.val) / 256 < _ ↔ _; rw [e1]) (congrArg Real.exp ?_) rfl
    show dite _ _ _ = _
    rw [dif_pos e]
    congr 2
    · exact congrArg sel (Fin.ext e1)
    · exact Fin.ext e2
  have hown : ∀ l : Fin 256, W ⟨768 + l.val, by omega⟩ = if l.val ≤ y.val then Real.exp (score qd (kd i l)) else 0 := by
    intro l
    have e : ¬ 768 + l.val < 768 := by omega
    have e1 : 768 + l.val - 768 = l.val := by omega
    refine if_congr (by show (if _ then _ else _) ↔ _; rw [if_neg e]; show 768 + l.val - 768 ≤ _ ↔ _; rw [e1]) (congrArg Real.exp ?_) rfl
    show dite _ _ _ = _
    rw [dif_neg e]
    congr 2
    exact Fin.ext e1
  have hmass : ∀ x : Fin 32 → Fin 256 → ℝ, mass qd kd i y x = (∑ r : Fin 3, ∑ l : Fin 256, W ⟨r.val * 256 + l.val, by omega⟩ * x (sel r) l)
      + ∑ l : Fin 256, W ⟨768 + l.val, by omega⟩ * x i l := by
    intro x
    unfold mass
    rw [add_comm, sum_place (gate qd kd i.val) sel hsel i.val]
    congr 1
    · refine Finset.sum_congr rfl fun r _ => ?_
      by_cases hr : r.val < i.val
      · rw [if_pos hr]
        refine Finset.sum_congr rfl fun l _ => ?_
        rw [hfar, if_pos hr, mul_comm]
      · rw [if_neg hr, Finset.sum_eq_zero]
        intro l _
        rw [hfar, if_neg hr, zero_mul]
    · refine Finset.sum_congr rfl fun l _ => ?_
      rw [hown]
      split
      · rw [mul_comm]
      · rw [zero_mul]
  have hZ : ∑ j', W j' = mass qd kd i y fun _ _ => 1 := by
    rw [hmass, sum_columns]
    simp only [mul_one]
  have hpv : ∀ (r : Fin 3) (l : Fin 256), picked (blocks v) (chosen q k) (ix6 b h s r l d) = (vd (sel r) l d : EReal) := by
    intro r l
    rw [picked_apply _ _ b h s r l d _ (hch r), blocks_real v vr hv]
  have e : out q k v (ix4 b h s d) = farPart (shares (weights (allScores q k))) (picked (blocks v) (chosen q k)) (ix4 b h s d)
      + ownPart (shares (weights (allScores q k))) (blocks v) (ix4 b h s d) := by
    unfold out
    exact addf_at _ _ _
  rw [e, farPart_apply, ownPart_apply]
  simp only [hshare, hpv, blocks_real v vr hv, ← EReal.coe_mul, ← coe_sum, ← EReal.coe_add]
  refine congrArg (fun z : ℝ => (z : EReal)) ?_
  unfold attn
  rw [hZ, hmass (fun n l => vd n l d), add_div, Finset.sum_comm, Finset.sum_div, Finset.sum_div]
  refine congrArg₂ (fun a b : ℝ => a + b) ?_ ?_
  · refine Finset.sum_congr rfl fun r _ => ?_
    rw [Finset.sum_div]
    exact Finset.sum_congr rfl fun l _ => by ring
  · exact Finset.sum_congr rfl fun l _ => by rw [div_mul_eq_mul_div]

end

end Cert.ReferenceIdeal.Moba

end
-- ==== Proof.Moba.Result.lean ====
/- The kernel's result: each block of it at the values of the tiles, and the whole array. -/
module

public import proofs.«01_k».proof.Proof.Moba.Body
public import proofs.«01_k».proof.Proof.Moba.Host
public import proofs.«01_k».proof.Proof.Moba.TileValue
public import proofs.«01_k».proof.Proof.Moba.RefValue
public import Idealize.ShloMosaic.Lib.Pipeline.ValueKit

@[expose] public section

noncomputable section

namespace Cert.KernelIdeal.Moba

open Cert.KernelIdeal Cert.KernelIdeal.Gen
open Idealize.ShloMosaic Idealize.ShloMosaic.TcCoe Cert.Moba

variable (m : (ℓ : Loc nD τ sig) → Buf (Elt Ideal) ℓ) (c : Dev nD)

/-- A point's batch and pair of heads. -/
def batch (t : Fin cfg0.N) : Fin 4 := grid0.coords t 0
def pair (t : Fin cfg0.N) : Fin 4 := grid0.coords t 1

theorem index_0 (t : Fin cfg0.N) : win0_0.index t = ![(batch t).val, 0, (pair t).val] := by revert t; decide +kernel
theorem index_1 (t : Fin cfg0.N) : win0_1.index t = ![(batch t).val, 0, (pair t).val] := by revert t; decide +kernel
theorem index_2 (t : Fin cfg0.N) : win0_2.index t = ![(batch t).val, (pair t).val, 0] := by revert t; decide +kernel
theorem index_3 (t : Fin cfg0.N) : win0_3.index t = ![(batch t).val, 0, (pair t).val] := by revert t; decide +kernel
theorem index_4 (t : Fin cfg0.N) : win0_4.index t = ![(batch t).val, 0, (pair t).val] := by revert t; decide +kernel

/-- The feature of a pair's lane. -/
def feature (p : Fin 4) (f : Fin 128) : Fin 512 := ⟨128 * p.val + f.val, by omega⟩

theorem block_0 (t : Fin cfg0.N) (s : Fin 8192) (f : Fin 128) :
    (iblk m c 0 t : Vec Ideal S1x8192x128 .f32) (ix3 0 s f) = (V m c main_v0 : FVec Ideal S4x8192x512 .f32) (ix3 (batch t) s (feature (pair t) f)) := by
  blk_simp [iblk]
  refine congrArg (V m c main_v0) (funext fun a => Fin.ext ?_)
  have e := congrFun (index_0 t) a
  blk_simp
  rw [e]
  fin_cases a
  · show (batch t).val * 1 + 0 = (batch t).val
    omega
  · show 0 * 8192 + s.val = s.val
    omega
  · show (pair t).val * 128 + f.val = 128 * (pair t).val + f.val
    omega

theorem block_1 (t : Fin cfg0.N) (s : Fin 8192) (f : Fin 128) :
    (iblk m c 1 t : Vec Ideal S1x8192x128 .bf16) (ix3 0 s f) = (V m c main_v8 : FVec Ideal S4x8192x512 .bf16) (ix3 (batch t) s (feature (pair t) f)) := by
  blk_simp [iblk]
  refine congrArg (V m c main_v8) (funext fun a => Fin.ext ?_)
  have e := congrFun (index_1 t) a
  blk_simp
  rw [e]
  fin_cases a
  · show (batch t).val * 1 + 0 = (batch t).val
    omega
  · show 0 * 8192 + s.val = s.val
    omega
  · show (pair t).val * 128 + f.val = 128 * (pair t).val + f.val
    omega

theorem block_2 (t : Fin cfg0.N) (f : Fin 128) (s : Fin 8192) :
    (iblk m c 2 t : Vec Ideal S1x128x8192 .bf16) (ix3 0 f s) = (V m c main_v9 : FVec Ideal S4x512x8192 .bf16) (ix3 (batch t) (feature (pair t) f) s) := by
  blk_simp [iblk]
  refine congrArg (V m c main_v9) (funext fun a => Fin.ext ?_)
  have e := congrFun (index_2 t) a
  blk_simp
  rw [e]
  fin_cases a
  · show (batch t).val * 1 + 0 = (batch t).val
    omega
  · show (pair t).val * 128 + f.val = 128 * (pair t).val + f.val
    omega
  · show 0 * 8192 + s.val = s.val
    omega

theorem block_3 (t : Fin cfg0.N) (n : Fin 32) (f : Fin 128) :
    (iblk m c 3 t : Vec Ideal S1x32x128 .f32) (ix3 0 n f) = (V m c main_v5 : FVec Ideal S4x32x512 .f32) (ix3 (batch t) n (feature (pair t) f)) := by
  blk_simp [iblk]
  refine congrArg (V m c main_v5) (funext fun a => Fin.ext ?_)
  have e := congrFun (index_3 t) a
  blk_simp
  rw [e]
  fin_cases a
  · show (batch t).val * 1 + 0 = (batch t).val
    omega
  · show 0 * 32 + n.val = n.val
    omega
  · show (pair t).val * 128 + f.val = 128 * (pair t).val + f.val
    omega

/-- The head of a lane of a pair. -/
def headOf (p : Fin 4) (h : Fin 2) : Fin 8 := ⟨2 * p.val + h.val, by omega⟩

/-- A pair's rows out of the reals of an argument. -/
def rowsOf (r : Fin 4 → Fin 8192 → Fin 8 → Fin 64 → ℝ) (b p : Fin 4) : Fin 8192 → Fin 128 → ℝ :=
  fun s f => r b s ⟨(feature p f).val / 64, by omega⟩ ⟨(feature p f).val % 64, by omega⟩

theorem rowsOf_lane (r : Fin 4 → Fin 8192 → Fin 8 → Fin 64 → ℝ) (b p : Fin 4) (s : Fin 8192) (h : Fin 2) (x : Fin 64) :
    rowsOf r b p s (lane h x) = r b s (headOf p h) x := by
  have e1 : (⟨(feature p (lane h x)).val / 64, by omega⟩ : Fin 8) = headOf p h :=
    Fin.ext (by show (128 * p.val + (64 * h.val + x.val)) / 64 = 2 * p.val + h.val; omega)
  have e2 : (⟨(feature p (lane h x)).val % 64, by omega⟩ : Fin 64) = x :=
    Fin.ext (by show (128 * p.val + (64 * h.val + x.val)) % 64 = x.val; omega)
  unfold rowsOf
  rw [e1, e2]

theorem blocks_of (r : Fin 4 → Fin 8192 → Fin 8 → Fin 64 → ℝ) (b p : Fin 4) (h : Fin 2) :
    kOf (rowsOf r b p) h = Cert.ReferenceIdeal.Moba.byBlock r b (headOf p h) := by
  funext n l x
  unfold kOf
  rw [rowsOf_lane]
  unfold Cert.ReferenceIdeal.Moba.byBlock row
  exact congrArg (fun s => r b s (headOf p h) x) (Fin.ext (by show 256 * n.val + l.val = n.val * 256 + l.val; omega))

section

variable {m c}
variable {qr kr vr : Fin 4 → Fin 8192 → Fin 8 → Fin 64 → ℝ}
  (hq : ∀ b s h d, argQ m c (ix4 b s h d) = (qr b s h d : EReal))
  (hk : ∀ b s h d, argK m c (ix4 b s h d) = (kr b s h d : EReal))
  (hv : ∀ b s h d, argV m c (ix4 b s h d) = (vr b s h d : EReal))

include hq hk hv in
/-- The block a point leaves. -/
theorem out_block (t : Fin cfg0.N) (s : Fin 8192) (h : Fin 2) (d : Fin 64) :
    (outsAt m c t : Vec Ideal S1x8192x128 .bf16) (ix3 0 s (lane h d))
      = ((attn (qr (batch t) s (headOf (pair t) h)) (Cert.ReferenceIdeal.Moba.byBlock kr (batch t) (headOf (pair t) h))
          (Cert.ReferenceIdeal.Moba.byBlock vr (batch t) (headOf (pair t) h)) ⟨s.val / 256, by omega⟩ ⟨s.val % 256, by omega⟩ d : ℝ) : EReal) := by
  have e : (outsAt m c t : Vec Ideal S1x8192x128 .bf16) (ix3 0 s (lane h d))
      = tileOut (⟨s.val / 256, by show _ < 32; omega⟩ : Fin k0_t1_loop.trips) (iblk m c 0 t) (iblk m c 1 t) (iblk m c 2 t) (iblk m c 3 t)
          (ix3 0 ⟨s.val % 256, by omega⟩ (lane h d)) := by
    unfold outsAt blockOut
    refine congrArg (tileOut _ _ _ _ _) (funext fun a => Fin.ext ?_)
    fin_cases a <;> rfl
  rw [e, tile_value (Q := rowsOf qr (batch t) (pair t)) (K := rowsOf kr (batch t) (pair t)) (V := rowsOf vr (batch t) (pair t)) _ _ _ _ _
    (fun s f => by rw [block_0, queries_in, hq]; rfl) (fun s f => by rw [block_1, keys_in, hk]; rfl)
    (fun f s => by rw [block_2, values_in, hv]; rfl)
    (fun n f => by
      rw [block_3, means_in]
      simp only [hk]
      rw [← coe_sum, div_coe _ _ (by norm_num)]
      rfl)]
  rw [blocks_of, blocks_of]
  refine congrArg (fun z : ℝ => (z : EReal)) (congrArg (fun z => attn z _ _ _ _ d) (funext fun x => ?_))
  unfold qOf
  rw [rowsOf_lane]
  exact congrArg (fun s => qr (batch t) s (headOf (pair t) h) x) (Fin.ext (by show 256 * (s.val / 256) + s.val % 256 = s.val; omega))

/-- The reference's result, of the kernel's arguments. -/
def target (m : (ℓ : Loc nD τ sig) → Buf (Elt Ideal) ℓ) (c : Dev nD) : FVec Ideal S4x8192x512 .bf16 :=
  Cert.ReferenceIdeal.Moba.laid (Cert.ReferenceIdeal.Moba.out (argQ m c) (argK m c) (argV m c))

include hq hk hv in
theorem target_apply (b p : Fin 4) (s : Fin 8192) (h : Fin 2) (d : Fin 64) :
    target m c (ix3 b s (feature p (lane h d)))
      = ((attn (qr b s (headOf p h)) (Cert.ReferenceIdeal.Moba.byBlock kr b (headOf p h))
          (Cert.ReferenceIdeal.Moba.byBlock vr b (headOf p h)) ⟨s.val / 256, by omega⟩ ⟨s.val % 256, by omega⟩ d : ℝ) : EReal) := by
  have e1 : (⟨(feature p (lane h d)).val / 64, by omega⟩ : Fin 8) = headOf p h :=
    Fin.ext (by show (128 * p.val + (64 * h.val + d.val)) / 64 = 2 * p.val + h.val; omega)
  have e2 : (⟨(feature p (lane h d)).val % 64, by omega⟩ : Fin 64) = d :=
    Fin.ext (by show (128 * p.val + (64 * h.val + d.val)) % 64 = d.val; omega)
  unfold target
  rw [Cert.ReferenceIdeal.Moba.laid_apply, e1, e2]
  exact Cert.ReferenceIdeal.Moba.out_real _ _ _ qr kr vr hq hk hv b (headOf p h) s d

theorem place_4 (t : Fin cfg0.N) (s : Fin 8192) (f : Fin 128) :
    ((win0_4.blk t).view.emb (ix3 0 s f) : S4x8192x512.Idx) = ix3 (batch t) s (feature (pair t) f) := by
  refine funext fun a => Fin.ext ?_
  have e := congrFun (index_4 t) a
  blk_simp
  rw [e]
  fin_cases a
  · show (batch t).val * 1 + 0 = (batch t).val
    omega
  · show 0 * 8192 + s.val = s.val
    omega
  · show (pair t).val * 128 + f.val = 128 * (pair t).val + f.val
    omega

theorem block_index (y : S1x8192x128.Idx) : ∃ (s : Fin 8192) (h : Fin 2) (d : Fin 64), y = ix3 0 s (lane h d) := by
  have h1 : (y 2).val < 128 := (y 2).isLt
  have h0 : (y 0).val < 1 := (y 0).isLt
  refine ⟨y 1, ⟨(y 2).val / 64, by omega⟩, ⟨(y 2).val % 64, by omega⟩, funext fun a => Fin.ext ?_⟩
  fin_cases a
  · show (y 0).val = 0
    omega
  · rfl
  · show (y 2).val = 64 * ((y 2).val / 64) + (y 2).val % 64
    omega

include hq hk hv in
/-- The result's array after the run. -/
theorem final : (dats m 0 c).arrAt 4 cfg0.N = target m c := by
  refine (dats m 0 c).arrAt_eq_of_covers 4 _ (by decide +kernel) fun t hf y => ?_
  blk_simp
  rw [after0_4]
  obtain ⟨s, h, d, hy⟩ := block_index y
  subst hy
  exact (out_block hq hk hv t s h d).trans
    ((target_apply hq hk hv (batch t) (pair t) s h d).symm.trans (congrArg (target m c) (place_4 t s (lane h d)).symm))

end

end Cert.KernelIdeal.Moba

end
-- ==== Proof.Mixer.Frames.lean ====
/- The frame of the mixer's program at the bits, of the run of its exact text. -/
module

public import proofs.«01_k».proof.Proof.Gen.MixerInIdeal.Frame
public import proofs.«01_k».proof.Proof.Gen.MixerIn
public import proofs.«01_k».proof.MixerIn
public import Idealize.ShloMosaic.PureOps.BitExact

@[expose] public section

set_option maxHeartbeats 4000000

noncomputable section

namespace Cert.Proof

open Idealize.ShloMosaic Idealize.SL.Sem

/-- The body tables of the two printed programs agree at the bits. -/
theorem mixer_defs0_eq : Cert.MixerIn.defs₀ (F := Bits) = Cert.MixerInIdeal.defs₀ (F := Bits) := by
  unfold Cert.MixerIn.defs₀ Cert.MixerInIdeal.defs₀
  refine congrArg Defs.onTc (funext fun l => funext fun x => ?_)
  match l, x with
  | ⟨0, _⟩, (t, s) => rfl
  | ⟨_ + 1, h⟩, _ => exact absurd h (Nat.not_lt.2 (Nat.le_add_left _ _))

theorem mixer_defs_eq : Cert.MixerIn.defs (F := Bits) = Cert.MixerInIdeal.defs (F := Bits) := by
  unfold Cert.MixerIn.defs Cert.MixerInIdeal.defs
  rw [mixer_defs0_eq]
  rfl

theorem frame_mixer (m : (ℓ : Loc Cert.MixerIn.nD Cert.MixerIn.τ Cert.MixerIn.sig) → Buf (Elt Bits) ℓ) (g : Dev Cert.MixerIn.nD → PrngReg) :
    θ_run (Cert.MixerIn.defs (F := Bits)) (onTc (τ := Cert.MixerIn.τ) (Cert.MixerIn.main (F := Bits))) ⟨m, fun _ => 0, g⟩ (fun r => (∀ c : Dev Cert.MixerIn.nD,
      r.2.mem ((c.tc : Thread Cert.MixerIn.nD Cert.MixerIn.τ).loc Cert.MixerIn.main_arg0) = m ((c.tc : Thread Cert.MixerIn.nD Cert.MixerIn.τ).loc Cert.MixerIn.main_arg0)
      ∧ r.2.mem ((c.tc : Thread Cert.MixerIn.nD Cert.MixerIn.τ).loc Cert.MixerIn.main_arg1) = m ((c.tc : Thread Cert.MixerIn.nD Cert.MixerIn.τ).loc Cert.MixerIn.main_arg1)
      ∧ r.2.mem ((c.tc : Thread Cert.MixerIn.nD Cert.MixerIn.τ).loc Cert.MixerIn.main_arg2) = m ((c.tc : Thread Cert.MixerIn.nD Cert.MixerIn.τ).loc Cert.MixerIn.main_arg2)
      ∧ r.2.mem ((c.tc : Thread Cert.MixerIn.nD Cert.MixerIn.τ).loc Cert.MixerIn.main_arg3) = m ((c.tc : Thread Cert.MixerIn.nD Cert.MixerIn.τ).loc Cert.MixerIn.main_arg3)
      ∧ r.2.mem ((c.tc : Thread Cert.MixerIn.nD Cert.MixerIn.τ).loc Cert.MixerIn.main_arg4) = m ((c.tc : Thread Cert.MixerIn.nD Cert.MixerIn.τ).loc Cert.MixerIn.main_arg4)
      ∧ r.2.mem ((c.tc : Thread Cert.MixerIn.nD Cert.MixerIn.τ).loc Cert.MixerIn.main_arg5) = m ((c.tc : Thread Cert.MixerIn.nD Cert.MixerIn.τ).loc Cert.MixerIn.main_arg5)
      ∧ r.2.mem ((c.tc : Thread Cert.MixerIn.nD Cert.MixerIn.τ).loc Cert.MixerIn.main_arg6) = m ((c.tc : Thread Cert.MixerIn.nD Cert.MixerIn.τ).loc Cert.MixerIn.main_arg6)
      ∧ r.2.mem ((c.tc : Thread Cert.MixerIn.nD Cert.MixerIn.τ).loc Cert.MixerIn.main_arg7) = m ((c.tc : Thread Cert.MixerIn.nD Cert.MixerIn.τ).loc Cert.MixerIn.main_arg7)
      ∧ r.2.mem ((c.tc : Thread Cert.MixerIn.nD Cert.MixerIn.τ).loc Cert.MixerIn.main_arg8) = m ((c.tc : Thread Cert.MixerIn.nD Cert.MixerIn.τ).loc Cert.MixerIn.main_arg8))
      ∧ r.2.sem = fun _ => 0) := by
  rw [mixer_defs_eq]
  exact Cert.MixerInIdeal.Gen.frame (F := Bits) m g

end Cert.Proof

end
-- ==== Proof.Mixer.Spec.lean ====
/- One token's row of the mixer's first half: the normalised and modulated row, its projections, the gated unit, the spatial
   mix's operands and the rotation of a head's first lanes, as functions of extended reals. -/
module

public import Idealize.ShloMosaic.PureOps.Ideal

@[expose] public section

noncomputable section

namespace Cert.Mixer

open Idealize.ShloMosaic

/-- The number a word stands for. -/
abbrev lit (w : BitVec 32) : EReal := Ideal.ofBits .f32 w

/-- A row over its root mean square, scaled by `g`, then by `1 + sc`, and shifted by `sh`. -/
def hid (x g sh sc : Fin 1024 → EReal) (d : Fin 1024) : EReal :=
  x d * Ideal.rsqrt (Ideal.div (∑ e : Fin 1024, x e * x e) (lit 0x44800000#32) + lit 0x358637BD#32) * g d * (1 + sc d) + sh d

/-- The row's projection on a column of weights. -/
def proj (h w : Fin 1024 → EReal) : EReal := ∑ d : Fin 1024, h d * w d

def gelu (z : EReal) : EReal :=
  z * (lit 0x3F000000#32 * (1 + Ideal.tanh (lit 0x3F4C422A#32 * (z + lit 0x3D372713#32 * (z * (z * z))))))

def sigm (z : EReal) : EReal := Ideal.div 1 (1 + Ideal.exp (-z))

def mean (u : Fin 512 → EReal) : EReal := Ideal.div (∑ e : Fin 512, u e) (lit 0x44000000#32)

/-- A row less its mean, over its standard deviation, scaled and shifted. -/
def norm (u g b : Fin 512 → EReal) (e : Fin 512) : EReal :=
  (u e - mean u) * Ideal.rsqrt (Ideal.div (∑ k : Fin 512, (u k - mean u) * (u k - mean u)) (lit 0x44000000#32) + lit 0x358637BD#32) * g e + b e

/-- The causal mix of a chunk's tokens up to `i`. -/
def mix (w u : Fin 128 → EReal) (i : Fin 128) : EReal := ∑ j : Fin 128, (if j.val ≤ i.val then w j else 0) * u j

/-- A head's lanes below 16 rotated in pairs eight apart, the others kept. -/
def rope (t : Fin 512 → EReal) (cs sn : Fin 8 → EReal) (c : Fin 512) : EReal :=
  if h : c.val % 64 < 8 then t c * cs ⟨c.val % 64, h⟩ - t ⟨c.val + 8, by omega⟩ * sn ⟨c.val % 64, h⟩
  else if h' : c.val % 64 < 16 then t c * cs ⟨c.val % 64 - 8, by omega⟩ + t ⟨c.val - 8, by omega⟩ * sn ⟨c.val % 64 - 8, by omega⟩
  else t c

/-- The table of cosines at a lane of a pair of heads: 1 on the lanes that are kept. -/
def tabC (cs : Fin 8 → EReal) (l : Fin 128) : EReal :=
  if h : l.val % 64 < 8 then cs ⟨l.val % 64, h⟩ else if h' : l.val % 64 - 8 < 8 then cs ⟨l.val % 64 - 8, h'⟩ else 1

/-- The table of sines that the lane eight above is weighted by. -/
def tabA (sn : Fin 8 → EReal) (l : Fin 128) : EReal := if h : l.val % 64 < 8 then -sn ⟨l.val % 64, h⟩ else 0

/-- The table of sines that the lane eight below is weighted by. -/
def tabB (sn : Fin 8 → EReal) (l : Fin 128) : EReal :=
  if l.val % 64 < 8 then 0 else if h' : l.val % 64 - 8 < 8 then sn ⟨l.val % 64 - 8, h'⟩ else 0

theorem rope_of_tables (t : Fin 512 → EReal) (cs sn : Fin 8 → EReal) (e a b c : Fin 512) (l : Fin 128) (hl : l.val = e.val % 128) (ha : a.val = e.val)
    (hb : e.val % 64 < 8 → b.val = e.val + 8) (hc : 8 ≤ e.val % 64 → c.val = e.val - 8) :
    t a * tabC cs l + t b * tabA sn l + t c * tabB sn l = rope t cs sn e := by
  have e64 : l.val % 64 = e.val % 64 := by omega
  obtain rfl : a = e := Fin.ext ha
  unfold tabC tabA tabB rope
  simp only [e64]
  by_cases h : a.val % 64 < 8
  · obtain rfl : b = ⟨a.val + 8, by omega⟩ := Fin.ext (hb h)
    simp only [h, dif_pos, if_pos, mul_zero, add_zero, mul_neg, sub_eq_add_neg]
  · simp only [h, dif_neg, not_false_eq_true, if_false, mul_zero, add_zero]
    by_cases h' : a.val % 64 < 16
    · obtain rfl : c = ⟨a.val - 8, by omega⟩ := Fin.ext (hc (by omega))
      have h8 : a.val % 64 - 8 < 8 := by omega
      simp only [h', h8, dif_pos]
    · have h8 : ¬ a.val % 64 - 8 < 8 := by omega
      simp only [h', h8, dif_neg, not_false_eq_true, mul_one, mul_zero, add_zero]

/-- The angle of position `s` and pair `i`. -/
def angle (s i : ℕ) : EReal :=
  FloatOps.sitofp (F := Ideal) .f32 (BitVec.ofNat 32 s)
    * Ideal.pow (lit 0x48F42400#32) (Ideal.div (-FloatOps.sitofp (F := Ideal) .f32 (BitVec.ofNat 32 i) * lit 0x40000000#32) (lit 0x41800000#32))

def cosines (s : ℕ) (i : Fin 8) : EReal := Ideal.cos (angle s i.val)
def sines (s : ℕ) (i : Fin 8) : EReal := Ideal.sin (angle s i.val)

/-- The arguments, entry by entry. -/
structure Ins where
  x : Fin 4 → Fin 8192 → Fin 1024 → EReal
  md : Fin 4 → Fin 6144 → EReal
  g : Fin 1024 → EReal
  w : Fin 1024 → Fin 4608 → EReal
  lg : Fin 512 → EReal
  lb : Fin 512 → EReal
  ws : Fin 4 → Fin 128 → Fin 128 → EReal
  bs : Fin 4 → Fin 128 → EReal
  wb : Fin 512 → Fin 1024 → EReal

namespace Ins

variable (I : Ins)

/-- The normalised and modulated row of a token. -/
def row (b : Fin 4) (s : Fin 8192) : Fin 1024 → EReal :=
  hid (I.x b s) I.g (fun d => I.md b ⟨d.val, by omega⟩) (fun d => I.md b ⟨1024 + d.val, by omega⟩)

/-- The token's projections. -/
def pr (b : Fin 4) (s : Fin 8192) (c : Fin 4608) : EReal := proj (I.row b s) (fun d => I.w d c)

def resQ (b : Fin 4) (s : Fin 8192) (e : Fin 512) : EReal := rope (fun c => I.pr b s ⟨1024 + c.val, by omega⟩) (cosines s.val) (sines s.val) e
def resK (b : Fin 4) (s : Fin 8192) (e : Fin 512) : EReal := rope (fun c => I.pr b s ⟨1536 + c.val, by omega⟩) (cosines s.val) (sines s.val) e
def resV (b : Fin 4) (e : Fin 512) (s : Fin 8192) : EReal := I.pr b s ⟨2048 + e.val, by omega⟩
def resB (b : Fin 4) (s : Fin 8192) (j : Fin 1024) : EReal := sigm (I.pr b s ⟨3584 + j.val, by omega⟩)

/-- The mean key of a block of 256 tokens, two blocks to a tile. -/
def resM (b : Fin 4) (n : Fin 16) (k : Fin 2) (e : Fin 512) : EReal :=
  Ideal.div (∑ l : Fin 256, I.resK b ⟨(n.val * 2 + k.val) * 256 + l.val, by omega⟩ e) (lit 0x43800000#32)

/-- The half of the gated unit that is mixed over tokens. -/
def half (b : Fin 4) (s : Fin 8192) (e : Fin 512) : EReal := norm (fun k => gelu (I.pr b s ⟨512 + k.val, by omega⟩)) I.lg I.lb e

/-- The first branch's row before its output weights. -/
def inner (b : Fin 4) (s : Fin 8192) (e : Fin 512) : EReal :=
  gelu (I.pr b s ⟨e.val, by omega⟩)
    * (mix (I.ws ⟨e.val / 128, by omega⟩ ⟨s.val % 128, by omega⟩) (fun j => I.half b ⟨s.val / 128 * 128 + j.val, by omega⟩ e) ⟨s.val % 128, by omega⟩
      + I.bs ⟨e.val / 128, by omega⟩ ⟨s.val % 128, by omega⟩)

def resA (b : Fin 4) (s : Fin 8192) (j : Fin 1024) : EReal :=
  sigm (I.pr b s ⟨2560 + j.val, by omega⟩) * ∑ e : Fin 512, I.inner b s e * I.wb e j

end Ins

end Cert.Mixer

end
-- ==== Proof.Mixer.Tile.lean ====
/- The values a point computes, read at an index. -/
module

public import proofs.«01_k».proof.Proof.Gen.MixerInIdeal.Value
public import proofs.«01_k».proof.Proof.Mixer.Spec
public import Idealize.ShloMosaic.Lib.Pointwise

@[expose] public section

set_option maxRecDepth 8192

noncomputable section

namespace Cert.MixerInIdeal.Mixer

open Cert.MixerInIdeal Cert.MixerInIdeal.Gen
open Idealize.ShloMosaic Cert.Mixer

theorem hid_at (v0 v2 : Vec Ideal S1x1x1024 .f32) (v4 : Vec Ideal S1x512x1024 .f32) (v16 : Vec Ideal S1x1024 .f32) (r : Fin 512) (d : Fin 1024) :
    k0_pay6 v0 v2 v4 v16 (ix2 r d) = hid (fun e => v4 (ix3 0 r e)) (fun e => v16 (ix2 0 e)) (fun e => v0 (ix3 0 0 e)) (fun e => v2 (ix3 0 0 e)) d := by
  pointwise [k0_pay6]
  rfl

theorem unit_at (v0 v2 : Vec Ideal S1x1x1024 .f32) (v4 : Vec Ideal S1x512x1024 .f32) (v16 : Vec Ideal S1x1024 .f32) (w : Vec Ideal S1024x1024 .bf16) (r : Fin 512) (j : Fin 1024) :
    k0_pay7 v0 v2 v4 v16 w (ix2 r j) = ∑ d : Fin 1024, k0_pay6 v0 v2 v4 v16 (ix2 r d) * w (ix2 d j) := by
  pointwise [k0_pay7]

theorem gateB_at (v0 v2 : Vec Ideal S1x1x1024 .f32) (v4 : Vec Ideal S1x512x1024 .f32) (v16 : Vec Ideal S1x1024 .f32) (w : Vec Ideal S1024x1024 .bf16) (r : Fin 512) (j : Fin 1024) :
    k0_pay8 v0 v2 v4 v16 w (ix2 r j) = ∑ d : Fin 1024, k0_pay6 v0 v2 v4 v16 (ix2 r d) * w (ix2 d j) := by
  pointwise [k0_pay8]

theorem qkv_at (h : FVec Ideal S512x1024 .bf16) (w : Vec Ideal S1024x1536 .bf16) (r : Fin 512) (j : Fin 1536) :
    k0_pay10 h (k0_pay9 w) (constant S512x1536 .f32 0x00000000#32) (ix2 r j) = ∑ d : Fin 1024, h (ix2 r d) * w (ix2 d j) := by
  pointwise [k0_pay10, k0_pay9]

theorem gateA_at (h : FVec Ideal S512x1024 .bf16) (w : Vec Ideal S1024x1024 .bf16) (r : Fin 512) (j : Fin 1024) :
    k0_pay11 h w (ix2 r j) = ∑ d : Fin 1024, h (ix2 r d) * w (ix2 d j) := by
  pointwise [k0_pay11]

theorem outB_at (z : FVec Ideal S512x1024 .f32) (r : Fin 512) (j : Fin 1024) : k0_pay12 z (ix3 0 r j) = sigm (z (ix2 r j)) := by
  pointwise [k0_pay12]
  rfl

theorem gelu_at (z : FVec Ideal S512x1024 .f32) (r : Fin 512) (j : Fin 1024) : k0_pay13 z (ix2 r j) = gelu (z (ix2 r j)) := by
  pointwise [k0_pay13]
  rfl

theorem left_at (z : FVec Ideal S512x1024 .f32) (r e : Fin 512) : k0_pay14 z (ix2 r e) = gelu (z (ix2 r ⟨e.val, by omega⟩)) := by
  rw [← gelu_at]
  pointwise [k0_pay14]

theorem right_at (z : FVec Ideal S512x1024 .f32) (g b : Vec Ideal S1x512 .f32) (r e : Fin 512) : k0_pay16 (k0_pay15 z) g b (ix2 r e)
    = norm (fun k => gelu (z (ix2 r ⟨512 + k.val, by omega⟩))) (fun k => g (ix2 0 k)) (fun k => b (ix2 0 k)) e := by
  simp only [← gelu_at]
  pointwise [k0_pay16, k0_pay15]
  rfl

theorem outQ_at (z : FVec Ideal S512x512 .f32) (r e : Fin 512) : k0_pay1 z (ix3 0 r e) = z (ix2 r e) := by
  pointwise [k0_pay1]
theorem outK_at (z : FVec Ideal S512x512 .f32) (r e : Fin 512) : k0_pay2 z (ix3 0 r e) = z (ix2 r e) := by
  pointwise [k0_pay2]
theorem outV_at (z : FVec Ideal S512x1536 .f32) (e r : Fin 512) : k0_pay3 z (ix3 0 e r) = z (ix2 r ⟨1024 + e.val, by omega⟩) := by
  pointwise [k0_pay3]
theorem mean0_at (z : FVec Ideal S512x512 .f32) (e : Fin 512) : k0_pay4 z (ix4 0 0 0 e) = Ideal.div (∑ l : Fin 256, z (ix2 ⟨l.val, by omega⟩ e)) (lit 0x43800000#32) := by
  pointwise [k0_pay4]
theorem mean1_at (z : FVec Ideal S512x512 .f32) (e : Fin 512) : k0_pay5 z (ix4 0 0 0 e) = Ideal.div (∑ l : Fin 256, z (ix2 ⟨256 + l.val, by omega⟩ e)) (lit 0x43800000#32) := by
  pointwise [k0_pay5]

/-! ## The spatial mix -/

theorem sge_small : ∀ i j : Fin 128, IntOp.cmpi .sge (BitVec.ofNat 32 i.val) (BitVec.ofNat 32 j.val) = if j.val ≤ i.val then 1#1 else 0#1 := by
  decide +kernel

theorem select_low (i j : Fin 128) (x : EReal) :
    Scalar.select (IntOp.cmpi .sge (BitVec.ofNat 32 i.val) (BitVec.ofNat 32 j.val)) x 0 = if j.val ≤ i.val then x else 0 := by
  rw [sge_small]
  by_cases h : j.val ≤ i.val
  · rw [if_pos h, if_pos h]
    rfl
  · rw [if_neg h, if_neg h]
    rfl

theorem low0_at (w : Vec Ideal S1x128x128 .f32) (i j : Fin 128) : k0_pay17 w (ix2 i j) = if j.val ≤ i.val then w (ix3 0 i j) else 0 := by
  rw [← select_low]
  pointwise [k0_pay17]

theorem low1_at (w : Vec Ideal S1x128x128 .f32) (i j : Fin 128) : k0_pay18 w (ix2 i j) = if j.val ≤ i.val then w (ix3 0 i j) else 0 := by
  rw [← select_low]
  pointwise [k0_pay18]

theorem low2_at (w : Vec Ideal S1x128x128 .f32) (i j : Fin 128) : k0_pay19 w (ix2 i j) = if j.val ≤ i.val then w (ix3 0 i j) else 0 := by
  rw [← select_low]
  pointwise [k0_pay19]

theorem low3_at (w : Vec Ideal S1x128x128 .f32) (i j : Fin 128) : k0_pay20 w (ix2 i j) = if j.val ≤ i.val then w (ix3 0 i j) else 0 := by
  rw [← select_low]
  pointwise [k0_pay20]

theorem mix0_at (z : FVec Ideal S512x512 .f32) (g b : Vec Ideal S1x512 .f32) (w : Vec Ideal S1x128x128 .f32) (i l : Fin 128) :
    k0_pay21 z g b w (ix2 i l) = ∑ j : Fin 128, k0_pay17 w (ix2 i j) * k0_pay16 z g b (ix2 ⟨j.val, by omega⟩ ⟨l.val, by omega⟩) := by
  pointwise [k0_pay21]

theorem mix1_at (z : FVec Ideal S512x512 .f32) (g b : Vec Ideal S1x512 .f32) (w : Vec Ideal S1x128x128 .f32) (i l : Fin 128) :
    k0_pay22 z g b w (ix2 i l) = ∑ j : Fin 128, k0_pay18 w (ix2 i j) * k0_pay16 z g b (ix2 ⟨j.val, by omega⟩ ⟨128 + l.val, by omega⟩) := by
  pointwise [k0_pay22]

theorem mix2_at (z : FVec Ideal S512x512 .f32) (g b : Vec Ideal S1x512 .f32) (w : Vec Ideal S1x128x128 .f32) (i l : Fin 128) :
    k0_pay23 z g b w (ix2 i l) = ∑ j : Fin 128, k0_pay19 w (ix2 i j) * k0_pay16 z g b (ix2 ⟨j.val, by omega⟩ ⟨256 + l.val, by omega⟩) := by
  pointwise [k0_pay23]

/-- A chunk's mix with its bias, over weights `L` of a group. -/
def mixed (L : Fin 4 → Fin 128 → Fin 128 → EReal) (u : FVec Ideal S512x512 .bf16) (bs : Vec Ideal S128x512 .f32) (k : Fin 4) (i : Fin 128) (e : Fin 512) : EReal :=
  (∑ j : Fin 128, L ⟨e.val / 128, by omega⟩ i j * u (ix2 ⟨k.val * 128 + j.val, by omega⟩ e)) + bs (ix2 i e)

theorem mixed_piece (L : Fin 4 → Fin 128 → Fin 128 → EReal) (u : FVec Ideal S512x512 .bf16) (bs : Vec Ideal S128x512 .f32) (k g : Fin 4) (i : Fin 128) (e e' : Fin 512) (r : Fin 128 → Fin 512)
    (hg : g.val = e.val / 128) (he : e'.val = e.val) (hr : ∀ j, (r j).val = k.val * 128 + j.val) :
    (∑ j : Fin 128, L g i j * u (ix2 (r j) e')) + bs (ix2 i e) = mixed L u bs k i e := by
  have g' : g = ⟨e.val / 128, by omega⟩ := Fin.ext hg
  have r' : r = fun j => ⟨k.val * 128 + j.val, by omega⟩ := funext fun j => Fin.ext (hr j)
  rw [Fin.ext he, g', r']
  rfl

section

variable {L : Fin 4 → Fin 128 → Fin 128 → EReal}

theorem chunk0_at (u : FVec Ideal S512x512 .bf16) (w3 : FVec Ideal S128x128 .bf16) (p0 p1 p2 : FVec Ideal S128x128 .f32) (bs : Vec Ideal S128x512 .f32) (i : Fin 128) (e : Fin 512)
    (h0 : ∀ i l, p0 (ix2 i l) = ∑ j : Fin 128, L 0 i j * u (ix2 ⟨j.val, by omega⟩ ⟨l.val, by omega⟩))
    (h1 : ∀ i l, p1 (ix2 i l) = ∑ j : Fin 128, L 1 i j * u (ix2 ⟨j.val, by omega⟩ ⟨128 + l.val, by omega⟩))
    (h2 : ∀ i l, p2 (ix2 i l) = ∑ j : Fin 128, L 2 i j * u (ix2 ⟨j.val, by omega⟩ ⟨256 + l.val, by omega⟩))
    (h3 : ∀ i j, w3 (ix2 i j) = L 3 i j) : k0_pay24 u w3 p0 p1 p2 bs (ix2 i e) = mixed L u bs 0 i e := by
  pointwise [k0_pay24]
  simp only [h0, h1, h2, h3]
  by_cases a0 : e.val < 128
  · rw [dif_pos a0]
    refine mixed_piece L u bs 0 0 i e ⟨e.val, by omega⟩ (fun j => ⟨j.val, by omega⟩) ?_ ?_ ?_
    · show 0 = _; omega
    · rfl
    · intro j
      show j.val = 0 * 128 + j.val; omega
  · rw [dif_neg a0]
    by_cases a1 : e.val - 128 < 128
    · rw [dif_pos a1]
      refine mixed_piece L u bs 0 1 i e ⟨128 + (e.val - 128), by omega⟩ (fun j => ⟨j.val, by omega⟩) ?_ ?_ ?_
      · show 1 = _; omega
      · show 128 + (e.val - 128) = _; omega
      · intro j
        show j.val = 0 * 128 + j.val; omega
    · rw [dif_neg a1]
      by_cases a2 : e.val - 128 - 128 < 128
      · rw [dif_pos a2]
        refine mixed_piece L u bs 0 2 i e ⟨256 + (e.val - 128 - 128), by omega⟩ (fun j => ⟨j.val, by omega⟩) ?_ ?_ ?_
        · show 2 = _; omega
        · show 256 + (e.val - 128 - 128) = _; omega
        · intro j
          show j.val = 0 * 128 + j.val; omega
      · rw [dif_neg a2]
        refine mixed_piece L u bs 0 3 i e ⟨384 + (e.val - 128 - 128 - 128), by omega⟩ (fun j => ⟨j.val, by omega⟩) ?_ ?_ ?_
        · show 3 = _; omega
        · show 384 + (e.val - 128 - 128 - 128) = _; omega
        · intro j
          show j.val = 0 * 128 + j.val; omega

theorem chunk1_at (u : FVec Ideal S512x512 .bf16) (w0 w1 w2 w3 : FVec Ideal S128x128 .bf16) (bs : Vec Ideal S128x512 .f32) (i : Fin 128) (e : Fin 512)
    (h0 : ∀ i j, w0 (ix2 i j) = L 0 i j) (h1 : ∀ i j, w1 (ix2 i j) = L 1 i j) (h2 : ∀ i j, w2 (ix2 i j) = L 2 i j) (h3 : ∀ i j, w3 (ix2 i j) = L 3 i j) :
    k0_pay25 u w0 w1 w2 w3 bs (ix2 i e) = mixed L u bs 1 i e := by
  pointwise [k0_pay25]
  simp only [h0, h1, h2, h3]
  by_cases a0 : e.val < 128
  · rw [dif_pos a0]
    refine mixed_piece L u bs 1 0 i e ⟨e.val, by omega⟩ (fun j => ⟨128 + j.val, by omega⟩) ?_ ?_ ?_
    · show 0 = _; omega
    · rfl
    · intro j
      show 128 + j.val = 1 * 128 + j.val; omega
  · rw [dif_neg a0]
    by_cases a1 : e.val - 128 < 128
    · rw [dif_pos a1]
      refine mixed_piece L u bs 1 1 i e ⟨128 + (e.val - 128), by omega⟩ (fun j => ⟨128 + j.val, by omega⟩) ?_ ?_ ?_
      · show 1 = _; omega
      · show 128 + (e.val - 128) = _; omega
      · intro j
        show 128 + j.val = 1 * 128 + j.val; omega
    · rw [dif_neg a1]
      by_cases a2 : e.val - 128 - 128 < 128
      · rw [dif_pos a2]
        refine mixed_piece L u bs 1 2 i e ⟨256 + (e.val - 128 - 128), by omega⟩ (fun j => ⟨128 + j.val, by omega⟩) ?_ ?_ ?_
        · show 2 = _; omega
        · show 256 + (e.val - 128 - 128) = _; omega
        · intro j
          show 128 + j.val = 1 * 128 + j.val; omega
      · rw [dif_neg a2]
        refine mixed_piece L u bs 1 3 i e ⟨384 + (e.val - 128 - 128 - 128), by omega⟩ (fun j => ⟨128 + j.val, by omega⟩) ?_ ?_ ?_
        · show 3 = _; omega
        · show 384 + (e.val - 128 - 128 - 128) = _; omega
        · intro j
          show 128 + j.val = 1 * 128 + j.val; omega

theorem chunk2_at (u : FVec Ideal S512x512 .bf16) (w0 w1 w2 w3 : FVec Ideal S128x128 .bf16) (bs : Vec Ideal S128x512 .f32) (i : Fin 128) (e : Fin 512)
    (h0 : ∀ i j, w0 (ix2 i j) = L 0 i j) (h1 : ∀ i j, w1 (ix2 i j) = L 1 i j) (h2 : ∀ i j, w2 (ix2 i j) = L 2 i j) (h3 : ∀ i j, w3 (ix2 i j) = L 3 i j) :
    k0_pay26 u w0 w1 w2 w3 bs (ix2 i e) = mixed L u bs 2 i e := by
  pointwise [k0_pay26]
  simp only [h0, h1, h2, h3]
  by_cases a0 : e.val < 128
  · rw [dif_pos a0]
    refine mixed_piece L u bs 2 0 i e ⟨e.val, by omega⟩ (fun j => ⟨256 + j.val, by omega⟩) ?_ ?_ ?_
    · show 0 = _; omega
    · rfl
    · intro j
      show 256 + j.val = 2 * 128 + j.val; omega
  · rw [dif_neg a0]
    by_cases a1 : e.val - 128 < 128
    · rw [dif_pos a1]
      refine mixed_piece L u bs 2 1 i e ⟨128 + (e.val - 128), by omega⟩ (fun j => ⟨256 + j.val, by omega⟩) ?_ ?_ ?_
      · show 1 = _; omega
      · show 128 + (e.val - 128) = _; omega
      · intro j
        show 256 + j.val = 2 * 128 + j.val; omega
    · rw [dif_neg a1]
      by_cases a2 : e.val - 128 - 128 < 128
      · rw [dif_pos a2]
        refine mixed_piece L u bs 2 2 i e ⟨256 + (e.val - 128 - 128), by omega⟩ (fun j => ⟨256 + j.val, by omega⟩) ?_ ?_ ?_
        · show 2 = _; omega
        · show 256 + (e.val - 128 - 128) = _; omega
        · intro j
          show 256 + j.val = 2 * 128 + j.val; omega
      · rw [dif_neg a2]
        refine mixed_piece L u bs 2 3 i e ⟨384 + (e.val - 128 - 128 - 128), by omega⟩ (fun j => ⟨256 + j.val, by omega⟩) ?_ ?_ ?_
        · show 3 = _; omega
        · show 384 + (e.val - 128 - 128 - 128) = _; omega
        · intro j
          show 256 + j.val = 2 * 128 + j.val; omega

theorem chunk3_at (u : FVec Ideal S512x512 .bf16) (w0 w1 w2 w3 : FVec Ideal S128x128 .bf16) (bs : Vec Ideal S128x512 .f32) (i : Fin 128) (e : Fin 512)
    (h0 : ∀ i j, w0 (ix2 i j) = L 0 i j) (h1 : ∀ i j, w1 (ix2 i j) = L 1 i j) (h2 : ∀ i j, w2 (ix2 i j) = L 2 i j) (h3 : ∀ i j, w3 (ix2 i j) = L 3 i j) :
    k0_pay27 u w0 w1 w2 w3 (ix2 i e) + bs (ix2 i e) = mixed L u bs 3 i e := by
  pointwise [k0_pay27]
  simp only [h0, h1, h2, h3]
  by_cases a0 : e.val < 128
  · rw [dif_pos a0]
    refine mixed_piece L u bs 3 0 i e ⟨e.val, by omega⟩ (fun j => ⟨384 + j.val, by omega⟩) ?_ ?_ ?_
    · show 0 = _; omega
    · rfl
    · intro j
      show 384 + j.val = 3 * 128 + j.val; omega
  · rw [dif_neg a0]
    by_cases a1 : e.val - 128 < 128
    · rw [dif_pos a1]
      refine mixed_piece L u bs 3 1 i e ⟨128 + (e.val - 128), by omega⟩ (fun j => ⟨384 + j.val, by omega⟩) ?_ ?_ ?_
      · show 1 = _; omega
      · show 128 + (e.val - 128) = _; omega
      · intro j
        show 384 + j.val = 3 * 128 + j.val; omega
    · rw [dif_neg a1]
      by_cases a2 : e.val - 128 - 128 < 128
      · rw [dif_pos a2]
        refine mixed_piece L u bs 3 2 i e ⟨256 + (e.val - 128 - 128), by omega⟩ (fun j => ⟨384 + j.val, by omega⟩) ?_ ?_ ?_
        · show 2 = _; omega
        · show 256 + (e.val - 128 - 128) = _; omega
        · intro j
          show 384 + j.val = 3 * 128 + j.val; omega
      · rw [dif_neg a2]
        refine mixed_piece L u bs 3 3 i e ⟨384 + (e.val - 128 - 128 - 128), by omega⟩ (fun j => ⟨384 + j.val, by omega⟩) ?_ ?_ ?_
        · show 3 = _; omega
        · show 384 + (e.val - 128 - 128 - 128) = _; omega
        · intro j
          show 384 + j.val = 3 * 128 + j.val; omega

theorem outA_at (z : FVec Ideal S512x1024 .f32) (t : FVec Ideal S512x512 .f32) (a b c d : FVec Ideal S128x512 .f32) (bs : Vec Ideal S128x512 .f32) (wb : Vec Ideal S512x1024 .bf16) (r : Fin 512) (j : Fin 1024)
    (N : Fin 4 → Fin 128 → Fin 512 → EReal) (ha : ∀ i e, a (ix2 i e) = N 0 i e) (hb : ∀ i e, b (ix2 i e) = N 1 i e) (hc : ∀ i e, c (ix2 i e) = N 2 i e)
    (hd : ∀ i e, d (ix2 i e) + bs (ix2 i e) = N 3 i e) :
    k0_pay28 z t a b c d bs wb (ix3 0 r j)
      = sigm (z (ix2 r j)) * ∑ e : Fin 512, t (ix2 r e) * N ⟨r.val / 128, by omega⟩ ⟨r.val % 128, by omega⟩ e * wb (ix2 e j) := by
  pointwise [k0_pay28]
  simp only [ha, hb, hc, hd]
  refine congrArg (fun y : EReal => sigm (z (ix2 r j)) * y) (Finset.sum_congr rfl fun e _ => congrArg (fun y : EReal => t (ix2 r e) * y * wb (ix2 e j)) ?_)
  have piece : ∀ (k k' : Fin 4) (i i' : Fin 128), k.val = k'.val → i.val = i'.val → N k i e = N k' i' e := by
    intro k k' i i' hk hi
    rw [Fin.ext hk, Fin.ext hi]
  by_cases a0 : r.val < 128
  · rw [dif_pos a0]
    exact piece 0 ⟨r.val / 128, by omega⟩ ⟨r.val, by omega⟩ ⟨r.val % 128, by omega⟩ (by show 0 = r.val / 128; omega) (by show r.val = r.val % 128; omega)
  · rw [dif_neg a0]
    by_cases a1 : r.val - 128 < 128
    · rw [dif_pos a1]
      exact piece 1 ⟨r.val / 128, by omega⟩ ⟨r.val - 128, by omega⟩ ⟨r.val % 128, by omega⟩ (by show 1 = r.val / 128; omega) (by show r.val - 128 = r.val % 128; omega)
    · rw [dif_neg a1]
      by_cases a2 : r.val - 128 - 128 < 128
      · rw [dif_pos a2]
        exact piece 2 ⟨r.val / 128, by omega⟩ ⟨r.val - 128 - 128, by omega⟩ ⟨r.val % 128, by omega⟩ (by show 2 = r.val / 128; omega) (by show r.val - 128 - 128 = r.val % 128; omega)
      · rw [dif_neg a2]
        exact piece 3 ⟨r.val / 128, by omega⟩ ⟨r.val - 128 - 128 - 128, by omega⟩ ⟨r.val % 128, by omega⟩ (by show 3 = r.val / 128; omega) (by show r.val - 128 - 128 - 128 = r.val % 128; omega)

end

/-! ## The rotation -/

/-- A row's columns by number. -/
def colZ (z : FVec Ideal S512x1536 .f32) (r : Fin 512) (n : ℕ) : EReal := if h : n < 1536 then z (ix2 r ⟨n, h⟩) else 0

theorem colZ_of (z : FVec Ideal S512x1536 .f32) (r : Fin 512) (n : ℕ) (h : n < 1536) : z (ix2 r ⟨n, h⟩) = colZ z r n := by
  unfold colZ
  rw [dif_pos h]

theorem rope_piece (t : ℕ → EReal) (cs sn : Fin 8 → EReal) (o : ℕ) (e : Fin 512) (l : Fin 128) (n₁ n₂ n₃ : ℕ) (hl : l.val = e.val % 128) (h₁ : n₁ = o + e.val)
    (h₂ : n₂ = o + (e.val / 128 * 128 + (e.val % 128 + 8) % 128)) (h₃ : n₃ = o + (e.val / 128 * 128 + (e.val % 128 + 120) % 128)) :
    t n₁ * tabC cs l + t n₂ * tabA sn l + t n₃ * tabB sn l = rope (fun c => t (o + c.val)) cs sn e := by
  subst h₁ h₂ h₃
  exact rope_of_tables (fun c => t (o + c.val)) cs sn e ⟨e.val, by omega⟩ ⟨e.val / 128 * 128 + (e.val % 128 + 8) % 128, by omega⟩
    ⟨e.val / 128 * 128 + (e.val % 128 + 120) % 128, by omega⟩ l hl rfl (fun h => by show e.val / 128 * 128 + (e.val % 128 + 8) % 128 = _; omega)
    (fun h => by show e.val / 128 * 128 + (e.val % 128 + 120) % 128 = _; omega)

section

variable {cs sn : Fin 8 → EReal} (z : FVec Ideal S512x1536 .f32) (tc ta tb : Vec Ideal S512x128 .f32) (r : Fin 512) (e : Fin 512)
  (hc : ∀ l, tc (ix2 r l) = tabC cs l) (ha : ∀ l, ta (ix2 r l) = tabA sn l) (hb : ∀ l, tb (ix2 r l) = tabB sn l)

include hc ha hb

theorem ropeQ_at : k0_pay38 (k0_pay29 tc) (k0_pay30 ta) (k0_pay31 tb) (k0_pay32 z) (k0_pay33 z tc ta tb) (k0_pay34 z tc ta tb) (k0_pay35 z) (k0_pay36 z tc) (k0_pay37 z ta) (ix2 r e) = rope (fun c => z (ix2 r ⟨0 + c.val, by omega⟩)) cs sn e := by
  have zero : (fun c : Fin 512 => colZ z r c.val) = fun c => colZ z r (0 + c.val) := by simp only [Nat.zero_add]
  simp only [colZ_of]
  pointwise [k0_pay38, k0_pay29, k0_pay30, k0_pay31, k0_pay32, k0_pay33, k0_pay34, k0_pay35, k0_pay36, k0_pay37]
  simp only [hc, ha, hb, colZ_of]
  rw [zero]
  by_cases a0 : e.val < 128
  · rw [dif_pos a0]
    refine rope_piece (colZ z r) cs sn 0 e _ _ _ _ ?_ ?_ ?_ ?_
    · show e.val = _
      omega
    all_goals omega
  · rw [dif_neg a0]
    by_cases a1 : e.val - 128 < 128
    · rw [dif_pos a1]
      refine rope_piece (colZ z r) cs sn 0 e _ _ _ _ ?_ ?_ ?_ ?_
      · show e.val - 128 = _
        omega
      all_goals omega
    · rw [dif_neg a1]
      by_cases a2 : e.val - 128 - 128 < 128
      · rw [dif_pos a2]
        refine rope_piece (colZ z r) cs sn 0 e _ _ _ _ ?_ ?_ ?_ ?_
        · show e.val - 128 - 128 = _
          omega
        all_goals omega
      · rw [dif_neg a2]
        refine rope_piece (colZ z r) cs sn 0 e _ _ _ _ ?_ ?_ ?_ ?_
        · show e.val - 128 - 128 - 128 = _
          omega
        all_goals omega

theorem ropeK_at : k0_pay39 z (k0_pay29 tc) (k0_pay30 ta) (k0_pay31 tb) (ix2 r e) = rope (fun c => z (ix2 r ⟨512 + c.val, by omega⟩)) cs sn e := by
  simp only [colZ_of]
  pointwise [k0_pay39, k0_pay29, k0_pay30, k0_pay31]
  simp only [hc, ha, hb, colZ_of]
  by_cases a0 : e.val < 128
  · rw [dif_pos a0]
    refine rope_piece (colZ z r) cs sn 512 e _ _ _ _ ?_ ?_ ?_ ?_
    · show e.val = _
      omega
    all_goals omega
  · rw [dif_neg a0]
    by_cases a1 : e.val - 128 < 128
    · rw [dif_pos a1]
      refine rope_piece (colZ z r) cs sn 512 e _ _ _ _ ?_ ?_ ?_ ?_
      · show e.val - 128 = _
        omega
      all_goals omega
    · rw [dif_neg a1]
      by_cases a2 : e.val - 128 - 128 < 128
      · rw [dif_pos a2]
        refine rope_piece (colZ z r) cs sn 512 e _ _ _ _ ?_ ?_ ?_ ?_
        · show e.val - 128 - 128 = _
          omega
        all_goals omega
      · rw [dif_neg a2]
        refine rope_piece (colZ z r) cs sn 512 e _ _ _ _ ?_ ?_ ?_ ?_
        · show e.val - 128 - 128 - 128 = _
          omega
        all_goals omega

end

end Cert.MixerInIdeal.Mixer

end
-- ==== Proof.Mixer.TileValue.lean ====
/- The blocks a point leaves, over blocks that hold a tile of the arguments. -/
module

public import proofs.«01_k».proof.Proof.Mixer.Tile

@[expose] public section

set_option maxRecDepth 8192

noncomputable section

namespace Cert.MixerInIdeal.Mixer

open Cert.MixerInIdeal Cert.MixerInIdeal.Gen
open Idealize.ShloMosaic Cert.Mixer

/-- The token of a tile's row. -/
def tok (n : Fin 16) (r : Fin 512) : Fin 8192 := ⟨n.val * 512 + r.val, by omega⟩

/-- Blocks that hold tile `n` of batch `b`: its rows, the batch's modulation, the weights, and the rows' tables. -/
structure IsTile (I : Ins) (b : Fin 4) (n : Fin 16) (x0 : Vec Ideal S1x512x1024 .f32) (x1 : Vec Ideal S1x6x1024 .f32) (x2 : Vec Ideal S1x1024 .f32) (x3 : Vec Ideal S1024x4608 .bf16)
    (x4 : Vec Ideal S4x128x128 .f32) (x5 : Vec Ideal S128x512 .f32) (x6 x7 : Vec Ideal S1x512 .f32) (x8 : Vec Ideal S512x1024 .bf16) (x9 x10 x11 : Vec Ideal S512x128 .f32) : Prop where
  h0 : ∀ r d, x0 (ix3 0 r d) = I.x b (tok n r) d
  hs : ∀ d, x1 (ix3 0 0 d) = I.md b ⟨d.val, by omega⟩
  hc : ∀ d, x1 (ix3 0 1 d) = I.md b ⟨1024 + d.val, by omega⟩
  h2 : ∀ d, x2 (ix2 0 d) = I.g d
  h3 : ∀ d e, x3 (ix2 d e) = I.w d e
  h4 : ∀ g i j, x4 (ix3 g i j) = I.ws g i j
  h5 : ∀ i e, x5 (ix2 i e) = I.bs ⟨e.val / 128, by omega⟩ i
  h6 : ∀ e, x6 (ix2 0 e) = I.lg e
  h7 : ∀ e, x7 (ix2 0 e) = I.lb e
  h8 : ∀ e j, x8 (ix2 e j) = I.wb e j
  h9 : ∀ r l, x9 (ix2 r l) = tabC (cosines (tok n r).val) l
  h10 : ∀ r l, x10 (ix2 r l) = tabA (sines (tok n r).val) l
  h11 : ∀ r l, x11 (ix2 r l) = tabB (sines (tok n r).val) l

/-! ## The body's loads -/

theorem ld_shift (x : Vec Ideal S1x6x1024 .f32) (d : Fin 1024) : View.ld x r0_0 (ix3 0 0 d) = x (ix3 0 0 d) := by
  refine congrArg x (funext fun a => Fin.ext ?_)
  fin_cases a
  · rfl
  · rfl
  · show 0 + 1 * d.val = d.val
    omega

theorem ld_scale (x : Vec Ideal S1x6x1024 .f32) (d : Fin 1024) : View.ld x r0_1 (ix3 0 0 d) = x (ix3 0 1 d) := by
  refine congrArg x (funext fun a => Fin.ext ?_)
  fin_cases a
  · rfl
  · rfl
  · show 0 + 1 * d.val = d.val
    omega

theorem ld_rows (x : Vec Ideal S1x512x1024 .f32) (r : Fin 512) (d : Fin 1024) : View.ld x r0_2 (ix3 0 r d) = x (ix3 0 r d) := by
  refine congrArg x (funext fun a => Fin.ext ?_)
  fin_cases a
  · rfl
  · show 0 + 1 * r.val = r.val
    omega
  · show 0 + 1 * d.val = d.val
    omega

theorem ld_gain (x : Vec Ideal S1x1024 .f32) (d : Fin 1024) : View.ld x r0_3 (ix2 0 d) = x (ix2 0 d) := by
  refine congrArg x (funext fun a => Fin.ext ?_)
  fin_cases a
  · rfl
  · show 0 + 1 * d.val = d.val
    omega

theorem ld_unit (x : Vec Ideal S1024x4608 .bf16) (d j : Fin 1024) : View.ld x r0_4 (ix2 d j) = x (ix2 d ⟨j.val, by omega⟩) := by
  refine congrArg x (funext fun a => Fin.ext ?_)
  fin_cases a
  · show 0 + 1 * d.val = d.val
    omega
  · show 0 + 1 * j.val = j.val
    omega

theorem ld_gateB (x : Vec Ideal S1024x4608 .bf16) (d j : Fin 1024) : View.ld x r0_5 (ix2 d j) = x (ix2 d ⟨3584 + j.val, by omega⟩) := by
  refine congrArg x (funext fun a => Fin.ext ?_)
  fin_cases a
  · show 0 + 1 * d.val = d.val
    omega
  · show 3584 + 1 * j.val = 3584 + j.val
    omega

theorem ld_qkv (x : Vec Ideal S1024x4608 .bf16) (d : Fin 1024) (j : Fin 1536) : View.ld x r0_6 (ix2 d j) = x (ix2 d ⟨1024 + j.val, by omega⟩) := by
  refine congrArg x (funext fun a => Fin.ext ?_)
  fin_cases a
  · show 0 + 1 * d.val = d.val
    omega
  · show 1024 + 1 * j.val = 1024 + j.val
    omega

theorem ld_gateA (x : Vec Ideal S1024x4608 .bf16) (d j : Fin 1024) : View.ld x r0_7 (ix2 d j) = x (ix2 d ⟨2560 + j.val, by omega⟩) := by
  refine congrArg x (funext fun a => Fin.ext ?_)
  fin_cases a
  · show 0 + 1 * d.val = d.val
    omega
  · show 2560 + 1 * j.val = 2560 + j.val
    omega

theorem ld_norm (x : Vec Ideal S1x512 .f32) (e : Fin 512) : View.ld x r0_8 (ix2 0 e) = x (ix2 0 e) := by
  refine congrArg x (funext fun a => Fin.ext ?_)
  fin_cases a
  · rfl
  · show 0 + 1 * e.val = e.val
    omega

theorem ld_mix0 (x : Vec Ideal S4x128x128 .f32) (i j : Fin 128) : View.ld x r0_9 (ix3 0 i j) = x (ix3 0 i j) := by
  refine congrArg x (funext fun a => Fin.ext ?_)
  fin_cases a
  · rfl
  · show 0 + 1 * i.val = i.val
    omega
  · show 0 + 1 * j.val = j.val
    omega

theorem ld_mix1 (x : Vec Ideal S4x128x128 .f32) (i j : Fin 128) : View.ld x r0_10 (ix3 0 i j) = x (ix3 1 i j) := by
  refine congrArg x (funext fun a => Fin.ext ?_)
  fin_cases a
  · rfl
  · show 0 + 1 * i.val = i.val
    omega
  · show 0 + 1 * j.val = j.val
    omega

theorem ld_mix2 (x : Vec Ideal S4x128x128 .f32) (i j : Fin 128) : View.ld x r0_11 (ix3 0 i j) = x (ix3 2 i j) := by
  refine congrArg x (funext fun a => Fin.ext ?_)
  fin_cases a
  · rfl
  · show 0 + 1 * i.val = i.val
    omega
  · show 0 + 1 * j.val = j.val
    omega

theorem ld_mix3 (x : Vec Ideal S4x128x128 .f32) (i j : Fin 128) : View.ld x r0_12 (ix3 0 i j) = x (ix3 3 i j) := by
  refine congrArg x (funext fun a => Fin.ext ?_)
  fin_cases a
  · rfl
  · show 0 + 1 * i.val = i.val
    omega
  · show 0 + 1 * j.val = j.val
    omega

theorem ld_bias (x : Vec Ideal S128x512 .f32) (i : Fin 128) (e : Fin 512) : View.ld x r0_13 (ix2 i e) = x (ix2 i e) := by
  refine congrArg x (funext fun a => Fin.ext ?_)
  fin_cases a
  · show 0 + 1 * i.val = i.val
    omega
  · show 0 + 1 * e.val = e.val
    omega

theorem ld_out (x : Vec Ideal S512x1024 .bf16) (e : Fin 512) (j : Fin 1024) : View.ld x r0_14 (ix2 e j) = x (ix2 e j) := by
  refine congrArg x (funext fun a => Fin.ext ?_)
  fin_cases a
  · show 0 + 1 * e.val = e.val
    omega
  · show 0 + 1 * j.val = j.val
    omega

theorem ld_table (x : Vec Ideal S512x128 .f32) (r : Fin 512) (l : Fin 128) : View.ld x r0_15 (ix2 r l) = x (ix2 r l) := by
  refine congrArg x (funext fun a => Fin.ext ?_)
  fin_cases a
  · show 0 + 1 * r.val = r.val
    omega
  · show 0 + 1 * l.val = l.val
    omega

/-! ## The values -/

/-- A group's weights on and below the diagonal. -/
def lower (I : Ins) (g : Fin 4) (i j : Fin 128) : EReal := if j.val ≤ i.val then I.ws g i j else 0

section

variable {I : Ins} {b : Fin 4} {n : Fin 16} {x0 : Vec Ideal S1x512x1024 .f32} {x1 : Vec Ideal S1x6x1024 .f32} {x2 : Vec Ideal S1x1024 .f32} {x3 : Vec Ideal S1024x4608 .bf16}
  {x4 : Vec Ideal S4x128x128 .f32} {x5 : Vec Ideal S128x512 .f32} {x6 x7 : Vec Ideal S1x512 .f32} {x8 : Vec Ideal S512x1024 .bf16} {x9 x10 x11 : Vec Ideal S512x128 .f32}
  (T : IsTile I b n x0 x1 x2 x3 x4 x5 x6 x7 x8 x9 x10 x11)

include T

theorem row_value (r : Fin 512) (d : Fin 1024) :
    k0_pay6 (View.ld x1 r0_0) (View.ld x1 r0_1) (View.ld x0 r0_2) (View.ld x2 r0_3) (ix2 r d) = I.row b (tok n r) d := by
  have e0 : (fun e : Fin 1024 => View.ld x0 r0_2 (ix3 0 r e)) = I.x b (tok n r) := funext fun e => (ld_rows x0 r e).trans (T.h0 r e)
  have e1 : (fun e : Fin 1024 => View.ld x2 r0_3 (ix2 0 e)) = I.g := funext fun e => (ld_gain x2 e).trans (T.h2 e)
  have e2 : (fun e : Fin 1024 => View.ld x1 r0_0 (ix3 0 0 e)) = fun e => I.md b ⟨e.val, by omega⟩ := funext fun e => (ld_shift x1 e).trans (T.hs e)
  have e3 : (fun e : Fin 1024 => View.ld x1 r0_1 (ix3 0 0 e)) = fun e => I.md b ⟨1024 + e.val, by omega⟩ := funext fun e => (ld_scale x1 e).trans (T.hc e)
  rw [hid_at]
  exact (congrArg (fun f => hid f _ _ _ d) e0).trans ((congrArg (fun f => hid _ f _ _ d) e1).trans
    ((congrArg (fun f => hid _ _ f _ d) e2).trans (congrArg (fun f => hid _ _ _ f d) e3)))

theorem proj_value (k : Fin 4608) (w : Fin 1024 → EReal) (r : Fin 512) (hw : ∀ d, w d = I.w d k) :
    ∑ d : Fin 1024, k0_pay6 (View.ld x1 r0_0) (View.ld x1 r0_1) (View.ld x0 r0_2) (View.ld x2 r0_3) (ix2 r d) * w d = I.pr b (tok n r) k :=
  Finset.sum_congr rfl fun d _ => congrArg₂ (fun x y : EReal => x * y) (row_value T r d) (hw d)

theorem unit_value (r : Fin 512) (j : Fin 1024) : k0_pay41 x0 x1 x2 x3 x4 x5 x6 x7 x8 x9 x10 x11 (ix2 r j) = I.pr b (tok n r) ⟨j.val, by omega⟩ := by
  unfold k0_pay41
  rw [unit_at]
  exact proj_value T _ (fun d => View.ld x3 r0_4 (ix2 d j)) r fun d => (ld_unit x3 d j).trans (T.h3 d _)

theorem qkv_value (r : Fin 512) (j : Fin 1536) : k0_pay42 x0 x1 x2 x3 x4 x5 x6 x7 x8 x9 x10 x11 (ix2 r j) = I.pr b (tok n r) ⟨1024 + j.val, by omega⟩ := by
  unfold k0_pay42 k0_pay40
  rw [qkv_at]
  exact proj_value T _ (fun d => View.ld x3 r0_6 (ix2 d j)) r fun d => (ld_qkv x3 d j).trans (T.h3 d _)

theorem gateA_value (r : Fin 512) (j : Fin 1024) : k0_pay11 (k0_pay40 x0 x1 x2 x3 x4 x5 x6 x7 x8 x9 x10 x11) (View.ld x3 r0_7) (ix2 r j) = I.pr b (tok n r) ⟨2560 + j.val, by omega⟩ := by
  unfold k0_pay40
  rw [gateA_at]
  exact proj_value T _ (fun d => View.ld x3 r0_7 (ix2 d j)) r fun d => (ld_gateA x3 d j).trans (T.h3 d _)

/-- The second branch's gate. -/
theorem resB_value (r : Fin 512) (j : Fin 1024) : out0_16 x0 x1 x2 x3 x4 x5 x6 x7 x8 x9 x10 x11 (ix3 0 r j) = I.resB b (tok n r) j := by
  unfold out0_16
  rw [View.canon_unit_zero (by funext a; fin_cases a <;> rfl), outB_at, gateB_at]
  exact congrArg sigm (proj_value T _ (fun d => View.ld x3 r0_5 (ix2 d j)) r fun d => (ld_gateB x3 d j).trans (T.h3 d _))

/-- The queries. -/
theorem resQ_value (r e : Fin 512) : out0_12 x0 x1 x2 x3 x4 x5 x6 x7 x8 x9 x10 x11 (ix3 0 r e) = I.resQ b (tok n r) e := by
  unfold out0_12 k0_pay49 k0_pay50 k0_pay51
  rw [View.canon_unit_zero (by funext a; fin_cases a <;> rfl), outQ_at, ropeQ_at (cs := cosines (tok n r).val) (sn := sines (tok n r).val) _ _ _ _ r e
    (fun l => by rw [ld_table, T.h9]) (fun l => by rw [ld_table, T.h10]) (fun l => by rw [ld_table, T.h11])]
  simp only [qkv_value T]
  refine congrArg (fun t => rope t (cosines (tok n r).val) (sines (tok n r).val) e) (funext fun c => congrArg (I.pr b (tok n r)) (Fin.ext ?_))
  show 1024 + (0 + c.val) = 1024 + c.val
  omega

theorem keys_value (r e : Fin 512) : k0_pay52 x0 x1 x2 x3 x4 x5 x6 x7 x8 x9 x10 x11 (ix2 r e) = I.resK b (tok n r) e := by
  unfold k0_pay52 k0_pay49 k0_pay50 k0_pay51
  rw [ropeK_at (cs := cosines (tok n r).val) (sn := sines (tok n r).val) _ _ _ _ r e
    (fun l => by rw [ld_table, T.h9]) (fun l => by rw [ld_table, T.h10]) (fun l => by rw [ld_table, T.h11])]
  simp only [qkv_value T]
  refine congrArg (fun t => rope t (cosines (tok n r).val) (sines (tok n r).val) e) (funext fun c => congrArg (I.pr b (tok n r)) (Fin.ext ?_))
  show 1024 + (512 + c.val) = 1536 + c.val
  omega

/-- The keys. -/
theorem resK_value (r e : Fin 512) : out0_13 x0 x1 x2 x3 x4 x5 x6 x7 x8 x9 x10 x11 (ix3 0 r e) = I.resK b (tok n r) e := by
  unfold out0_13
  rw [View.canon_unit_zero (by funext a; fin_cases a <;> rfl), outK_at, keys_value T]

/-- The values, feature by token. -/
theorem resV_value (e r : Fin 512) : out0_14 x0 x1 x2 x3 x4 x5 x6 x7 x8 x9 x10 x11 (ix3 0 e r) = I.resV b e (tok n r) := by
  unfold out0_14
  rw [View.canon_unit_zero (by funext a; fin_cases a <;> rfl), outV_at, qkv_value T]
  refine congrArg (I.pr b (tok n r)) (Fin.ext ?_)
  show 1024 + (1024 + e.val) = 2048 + e.val
  omega

/-- The mean keys of the tile's two blocks. -/
theorem resM_value (k : Fin 2) (e : Fin 512) : out0_17 x0 x1 x2 x3 x4 x5 x6 x7 x8 x9 x10 x11 (ix4 0 0 k e) = I.resM b n k e := by
  have piece : ∀ r : Fin 256 → Fin 512, (∀ l, (r l).val = k.val * 256 + l.val) →
      Ideal.div (∑ l : Fin 256, k0_pay52 x0 x1 x2 x3 x4 x5 x6 x7 x8 x9 x10 x11 (ix2 (r l) e)) (lit 0x43800000#32) = I.resM b n k e := by
    intro r hr
    simp only [keys_value T]
    refine congrArg (fun z : EReal => Ideal.div z (lit 0x43800000#32)) (Finset.sum_congr rfl fun l _ => congrArg (fun s => I.resK b s e) (Fin.ext ?_))
    show n.val * 512 + (r l).val = (n.val * 2 + k.val) * 256 + l.val
    rw [hr]
    omega
  unfold out0_17
  by_cases h : k.val = 0
  · obtain rfl : k = 0 := Fin.ext h
    rw [View.canon_cons_of_not_mem]
    · have i : (ix4 0 0 0 e : S1x1x2x512.Idx) = r0_17.emb (ix4 0 0 0 e : S1x1x1x512.Idx) := by
        funext a
        refine Fin.ext ?_
        fin_cases a
        · rfl
        · rfl
        · rfl
        · show e.val = 0 + 1 * e.val
          omega
      rw [i, View.canon_cons_emb, mean0_at]
      exact piece _ fun l => by show l.val = 0 * 256 + l.val; omega
    · intro hm
      obtain ⟨x, hx⟩ := r0_18.exists_idx_of_mem hm
      have := congrArg Fin.val (congrFun hx 2)
      have h2 : 1 + 1 * (x 2).val = 0 := this
      omega
  · obtain rfl : k = 1 := Fin.ext (by show k.val = 1; omega)
    have i : (ix4 0 0 1 e : S1x1x2x512.Idx) = r0_18.emb (ix4 0 0 0 e : S1x1x1x512.Idx) := by
      funext a
      refine Fin.ext ?_
      fin_cases a
      · rfl
      · rfl
      · rfl
      · show e.val = 0 + 1 * e.val
        omega
    rw [i, View.canon_cons_emb, mean1_at]
    exact piece _ fun l => by show 256 + l.val = 1 * 256 + l.val; omega

theorem half_value (r e : Fin 512) : k0_pay44 x0 x1 x2 x3 x4 x5 x6 x7 x8 x9 x10 x11 (ix2 r e) = I.half b (tok n r) e := by
  unfold k0_pay44 k0_pay43
  rw [right_at]
  have g : (fun k : Fin 512 => View.ld x6 r0_8 (ix2 0 k)) = I.lg := funext fun k => (ld_norm x6 k).trans (T.h6 k)
  have h : (fun k : Fin 512 => View.ld x7 r0_8 (ix2 0 k)) = I.lb := funext fun k => (ld_norm x7 k).trans (T.h7 k)
  simp only [unit_value T]
  exact congrArg₂ (fun u v => norm (fun k => gelu (I.pr b (tok n r) ⟨512 + k.val, by omega⟩)) u v e) g h

theorem left_value (r e : Fin 512) : k0_pay14 (k0_pay41 x0 x1 x2 x3 x4 x5 x6 x7 x8 x9 x10 x11) (ix2 r e) = gelu (I.pr b (tok n r) ⟨e.val, by omega⟩) := by
  rw [left_at, unit_value T]

theorem lower0_value (i j : Fin 128) : k0_pay17 (View.ld x4 r0_9) (ix2 i j) = lower I 0 i j := by
  rw [low0_at, ld_mix0, T.h4]
  rfl

theorem lower1_value (i j : Fin 128) : k0_pay18 (View.ld x4 r0_10) (ix2 i j) = lower I 1 i j := by
  rw [low1_at, ld_mix1, T.h4]
  rfl

theorem lower2_value (i j : Fin 128) : k0_pay19 (View.ld x4 r0_11) (ix2 i j) = lower I 2 i j := by
  rw [low2_at, ld_mix2, T.h4]
  rfl

theorem lower3_value (i j : Fin 128) : k0_pay20 (View.ld x4 r0_12) (ix2 i j) = lower I 3 i j := by
  rw [low3_at, ld_mix3, T.h4]
  rfl

theorem group0_value (i l : Fin 128) : k0_pay21 (k0_pay43 x0 x1 x2 x3 x4 x5 x6 x7 x8 x9 x10 x11) (View.ld x6 r0_8) (View.ld x7 r0_8) (View.ld x4 r0_9) (ix2 i l)
    = ∑ j : Fin 128, lower I 0 i j * k0_pay44 x0 x1 x2 x3 x4 x5 x6 x7 x8 x9 x10 x11 (ix2 ⟨j.val, by omega⟩ ⟨l.val, by omega⟩) := by
  rw [mix0_at]
  simp only [lower0_value T]
  rfl

theorem group1_value (i l : Fin 128) : k0_pay22 (k0_pay43 x0 x1 x2 x3 x4 x5 x6 x7 x8 x9 x10 x11) (View.ld x6 r0_8) (View.ld x7 r0_8) (View.ld x4 r0_10) (ix2 i l)
    = ∑ j : Fin 128, lower I 1 i j * k0_pay44 x0 x1 x2 x3 x4 x5 x6 x7 x8 x9 x10 x11 (ix2 ⟨j.val, by omega⟩ ⟨128 + l.val, by omega⟩) := by
  rw [mix1_at]
  simp only [lower1_value T]
  rfl

theorem group2_value (i l : Fin 128) : k0_pay23 (k0_pay43 x0 x1 x2 x3 x4 x5 x6 x7 x8 x9 x10 x11) (View.ld x6 r0_8) (View.ld x7 r0_8) (View.ld x4 r0_11) (ix2 i l)
    = ∑ j : Fin 128, lower I 2 i j * k0_pay44 x0 x1 x2 x3 x4 x5 x6 x7 x8 x9 x10 x11 (ix2 ⟨j.val, by omega⟩ ⟨256 + l.val, by omega⟩) := by
  rw [mix2_at]
  simp only [lower2_value T]
  rfl

/-- The first branch, gated. -/
theorem resA_value (r : Fin 512) (j : Fin 1024) : out0_15 x0 x1 x2 x3 x4 x5 x6 x7 x8 x9 x10 x11 (ix3 0 r j) = I.resA b (tok n r) j := by
  unfold out0_15 k0_pay45 k0_pay46 k0_pay47 k0_pay48
  rw [View.canon_unit_zero (by funext a; fin_cases a <;> rfl),
    outA_at _ _ _ _ _ _ _ _ r j (mixed (lower I) (k0_pay44 x0 x1 x2 x3 x4 x5 x6 x7 x8 x9 x10 x11) (View.ld x5 r0_13))
      (fun i e => chunk0_at _ _ _ _ _ _ i e (group0_value T) (group1_value T) (group2_value T) (lower3_value T))
      (fun i e => chunk1_at _ _ _ _ _ _ i e (lower0_value T) (lower1_value T) (lower2_value T) (lower3_value T))
      (fun i e => chunk2_at _ _ _ _ _ _ i e (lower0_value T) (lower1_value T) (lower2_value T) (lower3_value T))
      (fun i e => chunk3_at _ _ _ _ _ _ i e (lower0_value T) (lower1_value T) (lower2_value T) (lower3_value T)),
    gateA_value T]
  unfold Ins.resA
  refine congrArg (fun z : EReal => sigm (I.pr b (tok n r) ⟨2560 + j.val, by omega⟩) * z) (Finset.sum_congr rfl fun e _ => ?_)
  rw [left_value T, ld_out, T.h8]
  refine congrArg (fun z : EReal => z * I.wb e j) (congrArg (fun z : EReal => gelu (I.pr b (tok n r) ⟨e.val, by omega⟩) * z) ?_)
  have hr : (⟨(tok n r).val % 128, by omega⟩ : Fin 128) = ⟨r.val % 128, by omega⟩ := Fin.ext (by show (n.val * 512 + r.val) % 128 = r.val % 128; omega)
  have ht : ∀ l : Fin 128, (⟨(tok n r).val / 128 * 128 + l.val, by omega⟩ : Fin 8192) = tok n ⟨r.val / 128 * 128 + l.val, by omega⟩ := fun l =>
    Fin.ext (by show (n.val * 512 + r.val) / 128 * 128 + l.val = n.val * 512 + (r.val / 128 * 128 + l.val); omega)
  unfold mixed mix
  have hv : (tok n r).val % 128 = r.val % 128 := congrArg Fin.val hr
  simp only [half_value T, hr, ht, hv]
  exact congrArg₂ (fun x y : EReal => x + y) rfl ((ld_bias x5 _ e).trans (T.h5 _ e))

end

end Cert.MixerInIdeal.Mixer

end
-- ==== Proof.Mixer.Host.lean ====
/- The arrays the host code prepares, read at an index. -/
module

public import proofs.«01_k».proof.Proof.Gen.MixerInIdeal.Frame
public import proofs.«01_k».proof.Proof.Mixer.Spec
public import Idealize.ShloMosaic.Lib.StableHlo.ReadAt
public import Idealize.ShloMosaic.Lib.Pointwise

@[expose] public section

noncomputable section

namespace Cert.MixerInIdeal.Mixer

open Cert.MixerInIdeal Cert.MixerInIdeal.Gen
open Idealize.ShloMosaic Idealize.ShloMosaic.TcCoe Cert.Mixer

variable (m : (ℓ : Loc nD τ sig) → Buf (Elt Ideal) ℓ) (c : Dev nD)

abbrev argX : FVec Ideal S4x8192x1024 .f32 := m ((c : Thread nD τ).loc main_arg0)
abbrev argMod : FVec Ideal S4x6144 .f32 := m ((c : Thread nD τ).loc main_arg1)
abbrev argG : FVec Ideal S1x1024 .f32 := m ((c : Thread nD τ).loc main_arg2)
abbrev argW : FVec Ideal S1x1024x4608 .f32 := m ((c : Thread nD τ).loc main_arg3)
abbrev argLg : FVec Ideal S1x512 .f32 := m ((c : Thread nD τ).loc main_arg4)
abbrev argLb : FVec Ideal S1x512 .f32 := m ((c : Thread nD τ).loc main_arg5)
abbrev argWs : FVec Ideal S1x4x128x128 .f32 := m ((c : Thread nD τ).loc main_arg6)
abbrev argBs : FVec Ideal S1x4x128 .f32 := m ((c : Thread nD τ).loc main_arg7)
abbrev argWb : FVec Ideal S1x512x1024 .f32 := m ((c : Thread nD τ).loc main_arg8)

theorem mod_in (b : Fin 4) (j : Fin 6) (d : Fin 1024) :
    (V m c main_v37 : FVec Ideal S4x6x1024 .f32) (ix3 b j d) = argMod m c (ix2 b ⟨j.val * 1024 + d.val, by omega⟩) := by
  unfold V
  after_reads_at

theorem weights_in (d : Fin 1024) (e : Fin 4608) : (V m c main_v39 : FVec Ideal S1024x4608 .bf16) (ix2 d e) = argW m c (ix3 0 d e) := by
  unfold V
  after_reads_at

theorem spatial_in (g : Fin 4) (i j : Fin 128) : (V m c main_v40 : FVec Ideal S4x128x128 .f32) (ix3 g i j) = argWs m c (ix4 0 g i j) := by
  unfold V
  after_reads_at

theorem bias_in (i : Fin 128) (e : Fin 512) : (V m c main_v36 : FVec Ideal S128x512 .f32) (ix2 i e) = argBs m c (ix3 0 ⟨e.val / 128, by omega⟩ i) := by
  unfold V
  after_reads_at

theorem branch_in (e : Fin 512) (j : Fin 1024) : (V m c main_v42 : FVec Ideal S512x1024 .bf16) (ix2 e j) = argWb m c (ix3 0 e j) := by
  unfold V
  after_reads_at

theorem cos_in (s : Fin 8192) (l : Fin 128) : (V m c main_v23 : FVec Ideal S8192x128 .f32) (ix2 s l) = tabC (cosines s.val) l := by
  unfold V
  after_reads_at
  unfold tabC
  by_cases h : l.val % 64 < 8
  · rw [dif_pos h, dif_pos h]
    after_reads_at
    rfl
  · rw [dif_neg h, dif_neg h]
    by_cases h' : l.val % 64 - 8 < 8
    · rw [dif_pos h', dif_pos h']
      after_reads_at
      rfl
    · rw [dif_neg h', dif_neg h']
      after_reads_at

theorem sinA_in (s : Fin 8192) (l : Fin 128) : (V m c main_v28 : FVec Ideal S8192x128 .f32) (ix2 s l) = tabA (sines s.val) l := by
  unfold V
  after_reads_at
  unfold tabA
  by_cases h : l.val % 64 < 8
  · rw [dif_pos h, dif_pos h]
    after_reads_at
    rfl
  · rw [dif_neg h, dif_neg h]
    by_cases h' : l.val % 64 - 8 < 8
    · rw [dif_pos h']
      after_reads_at
    · rw [dif_neg h']
      after_reads_at

theorem sinB_in (s : Fin 8192) (l : Fin 128) : (V m c main_v32 : FVec Ideal S8192x128 .f32) (ix2 s l) = tabB (sines s.val) l := by
  unfold V
  after_reads_at
  unfold tabB
  by_cases h : l.val % 64 < 8
  · rw [dif_pos h, if_pos h]
    after_reads_at
  · rw [dif_neg h, if_neg h]
    by_cases h' : l.val % 64 - 8 < 8
    · rw [dif_pos h', dif_pos h']
      after_reads_at
      rfl
    · rw [dif_neg h', dif_neg h']
      after_reads_at

end Cert.MixerInIdeal.Mixer

end
-- ==== Proof.Mixer.Blocks.lean ====
/- The launch's blocks: each holds a tile of the arguments. -/
module

public import proofs.«01_k».proof.Proof.Mixer.TileValue
public import proofs.«01_k».proof.Proof.Mixer.Host
public import Idealize.ShloMosaic.Lib.Pipeline.ValueKit

@[expose] public section

set_option maxRecDepth 8192

noncomputable section

namespace Cert.MixerInIdeal.Mixer

open Cert.MixerInIdeal Cert.MixerInIdeal.Gen
open Idealize.ShloMosaic Idealize.ShloMosaic.TcCoe Cert.Mixer

variable (m : (ℓ : Loc nD τ sig) → Buf (Elt Ideal) ℓ) (c : Dev nD)

/-- The arguments entry by entry. -/
def ins : Ins where
  x b s d := argX m c (ix3 b s d)
  md b j := argMod m c (ix2 b j)
  g d := argG m c (ix2 0 d)
  w d e := argW m c (ix3 0 d e)
  lg e := argLg m c (ix2 0 e)
  lb e := argLb m c (ix2 0 e)
  ws g i j := argWs m c (ix4 0 g i j)
  bs g i := argBs m c (ix3 0 g i)
  wb e j := argWb m c (ix3 0 e j)

/-- A point's batch and tile. -/
def batch (t : Fin cfg0.N) : Fin 4 := grid0.coords t 0
def tile (t : Fin cfg0.N) : Fin 16 := grid0.coords t 1

theorem index_0 (t : Fin cfg0.N) : win0_0.index t = ![(batch t).val, (tile t).val, 0] := by revert t; decide +kernel
theorem index_1 (t : Fin cfg0.N) : win0_1.index t = ![(batch t).val, 0, 0] := by revert t; decide +kernel
theorem index_2 (t : Fin cfg0.N) : win0_2.index t = ![0, 0] := by revert t; decide +kernel
theorem index_3 (t : Fin cfg0.N) : win0_3.index t = ![0, 0] := by revert t; decide +kernel
theorem index_4 (t : Fin cfg0.N) : win0_4.index t = ![0, 0, 0] := by revert t; decide +kernel
theorem index_5 (t : Fin cfg0.N) : win0_5.index t = ![0, 0] := by revert t; decide +kernel
theorem index_6 (t : Fin cfg0.N) : win0_6.index t = ![0, 0] := by revert t; decide +kernel
theorem index_7 (t : Fin cfg0.N) : win0_7.index t = ![0, 0] := by revert t; decide +kernel
theorem index_8 (t : Fin cfg0.N) : win0_8.index t = ![0, 0] := by revert t; decide +kernel
theorem index_9 (t : Fin cfg0.N) : win0_9.index t = ![(tile t).val, 0] := by revert t; decide +kernel
theorem index_10 (t : Fin cfg0.N) : win0_10.index t = ![(tile t).val, 0] := by revert t; decide +kernel
theorem index_11 (t : Fin cfg0.N) : win0_11.index t = ![(tile t).val, 0] := by revert t; decide +kernel
theorem index_12 (t : Fin cfg0.N) : win0_12.index t = ![(batch t).val, (tile t).val, 0] := by revert t; decide +kernel
theorem index_13 (t : Fin cfg0.N) : win0_13.index t = ![(batch t).val, (tile t).val, 0] := by revert t; decide +kernel
theorem index_14 (t : Fin cfg0.N) : win0_14.index t = ![(batch t).val, 0, (tile t).val] := by revert t; decide +kernel
theorem index_15 (t : Fin cfg0.N) : win0_15.index t = ![(batch t).val, (tile t).val, 0] := by revert t; decide +kernel
theorem index_16 (t : Fin cfg0.N) : win0_16.index t = ![(batch t).val, (tile t).val, 0] := by revert t; decide +kernel
theorem index_17 (t : Fin cfg0.N) : win0_17.index t = ![(batch t).val, (tile t).val, 0, 0] := by revert t; decide +kernel

theorem block_0 (t : Fin cfg0.N) (r : Fin 512) (d : Fin 1024) :
    (iblk m c 0 t : Vec Ideal S1x512x1024 .f32) (ix3 0 r d) = (V m c main_arg0 : FVec Ideal S4x8192x1024 .f32) (ix3 (batch t) (tok (tile t) r) d) := by
  blk_simp [iblk]
  refine congrArg (V m c main_arg0) (funext fun a => Fin.ext ?_)
  have hi := congrFun (index_0 t) a
  blk_simp
  rw [hi]
  fin_cases a
  · show (batch t).val * 1 + 0 = (batch t).val
    omega
  · show (tile t).val * 512 + r.val = (tile t).val * 512 + r.val
    omega
  · show 0 * 1024 + d.val = d.val
    omega

theorem block_1 (t : Fin cfg0.N) (j : Fin 6) (d : Fin 1024) :
    (iblk m c 1 t : Vec Ideal S1x6x1024 .f32) (ix3 0 j d) = (V m c main_v37 : FVec Ideal S4x6x1024 .f32) (ix3 (batch t) j d) := by
  blk_simp [iblk]
  refine congrArg (V m c main_v37) (funext fun a => Fin.ext ?_)
  have hi := congrFun (index_1 t) a
  blk_simp
  rw [hi]
  fin_cases a
  · show (batch t).val * 1 + 0 = (batch t).val
    omega
  · show 0 * 6 + j.val = j.val
    omega
  · show 0 * 1024 + d.val = d.val
    omega

theorem block_2 (t : Fin cfg0.N) (d : Fin 1024) :
    (iblk m c 2 t : Vec Ideal S1x1024 .f32) (ix2 0 d) = (V m c main_arg2 : FVec Ideal S1x1024 .f32) (ix2 0 d) := by
  blk_simp [iblk]
  refine congrArg (V m c main_arg2) (funext fun a => Fin.ext ?_)
  have hi := congrFun (index_2 t) a
  blk_simp
  rw [hi]
  fin_cases a
  · rfl
  · show 0 * 1024 + d.val = d.val
    omega

theorem block_3 (t : Fin cfg0.N) (d : Fin 1024) (e : Fin 4608) :
    (iblk m c 3 t : Vec Ideal S1024x4608 .bf16) (ix2 d e) = (V m c main_v39 : FVec Ideal S1024x4608 .bf16) (ix2 d e) := by
  blk_simp [iblk]
  refine congrArg (V m c main_v39) (funext fun a => Fin.ext ?_)
  have hi := congrFun (index_3 t) a
  blk_simp
  rw [hi]
  fin_cases a
  · show 0 * 1024 + d.val = d.val
    omega
  · show 0 * 4608 + e.val = e.val
    omega

theorem block_4 (t : Fin cfg0.N) (g : Fin 4) (i j : Fin 128) :
    (iblk m c 4 t : Vec Ideal S4x128x128 .f32) (ix3 g i j) = (V m c main_v40 : FVec Ideal S4x128x128 .f32) (ix3 g i j) := by
  blk_simp [iblk]
  refine congrArg (V m c main_v40) (funext fun a => Fin.ext ?_)
  have hi := congrFun (index_4 t) a
  blk_simp
  rw [hi]
  fin_cases a
  · show 0 * 4 + g.val = g.val
    omega
  · show 0 * 128 + i.val = i.val
    omega
  · show 0 * 128 + j.val = j.val
    omega

theorem block_5 (t : Fin cfg0.N) (i : Fin 128) (e : Fin 512) :
    (iblk m c 5 t : Vec Ideal S128x512 .f32) (ix2 i e) = (V m c main_v36 : FVec Ideal S128x512 .f32) (ix2 i e) := by
  blk_simp [iblk]
  refine congrArg (V m c main_v36) (funext fun a => Fin.ext ?_)
  have hi := congrFun (index_5 t) a
  blk_simp
  rw [hi]
  fin_cases a
  · show 0 * 128 + i.val = i.val
    omega
  · show 0 * 512 + e.val = e.val
    omega

theorem block_6 (t : Fin cfg0.N) (e : Fin 512) :
    (iblk m c 6 t : Vec Ideal S1x512 .f32) (ix2 0 e) = (V m c main_arg4 : FVec Ideal S1x512 .f32) (ix2 0 e) := by
  blk_simp [iblk]
  refine congrArg (V m c main_arg4) (funext fun a => Fin.ext ?_)
  have hi := congrFun (index_6 t) a
  blk_simp
  rw [hi]
  fin_cases a
  · rfl
  · show 0 * 512 + e.val = e.val
    omega

theorem block_7 (t : Fin cfg0.N) (e : Fin 512) :
    (iblk m c 7 t : Vec Ideal S1x512 .f32) (ix2 0 e) = (V m c main_arg5 : FVec Ideal S1x512 .f32) (ix2 0 e) := by
  blk_simp [iblk]
  refine congrArg (V m c main_arg5) (funext fun a => Fin.ext ?_)
  have hi := congrFun (index_7 t) a
  blk_simp
  rw [hi]
  fin_cases a
  · rfl
  · show 0 * 512 + e.val = e.val
    omega

theorem block_8 (t : Fin cfg0.N) (e : Fin 512) (j : Fin 1024) :
    (iblk m c 8 t : Vec Ideal S512x1024 .bf16) (ix2 e j) = (V m c main_v42 : FVec Ideal S512x1024 .bf16) (ix2 e j) := by
  blk_simp [iblk]
  refine congrArg (V m c main_v42) (funext fun a => Fin.ext ?_)
  have hi := congrFun (index_8 t) a
  blk_simp
  rw [hi]
  fin_cases a
  · show 0 * 512 + e.val = e.val
    omega
  · show 0 * 1024 + j.val = j.val
    omega

theorem block_9 (t : Fin cfg0.N) (r : Fin 512) (l : Fin 128) :
    (iblk m c 9 t : Vec Ideal S512x128 .f32) (ix2 r l) = (V m c main_v23 : FVec Ideal S8192x128 .f32) (ix2 (tok (tile t) r) l) := by
  blk_simp [iblk]
  refine congrArg (V m c main_v23) (funext fun a => Fin.ext ?_)
  have hi := congrFun (index_9 t) a
  blk_simp
  rw [hi]
  fin_cases a
  · show (tile t).val * 512 + r.val = (tile t).val * 512 + r.val
    omega
  · show 0 * 128 + l.val = l.val
    omega

theorem block_10 (t : Fin cfg0.N) (r : Fin 512) (l : Fin 128) :
    (iblk m c 10 t : Vec Ideal S512x128 .f32) (ix2 r l) = (V m c main_v28 : FVec Ideal S8192x128 .f32) (ix2 (tok (tile t) r) l) := by
  blk_simp [iblk]
  refine congrArg (V m c main_v28) (funext fun a => Fin.ext ?_)
  have hi := congrFun (index_10 t) a
  blk_simp
  rw [hi]
  fin_cases a
  · show (tile t).val * 512 + r.val = (tile t).val * 512 + r.val
    omega
  · show 0 * 128 + l.val = l.val
    omega

theorem block_11 (t : Fin cfg0.N) (r : Fin 512) (l : Fin 128) :
    (iblk m c 11 t : Vec Ideal S512x128 .f32) (ix2 r l) = (V m c main_v32 : FVec Ideal S8192x128 .f32) (ix2 (tok (tile t) r) l) := by
  blk_simp [iblk]
  refine congrArg (V m c main_v32) (funext fun a => Fin.ext ?_)
  have hi := congrFun (index_11 t) a
  blk_simp
  rw [hi]
  fin_cases a
  · show (tile t).val * 512 + r.val = (tile t).val * 512 + r.val
    omega
  · show 0 * 128 + l.val = l.val
    omega

theorem isTile (t : Fin cfg0.N) : IsTile (ins m c) (batch t) (tile t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) where
  h0 r d := by rw [block_0, V_main_arg0]; rfl
  hs d := by
    rw [block_1, mod_in]
    exact congrArg (fun j => argMod m c (ix2 (batch t) j)) (Fin.ext (by show 0 * 1024 + d.val = d.val; omega))
  hc d := by
    rw [block_1, mod_in]
    exact congrArg (fun j => argMod m c (ix2 (batch t) j)) (Fin.ext (by show 1 * 1024 + d.val = 1024 + d.val; omega))
  h2 d := by rw [block_2, V_main_arg2]; rfl
  h3 d e := by rw [block_3, weights_in]; rfl
  h4 g i j := by rw [block_4, spatial_in]; rfl
  h5 i e := by rw [block_5, bias_in]; rfl
  h6 e := by rw [block_6, V_main_arg4]; rfl
  h7 e := by rw [block_7, V_main_arg5]; rfl
  h8 e j := by rw [block_8, branch_in]; rfl
  h9 r l := by rw [block_9, cos_in]
  h10 r l := by rw [block_10, sinA_in]
  h11 r l := by rw [block_11, sinB_in]

end Cert.MixerInIdeal.Mixer

end
-- ==== Proof.Mixer.Result.lean ====
/- The launch's six results, of its arguments. -/
module

public import proofs.«01_k».proof.Proof.Mixer.Blocks

@[expose] public section

set_option maxRecDepth 8192

noncomputable section

namespace Cert.MixerInIdeal.Mixer

open Cert.MixerInIdeal Cert.MixerInIdeal.Gen
open Idealize.ShloMosaic Idealize.ShloMosaic.TcCoe Cert.Mixer

variable (m : (ℓ : Loc nD τ sig) → Buf (Elt Ideal) ℓ) (c : Dev nD)

theorem rows_512 (y : S1x512x512.Idx) : ∃ (r : Fin 512) (e : Fin 512), y = ix3 0 r e := by
  refine ⟨y 1, y 2, funext fun a => Fin.ext ?_⟩
  have h0 : (y 0).val < 1 := (y 0).isLt
  fin_cases a
  · show (y 0).val = 0
    omega
  · rfl
  · rfl

theorem rows_1024 (y : S1x512x1024.Idx) : ∃ (r : Fin 512) (e : Fin 1024), y = ix3 0 r e := by
  refine ⟨y 1, y 2, funext fun a => Fin.ext ?_⟩
  have h0 : (y 0).val < 1 := (y 0).isLt
  fin_cases a
  · show (y 0).val = 0
    omega
  · rfl
  · rfl

theorem rows_2 (y : S1x1x2x512.Idx) : ∃ (k : Fin 2) (e : Fin 512), y = ix4 0 0 k e := by
  refine ⟨y 2, y 3, funext fun a => Fin.ext ?_⟩
  have h0 : (y 0).val < 1 := (y 0).isLt
  have h1 : (y 1).val < 1 := (y 1).isLt
  fin_cases a
  · show (y 0).val = 0
    omega
  · show (y 1).val = 0
    omega
  · rfl
  · rfl

/-- The array of window 12. -/
def arrQ (I : Ins) : FVec Ideal S4x8192x512 .f32 := fun y => I.resQ (y 0) (y 1) (y 2)

theorem place_12 (t : Fin cfg0.N) (r : Fin 512) (e : Fin 512) :
    ((win0_12.blk t).view.emb (ix3 0 r e) : S4x8192x512.Idx) = ix3 (batch t) (tok (tile t) r) e := by
  refine funext fun a => Fin.ext ?_
  have hi := congrFun (index_12 t) a
  blk_simp
  rw [hi]
  fin_cases a
  · show (batch t).val * 1 + 0 = (batch t).val
    omega
  · show (tile t).val * 512 + r.val = (tile t).val * 512 + r.val
    omega
  · show 0 * 512 + e.val = e.val
    omega

theorem value_12 (t : Fin cfg0.N) (r : Fin 512) (e : Fin 512) : out0_12 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (ix3 0 r e) = arrQ (ins m c) (ix3 (batch t) (tok (tile t) r) e) :=
  resQ_value (isTile m c t) r e

theorem placed_12 (t : Fin cfg0.N) (r : Fin 512) (e : Fin 512) : arrQ (ins m c) ((win0_12.blk t).view.emb (ix3 0 r e)) = arrQ (ins m c) (ix3 (batch t) (tok (tile t) r) e) :=
  congrArg (arrQ (ins m c)) (place_12 t r e)

theorem left_12 (t : Fin cfg0.N) (y : S1x512x512.Idx) : out0_12 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) y = arrQ (ins m c) ((win0_12.blk t).view.emb y) := by
  obtain ⟨r, e, hy⟩ := rows_512 y
  rw [hy]
  exact (value_12 m c t r e).trans (placed_12 m c t r e).symm

theorem final_12 : (dats m 0 c).arrAt 12 cfg0.N = arrQ (ins m c) := by
  refine (dats m 0 c).arrAt_eq_of_covers 12 _ (by decide +kernel) fun t hf y => ?_
  blk_simp
  rw [after0_12]
  exact left_12 m c t y

/-- The array of window 13. -/
def arrK (I : Ins) : FVec Ideal S4x8192x512 .bf16 := fun y => I.resK (y 0) (y 1) (y 2)

theorem place_13 (t : Fin cfg0.N) (r : Fin 512) (e : Fin 512) :
    ((win0_13.blk t).view.emb (ix3 0 r e) : S4x8192x512.Idx) = ix3 (batch t) (tok (tile t) r) e := by
  refine funext fun a => Fin.ext ?_
  have hi := congrFun (index_13 t) a
  blk_simp
  rw [hi]
  fin_cases a
  · show (batch t).val * 1 + 0 = (batch t).val
    omega
  · show (tile t).val * 512 + r.val = (tile t).val * 512 + r.val
    omega
  · show 0 * 512 + e.val = e.val
    omega

theorem value_13 (t : Fin cfg0.N) (r : Fin 512) (e : Fin 512) : out0_13 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (ix3 0 r e) = arrK (ins m c) (ix3 (batch t) (tok (tile t) r) e) :=
  resK_value (isTile m c t) r e

theorem placed_13 (t : Fin cfg0.N) (r : Fin 512) (e : Fin 512) : arrK (ins m c) ((win0_13.blk t).view.emb (ix3 0 r e)) = arrK (ins m c) (ix3 (batch t) (tok (tile t) r) e) :=
  congrArg (arrK (ins m c)) (place_13 t r e)

theorem left_13 (t : Fin cfg0.N) (y : S1x512x512.Idx) : out0_13 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) y = arrK (ins m c) ((win0_13.blk t).view.emb y) := by
  obtain ⟨r, e, hy⟩ := rows_512 y
  rw [hy]
  exact (value_13 m c t r e).trans (placed_13 m c t r e).symm

theorem final_13 : (dats m 0 c).arrAt 13 cfg0.N = arrK (ins m c) := by
  refine (dats m 0 c).arrAt_eq_of_covers 13 _ (by decide +kernel) fun t hf y => ?_
  blk_simp
  rw [after0_13]
  exact left_13 m c t y

/-- The array of window 14. -/
def arrV (I : Ins) : FVec Ideal S4x512x8192 .bf16 := fun y => I.resV (y 0) (y 1) (y 2)

theorem place_14 (t : Fin cfg0.N) (e r : Fin 512) :
    ((win0_14.blk t).view.emb (ix3 0 e r) : S4x512x8192.Idx) = ix3 (batch t) e (tok (tile t) r) := by
  refine funext fun a => Fin.ext ?_
  have hi := congrFun (index_14 t) a
  blk_simp
  rw [hi]
  fin_cases a
  · show (batch t).val * 1 + 0 = (batch t).val
    omega
  · show 0 * 512 + e.val = e.val
    omega
  · show (tile t).val * 512 + r.val = (tile t).val * 512 + r.val
    omega

theorem value_14 (t : Fin cfg0.N) (e r : Fin 512) : out0_14 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (ix3 0 e r) = arrV (ins m c) (ix3 (batch t) e (tok (tile t) r)) :=
  resV_value (isTile m c t) e r

theorem placed_14 (t : Fin cfg0.N) (e r : Fin 512) : arrV (ins m c) ((win0_14.blk t).view.emb (ix3 0 e r)) = arrV (ins m c) (ix3 (batch t) e (tok (tile t) r)) :=
  congrArg (arrV (ins m c)) (place_14 t e r)

theorem left_14 (t : Fin cfg0.N) (y : S1x512x512.Idx) : out0_14 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) y = arrV (ins m c) ((win0_14.blk t).view.emb y) := by
  obtain ⟨e, r, hy⟩ := rows_512 y
  rw [hy]
  exact (value_14 m c t e r).trans (placed_14 m c t e r).symm

theorem final_14 : (dats m 0 c).arrAt 14 cfg0.N = arrV (ins m c) := by
  refine (dats m 0 c).arrAt_eq_of_covers 14 _ (by decide +kernel) fun t hf y => ?_
  blk_simp
  rw [after0_14]
  exact left_14 m c t y

/-- The array of window 15. -/
def arrA (I : Ins) : FVec Ideal S4x8192x1024 .bf16 := fun y => I.resA (y 0) (y 1) (y 2)

theorem place_15 (t : Fin cfg0.N) (r : Fin 512) (e : Fin 1024) :
    ((win0_15.blk t).view.emb (ix3 0 r e) : S4x8192x1024.Idx) = ix3 (batch t) (tok (tile t) r) e := by
  refine funext fun a => Fin.ext ?_
  have hi := congrFun (index_15 t) a
  blk_simp
  rw [hi]
  fin_cases a
  · show (batch t).val * 1 + 0 = (batch t).val
    omega
  · show (tile t).val * 512 + r.val = (tile t).val * 512 + r.val
    omega
  · show 0 * 1024 + e.val = e.val
    omega

theorem value_15 (t : Fin cfg0.N) (r : Fin 512) (e : Fin 1024) : out0_15 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (ix3 0 r e) = arrA (ins m c) (ix3 (batch t) (tok (tile t) r) e) :=
  resA_value (isTile m c t) r e

theorem placed_15 (t : Fin cfg0.N) (r : Fin 512) (e : Fin 1024) : arrA (ins m c) ((win0_15.blk t).view.emb (ix3 0 r e)) = arrA (ins m c) (ix3 (batch t) (tok (tile t) r) e) :=
  congrArg (arrA (ins m c)) (place_15 t r e)

theorem left_15 (t : Fin cfg0.N) (y : S1x512x1024.Idx) : out0_15 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) y = arrA (ins m c) ((win0_15.blk t).view.emb y) := by
  obtain ⟨r, e, hy⟩ := rows_1024 y
  rw [hy]
  exact (value_15 m c t r e).trans (placed_15 m c t r e).symm

theorem final_15 : (dats m 0 c).arrAt 15 cfg0.N = arrA (ins m c) := by
  refine (dats m 0 c).arrAt_eq_of_covers 15 _ (by decide +kernel) fun t hf y => ?_
  blk_simp
  rw [after0_15]
  exact left_15 m c t y

/-- The array of window 16. -/
def arrB (I : Ins) : FVec Ideal S4x8192x1024 .bf16 := fun y => I.resB (y 0) (y 1) (y 2)

theorem place_16 (t : Fin cfg0.N) (r : Fin 512) (e : Fin 1024) :
    ((win0_16.blk t).view.emb (ix3 0 r e) : S4x8192x1024.Idx) = ix3 (batch t) (tok (tile t) r) e := by
  refine funext fun a => Fin.ext ?_
  have hi := congrFun (index_16 t) a
  blk_simp
  rw [hi]
  fin_cases a
  · show (batch t).val * 1 + 0 = (batch t).val
    omega
  · show (tile t).val * 512 + r.val = (tile t).val * 512 + r.val
    omega
  · show 0 * 1024 + e.val = e.val
    omega

theorem value_16 (t : Fin cfg0.N) (r : Fin 512) (e : Fin 1024) : out0_16 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (ix3 0 r e) = arrB (ins m c) (ix3 (batch t) (tok (tile t) r) e) :=
  resB_value (isTile m c t) r e

theorem placed_16 (t : Fin cfg0.N) (r : Fin 512) (e : Fin 1024) : arrB (ins m c) ((win0_16.blk t).view.emb (ix3 0 r e)) = arrB (ins m c) (ix3 (batch t) (tok (tile t) r) e) :=
  congrArg (arrB (ins m c)) (place_16 t r e)

theorem left_16 (t : Fin cfg0.N) (y : S1x512x1024.Idx) : out0_16 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) y = arrB (ins m c) ((win0_16.blk t).view.emb y) := by
  obtain ⟨r, e, hy⟩ := rows_1024 y
  rw [hy]
  exact (value_16 m c t r e).trans (placed_16 m c t r e).symm

theorem final_16 : (dats m 0 c).arrAt 16 cfg0.N = arrB (ins m c) := by
  refine (dats m 0 c).arrAt_eq_of_covers 16 _ (by decide +kernel) fun t hf y => ?_
  blk_simp
  rw [after0_16]
  exact left_16 m c t y

/-- The array of window 17. -/
def arrM (I : Ins) : FVec Ideal S4x16x2x512 .f32 := fun y => I.resM (y 0) (y 1) (y 2) (y 3)

theorem place_17 (t : Fin cfg0.N) (k : Fin 2) (e : Fin 512) :
    ((win0_17.blk t).view.emb (ix4 0 0 k e) : S4x16x2x512.Idx) = ix4 (batch t) (tile t) k e := by
  refine funext fun a => Fin.ext ?_
  have hi := congrFun (index_17 t) a
  blk_simp
  rw [hi]
  fin_cases a
  · show (batch t).val * 1 + 0 = (batch t).val
    omega
  · show (tile t).val * 1 + 0 = (tile t).val
    omega
  · show 0 * 2 + k.val = k.val
    omega
  · show 0 * 512 + e.val = e.val
    omega

theorem value_17 (t : Fin cfg0.N) (k : Fin 2) (e : Fin 512) : out0_17 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (ix4 0 0 k e) = arrM (ins m c) (ix4 (batch t) (tile t) k e) :=
  resM_value (isTile m c t) k e

theorem placed_17 (t : Fin cfg0.N) (k : Fin 2) (e : Fin 512) : arrM (ins m c) ((win0_17.blk t).view.emb (ix4 0 0 k e)) = arrM (ins m c) (ix4 (batch t) (tile t) k e) :=
  congrArg (arrM (ins m c)) (place_17 t k e)

theorem left_17 (t : Fin cfg0.N) (y : S1x1x2x512.Idx) : out0_17 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) y = arrM (ins m c) ((win0_17.blk t).view.emb y) := by
  obtain ⟨k, e, hy⟩ := rows_2 y
  rw [hy]
  exact (value_17 m c t k e).trans (placed_17 m c t k e).symm

theorem final_17 : (dats m 0 c).arrAt 17 cfg0.N = arrM (ins m c) := by
  refine (dats m 0 c).arrAt_eq_of_covers 17 _ (by decide +kernel) fun t hf y => ?_
  blk_simp
  rw [after0_17]
  exact left_17 m c t y

end Cert.MixerInIdeal.Mixer

end
-- ==== Proof.Mixer.RefArgs.lean ====
/- The reference's results read at an index. -/
module

public import proofs.«01_k».proof.Proof.Gen.MixerInReferenceIdeal.Run
public import proofs.«01_k».proof.Proof.Mixer.Spec
public import Idealize.ShloMosaic.Lib.Pointwise

@[expose] public section

set_option maxRecDepth 8192

noncomputable section

namespace Cert.MixerInReferenceIdeal.Mixer

open Cert.MixerInReferenceIdeal Cert.MixerInReferenceIdeal.Gen Cert.MixerInReferenceIdeal.Facts Cert.MixerInReferenceIdeal.Value
open Idealize.ShloMosaic Cert.Mixer

abbrev Args := Valuation τ sig (Elt Ideal)

abbrev aX (A : Args) : FVec Ideal S4x8192x1024 .f32 := A (Proc.devRef .tc main_arg0)
abbrev aMod (A : Args) : FVec Ideal S4x6144 .f32 := A (Proc.devRef .tc main_arg1)
abbrev aG (A : Args) : FVec Ideal S1x1024 .f32 := A (Proc.devRef .tc main_arg2)
abbrev aW (A : Args) : FVec Ideal S1x1024x4608 .f32 := A (Proc.devRef .tc main_arg3)
abbrev aLg (A : Args) : FVec Ideal S1x512 .f32 := A (Proc.devRef .tc main_arg4)
abbrev aLb (A : Args) : FVec Ideal S1x512 .f32 := A (Proc.devRef .tc main_arg5)
abbrev aWs (A : Args) : FVec Ideal S1x4x128x128 .f32 := A (Proc.devRef .tc main_arg6)
abbrev aBs (A : Args) : FVec Ideal S1x4x128 .f32 := A (Proc.devRef .tc main_arg7)
abbrev aWb (A : Args) : FVec Ideal S1x512x1024 .f32 := A (Proc.devRef .tc main_arg8)

/-- The half of the unit that is mixed, normalised. -/
def refHalf (A : Args) : FVec Ideal S4x8192x512 .f32 :=
  addf (mulf (mulf (subf (res_main_v55 A) (broadcastInDim S4x8192x512 ![0, 1, 2] bcast_S4x8192x1_S4x8192x512_0_1_2 (res_main_v59 A))) (broadcastInDim S4x8192x512 ![0, 1, 2] bcast_S4x8192x1_S4x8192x512_0_1_2 (Host.rsqrt (addf (Host.divf (broadcastInDim S4x8192x1 ![0, 1] bcast_S4x8192_S4x8192x1_0_1 (Host.reduceAdd (mulf (res_main_v61 A) (res_main_v61 A)) (constant S_ .f32 0x00000000#32) reducesTo_S4x8192x512_S4x8192_d2 h_S_)) (broadcastInDim S4x8192x1 ![] bcast_S_S4x8192x1 (constant S_ .f32 0x44000000#32))) (broadcastInDim S4x8192x1 ![] bcast_S_S4x8192x1 (constant S_ .f32 0x358637BD#32)))))) (broadcastInDim S4x8192x512 ![0, 1, 2] bcast_S1x1x512_S4x8192x512_0_1_2 (broadcastInDim S1x1x512 ![2] bcast_S512_S1x1x512_2 (shapeCast S512 (aLg A) shapeCasts_S1x512_S512)))) (broadcastInDim S4x8192x512 ![0, 1, 2] bcast_S1x1x512_S4x8192x512_0_1_2 (broadcastInDim S1x1x512 ![2] bcast_S512_S1x1x512_2 (shapeCast S512 (aLb A) shapeCasts_S1x512_S512)))

/-- The spatial weights on and below the diagonal. -/
def refLow (A : Args) : FVec Ideal S4x128x128 .f32 :=
  select (broadcastInDim S4x128x128 ![0, 1, 2] bcast_S1x128x128_S4x128x128_0_1_2 (broadcastInDim S1x128x128 ![1, 2] bcast_S128x128_S1x128x128_1_2 (select (cmpi .sge (addi (iotaInDim S128x128 32 0) (broadcastInDim S128x128 ![] bcast_S_S128x128 (constantI S_ 32 0#32))) (iotaInDim S128x128 32 1)) (broadcastInDim S128x128 ![] bcast_S_S128x128 (constantI S_ 1 1#1)) (broadcastInDim S128x128 ![] bcast_S_S128x128 (constantI S_ 1 0#1))))) (shapeCast S4x128x128 (aWs A) shapeCasts_S1x4x128x128_S4x128x128) (broadcastInDim S4x128x128 ![] bcast_S_S4x128x128 (sitofp .f32 (constantI S_ 32 0#32)))

/-- The mixed half, with its bias. -/
def refMixed (A : Args) : FVec Ideal S4x8192x512 .f32 :=
  shapeCast S4x8192x512 (addf (transpose S4x64x128x4x128 [1, 2, 4, 0, 3] (Host.dotGeneral (φ₁ := .f32) (φ₂ := .f32) dot_S4x64x128x4x128_S4x128x128_S4x4x64x128x128_2_2_014_1_3_0 none (shapeCast S4x64x128x4x128 (refHalf A) shapeCasts_S4x8192x512_S4x64x128x4x128) (refLow A)) transposes_S4x4x64x128x128_S4x64x128x4x128_1_2_4_0_3) (broadcastInDim S4x64x128x4x128 ![0, 1, 2, 3, 4] bcast_S1x1x128x4x1_S4x64x128x4x128_0_1_2_3_4 (broadcastInDim S1x1x128x4x1 ![2, 3] bcast_S128x4_S1x1x128x4x1_2_3 (transpose S128x4 [1, 0] (shapeCast S4x128 (aBs A) shapeCasts_S1x4x128_S4x128) transposes_S4x128_S128x4_1_0)))) shapeCasts_S4x64x128x4x128_S4x8192x512

def refA (A : Args) : FVec Ideal S4x8192x1024 .bf16 :=
  truncf .bf16 (mulf (Host.divf (broadcastInDim S4x8192x1024 ![] bcast_S_S4x8192x1024 (constant S_ .f32 0x3F800000#32)) (addf (broadcastInDim S4x8192x1024 ![] bcast_S_S4x8192x1024 (constant S_ .f32 0x3F800000#32)) (Host.exp (Host.negf (extractStridedSlice S4x8192x1024 ![0, 0, 2560] (res_main_v30 A) slices_S4x8192x4608_S4x8192x1024_0_0_2560))))) (Host.dotGeneral (φ₁ := .f32) (φ₂ := .f32) dot_S4x8192x512_S512x1024_S4x8192x1024_2_0_01_1_n_n none (mulf (extractStridedSlice S4x8192x512 ![0, 0, 0] (res_main_v53 A) slices_S4x8192x1024_S4x8192x512_0_0_0) (refMixed A)) (shapeCast S512x1024 (aWb A) shapeCasts_S1x512x1024_S512x1024))) bitsLt_bf16_f32

def refQ (A : Args) : FVec Ideal S4x8192x512 .f32 :=
  shapeCast _ (concatenate S4x8192x8x64 3 [⟨S4x8192x8x16, (concatenate S4x8192x8x16 3 [⟨S4x8192x8x8, (subf (mulf (res_main_v114 A) (broadcastInDim S4x8192x8x8 ![0, 1, 2, 3] bcast_S1x8192x1x8_S4x8192x8x8_0_1_2_3 (res_main_v111 A))) (mulf (res_main_v115 A) (broadcastInDim S4x8192x8x8 ![0, 1, 2, 3] bcast_S1x8192x1x8_S4x8192x8x8_0_1_2_3 (res_main_v113 A))))⟩, ⟨S4x8192x8x8, (addf (mulf (res_main_v115 A) (broadcastInDim S4x8192x8x8 ![0, 1, 2, 3] bcast_S1x8192x1x8_S4x8192x8x8_0_1_2_3 (res_main_v111 A))) (mulf (res_main_v114 A) (broadcastInDim S4x8192x8x8 ![0, 1, 2, 3] bcast_S1x8192x1x8_S4x8192x8x8_0_1_2_3 (res_main_v113 A))))⟩] concatenates_S4x8192x8x8_S4x8192x8x8_S4x8192x8x16_d3)⟩, ⟨S4x8192x8x48, (extractStridedSlice S4x8192x8x48 ![0, 0, 0, 16] (res_main_v95 A) slices_S4x8192x8x64_S4x8192x8x48_0_0_0_16)⟩] concatenates_S4x8192x8x16_S4x8192x8x48_S4x8192x8x64_d3) shapeCasts_S4x8192x8x64_S4x8192x512

def refK (A : Args) : FVec Ideal S4x8192x512 .bf16 :=
  truncf .bf16 (shapeCast _ (res_main_v162 A) shapeCasts_S4x8192x8x64_S4x8192x512) bitsLt_bf16_f32

def refV (A : Args) : FVec Ideal S4x512x8192 .bf16 :=
  truncf .bf16 (transpose S4x512x8192 [0, 2, 1] (extractStridedSlice S4x8192x512 ![0, 0, 2048] (res_main_v30 A) slices_S4x8192x4608_S4x8192x512_0_0_2048) transposes_S4x8192x512_S4x512x8192_0_2_1) bitsLt_bf16_f32

def refB (A : Args) : FVec Ideal S4x8192x1024 .bf16 :=
  truncf .bf16 (Host.divf (broadcastInDim S4x8192x1024 ![] bcast_S_S4x8192x1024 (constant S_ .f32 0x3F800000#32)) (addf (broadcastInDim S4x8192x1024 ![] bcast_S_S4x8192x1024 (constant S_ .f32 0x3F800000#32)) (Host.exp (Host.negf (extractStridedSlice S4x8192x1024 ![0, 0, 3584] (res_main_v30 A) slices_S4x8192x4608_S4x8192x1024_0_0_3584))))) bitsLt_bf16_f32

def refM (A : Args) : FVec Ideal S4x16x2x512 .f32 :=
  shapeCast _ (Host.divf (Host.reduceAdd (shapeCast _ (res_main_v162 A) shapeCasts_S4x8192x8x64_S4x32x256x8x64) (constant S_ .f32 0x00000000#32) reducesTo_S4x32x256x8x64_S4x32x8x64_d2 h_S_) (broadcastInDim S4x32x8x64 ![] bcast_S_S4x32x8x64 (constant S_ .f32 0x43800000#32))) shapeCasts_S4x32x8x64_S4x16x2x512

/-- The arguments entry by entry. -/
def ins (A : Args) : Ins where
  x b s d := aX A (ix3 b s d)
  md b j := aMod A (ix2 b j)
  g d := aG A (ix2 0 d)
  w d e := aW A (ix3 0 d e)
  lg e := aLg A (ix2 0 e)
  lb e := aLb A (ix2 0 e)
  ws g i j := aWs A (ix4 0 g i j)
  bs g i := aBs A (ix3 0 g i)
  wb e j := aWb A (ix3 0 e j)

variable (A : Args)

theorem proj_at (b : Fin 4) (s : Fin 8192) (c : Fin 4608) : (res_main_v30 A : FVec Ideal S4x8192x4608 .f32) (ix3 b s c) = (ins A).pr b s c := by
  pointwise [res_main_v30]
  rfl

theorem v_at (b : Fin 4) (e : Fin 512) (s : Fin 8192) : refV A (ix3 b e s) = (ins A).resV b e s := by
  refine Eq.trans ?_ (proj_at A b s _)
  pointwise [refV]

theorem b_at (b : Fin 4) (s : Fin 8192) (e : Fin 1024) : refB A (ix3 b s e) = (ins A).resB b s e := by
  refine Eq.trans ?_ (congrArg sigm (proj_at A b s ⟨3584 + e.val, by omega⟩))
  pointwise [refB]
  rfl

end Cert.MixerInReferenceIdeal.Mixer

end
-- ==== Proof.Mixer.RefRope.lean ====
/- The reference's rotated queries and keys, and its block means, read at an index. -/
module

public import proofs.«01_k».proof.Proof.Mixer.RefArgs
public import Idealize.ShloMosaic.Lib.Pointwise

@[expose] public section

set_option maxRecDepth 8192

noncomputable section

namespace Cert.MixerInReferenceIdeal.Mixer

open Cert.MixerInReferenceIdeal Cert.MixerInReferenceIdeal.Gen Cert.MixerInReferenceIdeal.Facts Cert.MixerInReferenceIdeal.Value
open Idealize.ShloMosaic Cert.Mixer

variable (A : Args)

theorem angle_at (s : Fin 8192) (i : Fin 8) : (res_main_v109 A : FVec Ideal S8192x8 .f32) (ix2 s i) = angle s.val i.val := by
  pointwise [res_main_v109, res_main_v0]
  rfl

theorem angleK_at (s : Fin 8192) (i : Fin 8) : (res_main_v143 A : FVec Ideal S8192x8 .f32) (ix2 s i) = angle s.val i.val := by
  pointwise [res_main_v143, res_main_v0]
  rfl

theorem rope_split (t : ℕ → EReal) (cs sn : Fin 8 → EReal) (o : ℕ) (e : Fin 512) :
    (if h : e.val % 64 < 16 then
      if h' : e.val % 64 < 8 then
        t (o + e.val) * cs ⟨e.val % 64, h'⟩ - t (o + (e.val / 64 * 64 + (8 + e.val % 64))) * sn ⟨e.val % 64, h'⟩
      else t (o + (e.val / 64 * 64 + (8 + (e.val % 64 - 8)))) * cs ⟨e.val % 64 - 8, by omega⟩
        + t (o + (e.val / 64 * 64 + (e.val % 64 - 8))) * sn ⟨e.val % 64 - 8, by omega⟩
    else t (o + (e.val / 64 * 64 + (16 + (e.val % 64 - 16))))) = rope (fun c => t (o + c.val)) cs sn e := by
  unfold rope
  by_cases h8 : e.val % 64 < 8
  · have h16 : e.val % 64 < 16 := by omega
    rw [dif_pos h16, dif_pos h8, dif_pos h8]
    simp only [show o + (e.val / 64 * 64 + (8 + e.val % 64)) = o + (e.val + 8) by omega]
  · rw [dif_neg h8]
    by_cases h16 : e.val % 64 < 16
    · rw [dif_pos h16, dif_neg h8, dif_pos h16]
      simp only [show o + (e.val / 64 * 64 + (8 + (e.val % 64 - 8))) = o + e.val by omega, show o + (e.val / 64 * 64 + (e.val % 64 - 8)) = o + (e.val - 8) by omega]
    · rw [dif_neg h16, dif_neg h16]
      simp only [show o + (e.val / 64 * 64 + (16 + (e.val % 64 - 16))) = o + e.val by omega]

/-- A token's projections by the column's number. -/
def colP (b : Fin 4) (s : Fin 8192) (n : ℕ) : EReal := if h : n < 4608 then (res_main_v30 A : FVec Ideal S4x8192x4608 .f32) (ix3 b s ⟨n, h⟩) else 0

theorem colP_of (b : Fin 4) (s : Fin 8192) (n : ℕ) (h : n < 4608) : (res_main_v30 A : FVec Ideal S4x8192x4608 .f32) (ix3 b s ⟨n, h⟩) = colP A b s n := by
  unfold colP
  rw [dif_pos h]

theorem colP_eq (b : Fin 4) (s : Fin 8192) (n : ℕ) (h : n < 4608) : colP A b s n = (ins A).pr b s ⟨n, h⟩ :=
  (colP_of A b s n h).symm.trans (proj_at A b s _)

theorem q_at (b : Fin 4) (s : Fin 8192) (e : Fin 512) : refQ A (ix3 b s e) = (ins A).resQ b s e := by
  pointwise [refQ, res_main_v114, res_main_v115, res_main_v111, res_main_v113, res_main_v95]
  simp only [angle_at, colP_of]
  refine (rope_split (colP A b s) (cosines s.val) (sines s.val) 1024 e).trans ?_
  exact congrArg (fun t => rope t (cosines s.val) (sines s.val) e) (funext fun c => colP_eq A b s _ (by omega))

theorem v162_at (b : Fin 4) (s : Fin 8192) (h : Fin 8) (d : Fin 64) :
    (res_main_v162 A : FVec Ideal S4x8192x8x64 .f32) (ix4 b s h d) = (ins A).resK b s ⟨h.val * 64 + d.val, by omega⟩ := by
  pointwise [res_main_v162, res_main_v148, res_main_v149, res_main_v145, res_main_v147, res_main_v129]
  simp only [angleK_at, colP_of]
  have e1 : (h.val * 64 + d.val) % 64 = d.val := by omega
  have e2 : (h.val * 64 + d.val) / 64 = h.val := by omega
  have r := rope_split (colP A b s) (cosines s.val) (sines s.val) 1536 ⟨h.val * 64 + d.val, by omega⟩
  simp only [e1, e2] at r
  refine r.trans ?_
  exact congrArg (fun t => rope t (cosines s.val) (sines s.val) ⟨h.val * 64 + d.val, by omega⟩) (funext fun c => colP_eq A b s _ (by omega))

theorem flat_at (z : FVec Ideal S4x8192x8x64 .f32) (b : Fin 4) (s : Fin 8192) (e : Fin 512) :
    (truncf .bf16 (shapeCast S4x8192x512 z shapeCasts_S4x8192x8x64_S4x8192x512) bitsLt_bf16_f32 : FVec Ideal S4x8192x512 .bf16) (ix3 b s e)
      = z (ix4 b s ⟨e.val / 64, by omega⟩ ⟨e.val % 64, by omega⟩) := by
  pointwise

/-- The means of the blocks of 256 rows. -/
def means (z : FVec Ideal S4x8192x8x64 .f32) : FVec Ideal S4x16x2x512 .f32 :=
  shapeCast S4x16x2x512 (Host.divf (Host.reduceAdd (shapeCast S4x32x256x8x64 z shapeCasts_S4x8192x8x64_S4x32x256x8x64) (constant S_ .f32 0x00000000#32) reducesTo_S4x32x256x8x64_S4x32x8x64_d2 h_S_) (broadcastInDim S4x32x8x64 ![] bcast_S_S4x32x8x64 (constant S_ .f32 0x43800000#32))) shapeCasts_S4x32x8x64_S4x16x2x512

theorem means_at (z : FVec Ideal S4x8192x8x64 .f32) (b : Fin 4) (n : Fin 16) (k : Fin 2) (e : Fin 512) : means z (ix4 b n k e)
    = Ideal.div (∑ l : Fin 256, z (ix4 b ⟨(n.val * 2 + k.val) * 256 + l.val, by omega⟩ ⟨e.val / 64, by omega⟩ ⟨e.val % 64, by omega⟩)) (lit 0x43800000#32) := by
  pointwise [means]

theorem head_lane (e : Fin 512) : (⟨e.val / 64 * 64 + e.val % 64, by omega⟩ : Fin 512) = e := Fin.ext (by show e.val / 64 * 64 + e.val % 64 = e.val; omega)

theorem k_at (b : Fin 4) (s : Fin 8192) (e : Fin 512) : refK A (ix3 b s e) = (ins A).resK b s e :=
  (flat_at (res_main_v162 A) b s e).trans ((v162_at A b s _ _).trans (congrArg ((ins A).resK b s) (head_lane e)))

theorem m_at (b : Fin 4) (n : Fin 16) (k : Fin 2) (e : Fin 512) : refM A (ix4 b n k e) = (ins A).resM b n k e :=
  (means_at (res_main_v162 A) b n k e).trans (congrArg (fun z : EReal => Ideal.div z (lit 0x43800000#32)) (Finset.sum_congr rfl fun l _ =>
    (v162_at A b _ _ _).trans (congrArg ((ins A).resK b _) (head_lane e))))

end Cert.MixerInReferenceIdeal.Mixer

end
-- ==== Proof.Mixer.RefMix.lean ====
/- The reference's first branch read at an index. -/
module

public import proofs.«01_k».proof.Proof.Mixer.RefArgs
public import Idealize.ShloMosaic.Lib.Pointwise

@[expose] public section

set_option maxRecDepth 8192

noncomputable section

namespace Cert.MixerInReferenceIdeal.Mixer

open Cert.MixerInReferenceIdeal Cert.MixerInReferenceIdeal.Gen Cert.MixerInReferenceIdeal.Facts Cert.MixerInReferenceIdeal.Value
open Idealize.ShloMosaic Cert.Mixer

theorem sge_small : ∀ i j : Fin 128, IntOp.cmpi .sge (IntOp.addi (BitVec.ofNat 32 i.val) 0#32) (BitVec.ofNat 32 j.val) = if j.val ≤ i.val then 1#1 else 0#1 := by
  decide +kernel

variable (A : Args)

theorem gelu_at (b : Fin 4) (s : Fin 8192) (c : Fin 1024) : (res_main_v53 A : FVec Ideal S4x8192x1024 .f32) (ix3 b s c) = gelu ((ins A).pr b s ⟨c.val, by omega⟩) := by
  have cube : ∀ z : EReal, z * (lit 0x3F000000#32 * (1 + Ideal.tanh (lit 0x3F4C422A#32 * (z + lit 0x3D372713#32 * (z * z * z))))) = gelu z := by
    intro z
    unfold gelu
    rw [mul_comm (z * z) z]
  rw [← proj_at]
  pointwise [res_main_v53, res_main_v31]
  exact cube _

theorem half_at (b : Fin 4) (s : Fin 8192) (e : Fin 512) : refHalf A (ix3 b s e) = (ins A).half b s e := by
  pointwise [refHalf, res_main_v61, res_main_v59, res_main_v55]
  simp only [gelu_at]
  rfl

theorem low_at (g : Fin 4) (i j : Fin 128) : refLow A (ix3 g i j) = if j.val ≤ i.val then (ins A).ws g i j else 0 := by
  pointwise [refLow]
  rw [sge_small]
  by_cases h : j.val ≤ i.val
  · rw [if_pos h, if_pos h]
    rfl
  · rw [if_neg h, if_neg h]
    show (((0#32).toInt : ℝ) : EReal) = 0
    simp

theorem mixed_at (b : Fin 4) (s : Fin 8192) (e : Fin 512) : refMixed A (ix3 b s e)
    = mix ((ins A).ws ⟨e.val / 128, by omega⟩ ⟨s.val % 128, by omega⟩) (fun j => (ins A).half b ⟨s.val / 128 * 128 + j.val, by omega⟩ e) ⟨s.val % 128, by omega⟩
      + (ins A).bs ⟨e.val / 128, by omega⟩ ⟨s.val % 128, by omega⟩ := by
  pointwise [refMixed]
  simp only [low_at, half_at]
  exact congrArg (fun z : EReal => z + _) (Finset.sum_congr rfl fun j _ => mul_comm _ _)

theorem a_at (b : Fin 4) (s : Fin 8192) (e : Fin 1024) : refA A (ix3 b s e) = (ins A).resA b s e := by
  pointwise [refA]
  simp only [proj_at, gelu_at, mixed_at]
  rfl

end Cert.MixerInReferenceIdeal.Mixer

end
-- ==== Proof.Mixer.RefResult.lean ====
/- The reference's six results, of its arguments. -/
module

public import proofs.«01_k».proof.Proof.Mixer.RefArgs
public import proofs.«01_k».proof.Proof.Mixer.RefRope
public import proofs.«01_k».proof.Proof.Mixer.RefMix

@[expose] public section

noncomputable section

namespace Cert.MixerInReferenceIdeal.Mixer

open Cert.MixerInReferenceIdeal Cert.MixerInReferenceIdeal.Gen
open Idealize.ShloMosaic Cert.Mixer

variable (A : Args)

theorem wholeQ : refQ A = fun y => (ins A).resQ (y 0) (y 1) (y 2) := by
  funext y
  have hy : y = ix3 (y 0) (y 1) (y 2) := by
    funext a
    fin_cases a <;> rfl
  exact (congrArg (refQ A) hy).trans (q_at A (y 0) (y 1) (y 2))

theorem wholeK : refK A = fun y => (ins A).resK (y 0) (y 1) (y 2) := by
  funext y
  have hy : y = ix3 (y 0) (y 1) (y 2) := by
    funext a
    fin_cases a <;> rfl
  exact (congrArg (refK A) hy).trans (k_at A (y 0) (y 1) (y 2))

theorem wholeV : refV A = fun y => (ins A).resV (y 0) (y 1) (y 2) := by
  funext y
  have hy : y = ix3 (y 0) (y 1) (y 2) := by
    funext a
    fin_cases a <;> rfl
  exact (congrArg (refV A) hy).trans (v_at A (y 0) (y 1) (y 2))

theorem wholeA : refA A = fun y => (ins A).resA (y 0) (y 1) (y 2) := by
  funext y
  have hy : y = ix3 (y 0) (y 1) (y 2) := by
    funext a
    fin_cases a <;> rfl
  exact (congrArg (refA A) hy).trans (a_at A (y 0) (y 1) (y 2))

theorem wholeB : refB A = fun y => (ins A).resB (y 0) (y 1) (y 2) := by
  funext y
  have hy : y = ix3 (y 0) (y 1) (y 2) := by
    funext a
    fin_cases a <;> rfl
  exact (congrArg (refB A) hy).trans (b_at A (y 0) (y 1) (y 2))

theorem wholeM : refM A = fun y => (ins A).resM (y 0) (y 1) (y 2) (y 3) := by
  funext y
  have hy : y = ix4 (y 0) (y 1) (y 2) (y 3) := by
    funext a
    fin_cases a <;> rfl
  exact (congrArg (refM A) hy).trans (m_at A (y 0) (y 1) (y 2) (y 3))

end Cert.MixerInReferenceIdeal.Mixer

end
-- ==== Proof.Out.Frames.lean ====
/- The frame of the second half's program at the bits, of the run of its exact text. -/
module

public import proofs.«01_k».proof.Proof.Gen.MixerOutIdeal.Frame
public import proofs.«01_k».proof.Proof.Gen.MixerOut
public import proofs.«01_k».proof.MixerOut
public import Idealize.ShloMosaic.PureOps.BitExact

@[expose] public section

set_option maxHeartbeats 4000000

noncomputable section

namespace Cert.Proof

open Idealize.ShloMosaic Idealize.SL.Sem

/-- The body tables of the two printed programs agree at the bits. -/
theorem mixer_out_defs0_eq : Cert.MixerOut.defs₀ (F := Bits) = Cert.MixerOutIdeal.defs₀ (F := Bits) := by
  unfold Cert.MixerOut.defs₀ Cert.MixerOutIdeal.defs₀
  refine congrArg Defs.onTc (funext fun l => funext fun x => ?_)
  match l, x with
  | ⟨0, _⟩, (t, s) => rfl
  | ⟨_ + 1, h⟩, _ => exact absurd h (Nat.not_lt.2 (Nat.le_add_left _ _))

theorem mixer_out_defs_eq : Cert.MixerOut.defs (F := Bits) = Cert.MixerOutIdeal.defs (F := Bits) := by
  unfold Cert.MixerOut.defs Cert.MixerOutIdeal.defs
  rw [mixer_out_defs0_eq]
  rfl

theorem frame_mixer_out (m : (ℓ : Loc Cert.MixerOut.nD Cert.MixerOut.τ Cert.MixerOut.sig) → Buf (Elt Bits) ℓ) (g : Dev Cert.MixerOut.nD → PrngReg) :
    θ_run (Cert.MixerOut.defs (F := Bits)) (onTc (τ := Cert.MixerOut.τ) (Cert.MixerOut.main (F := Bits))) ⟨m, fun _ => 0, g⟩ (fun r => (∀ c : Dev Cert.MixerOut.nD,
      r.2.mem ((c.tc : Thread Cert.MixerOut.nD Cert.MixerOut.τ).loc Cert.MixerOut.main_arg0) = m ((c.tc : Thread Cert.MixerOut.nD Cert.MixerOut.τ).loc Cert.MixerOut.main_arg0)
      ∧ r.2.mem ((c.tc : Thread Cert.MixerOut.nD Cert.MixerOut.τ).loc Cert.MixerOut.main_arg1) = m ((c.tc : Thread Cert.MixerOut.nD Cert.MixerOut.τ).loc Cert.MixerOut.main_arg1)
      ∧ r.2.mem ((c.tc : Thread Cert.MixerOut.nD Cert.MixerOut.τ).loc Cert.MixerOut.main_arg2) = m ((c.tc : Thread Cert.MixerOut.nD Cert.MixerOut.τ).loc Cert.MixerOut.main_arg2)
      ∧ r.2.mem ((c.tc : Thread Cert.MixerOut.nD Cert.MixerOut.τ).loc Cert.MixerOut.main_arg3) = m ((c.tc : Thread Cert.MixerOut.nD Cert.MixerOut.τ).loc Cert.MixerOut.main_arg3)
      ∧ r.2.mem ((c.tc : Thread Cert.MixerOut.nD Cert.MixerOut.τ).loc Cert.MixerOut.main_arg4) = m ((c.tc : Thread Cert.MixerOut.nD Cert.MixerOut.τ).loc Cert.MixerOut.main_arg4)
      ∧ r.2.mem ((c.tc : Thread Cert.MixerOut.nD Cert.MixerOut.τ).loc Cert.MixerOut.main_arg5) = m ((c.tc : Thread Cert.MixerOut.nD Cert.MixerOut.τ).loc Cert.MixerOut.main_arg5)
      ∧ r.2.mem ((c.tc : Thread Cert.MixerOut.nD Cert.MixerOut.τ).loc Cert.MixerOut.main_arg6) = m ((c.tc : Thread Cert.MixerOut.nD Cert.MixerOut.τ).loc Cert.MixerOut.main_arg6)
      ∧ r.2.mem ((c.tc : Thread Cert.MixerOut.nD Cert.MixerOut.τ).loc Cert.MixerOut.main_arg7) = m ((c.tc : Thread Cert.MixerOut.nD Cert.MixerOut.τ).loc Cert.MixerOut.main_arg7)
      ∧ r.2.mem ((c.tc : Thread Cert.MixerOut.nD Cert.MixerOut.τ).loc Cert.MixerOut.main_arg8) = m ((c.tc : Thread Cert.MixerOut.nD Cert.MixerOut.τ).loc Cert.MixerOut.main_arg8)
      ∧ r.2.mem ((c.tc : Thread Cert.MixerOut.nD Cert.MixerOut.τ).loc Cert.MixerOut.main_arg9) = m ((c.tc : Thread Cert.MixerOut.nD Cert.MixerOut.τ).loc Cert.MixerOut.main_arg9))
      ∧ r.2.sem = fun _ => 0) := by
  rw [mixer_out_defs_eq]
  exact Cert.MixerOutIdeal.Gen.frame (F := Bits) m g

end Cert.Proof

end
-- ==== Proof.Out.Spec.lean ====
/- One token's row of the mixer's second half: the two branches joined, the residual, and the normalised and modulated row, as
   functions of extended reals. -/
module

public import proofs.«01_k».proof.Proof.Mixer.Spec

@[expose] public section

noncomputable section

namespace Cert.Out

open Idealize.ShloMosaic

/-- The arguments the two results depend on, entry by entry. -/
structure Ins where
  att : Fin 4 → Fin 8192 → Fin 512 → EReal
  a : Fin 4 → Fin 8192 → Fin 1024 → EReal
  gb : Fin 4 → Fin 8192 → Fin 1024 → EReal
  x : Fin 4 → Fin 8192 → Fin 1024 → EReal
  md : Fin 4 → Fin 6144 → EReal
  wb : Fin 512 → Fin 1024 → EReal
  wo : Fin 1024 → Fin 1024 → EReal
  g : Fin 1024 → EReal

namespace Ins

variable (I : Ins)

/-- The first branch plus the gated projection of the attention's output. -/
def merged (b : Fin 4) (s : Fin 8192) (e : Fin 1024) : EReal := I.a b s e + I.gb b s e * ∑ k : Fin 512, I.att b s k * I.wb k e

def res1 (b : Fin 4) (s : Fin 8192) (j : Fin 1024) : EReal := I.x b s j + I.md b ⟨2048 + j.val, by omega⟩ * ∑ e : Fin 1024, I.merged b s e * I.wo e j

def res2 (b : Fin 4) (s : Fin 8192) (j : Fin 1024) : EReal :=
  Cert.Mixer.hid (I.res1 b s) I.g (fun d => I.md b ⟨3072 + d.val, by omega⟩) (fun d => I.md b ⟨4096 + d.val, by omega⟩) j

end Ins

end Cert.Out

end
-- ==== Proof.Out.Tile.lean ====
/- The values a point computes, read at an index. -/
module

public import proofs.«01_k».proof.Proof.Gen.MixerOutIdeal.Skeleton
public import proofs.«01_k».proof.Proof.Out.Spec
public import Idealize.ShloMosaic.Lib.Pointwise

@[expose] public section

set_option maxRecDepth 8192

noncomputable section

namespace Cert.MixerOutIdeal.Out

open Cert.MixerOutIdeal Cert.MixerOutIdeal.Gen
open Idealize.ShloMosaic Cert.Out

theorem proj_at (v5 : Vec Ideal S1x512x512 .bf16) (v7 : Vec Ideal S512x1024 .bf16) (v10 v13 : Vec Ideal S1x512x1024 .bf16) (v19 : Vec Ideal S1024x1024 .bf16) (r : Fin 512) (j : Fin 1024) :
    k0_pay4 v5 v7 v10 v13 v19 (ix2 r j)
      = ∑ e : Fin 1024, (v10 (ix3 0 r e) + v13 (ix3 0 r e) * ∑ k : Fin 512, v5 (ix3 0 r k) * v7 (ix2 k e)) * v19 (ix2 e j) := by
  pointwise [k0_pay4]

theorem sum_at (v21 : FVec Ideal S512x1024 .f32) (v22 : Vec Ideal S1x1x1024 .f32) (v28 : Vec Ideal S1x512x1024 .f32) (r : Fin 512) (j : Fin 1024) :
    k0_pay8 v21 (k0_pay5 v22) v28 (ix2 r j) = v28 (ix3 0 r j) + v22 (ix3 0 0 j) * v21 (ix2 r j) := by
  pointwise [k0_pay8, k0_pay5]

theorem res1_at (v21 : FVec Ideal S512x1024 .f32) (v23 : FVec Ideal S1x1024 .f32) (v28 : Vec Ideal S1x512x1024 .f32) (r : Fin 512) (j : Fin 1024) :
    k0_pay9 v21 v23 v28 (ix3 0 r j) = k0_pay8 v21 v23 v28 (ix2 r j) := by
  pointwise [k0_pay9]

theorem res2_at (v21 : FVec Ideal S512x1024 .f32) (v23 : FVec Ideal S1x1024 .f32) (v24 v26 : Vec Ideal S1x1x1024 .f32) (v28 : Vec Ideal S1x512x1024 .f32) (v46 : Vec Ideal S1x1024 .f32) (r : Fin 512) (j : Fin 1024) :
    k0_pay11 v21 v23 (k0_pay6 v24) (k0_pay7 v26) v28 v46 (ix3 0 r j)
      = Cert.Mixer.hid (fun e => k0_pay8 v21 v23 v28 (ix2 r e)) (fun e => v46 (ix2 0 e)) (fun e => v24 (ix3 0 0 e)) (fun e => v26 (ix3 0 0 e)) j := by
  pointwise [k0_pay11, k0_pay10, k0_pay6, k0_pay7]
  rfl

end Cert.MixerOutIdeal.Out

end
-- ==== Proof.Out.Case.lean ====
/- What a point leaves in the two results' blocks, in either case of the body's condition. -/
module

public import proofs.«01_k».proof.Proof.Gen.MixerOutIdeal.Frame
public import proofs.«01_k».proof.Proof.Out.Tile
public import Idealize.ShloMosaic.Lib.VecWindow

@[expose] public section

set_option maxRecDepth 16384

noncomputable section

namespace Cert.MixerOutIdeal.Out

open Cert.MixerOutIdeal Cert.MixerOutIdeal.Gen
open Idealize.ShloMosaic Idealize.ShloMosaic.TcCoe Idealize.ShloMosaic.Tactic Cert.Out

/-- Row `j` of a batch's modulation, as a block. -/
def row2 (x : Vec Ideal S1x6x1024 .f32) : Vec Ideal S1x1x1024 .f32 := View.ld x (Rect.unit (s := S1x6x1024) ![0, 2, 0] S1x1x1024.size inb_S1x6x1024_S1x1x1024_0_2_0)
def row3 (x : Vec Ideal S1x6x1024 .f32) : Vec Ideal S1x1x1024 .f32 := View.ld x (Rect.unit (s := S1x6x1024) ![0, 3, 0] S1x1x1024.size inb_S1x6x1024_S1x1x1024_0_3_0)
def row4 (x : Vec Ideal S1x6x1024 .f32) : Vec Ideal S1x1x1024 .f32 := View.ld x (Rect.unit (s := S1x6x1024) ![0, 4, 0] S1x1x1024.size inb_S1x6x1024_S1x1x1024_0_4_0)

/-- The projection of the joined branches. -/
def joined (x0 : Vec Ideal S1x512x512 .bf16) (x1 x2 : Vec Ideal S1x512x1024 .bf16) (x5 : Vec Ideal S512x1024 .bf16) (x6 : Vec Ideal S1024x1024 .bf16) : FVec Ideal S512x1024 .f32 :=
  k0_pay4 x0 x5 x1 x2 x6

def left1 (x0 : Vec Ideal S1x512x512 .bf16) (x1 x2 : Vec Ideal S1x512x1024 .bf16) (x3 : Vec Ideal S1x512x1024 .f32) (x4 : Vec Ideal S1x6x1024 .f32) (x5 : Vec Ideal S512x1024 .bf16) (x6 : Vec Ideal S1024x1024 .bf16) : Vec Ideal S1x512x1024 .f32 :=
  k0_pay9 (joined x0 x1 x2 x5 x6) (k0_pay5 (row2 x4)) x3

def left2 (x0 : Vec Ideal S1x512x512 .bf16) (x1 x2 : Vec Ideal S1x512x1024 .bf16) (x3 : Vec Ideal S1x512x1024 .f32) (x4 : Vec Ideal S1x6x1024 .f32) (x5 : Vec Ideal S512x1024 .bf16) (x6 : Vec Ideal S1024x1024 .bf16) (x7 : Vec Ideal S1x1024 .f32) : Vec Ideal S1x512x1024 .f32 :=
  k0_pay11 (joined x0 x1 x2 x5 x6) (k0_pay5 (row2 x4)) (k0_pay6 (row3 x4)) (k0_pay7 (row4 x4)) x3 x7

theorem whole_read {s : Shape} {e : EltTy} (M : Memref sig .tc .vmem s e) (h : M.IsWhole) (x : Vec Ideal s e) {off : Fin s.rank → ℕ} (inb : ∀ a, off a + s.size a ≤ s.size a) :
    M.view.readAt (Elt Ideal) (Rect.unit off s.size inb).toLoadRect (h.unread x) = x := by
  rw [View.readAt_eq_ld, h.read_unread]
  exact funext fun z => congrArg x (Rect.emb_unit_full inb z)

theorem part_read {s : Shape} {e : EltTy} (M : Memref sig .tc .vmem s e) (h : M.IsWhole) (x : Vec Ideal s e) (r : Rect s) :
    M.view.readAt (Elt Ideal) r.toLoadRect (h.unread x) = View.ld x r := by
  rw [View.readAt_eq_ld, h.read_unread]

theorem joined_read (arg2 : Memref sig .tc .vmem S1x512x512 .bf16) (harg2 : arg2.IsWhole) (arg3 : Memref sig .tc .vmem S1x512x1024 .bf16) (harg3 : arg3.IsWhole) (arg4 : Memref sig .tc .vmem S1x512x1024 .bf16) (harg4 : arg4.IsWhole)
    (arg7 : Memref sig .tc .vmem S512x1024 .bf16) (harg7 : arg7.IsWhole) (arg8 : Memref sig .tc .vmem S1024x1024 .bf16) (harg8 : arg8.IsWhole)
    (x0 : Vec Ideal S1x512x512 .bf16) (x1 x2 : Vec Ideal S1x512x1024 .bf16) (x5 : Vec Ideal S512x1024 .bf16) (x6 : Vec Ideal S1024x1024 .bf16) :
    k0_pay4 (F := Ideal)
      (arg2.view.readAt (Elt Ideal) (Rect.unit (s := S1x512x512) ![0, 0, 0] S1x512x512.size inb_S1x512x512_S1x512x512_0_0_0).toLoadRect (harg2.unread x0))
      (arg7.view.readAt (Elt Ideal) (Rect.unit (s := S512x1024) ![0, 0] S512x1024.size inb_S512x1024_S512x1024_0_0).toLoadRect (harg7.unread x5))
      (arg3.view.readAt (Elt Ideal) (Rect.unit (s := S1x512x1024) ![0, 0, 0] S1x512x1024.size inb_S1x512x1024_S1x512x1024_0_0_0).toLoadRect (harg3.unread x1))
      (arg4.view.readAt (Elt Ideal) (Rect.unit (s := S1x512x1024) ![0, 0, 0] S1x512x1024.size inb_S1x512x1024_S1x512x1024_0_0_0).toLoadRect (harg4.unread x2))
      (arg8.view.readAt (Elt Ideal) (Rect.unit (s := S1024x1024) ![0, 0] S1024x1024.size inb_S1024x1024_S1024x1024_0_0).toLoadRect (harg8.unread x6))
      = joined x0 x1 x2 x5 x6 := by
  unfold joined
  exact congr (congr (congr (congr (congrArg k0_pay4 (whole_read arg2 harg2 x0 inb_S1x512x512_S1x512x512_0_0_0)) (whole_read arg7 harg7 x5 inb_S512x1024_S512x1024_0_0)) (whole_read arg3 harg3 x1 inb_S1x512x1024_S1x512x1024_0_0_0)) (whole_read arg4 harg4 x2 inb_S1x512x1024_S1x512x1024_0_0_0)) (whole_read arg8 harg8 x6 inb_S1024x1024_S1024x1024_0_0)

theorem out_A_10 (c : Dev nD) (i : grid0.Coords) (arg2 : Memref sig .tc .vmem S1x512x512 .bf16) (harg2 : arg2.IsWhole) (arg3 : Memref sig .tc .vmem S1x512x1024 .bf16) (harg3 : arg3.IsWhole) (arg4 : Memref sig .tc .vmem S1x512x1024 .bf16) (harg4 : arg4.IsWhole) (arg5 : Memref sig .tc .vmem S1x512x1024 .f32) (harg5 : arg5.IsWhole) (arg6 : Memref sig .tc .vmem S1x6x1024 .f32) (harg6 : arg6.IsWhole) (arg7 : Memref sig .tc .vmem S512x1024 .bf16) (harg7 : arg7.IsWhole) (arg8 : Memref sig .tc .vmem S1024x1024 .bf16) (harg8 : arg8.IsWhole) (arg9 : Memref sig .tc .vmem S1x1024 .f32) (harg9 : arg9.IsWhole) (arg10 : Memref sig .tc .vmem S1024x256 .bf16) (harg10 : arg10.IsWhole) (arg11 : Memref sig .tc .vmem S1x128 .f32) (harg11 : arg11.IsWhole) (arg12 : Memref sig .tc .vmem S1x512x1024 .f32) (harg12 : arg12.IsWhole) (arg13 : Memref sig .tc .vmem S1x512x1024 .f32) (harg13 : arg13.IsWhole) (arg14 : Memref sig .tc .vmem S8x512 .i32) (harg14 : arg14.IsWhole) (arg15 : Memref sig .tc .vmem S1x512x128 .f32) (harg15 : arg15.IsWhole) (arg16 : Memref sig .tc .vmem S1x128 .f32) (harg16 : arg16.IsWhole) (arg17 : Memref sig .tc .vmem S1x128 .f32) (harg17 : arg17.IsWhole) (hc0 : cond0_0 i)
    (x0 : Vec Ideal S1x512x512 .bf16) (x1 : Vec Ideal S1x512x1024 .bf16) (x2 : Vec Ideal S1x512x1024 .bf16) (x3 : Vec Ideal S1x512x1024 .f32) (x4 : Vec Ideal S1x6x1024 .f32) (x5 : Vec Ideal S512x1024 .bf16) (x6 : Vec Ideal S1024x1024 .bf16) (x7 : Vec Ideal S1x1024 .f32) (x8 : Vec Ideal S1024x256 .bf16) (x9 : Vec Ideal S1x128 .f32) :
    out0_A_10 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 x8 x9 = left1 x0 x1 x2 x3 x4 x5 x6 := by
  unfold out0_A_10
  rw [View.read_writes_eq_canon _ _ _ (cover0_A_10 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 x8 x9)]
  unfold kernelRun0_A
  dsimp only
  sl_unfold_words
  rw [View.canon_unit_zero (by funext a; fin_cases a <;> rfl)]
  exact congr (congr (congrArg k0_pay9 (joined_read arg2 harg2 arg3 harg3 arg4 harg4 arg7 harg7 arg8 harg8 x0 x1 x2 x5 x6)) (congrArg k0_pay5 (part_read arg6 harg6 x4 (Rect.unit (s := S1x6x1024) ![0, 2, 0] S1x1x1024.size inb_S1x6x1024_S1x1x1024_0_2_0)))) (whole_read arg5 harg5 x3 inb_S1x512x1024_S1x512x1024_0_0_0)

theorem out_A_11 (c : Dev nD) (i : grid0.Coords) (arg2 : Memref sig .tc .vmem S1x512x512 .bf16) (harg2 : arg2.IsWhole) (arg3 : Memref sig .tc .vmem S1x512x1024 .bf16) (harg3 : arg3.IsWhole) (arg4 : Memref sig .tc .vmem S1x512x1024 .bf16) (harg4 : arg4.IsWhole) (arg5 : Memref sig .tc .vmem S1x512x1024 .f32) (harg5 : arg5.IsWhole) (arg6 : Memref sig .tc .vmem S1x6x1024 .f32) (harg6 : arg6.IsWhole) (arg7 : Memref sig .tc .vmem S512x1024 .bf16) (harg7 : arg7.IsWhole) (arg8 : Memref sig .tc .vmem S1024x1024 .bf16) (harg8 : arg8.IsWhole) (arg9 : Memref sig .tc .vmem S1x1024 .f32) (harg9 : arg9.IsWhole) (arg10 : Memref sig .tc .vmem S1024x256 .bf16) (harg10 : arg10.IsWhole) (arg11 : Memref sig .tc .vmem S1x128 .f32) (harg11 : arg11.IsWhole) (arg12 : Memref sig .tc .vmem S1x512x1024 .f32) (harg12 : arg12.IsWhole) (arg13 : Memref sig .tc .vmem S1x512x1024 .f32) (harg13 : arg13.IsWhole) (arg14 : Memref sig .tc .vmem S8x512 .i32) (harg14 : arg14.IsWhole) (arg15 : Memref sig .tc .vmem S1x512x128 .f32) (harg15 : arg15.IsWhole) (arg16 : Memref sig .tc .vmem S1x128 .f32) (harg16 : arg16.IsWhole) (arg17 : Memref sig .tc .vmem S1x128 .f32) (harg17 : arg17.IsWhole) (hc0 : cond0_0 i)
    (x0 : Vec Ideal S1x512x512 .bf16) (x1 : Vec Ideal S1x512x1024 .bf16) (x2 : Vec Ideal S1x512x1024 .bf16) (x3 : Vec Ideal S1x512x1024 .f32) (x4 : Vec Ideal S1x6x1024 .f32) (x5 : Vec Ideal S512x1024 .bf16) (x6 : Vec Ideal S1024x1024 .bf16) (x7 : Vec Ideal S1x1024 .f32) (x8 : Vec Ideal S1024x256 .bf16) (x9 : Vec Ideal S1x128 .f32) :
    out0_A_11 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 x8 x9 = left2 x0 x1 x2 x3 x4 x5 x6 x7 := by
  unfold out0_A_11
  rw [View.read_writes_eq_canon _ _ _ (cover0_A_11 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 x8 x9)]
  unfold kernelRun0_A
  dsimp only
  sl_unfold_words
  rw [View.canon_unit_zero (by funext a; fin_cases a <;> rfl)]
  exact congr (congr (congr (congr (congr (congrArg k0_pay11 (joined_read arg2 harg2 arg3 harg3 arg4 harg4 arg7 harg7 arg8 harg8 x0 x1 x2 x5 x6)) (congrArg k0_pay5 (part_read arg6 harg6 x4 (Rect.unit (s := S1x6x1024) ![0, 2, 0] S1x1x1024.size inb_S1x6x1024_S1x1x1024_0_2_0)))) (congrArg k0_pay6 (part_read arg6 harg6 x4 (Rect.unit (s := S1x6x1024) ![0, 3, 0] S1x1x1024.size inb_S1x6x1024_S1x1x1024_0_3_0)))) (congrArg k0_pay7 (part_read arg6 harg6 x4 (Rect.unit (s := S1x6x1024) ![0, 4, 0] S1x1x1024.size inb_S1x6x1024_S1x1x1024_0_4_0)))) (whole_read arg5 harg5 x3 inb_S1x512x1024_S1x512x1024_0_0_0)) (whole_read arg9 harg9 x7 inb_S1x1024_S1x1024_0_0)

theorem out_B_10 (c : Dev nD) (i : grid0.Coords) (arg2 : Memref sig .tc .vmem S1x512x512 .bf16) (harg2 : arg2.IsWhole) (arg3 : Memref sig .tc .vmem S1x512x1024 .bf16) (harg3 : arg3.IsWhole) (arg4 : Memref sig .tc .vmem S1x512x1024 .bf16) (harg4 : arg4.IsWhole) (arg5 : Memref sig .tc .vmem S1x512x1024 .f32) (harg5 : arg5.IsWhole) (arg6 : Memref sig .tc .vmem S1x6x1024 .f32) (harg6 : arg6.IsWhole) (arg7 : Memref sig .tc .vmem S512x1024 .bf16) (harg7 : arg7.IsWhole) (arg8 : Memref sig .tc .vmem S1024x1024 .bf16) (harg8 : arg8.IsWhole) (arg9 : Memref sig .tc .vmem S1x1024 .f32) (harg9 : arg9.IsWhole) (arg10 : Memref sig .tc .vmem S1024x256 .bf16) (harg10 : arg10.IsWhole) (arg11 : Memref sig .tc .vmem S1x128 .f32) (harg11 : arg11.IsWhole) (arg12 : Memref sig .tc .vmem S1x512x1024 .f32) (harg12 : arg12.IsWhole) (arg13 : Memref sig .tc .vmem S1x512x1024 .f32) (harg13 : arg13.IsWhole) (arg14 : Memref sig .tc .vmem S8x512 .i32) (harg14 : arg14.IsWhole) (arg15 : Memref sig .tc .vmem S1x512x128 .f32) (harg15 : arg15.IsWhole) (arg16 : Memref sig .tc .vmem S1x128 .f32) (harg16 : arg16.IsWhole) (arg17 : Memref sig .tc .vmem S1x128 .f32) (harg17 : arg17.IsWhole) (hc0 : ¬cond0_0 i)
    (x0 : Vec Ideal S1x512x512 .bf16) (x1 : Vec Ideal S1x512x1024 .bf16) (x2 : Vec Ideal S1x512x1024 .bf16) (x3 : Vec Ideal S1x512x1024 .f32) (x4 : Vec Ideal S1x6x1024 .f32) (x5 : Vec Ideal S512x1024 .bf16) (x6 : Vec Ideal S1024x1024 .bf16) (x7 : Vec Ideal S1x1024 .f32) (x8 : Vec Ideal S1024x256 .bf16) (x9 : Vec Ideal S1x128 .f32) (xs0 : Vec Ideal S1x128 .f32) :
    out0_B_10 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 x8 x9 xs0 = left1 x0 x1 x2 x3 x4 x5 x6 := by
  unfold out0_B_10
  rw [View.read_writes_eq_canon _ _ _ (cover0_B_10 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 x8 x9 xs0)]
  unfold kernelRun0_B
  dsimp only
  sl_unfold_words
  rw [View.canon_unit_zero (by funext a; fin_cases a <;> rfl)]
  exact congr (congr (congrArg k0_pay9 (joined_read arg2 harg2 arg3 harg3 arg4 harg4 arg7 harg7 arg8 harg8 x0 x1 x2 x5 x6)) (congrArg k0_pay5 (part_read arg6 harg6 x4 (Rect.unit (s := S1x6x1024) ![0, 2, 0] S1x1x1024.size inb_S1x6x1024_S1x1x1024_0_2_0)))) (whole_read arg5 harg5 x3 inb_S1x512x1024_S1x512x1024_0_0_0)

theorem out_B_11 (c : Dev nD) (i : grid0.Coords) (arg2 : Memref sig .tc .vmem S1x512x512 .bf16) (harg2 : arg2.IsWhole) (arg3 : Memref sig .tc .vmem S1x512x1024 .bf16) (harg3 : arg3.IsWhole) (arg4 : Memref sig .tc .vmem S1x512x1024 .bf16) (harg4 : arg4.IsWhole) (arg5 : Memref sig .tc .vmem S1x512x1024 .f32) (harg5 : arg5.IsWhole) (arg6 : Memref sig .tc .vmem S1x6x1024 .f32) (harg6 : arg6.IsWhole) (arg7 : Memref sig .tc .vmem S512x1024 .bf16) (harg7 : arg7.IsWhole) (arg8 : Memref sig .tc .vmem S1024x1024 .bf16) (harg8 : arg8.IsWhole) (arg9 : Memref sig .tc .vmem S1x1024 .f32) (harg9 : arg9.IsWhole) (arg10 : Memref sig .tc .vmem S1024x256 .bf16) (harg10 : arg10.IsWhole) (arg11 : Memref sig .tc .vmem S1x128 .f32) (harg11 : arg11.IsWhole) (arg12 : Memref sig .tc .vmem S1x512x1024 .f32) (harg12 : arg12.IsWhole) (arg13 : Memref sig .tc .vmem S1x512x1024 .f32) (harg13 : arg13.IsWhole) (arg14 : Memref sig .tc .vmem S8x512 .i32) (harg14 : arg14.IsWhole) (arg15 : Memref sig .tc .vmem S1x512x128 .f32) (harg15 : arg15.IsWhole) (arg16 : Memref sig .tc .vmem S1x128 .f32) (harg16 : arg16.IsWhole) (arg17 : Memref sig .tc .vmem S1x128 .f32) (harg17 : arg17.IsWhole) (hc0 : ¬cond0_0 i)
    (x0 : Vec Ideal S1x512x512 .bf16) (x1 : Vec Ideal S1x512x1024 .bf16) (x2 : Vec Ideal S1x512x1024 .bf16) (x3 : Vec Ideal S1x512x1024 .f32) (x4 : Vec Ideal S1x6x1024 .f32) (x5 : Vec Ideal S512x1024 .bf16) (x6 : Vec Ideal S1024x1024 .bf16) (x7 : Vec Ideal S1x1024 .f32) (x8 : Vec Ideal S1024x256 .bf16) (x9 : Vec Ideal S1x128 .f32) (xs0 : Vec Ideal S1x128 .f32) :
    out0_B_11 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 x8 x9 xs0 = left2 x0 x1 x2 x3 x4 x5 x6 x7 := by
  unfold out0_B_11
  rw [View.read_writes_eq_canon _ _ _ (cover0_B_11 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 x8 x9 xs0)]
  unfold kernelRun0_B
  dsimp only
  sl_unfold_words
  rw [View.canon_unit_zero (by funext a; fin_cases a <;> rfl)]
  exact congr (congr (congr (congr (congr (congrArg k0_pay11 (joined_read arg2 harg2 arg3 harg3 arg4 harg4 arg7 harg7 arg8 harg8 x0 x1 x2 x5 x6)) (congrArg k0_pay5 (part_read arg6 harg6 x4 (Rect.unit (s := S1x6x1024) ![0, 2, 0] S1x1x1024.size inb_S1x6x1024_S1x1x1024_0_2_0)))) (congrArg k0_pay6 (part_read arg6 harg6 x4 (Rect.unit (s := S1x6x1024) ![0, 3, 0] S1x1x1024.size inb_S1x6x1024_S1x1x1024_0_3_0)))) (congrArg k0_pay7 (part_read arg6 harg6 x4 (Rect.unit (s := S1x6x1024) ![0, 4, 0] S1x1x1024.size inb_S1x6x1024_S1x1x1024_0_4_0)))) (whole_read arg5 harg5 x3 inb_S1x512x1024_S1x512x1024_0_0_0)) (whole_read arg9 harg9 x7 inb_S1x1024_S1x1024_0_0)

end Cert.MixerOutIdeal.Out

end
-- ==== Proof.Out.Host.lean ====
/- The arrays the host code prepares, read at an index. -/
module

public import proofs.«01_k».proof.Proof.Gen.MixerOutIdeal.Frame
public import proofs.«01_k».proof.Proof.Out.Spec
public import Idealize.ShloMosaic.Lib.StableHlo.ReadAt
public import Idealize.ShloMosaic.Lib.Pointwise

@[expose] public section

noncomputable section

namespace Cert.MixerOutIdeal.Out

open Cert.MixerOutIdeal Cert.MixerOutIdeal.Gen
open Idealize.ShloMosaic Idealize.ShloMosaic.TcCoe Cert.Out

variable (m : (ℓ : Loc nD τ sig) → Buf (Elt Ideal) ℓ) (c : Dev nD)

abbrev argAtt : FVec Ideal S4x8192x512 .bf16 := m ((c : Thread nD τ).loc main_arg0)
abbrev argA : FVec Ideal S4x8192x1024 .bf16 := m ((c : Thread nD τ).loc main_arg1)
abbrev argGb : FVec Ideal S4x8192x1024 .bf16 := m ((c : Thread nD τ).loc main_arg2)
abbrev argX : FVec Ideal S4x8192x1024 .f32 := m ((c : Thread nD τ).loc main_arg3)
abbrev argMod : FVec Ideal S4x6144 .f32 := m ((c : Thread nD τ).loc main_arg4)
abbrev argWb : FVec Ideal S1x512x1024 .f32 := m ((c : Thread nD τ).loc main_arg5)
abbrev argWo : FVec Ideal S1x1024x1024 .f32 := m ((c : Thread nD τ).loc main_arg6)
abbrev argG : FVec Ideal S1x1024 .f32 := m ((c : Thread nD τ).loc main_arg7)

theorem mod_in (b : Fin 4) (j : Fin 6) (d : Fin 1024) :
    (V m c main_v0 : FVec Ideal S4x6x1024 .f32) (ix3 b j d) = argMod m c (ix2 b ⟨j.val * 1024 + d.val, by omega⟩) := by
  unfold V
  after_reads_at

theorem branch_in (k : Fin 512) (e : Fin 1024) : (V m c main_v2 : FVec Ideal S512x1024 .bf16) (ix2 k e) = argWb m c (ix3 0 k e) := by
  unfold V
  after_reads_at

theorem out_in (e j : Fin 1024) : (V m c main_v4 : FVec Ideal S1024x1024 .bf16) (ix2 e j) = argWo m c (ix3 0 e j) := by
  unfold V
  after_reads_at

end Cert.MixerOutIdeal.Out

end
-- ==== Proof.Out.Blocks.lean ====
/- The launch's blocks: each holds a tile of the arguments. -/
module

public import proofs.«01_k».proof.Proof.Out.Case
public import proofs.«01_k».proof.Proof.Out.Host
public import Idealize.ShloMosaic.Lib.Pipeline.ValueKit

@[expose] public section

set_option maxRecDepth 8192

noncomputable section

namespace Cert.MixerOutIdeal.Out

open Cert.MixerOutIdeal Cert.MixerOutIdeal.Gen
open Idealize.ShloMosaic Idealize.ShloMosaic.TcCoe Cert.Out

variable (m : (ℓ : Loc nD τ sig) → Buf (Elt Ideal) ℓ) (c : Dev nD)

/-- The arguments entry by entry. -/
def ins : Ins where
  att b s k := argAtt m c (ix3 b s k)
  a b s e := argA m c (ix3 b s e)
  gb b s e := argGb m c (ix3 b s e)
  x b s e := argX m c (ix3 b s e)
  md b j := argMod m c (ix2 b j)
  wb k e := argWb m c (ix3 0 k e)
  wo e j := argWo m c (ix3 0 e j)
  g d := argG m c (ix2 0 d)

/-- A point's batch and tile. -/
def batch (t : Fin cfg0.N) : Fin 4 := grid0.coords t 0
def tile (t : Fin cfg0.N) : Fin 16 := grid0.coords t 1

/-- The token of a tile's row. -/
def tok (n : Fin 16) (r : Fin 512) : Fin 8192 := ⟨n.val * 512 + r.val, by omega⟩

theorem index_0 (t : Fin cfg0.N) : win0_0.index t = ![(batch t).val, (tile t).val, 0] := by revert t; decide +kernel
theorem index_1 (t : Fin cfg0.N) : win0_1.index t = ![(batch t).val, (tile t).val, 0] := by revert t; decide +kernel
theorem index_2 (t : Fin cfg0.N) : win0_2.index t = ![(batch t).val, (tile t).val, 0] := by revert t; decide +kernel
theorem index_3 (t : Fin cfg0.N) : win0_3.index t = ![(batch t).val, (tile t).val, 0] := by revert t; decide +kernel
theorem index_4 (t : Fin cfg0.N) : win0_4.index t = ![(batch t).val, 0, 0] := by revert t; decide +kernel
theorem index_5 (t : Fin cfg0.N) : win0_5.index t = ![0, 0] := by revert t; decide +kernel
theorem index_6 (t : Fin cfg0.N) : win0_6.index t = ![0, 0] := by revert t; decide +kernel
theorem index_7 (t : Fin cfg0.N) : win0_7.index t = ![0, 0] := by revert t; decide +kernel
theorem index_10 (t : Fin cfg0.N) : win0_10.index t = ![(batch t).val, (tile t).val, 0] := by revert t; decide +kernel
theorem index_11 (t : Fin cfg0.N) : win0_11.index t = ![(batch t).val, (tile t).val, 0] := by revert t; decide +kernel

theorem block_0 (t : Fin cfg0.N) (r : Fin 512) (d : Fin 512) :
    (iblk m c 0 t : Vec Ideal S1x512x512 .bf16) (ix3 0 r d) = (V m c main_arg0 : FVec Ideal S4x8192x512 .bf16) (ix3 (batch t) (tok (tile t) r) d) := by
  blk_simp [iblk]
  refine congrArg (V m c main_arg0) (funext fun a => Fin.ext ?_)
  have hi := congrFun (index_0 t) a
  blk_simp
  rw [hi]
  fin_cases a
  · show (batch t).val * 1 + 0 = (batch t).val
    omega
  · show (tile t).val * 512 + r.val = (tile t).val * 512 + r.val
    omega
  · show 0 * 512 + d.val = d.val
    omega

theorem block_1 (t : Fin cfg0.N) (r : Fin 512) (d : Fin 1024) :
    (iblk m c 1 t : Vec Ideal S1x512x1024 .bf16) (ix3 0 r d) = (V m c main_arg1 : FVec Ideal S4x8192x1024 .bf16) (ix3 (batch t) (tok (tile t) r) d) := by
  blk_simp [iblk]
  refine congrArg (V m c main_arg1) (funext fun a => Fin.ext ?_)
  have hi := congrFun (index_1 t) a
  blk_simp
  rw [hi]
  fin_cases a
  · show (batch t).val * 1 + 0 = (batch t).val
    omega
  · show (tile t).val * 512 + r.val = (tile t).val * 512 + r.val
    omega
  · show 0 * 1024 + d.val = d.val
    omega

theorem block_2 (t : Fin cfg0.N) (r : Fin 512) (d : Fin 1024) :
    (iblk m c 2 t : Vec Ideal S1x512x1024 .bf16) (ix3 0 r d) = (V m c main_arg2 : FVec Ideal S4x8192x1024 .bf16) (ix3 (batch t) (tok (tile t) r) d) := by
  blk_simp [iblk]
  refine congrArg (V m c main_arg2) (funext fun a => Fin.ext ?_)
  have hi := congrFun (index_2 t) a
  blk_simp
  rw [hi]
  fin_cases a
  · show (batch t).val * 1 + 0 = (batch t).val
    omega
  · show (tile t).val * 512 + r.val = (tile t).val * 512 + r.val
    omega
  · show 0 * 1024 + d.val = d.val
    omega

theorem block_3 (t : Fin cfg0.N) (r : Fin 512) (d : Fin 1024) :
    (iblk m c 3 t : Vec Ideal S1x512x1024 .f32) (ix3 0 r d) = (V m c main_arg3 : FVec Ideal S4x8192x1024 .f32) (ix3 (batch t) (tok (tile t) r) d) := by
  blk_simp [iblk]
  refine congrArg (V m c main_arg3) (funext fun a => Fin.ext ?_)
  have hi := congrFun (index_3 t) a
  blk_simp
  rw [hi]
  fin_cases a
  · show (batch t).val * 1 + 0 = (batch t).val
    omega
  · show (tile t).val * 512 + r.val = (tile t).val * 512 + r.val
    omega
  · show 0 * 1024 + d.val = d.val
    omega

theorem block_4 (t : Fin cfg0.N) (j : Fin 6) (d : Fin 1024) :
    (iblk m c 4 t : Vec Ideal S1x6x1024 .f32) (ix3 0 j d) = (V m c main_v0 : FVec Ideal S4x6x1024 .f32) (ix3 (batch t) j d) := by
  blk_simp [iblk]
  refine congrArg (V m c main_v0) (funext fun a => Fin.ext ?_)
  have hi := congrFun (index_4 t) a
  blk_simp
  rw [hi]
  fin_cases a
  · show (batch t).val * 1 + 0 = (batch t).val
    omega
  · show 0 * 6 + j.val = j.val
    omega
  · show 0 * 1024 + d.val = d.val
    omega

theorem block_5 (t : Fin cfg0.N) (k : Fin 512) (e : Fin 1024) :
    (iblk m c 5 t : Vec Ideal S512x1024 .bf16) (ix2 k e) = (V m c main_v2 : FVec Ideal S512x1024 .bf16) (ix2 k e) := by
  blk_simp [iblk]
  refine congrArg (V m c main_v2) (funext fun a => Fin.ext ?_)
  have hi := congrFun (index_5 t) a
  blk_simp
  rw [hi]
  fin_cases a
  · show 0 * 512 + k.val = k.val
    omega
  · show 0 * 1024 + e.val = e.val
    omega

theorem block_6 (t : Fin cfg0.N) (k e : Fin 1024) :
    (iblk m c 6 t : Vec Ideal S1024x1024 .bf16) (ix2 k e) = (V m c main_v4 : FVec Ideal S1024x1024 .bf16) (ix2 k e) := by
  blk_simp [iblk]
  refine congrArg (V m c main_v4) (funext fun a => Fin.ext ?_)
  have hi := congrFun (index_6 t) a
  blk_simp
  rw [hi]
  fin_cases a
  · show 0 * 1024 + k.val = k.val
    omega
  · show 0 * 1024 + e.val = e.val
    omega

theorem block_7 (t : Fin cfg0.N) (d : Fin 1024) :
    (iblk m c 7 t : Vec Ideal S1x1024 .f32) (ix2 0 d) = (V m c main_arg7 : FVec Ideal S1x1024 .f32) (ix2 0 d) := by
  blk_simp [iblk]
  refine congrArg (V m c main_arg7) (funext fun a => Fin.ext ?_)
  have hi := congrFun (index_7 t) a
  blk_simp
  rw [hi]
  fin_cases a
  · rfl
  · show 0 * 1024 + d.val = d.val
    omega

/-! ## A point's blocks, of the arguments -/

theorem gate_row (t : Fin cfg0.N) (d : Fin 1024) : row2 (iblk m c 4 t) (ix3 0 0 d) = (ins m c).md (batch t) ⟨2048 + d.val, by omega⟩ := by
  have h : row2 (iblk m c 4 t) (ix3 0 0 d) = (iblk m c 4 t : Vec Ideal S1x6x1024 .f32) (ix3 0 2 d) := by
    unfold row2
    refine congrArg (iblk m c 4 t : Vec Ideal S1x6x1024 .f32) (funext fun a => Fin.ext ?_)
    fin_cases a
    · rfl
    · rfl
    · show 0 + 1 * d.val = d.val
      omega
  rw [h, block_4, mod_in]
  exact congrArg (fun j => argMod m c (ix2 (batch t) j)) (Fin.ext (by show 2 * 1024 + d.val = 2048 + d.val; omega))

theorem shift_row (t : Fin cfg0.N) (d : Fin 1024) : row3 (iblk m c 4 t) (ix3 0 0 d) = (ins m c).md (batch t) ⟨3072 + d.val, by omega⟩ := by
  have h : row3 (iblk m c 4 t) (ix3 0 0 d) = (iblk m c 4 t : Vec Ideal S1x6x1024 .f32) (ix3 0 3 d) := by
    unfold row3
    refine congrArg (iblk m c 4 t : Vec Ideal S1x6x1024 .f32) (funext fun a => Fin.ext ?_)
    fin_cases a
    · rfl
    · rfl
    · show 0 + 1 * d.val = d.val
      omega
  rw [h, block_4, mod_in]
  exact congrArg (fun j => argMod m c (ix2 (batch t) j)) (Fin.ext (by show 3 * 1024 + d.val = 3072 + d.val; omega))

theorem scale_row (t : Fin cfg0.N) (d : Fin 1024) : row4 (iblk m c 4 t) (ix3 0 0 d) = (ins m c).md (batch t) ⟨4096 + d.val, by omega⟩ := by
  have h : row4 (iblk m c 4 t) (ix3 0 0 d) = (iblk m c 4 t : Vec Ideal S1x6x1024 .f32) (ix3 0 4 d) := by
    unfold row4
    refine congrArg (iblk m c 4 t : Vec Ideal S1x6x1024 .f32) (funext fun a => Fin.ext ?_)
    fin_cases a
    · rfl
    · rfl
    · show 0 + 1 * d.val = d.val
      omega
  rw [h, block_4, mod_in]
  exact congrArg (fun j => argMod m c (ix2 (batch t) j)) (Fin.ext (by show 4 * 1024 + d.val = 4096 + d.val; omega))

theorem joined_value (t : Fin cfg0.N) (r : Fin 512) (j : Fin 1024) :
    joined (iblk m c 0 t) (iblk m c 1 t) (iblk m c 2 t) (iblk m c 5 t) (iblk m c 6 t) (ix2 r j) = ∑ e : Fin 1024, (ins m c).merged (batch t) (tok (tile t) r) e * (ins m c).wo e j := by
  unfold joined
  rw [proj_at]
  refine Finset.sum_congr rfl fun e _ => ?_
  rw [block_1, block_2, block_6, out_in, V_main_arg1, V_main_arg2]
  refine congrArg (fun z : EReal => (argA m c (ix3 (batch t) (tok (tile t) r) e) + argGb m c (ix3 (batch t) (tok (tile t) r) e) * z) * argWo m c (ix3 0 e j)) (Finset.sum_congr rfl fun k _ => ?_)
  rw [block_0, block_5, branch_in, V_main_arg0]
  rfl

theorem sum_value (t : Fin cfg0.N) (r : Fin 512) (j : Fin 1024) :
    k0_pay8 (joined (iblk m c 0 t) (iblk m c 1 t) (iblk m c 2 t) (iblk m c 5 t) (iblk m c 6 t)) (k0_pay5 (row2 (iblk m c 4 t))) (iblk m c 3 t) (ix2 r j) = (ins m c).res1 (batch t) (tok (tile t) r) j := by
  rw [sum_at, joined_value, gate_row, block_3, V_main_arg3]
  rfl

theorem left1_value (t : Fin cfg0.N) (r : Fin 512) (j : Fin 1024) :
    left1 (iblk m c 0 t) (iblk m c 1 t) (iblk m c 2 t) (iblk m c 3 t) (iblk m c 4 t) (iblk m c 5 t) (iblk m c 6 t) (ix3 0 r j) = (ins m c).res1 (batch t) (tok (tile t) r) j := by
  unfold left1
  rw [res1_at, sum_value]

theorem left2_value (t : Fin cfg0.N) (r : Fin 512) (j : Fin 1024) :
    left2 (iblk m c 0 t) (iblk m c 1 t) (iblk m c 2 t) (iblk m c 3 t) (iblk m c 4 t) (iblk m c 5 t) (iblk m c 6 t) (iblk m c 7 t) (ix3 0 r j) = (ins m c).res2 (batch t) (tok (tile t) r) j := by
  unfold left2
  rw [res2_at]
  have e1 : (fun e => k0_pay8 (joined (iblk m c 0 t) (iblk m c 1 t) (iblk m c 2 t) (iblk m c 5 t) (iblk m c 6 t)) (k0_pay5 (row2 (iblk m c 4 t))) (iblk m c 3 t) (ix2 r e)) = (ins m c).res1 (batch t) (tok (tile t) r) := funext fun e => sum_value m c t r e
  have e2 : (fun e => (iblk m c 7 t : Vec Ideal S1x1024 .f32) (ix2 0 e)) = (ins m c).g := funext fun e => by rw [block_7, V_main_arg7]; rfl
  have e3 : (fun e => row3 (iblk m c 4 t) (ix3 0 0 e)) = fun d => (ins m c).md (batch t) ⟨3072 + d.val, by omega⟩ := funext fun e => shift_row m c t e
  have e4 : (fun e => row4 (iblk m c 4 t) (ix3 0 0 e)) = fun d => (ins m c).md (batch t) ⟨4096 + d.val, by omega⟩ := funext fun e => scale_row m c t e
  rw [e1, e2, e3, e4]
  rfl

end Cert.MixerOutIdeal.Out

end
-- ==== Proof.Out.Result.lean ====
/- The launch's two results, of its arguments. -/
module

public import proofs.«01_k».proof.Proof.Out.Blocks

@[expose] public section

set_option maxRecDepth 8192

noncomputable section

namespace Cert.MixerOutIdeal.Out

open Cert.MixerOutIdeal Cert.MixerOutIdeal.Gen
open Idealize.ShloMosaic Idealize.ShloMosaic.TcCoe Cert.Out

variable (m : (ℓ : Loc nD τ sig) → Buf (Elt Ideal) ℓ) (c : Dev nD)

theorem rows (y : S1x512x1024.Idx) : ∃ (r : Fin 512) (e : Fin 1024), y = ix3 0 r e := by
  refine ⟨y 1, y 2, funext fun a => Fin.ext ?_⟩
  have h0 : (y 0).val < 1 := (y 0).isLt
  fin_cases a
  · show (y 0).val = 0
    omega
  · rfl
  · rfl

/-- The array of window 10. -/
def arr1 (I : Ins) : FVec Ideal S4x8192x1024 .f32 := fun y => I.res1 (y 0) (y 1) (y 2)

theorem arr1_at (I : Ins) (b : Fin 4) (s : Fin 8192) (j : Fin 1024) : arr1 I (ix3 b s j) = I.res1 b s j := rfl

/-- Either case leaves the same block. -/
theorem outs_10 (t : Fin cfg0.N) : (outsAt0 m c t.val t.isLt).1 = left1 (iblk m c 0 t) (iblk m c 1 t) (iblk m c 2 t) (iblk m c 3 t) (iblk m c 4 t) (iblk m c 5 t) (iblk m c 6 t) := by
  by_cases h0 : t.val % 64 = 0
  · simp only [outsAt0_A m c t h0]
    rw [out_A_10]
  · simp only [outsAt0_B m c t h0]
    rw [out_B_10]

theorem place_10 (t : Fin cfg0.N) (r : Fin 512) (e : Fin 1024) :
    ((win0_10.blk t).view.emb (ix3 0 r e) : S4x8192x1024.Idx) = ix3 (batch t) (tok (tile t) r) e := by
  refine funext fun a => Fin.ext ?_
  have hi := congrFun (index_10 t) a
  blk_simp
  rw [hi]
  fin_cases a
  · show (batch t).val * 1 + 0 = (batch t).val
    omega
  · show (tile t).val * 512 + r.val = (tile t).val * 512 + r.val
    omega
  · show 0 * 1024 + e.val = e.val
    omega

theorem placed_10 (t : Fin cfg0.N) (r : Fin 512) (e : Fin 1024) : arr1 (ins m c) ((win0_10.blk t).view.emb (ix3 0 r e)) = arr1 (ins m c) (ix3 (batch t) (tok (tile t) r) e) :=
  congrArg (arr1 (ins m c)) (place_10 t r e)

theorem left_10 (t : Fin cfg0.N) (y : S1x512x1024.Idx) : left1 (iblk m c 0 t) (iblk m c 1 t) (iblk m c 2 t) (iblk m c 3 t) (iblk m c 4 t) (iblk m c 5 t) (iblk m c 6 t) y = arr1 (ins m c) ((win0_10.blk t).view.emb y) := by
  obtain ⟨r, e, hy⟩ := rows y
  rw [hy]
  exact ((left1_value m c t r e).trans (arr1_at _ _ _ _).symm).trans (placed_10 m c t r e).symm

theorem final_10 : (dats m 0 c).arrAt 10 cfg0.N = arr1 (ins m c) := by
  refine (dats m 0 c).arrAt_eq_of_covers 10 _ (by decide +kernel) fun t hf y => ?_
  blk_simp
  rw [after0_10, outs_10]
  exact left_10 m c t y

/-- The array of window 11. -/
def arr2 (I : Ins) : FVec Ideal S4x8192x1024 .f32 := fun y => I.res2 (y 0) (y 1) (y 2)

theorem arr2_at (I : Ins) (b : Fin 4) (s : Fin 8192) (j : Fin 1024) : arr2 I (ix3 b s j) = I.res2 b s j := rfl

/-- Either case leaves the same block. -/
theorem outs_11 (t : Fin cfg0.N) : (outsAt0 m c t.val t.isLt).2.1 = left2 (iblk m c 0 t) (iblk m c 1 t) (iblk m c 2 t) (iblk m c 3 t) (iblk m c 4 t) (iblk m c 5 t) (iblk m c 6 t) (iblk m c 7 t) := by
  by_cases h0 : t.val % 64 = 0
  · simp only [outsAt0_A m c t h0]
    rw [out_A_11]
  · simp only [outsAt0_B m c t h0]
    rw [out_B_11]

theorem place_11 (t : Fin cfg0.N) (r : Fin 512) (e : Fin 1024) :
    ((win0_11.blk t).view.emb (ix3 0 r e) : S4x8192x1024.Idx) = ix3 (batch t) (tok (tile t) r) e := by
  refine funext fun a => Fin.ext ?_
  have hi := congrFun (index_11 t) a
  blk_simp
  rw [hi]
  fin_cases a
  · show (batch t).val * 1 + 0 = (batch t).val
    omega
  · show (tile t).val * 512 + r.val = (tile t).val * 512 + r.val
    omega
  · show 0 * 1024 + e.val = e.val
    omega

theorem placed_11 (t : Fin cfg0.N) (r : Fin 512) (e : Fin 1024) : arr2 (ins m c) ((win0_11.blk t).view.emb (ix3 0 r e)) = arr2 (ins m c) (ix3 (batch t) (tok (tile t) r) e) :=
  congrArg (arr2 (ins m c)) (place_11 t r e)

theorem left_11 (t : Fin cfg0.N) (y : S1x512x1024.Idx) : left2 (iblk m c 0 t) (iblk m c 1 t) (iblk m c 2 t) (iblk m c 3 t) (iblk m c 4 t) (iblk m c 5 t) (iblk m c 6 t) (iblk m c 7 t) y = arr2 (ins m c) ((win0_11.blk t).view.emb y) := by
  obtain ⟨r, e, hy⟩ := rows y
  rw [hy]
  exact ((left2_value m c t r e).trans (arr2_at _ _ _ _).symm).trans (placed_11 m c t r e).symm

theorem final_11 : (dats m 0 c).arrAt 11 cfg0.N = arr2 (ins m c) := by
  refine (dats m 0 c).arrAt_eq_of_covers 11 _ (by decide +kernel) fun t hf y => ?_
  blk_simp
  rw [after0_11, outs_11]
  exact left_11 m c t y

end Cert.MixerOutIdeal.Out

end
-- ==== Proof.Out.RefResult.lean ====
/- The reference's results, of its arguments. -/
module

public import proofs.«01_k».proof.Proof.Gen.MixerOutReferenceIdeal.Run
public import proofs.«01_k».proof.Proof.Out.Spec
public import Idealize.ShloMosaic.Lib.Pointwise

@[expose] public section

set_option maxRecDepth 8192

noncomputable section

namespace Cert.MixerOutReferenceIdeal.Out

open Cert.MixerOutReferenceIdeal Cert.MixerOutReferenceIdeal.Gen Cert.MixerOutReferenceIdeal.Facts
open Idealize.ShloMosaic Cert.Out

/-- The first result, of the arguments. -/
def ref1 (att : FVec Ideal S4x8192x512 .bf16) (a gb : FVec Ideal S4x8192x1024 .bf16) (x : FVec Ideal S4x8192x1024 .f32) (md : FVec Ideal S4x6144 .f32) (wb : FVec Ideal S1x512x1024 .f32) (wo : FVec Ideal S1x1024x1024 .f32) : FVec Ideal S4x8192x1024 .f32 :=
  addf x (mulf (broadcastInDim S4x8192x1024 ![0, 1, 2] bcast_S4x1x1024_S4x8192x1024_0_1_2 (broadcastInDim S4x1x1024 ![0, 2] bcast_S4x1024_S4x1x1024_0_2 (extractStridedSlice S4x1024 ![0, 2048] md slices_S4x6144_S4x1024_0_2048))) (Host.dotGeneral dot_S4x8192x1024_S1024x1024_S4x8192x1024_2_0_01_1_n_n none (addf (extf .f32 a bitsLt_bf16_f32) (mulf (extf .f32 gb bitsLt_bf16_f32) (Host.dotGeneral (φ₁ := .f32) (φ₂ := .f32) dot_S4x8192x512_S512x1024_S4x8192x1024_2_0_01_1_n_n none (extf .f32 att bitsLt_bf16_f32) (shapeCast S512x1024 wb shapeCasts_S1x512x1024_S512x1024)))) (shapeCast S1024x1024 wo shapeCasts_S1x1024x1024_S1024x1024 : FVec Ideal S1024x1024 .f32)))

/-- The second result, of the first. -/
def ref2 (Y : FVec Ideal S4x8192x1024 .f32) (md : FVec Ideal S4x6144 .f32) (g : FVec Ideal S1x1024 .f32) : FVec Ideal S4x8192x1024 .f32 :=
  addf (mulf (mulf (mulf Y (broadcastInDim S4x8192x1024 ![0, 1, 2] bcast_S4x8192x1_S4x8192x1024_0_1_2 (Host.rsqrt (addf (Host.divf (broadcastInDim S4x8192x1 ![0, 1] bcast_S4x8192_S4x8192x1_0_1 (Host.reduceAdd (mulf Y Y) (constant S_ .f32 0x00000000#32) reducesTo_S4x8192x1024_S4x8192_d2 h_S_)) (broadcastInDim S4x8192x1 ![] bcast_S_S4x8192x1 (constant S_ .f32 0x44800000#32))) (broadcastInDim S4x8192x1 ![] bcast_S_S4x8192x1 (constant S_ .f32 0x358637BD#32)))))) (broadcastInDim S4x8192x1024 ![0, 1, 2] bcast_S1x1x1024_S4x8192x1024_0_1_2 (broadcastInDim S1x1x1024 ![2] bcast_S1024_S1x1x1024_2 (shapeCast S1024 g shapeCasts_S1x1024_S1024)))) (broadcastInDim S4x8192x1024 ![0, 1, 2] bcast_S4x1x1024_S4x8192x1024_0_1_2 (addf (broadcastInDim S4x1x1024 ![] bcast_S_S4x1x1024 (constant S_ .f32 0x3F800000#32)) (broadcastInDim S4x1x1024 ![0, 2] bcast_S4x1024_S4x1x1024_0_2 (extractStridedSlice S4x1024 ![0, 4096] md slices_S4x6144_S4x1024_0_4096))))) (broadcastInDim S4x8192x1024 ![0, 1, 2] bcast_S4x1x1024_S4x8192x1024_0_1_2 (broadcastInDim S4x1x1024 ![0, 2] bcast_S4x1024_S4x1x1024_0_2 (extractStridedSlice S4x1024 ![0, 3072] md slices_S4x6144_S4x1024_0_3072)))

/-- The arguments entry by entry. -/
def ins (att : FVec Ideal S4x8192x512 .bf16) (a gb : FVec Ideal S4x8192x1024 .bf16) (x : FVec Ideal S4x8192x1024 .f32) (md : FVec Ideal S4x6144 .f32) (wb : FVec Ideal S1x512x1024 .f32) (wo : FVec Ideal S1x1024x1024 .f32) (g : FVec Ideal S1x1024 .f32) : Ins where
  att b s k := att (ix3 b s k)
  a b s e := a (ix3 b s e)
  gb b s e := gb (ix3 b s e)
  x b s e := x (ix3 b s e)
  md b j := md (ix2 b j)
  wb k e := wb (ix3 0 k e)
  wo e j := wo (ix3 0 e j)
  g d := g (ix2 0 d)

variable (att : FVec Ideal S4x8192x512 .bf16) (a gb : FVec Ideal S4x8192x1024 .bf16) (x : FVec Ideal S4x8192x1024 .f32) (md : FVec Ideal S4x6144 .f32) (wb : FVec Ideal S1x512x1024 .f32) (wo : FVec Ideal S1x1024x1024 .f32) (g : FVec Ideal S1x1024 .f32)

theorem ref1_at (b : Fin 4) (s : Fin 8192) (j : Fin 1024) : ref1 att a gb x md wb wo (ix3 b s j) = (ins att a gb x md wb wo g).res1 b s j := by
  pointwise [ref1]
  rfl

theorem ref2_at (Y : FVec Ideal S4x8192x1024 .f32) (b : Fin 4) (s : Fin 8192) (j : Fin 1024) :
    ref2 Y md g (ix3 b s j) = Cert.Mixer.hid (fun e => Y (ix3 b s e)) (fun d => g (ix2 0 d)) (fun d => md (ix2 b ⟨3072 + d.val, by omega⟩)) (fun d => md (ix2 b ⟨4096 + d.val, by omega⟩)) j := by
  pointwise [ref2]
  rfl

theorem whole1 : ref1 att a gb x md wb wo = fun y => (ins att a gb x md wb wo g).res1 (y 0) (y 1) (y 2) := by
  funext y
  have hy : y = ix3 (y 0) (y 1) (y 2) := by
    funext k
    fin_cases k <;> rfl
  exact (congrArg (ref1 att a gb x md wb wo) hy).trans (ref1_at att a gb x md wb wo g (y 0) (y 1) (y 2))

theorem whole2 : ref2 (ref1 att a gb x md wb wo) md g = fun y => (ins att a gb x md wb wo g).res2 (y 0) (y 1) (y 2) := by
  funext y
  have hy : y = ix3 (y 0) (y 1) (y 2) := by
    funext k
    fin_cases k <;> rfl
  refine (congrArg (ref2 (ref1 att a gb x md wb wo) md g) hy).trans ((ref2_at md g _ (y 0) (y 1) (y 2)).trans ?_)
  refine congrArg (fun h => Cert.Mixer.hid h _ _ _ (y 2)) (funext fun e => ?_)
  exact ref1_at att a gb x md wb wo g (y 0) (y 1) e

end Cert.MixerOutReferenceIdeal.Out

end
-- ==== Proof.lean ====
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Gen.MixerIn
public import proofs.«01_k».proof.Proof.Gen.MixerInIdeal.Value
public import proofs.«01_k».proof.Proof.Gen.MixerInReferenceIdeal.Run
public import proofs.«01_k».proof.Proof.Gen.MixerOut
public import proofs.«01_k».proof.Proof.Gen.MixerOutIdeal.Value
public import proofs.«01_k».proof.Proof.Gen.MixerOutReferenceIdeal.Run
public import proofs.«01_k».proof.Proof.Moba.Frames
public import proofs.«01_k».proof.Proof.Moba.Finite
public import proofs.«01_k».proof.Proof.Moba.Result
public import proofs.«01_k».proof.Proof.Mixer.Frames
public import proofs.«01_k».proof.Proof.Mixer.Result
public import proofs.«01_k».proof.Proof.Mixer.RefResult
public import proofs.«01_k».proof.Proof.Out.Frames
public import proofs.«01_k».proof.Proof.Out.Result
public import proofs.«01_k».proof.Proof.Out.RefResult

@[expose] public section

noncomputable section

namespace Cert.Proof

open Idealize.ShloMosaic Idealize.ShloMosaic.TcCoe Idealize.SL.Sem

/-- The kernel and the reference, at exact values, from finite arguments, end with one result. -/
theorem same_result [hPre_finite : Cert.Pre_finite.Facts] :
    Cert.algebraic_KernelIdeal_ReferenceIdeal_pre_finite (hKernelIdeal := Cert.KernelIdeal.Gen.facts) (hReferenceIdeal := Cert.ReferenceIdeal.Gen.facts) := by
  intro m g m' g' hfin hargs
  refine ⟨fun c => Cert.KernelIdeal.Moba.target m c, ?_, ?_⟩
  · have hrun := Cert.KernelIdeal.Moba.run_main (F := Ideal) m g
    refine (θ_run _ _ _).mono (fun r h c => ⟨?_,
      ((h.1 c).2 Cert.KernelIdeal.main_arg0 (Pipeline.mem_restRefs_of Cert.KernelIdeal.main_arg0 (by decide) (by decide))).trans (Cert.KernelIdeal.Gen.V_main_arg0 m c),
      ((h.1 c).2 Cert.KernelIdeal.main_arg1 (Pipeline.mem_restRefs_of Cert.KernelIdeal.main_arg1 (by decide) (by decide))).trans (Cert.KernelIdeal.Gen.V_main_arg1 m c),
      ((h.1 c).2 Cert.KernelIdeal.main_arg2 (Pipeline.mem_restRefs_of Cert.KernelIdeal.main_arg2 (by decide) (by decide))).trans (Cert.KernelIdeal.Gen.V_main_arg2 m c)⟩) hrun
    obtain ⟨qr, kr, vr, hq, hk, hv⟩ := Cert.Pre_finite.reals _ _ _ (hfin c)
    exact ((h.1 c).1 4).trans (Cert.KernelIdeal.Moba.final hq hk hv)
  · refine (θ_run _ _ _).mono (fun r h c => ⟨(h c).1.trans ?_, (h c).2⟩) (Cert.ReferenceIdeal.Value.run m' g')
    rw [Cert.ReferenceIdeal.Moba.res_eq, (hargs c).1, (hargs c).2.1, (hargs c).2.2]
    rfl

/-- The mixer's kernel and its reference, at exact values, end with the same six results. -/
theorem same_mixer :
    Cert.algebraic_MixerInIdeal_MixerInReferenceIdeal (hMixerInIdeal := Cert.MixerInIdeal.Gen.facts) (hMixerInReferenceIdeal := Cert.MixerInReferenceIdeal.Gen.facts) := by
  intro m g m' g' _ hargs
  have e : ∀ c : Dev Cert.MixerInIdeal.nD, Cert.MixerInReferenceIdeal.Mixer.ins (StableHlo.launchContents m' c) = Cert.MixerInIdeal.Mixer.ins m c := by
    intro c
    obtain ⟨h0, h1, h2, h3, h4, h5, h6, h7, h8⟩ := hargs c
    have e0 : Cert.MixerInReferenceIdeal.Mixer.aX (StableHlo.launchContents m' c) = Cert.MixerInIdeal.Mixer.argX m c := h0
    have e1 : Cert.MixerInReferenceIdeal.Mixer.aMod (StableHlo.launchContents m' c) = Cert.MixerInIdeal.Mixer.argMod m c := h1
    have e2 : Cert.MixerInReferenceIdeal.Mixer.aG (StableHlo.launchContents m' c) = Cert.MixerInIdeal.Mixer.argG m c := h2
    have e3 : Cert.MixerInReferenceIdeal.Mixer.aW (StableHlo.launchContents m' c) = Cert.MixerInIdeal.Mixer.argW m c := h3
    have e4 : Cert.MixerInReferenceIdeal.Mixer.aLg (StableHlo.launchContents m' c) = Cert.MixerInIdeal.Mixer.argLg m c := h4
    have e5 : Cert.MixerInReferenceIdeal.Mixer.aLb (StableHlo.launchContents m' c) = Cert.MixerInIdeal.Mixer.argLb m c := h5
    have e6 : Cert.MixerInReferenceIdeal.Mixer.aWs (StableHlo.launchContents m' c) = Cert.MixerInIdeal.Mixer.argWs m c := h6
    have e7 : Cert.MixerInReferenceIdeal.Mixer.aBs (StableHlo.launchContents m' c) = Cert.MixerInIdeal.Mixer.argBs m c := h7
    have e8 : Cert.MixerInReferenceIdeal.Mixer.aWb (StableHlo.launchContents m' c) = Cert.MixerInIdeal.Mixer.argWb m c := h8
    unfold Cert.MixerInReferenceIdeal.Mixer.ins Cert.MixerInIdeal.Mixer.ins
    rw [e0, e1, e2, e3, e4, e5, e6, e7, e8]
  refine ⟨fun c => Cert.MixerInIdeal.Mixer.arrQ (Cert.MixerInIdeal.Mixer.ins m c), fun c => Cert.MixerInIdeal.Mixer.arrK (Cert.MixerInIdeal.Mixer.ins m c), fun c => Cert.MixerInIdeal.Mixer.arrV (Cert.MixerInIdeal.Mixer.ins m c), fun c => Cert.MixerInIdeal.Mixer.arrA (Cert.MixerInIdeal.Mixer.ins m c), fun c => Cert.MixerInIdeal.Mixer.arrB (Cert.MixerInIdeal.Mixer.ins m c), fun c => Cert.MixerInIdeal.Mixer.arrM (Cert.MixerInIdeal.Mixer.ins m c), ?_, ?_⟩
  · refine (θ_run _ _ _).mono (fun r h c => ?_) (Cert.MixerInIdeal.Value.run_blocks (F := Ideal) m g)
    obtain ⟨hQ, hK, hV, hA, hB, hM, hk⟩ := h c
    exact ⟨hQ.trans (Cert.MixerInIdeal.Mixer.final_12 m c), hK.trans (Cert.MixerInIdeal.Mixer.final_13 m c), hV.trans (Cert.MixerInIdeal.Mixer.final_14 m c), hA.trans (Cert.MixerInIdeal.Mixer.final_15 m c), hB.trans (Cert.MixerInIdeal.Mixer.final_16 m c), hM.trans (Cert.MixerInIdeal.Mixer.final_17 m c), hk⟩
  · refine (θ_run _ _ _).mono (fun r h c => ?_) (Cert.MixerInReferenceIdeal.Value.run m' g')
    obtain ⟨hQ, hK, hV, hA, hB, hM, hk⟩ := h c
    have tQ := Cert.MixerInReferenceIdeal.Mixer.wholeQ (StableHlo.launchContents m' c)
    have tK := Cert.MixerInReferenceIdeal.Mixer.wholeK (StableHlo.launchContents m' c)
    have tV := Cert.MixerInReferenceIdeal.Mixer.wholeV (StableHlo.launchContents m' c)
    have tA := Cert.MixerInReferenceIdeal.Mixer.wholeA (StableHlo.launchContents m' c)
    have tB := Cert.MixerInReferenceIdeal.Mixer.wholeB (StableHlo.launchContents m' c)
    have tM := Cert.MixerInReferenceIdeal.Mixer.wholeM (StableHlo.launchContents m' c)
    rw [e c] at tQ tK tV tA tB tM
    exact ⟨hQ.trans tQ, hK.trans tK, hV.trans tV, hA.trans tA, hB.trans tB, hM.trans tM, hk⟩

/-- The arguments of the second half's reference entry by entry. -/
def refIns (m' : (ℓ : Loc Cert.MixerOutReferenceIdeal.nD Cert.MixerOutReferenceIdeal.τ Cert.MixerOutReferenceIdeal.sig) → Buf (Elt Ideal) ℓ) (c : Dev Cert.MixerOutReferenceIdeal.nD) : Cert.Out.Ins :=
  Cert.MixerOutReferenceIdeal.Out.ins (m' ((c.tc : Thread Cert.MixerOutReferenceIdeal.nD Cert.MixerOutReferenceIdeal.τ).loc Cert.MixerOutReferenceIdeal.main_arg0)) (m' ((c.tc : Thread Cert.MixerOutReferenceIdeal.nD Cert.MixerOutReferenceIdeal.τ).loc Cert.MixerOutReferenceIdeal.main_arg1)) (m' ((c.tc : Thread Cert.MixerOutReferenceIdeal.nD Cert.MixerOutReferenceIdeal.τ).loc Cert.MixerOutReferenceIdeal.main_arg2)) (m' ((c.tc : Thread Cert.MixerOutReferenceIdeal.nD Cert.MixerOutReferenceIdeal.τ).loc Cert.MixerOutReferenceIdeal.main_arg3)) (m' ((c.tc : Thread Cert.MixerOutReferenceIdeal.nD Cert.MixerOutReferenceIdeal.τ).loc Cert.MixerOutReferenceIdeal.main_arg4)) (m' ((c.tc : Thread Cert.MixerOutReferenceIdeal.nD Cert.MixerOutReferenceIdeal.τ).loc Cert.MixerOutReferenceIdeal.main_arg5)) (m' ((c.tc : Thread Cert.MixerOutReferenceIdeal.nD Cert.MixerOutReferenceIdeal.τ).loc Cert.MixerOutReferenceIdeal.main_arg6)) (m' ((c.tc : Thread Cert.MixerOutReferenceIdeal.nD Cert.MixerOutReferenceIdeal.τ).loc Cert.MixerOutReferenceIdeal.main_arg7))

/-- The second half's kernel and its reference, at exact values, end with the same two results. -/
theorem same_out :
    Cert.algebraic_MixerOutIdeal_MixerOutReferenceIdeal (hMixerOutIdeal := Cert.MixerOutIdeal.Gen.facts) (hMixerOutReferenceIdeal := Cert.MixerOutReferenceIdeal.Gen.facts) := by
  intro m g m' g' _ hargs
  have e : ∀ c : Dev Cert.MixerOutIdeal.nD, refIns m' c = Cert.MixerOutIdeal.Out.ins m c := by
    intro c
    obtain ⟨h0, h1, h2, h3, h4, h5, h6, h7, h8, h9⟩ := hargs c
    unfold refIns
    rw [h0, h1, h2, h3, h4, h5, h6, h7]
    rfl
  refine ⟨fun c => Cert.MixerOutIdeal.Out.arr1 (Cert.MixerOutIdeal.Out.ins m c), fun c => Cert.MixerOutIdeal.Out.arr2 (Cert.MixerOutIdeal.Out.ins m c), ?_, ?_⟩
  · refine (θ_run _ _ _).mono (fun r h c => ?_) (Cert.MixerOutIdeal.Value.run_blocks (F := Ideal) m g)
    obtain ⟨hX, hH, _, _, _, hk⟩ := h c
    exact ⟨hX.trans (Cert.MixerOutIdeal.Out.final_10 m c), hH.trans (Cert.MixerOutIdeal.Out.final_11 m c), hk⟩
  · refine (θ_run _ _ _).mono (fun r h c => ?_) (Cert.MixerOutReferenceIdeal.Value.run m' g')
    obtain ⟨hX, hH, hk⟩ := h c
    have t1 := Cert.MixerOutReferenceIdeal.Out.whole1 (m' ((c.tc : Thread Cert.MixerOutReferenceIdeal.nD Cert.MixerOutReferenceIdeal.τ).loc Cert.MixerOutReferenceIdeal.main_arg0)) (m' ((c.tc : Thread Cert.MixerOutReferenceIdeal.nD Cert.MixerOutReferenceIdeal.τ).loc Cert.MixerOutReferenceIdeal.main_arg1)) (m' ((c.tc : Thread Cert.MixerOutReferenceIdeal.nD Cert.MixerOutReferenceIdeal.τ).loc Cert.MixerOutReferenceIdeal.main_arg2)) (m' ((c.tc : Thread Cert.MixerOutReferenceIdeal.nD Cert.MixerOutReferenceIdeal.τ).loc Cert.MixerOutReferenceIdeal.main_arg3)) (m' ((c.tc : Thread Cert.MixerOutReferenceIdeal.nD Cert.MixerOutReferenceIdeal.τ).loc Cert.MixerOutReferenceIdeal.main_arg4)) (m' ((c.tc : Thread Cert.MixerOutReferenceIdeal.nD Cert.MixerOutReferenceIdeal.τ).loc Cert.MixerOutReferenceIdeal.main_arg5)) (m' ((c.tc : Thread Cert.MixerOutReferenceIdeal.nD Cert.MixerOutReferenceIdeal.τ).loc Cert.MixerOutReferenceIdeal.main_arg6)) (m' ((c.tc : Thread Cert.MixerOutReferenceIdeal.nD Cert.MixerOutReferenceIdeal.τ).loc Cert.MixerOutReferenceIdeal.main_arg7))
    have t2 := Cert.MixerOutReferenceIdeal.Out.whole2 (m' ((c.tc : Thread Cert.MixerOutReferenceIdeal.nD Cert.MixerOutReferenceIdeal.τ).loc Cert.MixerOutReferenceIdeal.main_arg0)) (m' ((c.tc : Thread Cert.MixerOutReferenceIdeal.nD Cert.MixerOutReferenceIdeal.τ).loc Cert.MixerOutReferenceIdeal.main_arg1)) (m' ((c.tc : Thread Cert.MixerOutReferenceIdeal.nD Cert.MixerOutReferenceIdeal.τ).loc Cert.MixerOutReferenceIdeal.main_arg2)) (m' ((c.tc : Thread Cert.MixerOutReferenceIdeal.nD Cert.MixerOutReferenceIdeal.τ).loc Cert.MixerOutReferenceIdeal.main_arg3)) (m' ((c.tc : Thread Cert.MixerOutReferenceIdeal.nD Cert.MixerOutReferenceIdeal.τ).loc Cert.MixerOutReferenceIdeal.main_arg4)) (m' ((c.tc : Thread Cert.MixerOutReferenceIdeal.nD Cert.MixerOutReferenceIdeal.τ).loc Cert.MixerOutReferenceIdeal.main_arg5)) (m' ((c.tc : Thread Cert.MixerOutReferenceIdeal.nD Cert.MixerOutReferenceIdeal.τ).loc Cert.MixerOutReferenceIdeal.main_arg6)) (m' ((c.tc : Thread Cert.MixerOutReferenceIdeal.nD Cert.MixerOutReferenceIdeal.τ).loc Cert.MixerOutReferenceIdeal.main_arg7))
    have e' : Cert.MixerOutReferenceIdeal.Out.ins (m' ((c.tc : Thread Cert.MixerOutReferenceIdeal.nD Cert.MixerOutReferenceIdeal.τ).loc Cert.MixerOutReferenceIdeal.main_arg0)) (m' ((c.tc : Thread Cert.MixerOutReferenceIdeal.nD Cert.MixerOutReferenceIdeal.τ).loc Cert.MixerOutReferenceIdeal.main_arg1)) (m' ((c.tc : Thread Cert.MixerOutReferenceIdeal.nD Cert.MixerOutReferenceIdeal.τ).loc Cert.MixerOutReferenceIdeal.main_arg2)) (m' ((c.tc : Thread Cert.MixerOutReferenceIdeal.nD Cert.MixerOutReferenceIdeal.τ).loc Cert.MixerOutReferenceIdeal.main_arg3)) (m' ((c.tc : Thread Cert.MixerOutReferenceIdeal.nD Cert.MixerOutReferenceIdeal.τ).loc Cert.MixerOutReferenceIdeal.main_arg4)) (m' ((c.tc : Thread Cert.MixerOutReferenceIdeal.nD Cert.MixerOutReferenceIdeal.τ).loc Cert.MixerOutReferenceIdeal.main_arg5)) (m' ((c.tc : Thread Cert.MixerOutReferenceIdeal.nD Cert.MixerOutReferenceIdeal.τ).loc Cert.MixerOutReferenceIdeal.main_arg6)) (m' ((c.tc : Thread Cert.MixerOutReferenceIdeal.nD Cert.MixerOutReferenceIdeal.τ).loc Cert.MixerOutReferenceIdeal.main_arg7)) = Cert.MixerOutIdeal.Out.ins m c := e c
    rw [e'] at t1 t2
    exact ⟨hX.trans t1, hH.trans t2, hk⟩

theorem claim : Cert.Claim := by
  refine ⟨Cert.Kernel.Gen.facts, Cert.KernelIdeal.Gen.facts, Cert.ReferenceIdeal.Gen.facts, Cert.MixerIn.Gen.facts, Cert.MixerInIdeal.Gen.facts, Cert.MixerInReferenceIdeal.Gen.facts, Cert.MixerOut.Gen.facts, Cert.MixerOutIdeal.Gen.facts, Cert.MixerOutReferenceIdeal.Gen.facts, Cert.Pre_finite.facts,
    ?_, ?_, ?_, ?_, ?_, ?_, ?_, ?_, ?_, ?_, ?_, ?_, ?_, ?_, ?_, ?_, ?_⟩
  · exact fun m g _ => frame_kernel m g
  · exact fun m g _ => Cert.KernelIdeal.Moba.frame_any m g
  · exact fun m g _ => Cert.KernelIdeal.Moba.frame_any m g
  · exact fun m g _ => (θ_run _ _ _).mono (fun r h => ⟨fun c => (h c).2, sem_eq_zero_of_no_sems rfl _⟩) (Cert.ReferenceIdeal.Value.run m g)
  · exact fun m g _ => (θ_run _ _ _).mono (fun r h => ⟨fun c => (h c).2, sem_eq_zero_of_no_sems rfl _⟩) (Cert.ReferenceIdeal.Value.run m g)
  · exact fun m g _ => frame_mixer m g
  · exact fun m g _ => Cert.MixerInIdeal.Gen.frame m g
  · exact fun m g _ => (θ_run _ _ _).mono (fun r h => ⟨fun c => (h c).2.2.2.2.2.2, sem_eq_zero_of_no_sems rfl _⟩) (Cert.MixerInReferenceIdeal.Value.run m g)
  · exact fun m g _ => frame_mixer_out m g
  · exact fun m g _ => Cert.MixerOutIdeal.Gen.frame m g
  · exact fun m g _ => (θ_run _ _ _).mono (fun r h => ⟨fun c => (h c).2.2, sem_eq_zero_of_no_sems rfl _⟩) (Cert.MixerOutReferenceIdeal.Value.run m g)
  · exact IdealRules.named_const.statement Cert.KernelIdeal.κ "q_scale" .f32 0x3E38AA3B#32 (((1 / 8) * (Real.log 2)⁻¹ : ℝ) : EReal) rfl
  · exact same_result (hPre_finite := Cert.Pre_finite.facts)
  · trivial
  · exact same_mixer
  · trivial
  · exact same_out

end Cert.Proof

end
